-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S16x4x3x32x32 : Shape := ⟨5, ![16, 4, 3, 32, 32]⟩
abbrev S_ : Shape := ⟨0, ![]⟩

class Facts : Prop where
  bcast_S_S16x4x3x32x32 : S_.BroadcastsInDim S16x4x3x32x32 (![] : Fin 0 → Fin S16x4x3x32x32.rank)

variable [Facts]

def fn {F : FTy → Type} [FloatOps F] (main_arg0 : FVec F S16x4x3x32x32 .f32) (main_arg1 : IVec S_ 32) : IVec S16x4x3x32x32 1 :=
  let main_cst : FVec F S_ .f32 := constant S_ .f32 0xC1880000#32
  let main_v0 : FVec F S16x4x3x32x32 .f32 := broadcastInDim S16x4x3x32x32 ![] bcast_S_S16x4x3x32x32 main_cst
  let main_v1 : IVec S16x4x3x32x32 1 := cmpf .ogt main_arg0 main_v0
  let main_cst_0 : FVec F S_ .f32 := constant S_ .f32 0x41800000#32
  let main_v2 : FVec F S16x4x3x32x32 .f32 := broadcastInDim S16x4x3x32x32 ![] bcast_S_S16x4x3x32x32 main_cst_0
  let main_v3 : IVec S16x4x3x32x32 1 := cmpf .olt main_arg0 main_v2
  let main_v4 : IVec S16x4x3x32x32 1 := andi main_v1 main_v3
  main_v4
-- ==== Kernel.lean ====
abbrev S16x4x3x32x32 : Shape := ⟨5, ![16, 4, 3, 32, 32]⟩
abbrev S_ : Shape := ⟨0, ![]⟩
abbrev S16x4x3x1024 : Shape := ⟨4, ![16, 4, 3, 1024]⟩
abbrev S1 : Shape := ⟨1, ![1]⟩
abbrev S2 : Shape := ⟨1, ![2]⟩
abbrev S1x1x1x1x1 : Shape := ⟨5, ![1, 1, 1, 1, 1]⟩
abbrev S1x1 : Shape := ⟨2, ![1, 1]⟩
abbrev S4x48x1024 : Shape := ⟨3, ![4, 48, 1024]⟩
abbrev S48x1024 : Shape := ⟨2, ![48, 1024]⟩
abbrev S1x1x3x1024 : Shape := ⟨4, ![1, 1, 3, 1024]⟩
abbrev S3x1024 : Shape := ⟨2, ![3, 1024]⟩
abbrev S1x3x1024 : Shape := ⟨3, ![1, 3, 1024]⟩
abbrev S32x1024 : Shape := ⟨2, ![32, 1024]⟩
abbrev S32x128 : Shape := ⟨2, ![32, 128]⟩
abbrev S128x1024 : Shape := ⟨2, ![128, 1024]⟩
abbrev S1x1x1024 : Shape := ⟨3, ![1, 1, 1024]⟩
abbrev S1x1024 : Shape := ⟨2, ![1, 1024]⟩
abbrev S32x32 : Shape := ⟨2, ![32, 32]⟩
abbrev S32 : Shape := ⟨1, ![32]⟩
abbrev S32x1 : Shape := ⟨2, ![32, 1]⟩
abbrev S1x32 : Shape := ⟨2, ![1, 32]⟩
abbrev S1x32x32 : Shape := ⟨3, ![1, 32, 32]⟩
abbrev S1x1x1 : Shape := ⟨3, ![1, 1, 1]⟩
abbrev S1024 : Shape := ⟨1, ![1024]⟩
abbrev S1x48x1024 : Shape := ⟨3, ![1, 48, 1024]⟩
abbrev S48x256 : Shape := ⟨2, ![48, 256]⟩
abbrev S1x256 : Shape := ⟨2, ![1, 256]⟩
abbrev S256 : Shape := ⟨1, ![256]⟩
abbrev S16x1x3x1024 : Shape := ⟨4, ![16, 1, 3, 1024]⟩
abbrev S16x3x1024 : Shape := ⟨3, ![16, 3, 1024]⟩

abbrev nBuf : Space → Nat
  | .hbm => 299
  | .vmem => 6
  | .smem => 0
  | _ => 0

abbrev hbmTy0_0 (i : Nat) : BufTy := match i % 128 with
  | 0 => ⟨S16x4x3x32x32, .f32⟩
  | 1 => ⟨S_, .i32⟩
  | 2 => ⟨S16x4x3x1024, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S_, .f32⟩
  | 17 => ⟨S1x1x1x1x1, .f32⟩
  | 18 => ⟨S1x1x1x1x1, .f32⟩
  | 19 => ⟨S1, .i32⟩
  | 20 => ⟨S_, .i32⟩
  | 21 => ⟨S1, .i32⟩
  | 22 => ⟨S_, .i32⟩
  | 23 => ⟨S16x4x3x32x32, .i64⟩
  | 24 => ⟨S16x4x3x32x32, .i64⟩
  | 25 => ⟨S16x4x3x32x32, .i64⟩
  | 26 => ⟨S16x4x3x32x32, .i64⟩
  | 27 => ⟨S16x4x3x32x32, .i64⟩
  | 28 => ⟨S_, .i64⟩
  | 29 => ⟨S16x4x3x32x32, .i64⟩
  | 30 => ⟨S16x4x3x32x32, .i64⟩
  | 31 => ⟨S_, .i64⟩
  | 32 => ⟨S16x4x3x32x32, .i64⟩
  | 33 => ⟨S16x4x3x32x32, .i64⟩
  | 34 => ⟨S_, .i64⟩
  | 35 => ⟨S16x4x3x32x32, .i64⟩
  | 36 => ⟨S16x4x3x32x32, .i64⟩
  | 37 => ⟨S_, .i64⟩
  | 38 => ⟨S16x4x3x32x32, .i64⟩
  | 39 => ⟨S16x4x3x32x32, .i64⟩
  | 40 => ⟨S_, .i64⟩
  | 41 => ⟨S16x4x3x32x32, .i64⟩
  | 42 => ⟨S16x4x3x32x32, .i64⟩
  | 43 => ⟨S16x4x3x32x32, .i64⟩
  | 44 => ⟨S16x4x3x32x32, .i64⟩
  | 45 => ⟨S16x4x3x32x32, .i64⟩
  | 46 => ⟨S16x4x3x32x32, .i64⟩
  | 47 => ⟨S_, .i64⟩
  | 48 => ⟨S16x4x3x32x32, .i64⟩
  | 49 => ⟨S16x4x3x32x32, .i64⟩
  | 50 => ⟨S16x4x3x32x32, .i32⟩
  | 51 => ⟨S16x4x3x32x32, .i32⟩
  | 52 => ⟨S_, .i32⟩
  | 53 => ⟨S_, .i32⟩
  | 54 => ⟨S_, .i32⟩
  | 55 => ⟨S16x4x3x32x32, .i32⟩
  | 56 => ⟨S16x4x3x32x32, .i32⟩
  | 57 => ⟨S16x4x3x32x32, .i32⟩
  | 58 => ⟨S16x4x3x32x32, .i32⟩
  | 59 => ⟨S16x4x3x32x32, .i32⟩
  | 60 => ⟨S_, .i32⟩
  | 61 => ⟨S16x4x3x32x32, .i32⟩
  | 62 => ⟨S16x4x3x32x32, .i32⟩
  | 63 => ⟨S_, .i32⟩
  | 64 => ⟨S16x4x3x32x32, .i32⟩
  | 65 => ⟨S16x4x3x32x32, .i32⟩
  | 66 => ⟨S16x4x3x32x32, .i32⟩
  | 67 => ⟨S16x4x3x32x32, .i32⟩
  | 68 => ⟨S16x4x3x32x32, .i32⟩
  | 69 => ⟨S_, .i32⟩
  | 70 => ⟨S16x4x3x32x32, .i32⟩
  | 71 => ⟨S16x4x3x32x32, .i32⟩
  | 72 => ⟨S_, .i32⟩
  | 73 => ⟨S16x4x3x32x32, .i32⟩
  | 74 => ⟨S16x4x3x32x32, .i32⟩
  | 75 => ⟨S16x4x3x32x32, .i32⟩
  | 76 => ⟨S16x4x3x32x32, .i32⟩
  | 77 => ⟨S16x4x3x32x32, .i32⟩
  | 78 => ⟨S_, .i32⟩
  | 79 => ⟨S16x4x3x32x32, .i32⟩
  | 80 => ⟨S16x4x3x32x32, .i32⟩
  | 81 => ⟨S_, .i32⟩
  | 82 => ⟨S16x4x3x32x32, .i32⟩
  | 83 => ⟨S16x4x3x32x32, .i32⟩
  | 84 => ⟨S16x4x3x32x32, .i32⟩
  | 85 => ⟨S16x4x3x32x32, .i32⟩
  | 86 => ⟨S16x4x3x32x32, .i32⟩
  | 87 => ⟨S_, .i32⟩
  | 88 => ⟨S16x4x3x32x32, .i32⟩
  | 89 => ⟨S16x4x3x32x32, .i32⟩
  | 90 => ⟨S_, .i32⟩
  | 91 => ⟨S16x4x3x32x32, .i32⟩
  | 92 => ⟨S16x4x3x32x32, .i32⟩
  | 93 => ⟨S16x4x3x32x32, .i32⟩
  | 94 => ⟨S16x4x3x32x32, .i32⟩
  | 95 => ⟨S16x4x3x32x32, .i32⟩
  | 96 => ⟨S16x4x3x32x32, .i32⟩
  | 97 => ⟨S16x4x3x32x32, .i32⟩
  | 98 => ⟨S16x4x3x32x32, .i32⟩
  | 99 => ⟨S_, .i32⟩
  | 100 => ⟨S16x4x3x32x32, .i32⟩
  | 101 => ⟨S16x4x3x32x32, .i32⟩
  | 102 => ⟨S16x4x3x32x32, .i32⟩
  | 103 => ⟨S_, .i32⟩
  | 104 => ⟨S16x4x3x32x32, .i32⟩
  | 105 => ⟨S16x4x3x32x32, .i32⟩
  | 106 => ⟨S_, .i32⟩
  | 107 => ⟨S16x4x3x32x32, .i32⟩
  | 108 => ⟨S16x4x3x32x32, .i32⟩
  | 109 => ⟨S16x4x3x32x32, .i32⟩
  | 110 => ⟨S16x4x3x32x32, .i32⟩
  | 111 => ⟨S16x4x3x32x32, .i32⟩
  | 112 => ⟨S_, .i32⟩
  | 113 => ⟨S16x4x3x32x32, .i32⟩
  | 114 => ⟨S16x4x3x32x32, .i32⟩
  | 115 => ⟨S_, .i32⟩
  | 116 => ⟨S16x4x3x32x32, .i32⟩
  | 117 => ⟨S16x4x3x32x32, .i32⟩
  | 118 => ⟨S16x4x3x32x32, .i32⟩
  | 119 => ⟨S16x4x3x32x32, .i32⟩
  | 120 => ⟨S16x4x3x32x32, .i32⟩
  | 121 => ⟨S_, .i32⟩
  | 122 => ⟨S16x4x3x32x32, .i32⟩
  | 123 => ⟨S16x4x3x32x32, .i32⟩
  | 124 => ⟨S_, .i32⟩
  | 125 => ⟨S16x4x3x32x32, .i32⟩
  | 126 => ⟨S16x4x3x32x32, .i32⟩
  | 127 => ⟨S16x4x3x32x32, .i32⟩
  | _ => ⟨S16x4x3x32x32, .f32⟩

abbrev hbmTy0_1 (i : Nat) : BufTy := match i % 128 with
  | 0 => ⟨S16x4x3x32x32, .i32⟩
  | 1 => ⟨S16x4x3x32x32, .i32⟩
  | 2 => ⟨S_, .i32⟩
  | 3 => ⟨S16x4x3x32x32, .i32⟩
  | 4 => ⟨S16x4x3x32x32, .i32⟩
  | 5 => ⟨S_, .i32⟩
  | 6 => ⟨S16x4x3x32x32, .i32⟩
  | 7 => ⟨S16x4x3x32x32, .i32⟩
  | 8 => ⟨S16x4x3x32x32, .i32⟩
  | 9 => ⟨S16x4x3x32x32, .i32⟩
  | 10 => ⟨S16x4x3x32x32, .i32⟩
  | 11 => ⟨S16x4x3x32x32, .i32⟩
  | 12 => ⟨S16x4x3x32x32, .i32⟩
  | 13 => ⟨S16x4x3x32x32, .i32⟩
  | 14 => ⟨S_, .i32⟩
  | 15 => ⟨S16x4x3x32x32, .i32⟩
  | 16 => ⟨S16x4x3x32x32, .i32⟩
  | 17 => ⟨S16x4x3x32x32, .i32⟩
  | 18 => ⟨S_, .i32⟩
  | 19 => ⟨S16x4x3x32x32, .i32⟩
  | 20 => ⟨S16x4x3x32x32, .i32⟩
  | 21 => ⟨S_, .i32⟩
  | 22 => ⟨S16x4x3x32x32, .i32⟩
  | 23 => ⟨S16x4x3x32x32, .i32⟩
  | 24 => ⟨S16x4x3x32x32, .i32⟩
  | 25 => ⟨S16x4x3x32x32, .i32⟩
  | 26 => ⟨S16x4x3x32x32, .i32⟩
  | 27 => ⟨S_, .i32⟩
  | 28 => ⟨S16x4x3x32x32, .i32⟩
  | 29 => ⟨S16x4x3x32x32, .i32⟩
  | 30 => ⟨S_, .i32⟩
  | 31 => ⟨S16x4x3x32x32, .i32⟩
  | 32 => ⟨S16x4x3x32x32, .i32⟩
  | 33 => ⟨S16x4x3x32x32, .i32⟩
  | 34 => ⟨S16x4x3x32x32, .i32⟩
  | 35 => ⟨S16x4x3x32x32, .i32⟩
  | 36 => ⟨S_, .i32⟩
  | 37 => ⟨S16x4x3x32x32, .i32⟩
  | 38 => ⟨S16x4x3x32x32, .i32⟩
  | 39 => ⟨S_, .i32⟩
  | 40 => ⟨S16x4x3x32x32, .i32⟩
  | 41 => ⟨S16x4x3x32x32, .i32⟩
  | 42 => ⟨S16x4x3x32x32, .i32⟩
  | 43 => ⟨S16x4x3x32x32, .i32⟩
  | 44 => ⟨S16x4x3x32x32, .i32⟩
  | 45 => ⟨S_, .i32⟩
  | 46 => ⟨S16x4x3x32x32, .i32⟩
  | 47 => ⟨S16x4x3x32x32, .i32⟩
  | 48 => ⟨S_, .i32⟩
  | 49 => ⟨S16x4x3x32x32, .i32⟩
  | 50 => ⟨S16x4x3x32x32, .i32⟩
  | 51 => ⟨S16x4x3x32x32, .i32⟩
  | 52 => ⟨S16x4x3x32x32, .i32⟩
  | 53 => ⟨S16x4x3x32x32, .i32⟩
  | 54 => ⟨S16x4x3x32x32, .i32⟩
  | 55 => ⟨S16x4x3x32x32, .i32⟩
  | 56 => ⟨S16x4x3x32x32, .i32⟩
  | 57 => ⟨S_, .i32⟩
  | 58 => ⟨S16x4x3x32x32, .i32⟩
  | 59 => ⟨S16x4x3x32x32, .i32⟩
  | 60 => ⟨S16x4x3x32x32, .i32⟩
  | 61 => ⟨S_, .i32⟩
  | 62 => ⟨S16x4x3x32x32, .i32⟩
  | 63 => ⟨S16x4x3x32x32, .i32⟩
  | 64 => ⟨S_, .i32⟩
  | 65 => ⟨S16x4x3x32x32, .i32⟩
  | 66 => ⟨S16x4x3x32x32, .i32⟩
  | 67 => ⟨S16x4x3x32x32, .i32⟩
  | 68 => ⟨S16x4x3x32x32, .i32⟩
  | 69 => ⟨S16x4x3x32x32, .i32⟩
  | 70 => ⟨S_, .i32⟩
  | 71 => ⟨S16x4x3x32x32, .i32⟩
  | 72 => ⟨S16x4x3x32x32, .i32⟩
  | 73 => ⟨S_, .i32⟩
  | 74 => ⟨S16x4x3x32x32, .i32⟩
  | 75 => ⟨S16x4x3x32x32, .i32⟩
  | 76 => ⟨S16x4x3x32x32, .i32⟩
  | 77 => ⟨S16x4x3x32x32, .i32⟩
  | 78 => ⟨S16x4x3x32x32, .i32⟩
  | 79 => ⟨S_, .i32⟩
  | 80 => ⟨S16x4x3x32x32, .i32⟩
  | 81 => ⟨S16x4x3x32x32, .i32⟩
  | 82 => ⟨S_, .i32⟩
  | 83 => ⟨S16x4x3x32x32, .i32⟩
  | 84 => ⟨S16x4x3x32x32, .i32⟩
  | 85 => ⟨S16x4x3x32x32, .i32⟩
  | 86 => ⟨S16x4x3x32x32, .i32⟩
  | 87 => ⟨S16x4x3x32x32, .i32⟩
  | 88 => ⟨S_, .i32⟩
  | 89 => ⟨S16x4x3x32x32, .i32⟩
  | 90 => ⟨S16x4x3x32x32, .i32⟩
  | 91 => ⟨S_, .i32⟩
  | 92 => ⟨S16x4x3x32x32, .i32⟩
  | 93 => ⟨S16x4x3x32x32, .i32⟩
  | 94 => ⟨S16x4x3x32x32, .i32⟩
  | 95 => ⟨S16x4x3x32x32, .i32⟩
  | 96 => ⟨S16x4x3x32x32, .i32⟩
  | 97 => ⟨S16x4x3x32x32, .i32⟩
  | 98 => ⟨S16x4x3x32x32, .i32⟩
  | 99 => ⟨S16x4x3x32x32, .i32⟩
  | 100 => ⟨S_, .i32⟩
  | 101 => ⟨S16x4x3x32x32, .i32⟩
  | 102 => ⟨S16x4x3x32x32, .i32⟩
  | 103 => ⟨S16x4x3x32x32, .i32⟩
  | 104 => ⟨S_, .i32⟩
  | 105 => ⟨S16x4x3x32x32, .i32⟩
  | 106 => ⟨S16x4x3x32x32, .i32⟩
  | 107 => ⟨S_, .i32⟩
  | 108 => ⟨S16x4x3x32x32, .i32⟩
  | 109 => ⟨S16x4x3x32x32, .i32⟩
  | 110 => ⟨S16x4x3x32x32, .i32⟩
  | 111 => ⟨S16x4x3x32x32, .i32⟩
  | 112 => ⟨S16x4x3x32x32, .i32⟩
  | 113 => ⟨S_, .i32⟩
  | 114 => ⟨S16x4x3x32x32, .i32⟩
  | 115 => ⟨S16x4x3x32x32, .i32⟩
  | 116 => ⟨S_, .i32⟩
  | 117 => ⟨S16x4x3x32x32, .i32⟩
  | 118 => ⟨S16x4x3x32x32, .i32⟩
  | 119 => ⟨S16x4x3x32x32, .i32⟩
  | 120 => ⟨S16x4x3x32x32, .i32⟩
  | 121 => ⟨S16x4x3x32x32, .i32⟩
  | 122 => ⟨S_, .i32⟩
  | 123 => ⟨S16x4x3x32x32, .i32⟩
  | 124 => ⟨S16x4x3x32x32, .i32⟩
  | 125 => ⟨S_, .i32⟩
  | 126 => ⟨S16x4x3x32x32, .i32⟩
  | 127 => ⟨S16x4x3x32x32, .i32⟩
  | _ => ⟨S16x4x3x32x32, .f32⟩

abbrev hbmTy0_2 (i : Nat) : BufTy := match i % 128 with
  | 0 => ⟨S16x4x3x32x32, .i32⟩
  | 1 => ⟨S16x4x3x32x32, .i32⟩
  | 2 => ⟨S16x4x3x32x32, .i32⟩
  | 3 => ⟨S_, .i32⟩
  | 4 => ⟨S16x4x3x32x32, .i32⟩
  | 5 => ⟨S16x4x3x32x32, .i32⟩
  | 6 => ⟨S_, .i32⟩
  | 7 => ⟨S16x4x3x32x32, .i32⟩
  | 8 => ⟨S16x4x3x32x32, .i32⟩
  | 9 => ⟨S16x4x3x32x32, .i32⟩
  | 10 => ⟨S16x4x3x32x32, .i32⟩
  | 11 => ⟨S16x4x3x32x32, .i32⟩
  | 12 => ⟨S16x4x3x32x32, .i32⟩
  | 13 => ⟨S16x4x3x32x32, .i32⟩
  | 14 => ⟨S16x4x3x32x32, .i32⟩
  | 15 => ⟨S_, .i32⟩
  | 16 => ⟨S16x4x3x32x32, .i32⟩
  | 17 => ⟨S16x4x3x32x32, .i32⟩
  | 18 => ⟨S16x4x3x32x32, .i32⟩
  | 19 => ⟨S_, .i32⟩
  | 20 => ⟨S16x4x3x32x32, .i32⟩
  | 21 => ⟨S16x4x3x32x32, .i32⟩
  | 22 => ⟨S_, .i32⟩
  | 23 => ⟨S16x4x3x32x32, .i32⟩
  | 24 => ⟨S16x4x3x32x32, .i32⟩
  | 25 => ⟨S16x4x3x32x32, .f32⟩
  | 26 => ⟨S_, .f32⟩
  | 27 => ⟨S16x4x3x32x32, .f32⟩
  | 28 => ⟨S16x4x3x32x32, .f32⟩
  | 29 => ⟨S1x1x1x1x1, .f32⟩
  | 30 => ⟨S16x4x3x32x32, .f32⟩
  | 31 => ⟨S16x4x3x32x32, .f32⟩
  | 32 => ⟨S16x4x3x32x32, .f32⟩
  | 33 => ⟨S16x4x3x32x32, .f32⟩
  | 34 => ⟨S16x4x3x32x32, .f32⟩
  | 35 => ⟨S16x4x3x32x32, .f32⟩
  | 36 => ⟨S16x4x3x1024, .f32⟩
  | 37 => ⟨S_, .f32⟩
  | 38 => ⟨S_, .f32⟩
  | 39 => ⟨S_, .f32⟩
  | 40 => ⟨S1x1, .f32⟩
  | 41 => ⟨S16x4x3x1024, .f32⟩
  | 42 => ⟨S16x4x3x32x32, .f32⟩
  | _ => ⟨S16x4x3x32x32, .f32⟩

abbrev hbmTy (i : Nat) : BufTy := match i / 128 with
  | 0 => hbmTy0_0 i
  | 1 => hbmTy0_1 i
  | 2 => hbmTy0_2 i
  | _ => ⟨S16x4x3x32x32, .f32⟩

abbrev bufTy : (tb : Table) → Fin (tcTables nBuf tb) → BufTy
  | .hbm, ⟨i, _⟩ => hbmTy i
  | .local _ .vmem, ⟨0, _⟩ => ⟨S16x4x3x1024, .f32⟩
  | .local _ .vmem, ⟨1, _⟩ => ⟨S16x4x3x1024, .f32⟩
  | .local _ .vmem, ⟨2, _⟩ => ⟨S1x1, .f32⟩
  | .local _ .vmem, ⟨3, _⟩ => ⟨S16x4x3x1024, .f32⟩
  | .local _ .vmem, ⟨4, _⟩ => ⟨S4x48x1024, .i32⟩
  | .local _ .vmem, ⟨5, _⟩ => ⟨S48x1024, .i32⟩
  | _, _ => ⟨S16x4x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_c : Ref sig .tc := ⟨.hbm, 28, rfl⟩
abbrev main_call0_v13 : Ref sig .tc := ⟨.hbm, 29, rfl⟩
abbrev main_call0_v14 : Ref sig .tc := ⟨.hbm, 30, rfl⟩
abbrev main_call0_c_0 : Ref sig .tc := ⟨.hbm, 31, rfl⟩
abbrev main_call0_v15 : Ref sig .tc := ⟨.hbm, 32, rfl⟩
abbrev main_call0_v16 : Ref sig .tc := ⟨.hbm, 33, rfl⟩
abbrev main_call0_c_1 : Ref sig .tc := ⟨.hbm, 34, rfl⟩
abbrev main_call0_v17 : Ref sig .tc := ⟨.hbm, 35, rfl⟩
abbrev main_call0_v18 : Ref sig .tc := ⟨.hbm, 36, rfl⟩
abbrev main_call0_c_2 : Ref sig .tc := ⟨.hbm, 37, rfl⟩
abbrev main_call0_v19 : Ref sig .tc := ⟨.hbm, 38, rfl⟩
abbrev main_call0_v20 : Ref sig .tc := ⟨.hbm, 39, rfl⟩
abbrev main_call0_c_3 : Ref sig .tc := ⟨.hbm, 40, rfl⟩
abbrev main_call0_v21 : Ref sig .tc := ⟨.hbm, 41, rfl⟩
abbrev main_call0_v22 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_v26 : Ref sig .tc := ⟨.hbm, 46, rfl⟩
abbrev main_call0_c_4 : Ref sig .tc := ⟨.hbm, 47, rfl⟩
abbrev main_call0_v27 : Ref sig .tc := ⟨.hbm, 48, rfl⟩
abbrev main_call0_v28 : Ref sig .tc := ⟨.hbm, 49, rfl⟩
abbrev main_call0_v29 : Ref sig .tc := ⟨.hbm, 50, rfl⟩
abbrev main_call0_v30 : Ref sig .tc := ⟨.hbm, 51, rfl⟩
abbrev main_call0_call0_v0 : Ref sig .tc := ⟨.hbm, 52, rfl⟩
abbrev main_call0_call0_c : Ref sig .tc := ⟨.hbm, 53, rfl⟩
abbrev main_call0_call0_v1 : Ref sig .tc := ⟨.hbm, 54, rfl⟩
abbrev main_call0_call0_v2 : Ref sig .tc := ⟨.hbm, 55, rfl⟩
abbrev main_call0_call0_v3 : Ref sig .tc := ⟨.hbm, 56, rfl⟩
abbrev main_call0_call0_v4 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_c_0 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_c_1 : Ref sig .tc := ⟨.hbm, 63, rfl⟩
abbrev main_call0_call0_v9 : Ref sig .tc := ⟨.hbm, 64, rfl⟩
abbrev main_call0_call0_v10 : Ref sig .tc := ⟨.hbm, 65, rfl⟩
abbrev main_call0_call0_v11 : Ref sig .tc := ⟨.hbm, 66, rfl⟩
abbrev main_call0_call0_v12 : Ref sig .tc := ⟨.hbm, 67, rfl⟩
abbrev main_call0_call0_v13 : Ref sig .tc := ⟨.hbm, 68, rfl⟩
abbrev main_call0_call0_c_2 : Ref sig .tc := ⟨.hbm, 69, rfl⟩
abbrev main_call0_call0_v14 : Ref sig .tc := ⟨.hbm, 70, rfl⟩
abbrev main_call0_call0_v15 : Ref sig .tc := ⟨.hbm, 71, rfl⟩
abbrev main_call0_call0_c_3 : Ref sig .tc := ⟨.hbm, 72, rfl⟩
abbrev main_call0_call0_v16 : Ref sig .tc := ⟨.hbm, 73, rfl⟩
abbrev main_call0_call0_v17 : Ref sig .tc := ⟨.hbm, 74, rfl⟩
abbrev main_call0_call0_v18 : Ref sig .tc := ⟨.hbm, 75, rfl⟩
abbrev main_call0_call0_v19 : Ref sig .tc := ⟨.hbm, 76, rfl⟩
abbrev main_call0_call0_v20 : Ref sig .tc := ⟨.hbm, 77, rfl⟩
abbrev main_call0_call0_c_4 : Ref sig .tc := ⟨.hbm, 78, rfl⟩
abbrev main_call0_call0_v21 : Ref sig .tc := ⟨.hbm, 79, rfl⟩
abbrev main_call0_call0_v22 : Ref sig .tc := ⟨.hbm, 80, rfl⟩
abbrev main_call0_call0_c_5 : Ref sig .tc := ⟨.hbm, 81, rfl⟩
abbrev main_call0_call0_v23 : Ref sig .tc := ⟨.hbm, 82, rfl⟩
abbrev main_call0_call0_v24 : Ref sig .tc := ⟨.hbm, 83, rfl⟩
abbrev main_call0_call0_v25 : Ref sig .tc := ⟨.hbm, 84, rfl⟩
abbrev main_call0_call0_v26 : Ref sig .tc := ⟨.hbm, 85, rfl⟩
abbrev main_call0_call0_v27 : Ref sig .tc := ⟨.hbm, 86, rfl⟩
abbrev main_call0_call0_c_6 : Ref sig .tc := ⟨.hbm, 87, rfl⟩
abbrev main_call0_call0_v28 : Ref sig .tc := ⟨.hbm, 88, rfl⟩
abbrev main_call0_call0_v29 : Ref sig .tc := ⟨.hbm, 89, rfl⟩
abbrev main_call0_call0_c_7 : Ref sig .tc := ⟨.hbm, 90, rfl⟩
abbrev main_call0_call0_v30 : Ref sig .tc := ⟨.hbm, 91, rfl⟩
abbrev main_call0_call0_v31 : Ref sig .tc := ⟨.hbm, 92, rfl⟩
abbrev main_call0_call0_v32 : Ref sig .tc := ⟨.hbm, 93, rfl⟩
abbrev main_call0_call0_v33 : Ref sig .tc := ⟨.hbm, 94, rfl⟩
abbrev main_call0_call0_v34 : Ref sig .tc := ⟨.hbm, 95, rfl⟩
abbrev main_call0_call0_v35 : Ref sig .tc := ⟨.hbm, 96, rfl⟩
abbrev main_call0_call0_v36 : Ref sig .tc := ⟨.hbm, 97, rfl⟩
abbrev main_call0_call0_v37 : Ref sig .tc := ⟨.hbm, 98, rfl⟩
abbrev main_call0_call0_c_8 : Ref sig .tc := ⟨.hbm, 99, rfl⟩
abbrev main_call0_call0_v38 : Ref sig .tc := ⟨.hbm, 100, rfl⟩
abbrev main_call0_call0_v39 : Ref sig .tc := ⟨.hbm, 101, rfl⟩
abbrev main_call0_call0_v40 : Ref sig .tc := ⟨.hbm, 102, rfl⟩
abbrev main_call0_call0_c_9 : Ref sig .tc := ⟨.hbm, 103, rfl⟩
abbrev main_call0_call0_v41 : Ref sig .tc := ⟨.hbm, 104, rfl⟩
abbrev main_call0_call0_v42 : Ref sig .tc := ⟨.hbm, 105, rfl⟩
abbrev main_call0_call0_c_10 : Ref sig .tc := ⟨.hbm, 106, rfl⟩
abbrev main_call0_call0_v43 : Ref sig .tc := ⟨.hbm, 107, rfl⟩
abbrev main_call0_call0_v44 : Ref sig .tc := ⟨.hbm, 108, rfl⟩
abbrev main_call0_call0_v45 : Ref sig .tc := ⟨.hbm, 109, rfl⟩
abbrev main_call0_call0_v46 : Ref sig .tc := ⟨.hbm, 110, rfl⟩
abbrev main_call0_call0_v47 : Ref sig .tc := ⟨.hbm, 111, rfl⟩
abbrev main_call0_call0_c_11 : Ref sig .tc := ⟨.hbm, 112, rfl⟩
abbrev main_call0_call0_v48 : Ref sig .tc := ⟨.hbm, 113, rfl⟩
abbrev main_call0_call0_v49 : Ref sig .tc := ⟨.hbm, 114, rfl⟩
abbrev main_call0_call0_c_12 : Ref sig .tc := ⟨.hbm, 115, rfl⟩
abbrev main_call0_call0_v50 : Ref sig .tc := ⟨.hbm, 116, rfl⟩
abbrev main_call0_call0_v51 : Ref sig .tc := ⟨.hbm, 117, rfl⟩
abbrev main_call0_call0_v52 : Ref sig .tc := ⟨.hbm, 118, rfl⟩
abbrev main_call0_call0_v53 : Ref sig .tc := ⟨.hbm, 119, rfl⟩
abbrev main_call0_call0_v54 : Ref sig .tc := ⟨.hbm, 120, rfl⟩
abbrev main_call0_call0_c_13 : Ref sig .tc := ⟨.hbm, 121, rfl⟩
abbrev main_call0_call0_v55 : Ref sig .tc := ⟨.hbm, 122, rfl⟩
abbrev main_call0_call0_v56 : Ref sig .tc := ⟨.hbm, 123, rfl⟩
abbrev main_call0_call0_c_14 : Ref sig .tc := ⟨.hbm, 124, rfl⟩
abbrev main_call0_call0_v57 : Ref sig .tc := ⟨.hbm, 125, rfl⟩
abbrev main_call0_call0_v58 : Ref sig .tc := ⟨.hbm, 126, rfl⟩
abbrev main_call0_call0_v59 : Ref sig .tc := ⟨.hbm, 127, rfl⟩
abbrev main_call0_call0_v60 : Ref sig .tc := ⟨.hbm, 128, rfl⟩
abbrev main_call0_call0_v61 : Ref sig .tc := ⟨.hbm, 129, rfl⟩
abbrev main_call0_call0_c_15 : Ref sig .tc := ⟨.hbm, 130, rfl⟩
abbrev main_call0_call0_v62 : Ref sig .tc := ⟨.hbm, 131, rfl⟩
abbrev main_call0_call0_v63 : Ref sig .tc := ⟨.hbm, 132, rfl⟩
abbrev main_call0_call0_c_16 : Ref sig .tc := ⟨.hbm, 133, rfl⟩
abbrev main_call0_call0_v64 : Ref sig .tc := ⟨.hbm, 134, rfl⟩
abbrev main_call0_call0_v65 : Ref sig .tc := ⟨.hbm, 135, rfl⟩
abbrev main_call0_call0_v66 : Ref sig .tc := ⟨.hbm, 136, rfl⟩
abbrev main_call0_call0_v67 : Ref sig .tc := ⟨.hbm, 137, rfl⟩
abbrev main_call0_call0_v68 : Ref sig .tc := ⟨.hbm, 138, rfl⟩
abbrev main_call0_call0_v69 : Ref sig .tc := ⟨.hbm, 139, rfl⟩
abbrev main_call0_call0_v70 : Ref sig .tc := ⟨.hbm, 140, rfl⟩
abbrev main_call0_call0_v71 : Ref sig .tc := ⟨.hbm, 141, rfl⟩
abbrev main_call0_call0_c_17 : Ref sig .tc := ⟨.hbm, 142, rfl⟩
abbrev main_call0_call0_v72 : Ref sig .tc := ⟨.hbm, 143, rfl⟩
abbrev main_call0_call0_v73 : Ref sig .tc := ⟨.hbm, 144, rfl⟩
abbrev main_call0_call0_v74 : Ref sig .tc := ⟨.hbm, 145, rfl⟩
abbrev main_call0_call0_c_18 : Ref sig .tc := ⟨.hbm, 146, rfl⟩
abbrev main_call0_call0_v75 : Ref sig .tc := ⟨.hbm, 147, rfl⟩
abbrev main_call0_call0_v76 : Ref sig .tc := ⟨.hbm, 148, rfl⟩
abbrev main_call0_call0_c_19 : Ref sig .tc := ⟨.hbm, 149, rfl⟩
abbrev main_call0_call0_v77 : Ref sig .tc := ⟨.hbm, 150, rfl⟩
abbrev main_call0_call0_v78 : Ref sig .tc := ⟨.hbm, 151, rfl⟩
abbrev main_call0_call0_v79 : Ref sig .tc := ⟨.hbm, 152, rfl⟩
abbrev main_call0_call0_v80 : Ref sig .tc := ⟨.hbm, 153, rfl⟩
abbrev main_call0_call0_v81 : Ref sig .tc := ⟨.hbm, 154, rfl⟩
abbrev main_call0_call0_c_20 : Ref sig .tc := ⟨.hbm, 155, rfl⟩
abbrev main_call0_call0_v82 : Ref sig .tc := ⟨.hbm, 156, rfl⟩
abbrev main_call0_call0_v83 : Ref sig .tc := ⟨.hbm, 157, rfl⟩
abbrev main_call0_call0_c_21 : Ref sig .tc := ⟨.hbm, 158, rfl⟩
abbrev main_call0_call0_v84 : Ref sig .tc := ⟨.hbm, 159, rfl⟩
abbrev main_call0_call0_v85 : Ref sig .tc := ⟨.hbm, 160, rfl⟩
abbrev main_call0_call0_v86 : Ref sig .tc := ⟨.hbm, 161, rfl⟩
abbrev main_call0_call0_v87 : Ref sig .tc := ⟨.hbm, 162, rfl⟩
abbrev main_call0_call0_v88 : Ref sig .tc := ⟨.hbm, 163, rfl⟩
abbrev main_call0_call0_c_22 : Ref sig .tc := ⟨.hbm, 164, rfl⟩
abbrev main_call0_call0_v89 : Ref sig .tc := ⟨.hbm, 165, rfl⟩
abbrev main_call0_call0_v90 : Ref sig .tc := ⟨.hbm, 166, rfl⟩
abbrev main_call0_call0_c_23 : Ref sig .tc := ⟨.hbm, 167, rfl⟩
abbrev main_call0_call0_v91 : Ref sig .tc := ⟨.hbm, 168, rfl⟩
abbrev main_call0_call0_v92 : Ref sig .tc := ⟨.hbm, 169, rfl⟩
abbrev main_call0_call0_v93 : Ref sig .tc := ⟨.hbm, 170, rfl⟩
abbrev main_call0_call0_v94 : Ref sig .tc := ⟨.hbm, 171, rfl⟩
abbrev main_call0_call0_v95 : Ref sig .tc := ⟨.hbm, 172, rfl⟩
abbrev main_call0_call0_c_24 : Ref sig .tc := ⟨.hbm, 173, rfl⟩
abbrev main_call0_call0_v96 : Ref sig .tc := ⟨.hbm, 174, rfl⟩
abbrev main_call0_call0_v97 : Ref sig .tc := ⟨.hbm, 175, rfl⟩
abbrev main_call0_call0_c_25 : Ref sig .tc := ⟨.hbm, 176, rfl⟩
abbrev main_call0_call0_v98 : Ref sig .tc := ⟨.hbm, 177, rfl⟩
abbrev main_call0_call0_v99 : Ref sig .tc := ⟨.hbm, 178, rfl⟩
abbrev main_call0_call0_v100 : Ref sig .tc := ⟨.hbm, 179, rfl⟩
abbrev main_call0_call0_v101 : Ref sig .tc := ⟨.hbm, 180, rfl⟩
abbrev main_call0_call0_v102 : Ref sig .tc := ⟨.hbm, 181, rfl⟩
abbrev main_call0_call0_v103 : Ref sig .tc := ⟨.hbm, 182, rfl⟩
abbrev main_call0_call0_v104 : Ref sig .tc := ⟨.hbm, 183, rfl⟩
abbrev main_call0_call0_v105 : Ref sig .tc := ⟨.hbm, 184, rfl⟩
abbrev main_call0_call0_c_26 : Ref sig .tc := ⟨.hbm, 185, rfl⟩
abbrev main_call0_call0_v106 : Ref sig .tc := ⟨.hbm, 186, rfl⟩
abbrev main_call0_call0_v107 : Ref sig .tc := ⟨.hbm, 187, rfl⟩
abbrev main_call0_call0_v108 : Ref sig .tc := ⟨.hbm, 188, rfl⟩
abbrev main_call0_call0_c_27 : Ref sig .tc := ⟨.hbm, 189, rfl⟩
abbrev main_call0_call0_v109 : Ref sig .tc := ⟨.hbm, 190, rfl⟩
abbrev main_call0_call0_v110 : Ref sig .tc := ⟨.hbm, 191, rfl⟩
abbrev main_call0_call0_c_28 : Ref sig .tc := ⟨.hbm, 192, rfl⟩
abbrev main_call0_call0_v111 : Ref sig .tc := ⟨.hbm, 193, rfl⟩
abbrev main_call0_call0_v112 : Ref sig .tc := ⟨.hbm, 194, rfl⟩
abbrev main_call0_call0_v113 : Ref sig .tc := ⟨.hbm, 195, rfl⟩
abbrev main_call0_call0_v114 : Ref sig .tc := ⟨.hbm, 196, rfl⟩
abbrev main_call0_call0_v115 : Ref sig .tc := ⟨.hbm, 197, rfl⟩
abbrev main_call0_call0_c_29 : Ref sig .tc := ⟨.hbm, 198, rfl⟩
abbrev main_call0_call0_v116 : Ref sig .tc := ⟨.hbm, 199, rfl⟩
abbrev main_call0_call0_v117 : Ref sig .tc := ⟨.hbm, 200, rfl⟩
abbrev main_call0_call0_c_30 : Ref sig .tc := ⟨.hbm, 201, rfl⟩
abbrev main_call0_call0_v118 : Ref sig .tc := ⟨.hbm, 202, rfl⟩
abbrev main_call0_call0_v119 : Ref sig .tc := ⟨.hbm, 203, rfl⟩
abbrev main_call0_call0_v120 : Ref sig .tc := ⟨.hbm, 204, rfl⟩
abbrev main_call0_call0_v121 : Ref sig .tc := ⟨.hbm, 205, rfl⟩
abbrev main_call0_call0_v122 : Ref sig .tc := ⟨.hbm, 206, rfl⟩
abbrev main_call0_call0_c_31 : Ref sig .tc := ⟨.hbm, 207, rfl⟩
abbrev main_call0_call0_v123 : Ref sig .tc := ⟨.hbm, 208, rfl⟩
abbrev main_call0_call0_v124 : Ref sig .tc := ⟨.hbm, 209, rfl⟩
abbrev main_call0_call0_c_32 : Ref sig .tc := ⟨.hbm, 210, rfl⟩
abbrev main_call0_call0_v125 : Ref sig .tc := ⟨.hbm, 211, rfl⟩
abbrev main_call0_call0_v126 : Ref sig .tc := ⟨.hbm, 212, rfl⟩
abbrev main_call0_call0_v127 : Ref sig .tc := ⟨.hbm, 213, rfl⟩
abbrev main_call0_call0_v128 : Ref sig .tc := ⟨.hbm, 214, rfl⟩
abbrev main_call0_call0_v129 : Ref sig .tc := ⟨.hbm, 215, rfl⟩
abbrev main_call0_call0_c_33 : Ref sig .tc := ⟨.hbm, 216, rfl⟩
abbrev main_call0_call0_v130 : Ref sig .tc := ⟨.hbm, 217, rfl⟩
abbrev main_call0_call0_v131 : Ref sig .tc := ⟨.hbm, 218, rfl⟩
abbrev main_call0_call0_c_34 : Ref sig .tc := ⟨.hbm, 219, rfl⟩
abbrev main_call0_call0_v132 : Ref sig .tc := ⟨.hbm, 220, rfl⟩
abbrev main_call0_call0_v133 : Ref sig .tc := ⟨.hbm, 221, rfl⟩
abbrev main_call0_call0_v134 : Ref sig .tc := ⟨.hbm, 222, rfl⟩
abbrev main_call0_call0_v135 : Ref sig .tc := ⟨.hbm, 223, rfl⟩
abbrev main_call0_call0_v136 : Ref sig .tc := ⟨.hbm, 224, rfl⟩
abbrev main_call0_call0_v137 : Ref sig .tc := ⟨.hbm, 225, rfl⟩
abbrev main_call0_call0_v138 : Ref sig .tc := ⟨.hbm, 226, rfl⟩
abbrev main_call0_call0_v139 : Ref sig .tc := ⟨.hbm, 227, rfl⟩
abbrev main_call0_call0_c_35 : Ref sig .tc := ⟨.hbm, 228, rfl⟩
abbrev main_call0_call0_v140 : Ref sig .tc := ⟨.hbm, 229, rfl⟩
abbrev main_call0_call0_v141 : Ref sig .tc := ⟨.hbm, 230, rfl⟩
abbrev main_call0_call0_v142 : Ref sig .tc := ⟨.hbm, 231, rfl⟩
abbrev main_call0_call0_c_36 : Ref sig .tc := ⟨.hbm, 232, rfl⟩
abbrev main_call0_call0_v143 : Ref sig .tc := ⟨.hbm, 233, rfl⟩
abbrev main_call0_call0_v144 : Ref sig .tc := ⟨.hbm, 234, rfl⟩
abbrev main_call0_call0_c_37 : Ref sig .tc := ⟨.hbm, 235, rfl⟩
abbrev main_call0_call0_v145 : Ref sig .tc := ⟨.hbm, 236, rfl⟩
abbrev main_call0_call0_v146 : Ref sig .tc := ⟨.hbm, 237, rfl⟩
abbrev main_call0_call0_v147 : Ref sig .tc := ⟨.hbm, 238, rfl⟩
abbrev main_call0_call0_v148 : Ref sig .tc := ⟨.hbm, 239, rfl⟩
abbrev main_call0_call0_v149 : Ref sig .tc := ⟨.hbm, 240, rfl⟩
abbrev main_call0_call0_c_38 : Ref sig .tc := ⟨.hbm, 241, rfl⟩
abbrev main_call0_call0_v150 : Ref sig .tc := ⟨.hbm, 242, rfl⟩
abbrev main_call0_call0_v151 : Ref sig .tc := ⟨.hbm, 243, rfl⟩
abbrev main_call0_call0_c_39 : Ref sig .tc := ⟨.hbm, 244, rfl⟩
abbrev main_call0_call0_v152 : Ref sig .tc := ⟨.hbm, 245, rfl⟩
abbrev main_call0_call0_v153 : Ref sig .tc := ⟨.hbm, 246, rfl⟩
abbrev main_call0_call0_v154 : Ref sig .tc := ⟨.hbm, 247, rfl⟩
abbrev main_call0_call0_v155 : Ref sig .tc := ⟨.hbm, 248, rfl⟩
abbrev main_call0_call0_v156 : Ref sig .tc := ⟨.hbm, 249, rfl⟩
abbrev main_call0_call0_c_40 : Ref sig .tc := ⟨.hbm, 250, rfl⟩
abbrev main_call0_call0_v157 : Ref sig .tc := ⟨.hbm, 251, rfl⟩
abbrev main_call0_call0_v158 : Ref sig .tc := ⟨.hbm, 252, rfl⟩
abbrev main_call0_call0_c_41 : Ref sig .tc := ⟨.hbm, 253, rfl⟩
abbrev main_call0_call0_v159 : Ref sig .tc := ⟨.hbm, 254, rfl⟩
abbrev main_call0_call0_v160 : Ref sig .tc := ⟨.hbm, 255, rfl⟩
abbrev main_call0_call0_v161 : Ref sig .tc := ⟨.hbm, 256, rfl⟩
abbrev main_call0_call0_v162 : Ref sig .tc := ⟨.hbm, 257, rfl⟩
abbrev main_call0_call0_v163 : Ref sig .tc := ⟨.hbm, 258, rfl⟩
abbrev main_call0_call0_c_42 : Ref sig .tc := ⟨.hbm, 259, rfl⟩
abbrev main_call0_call0_v164 : Ref sig .tc := ⟨.hbm, 260, rfl⟩
abbrev main_call0_call0_v165 : Ref sig .tc := ⟨.hbm, 261, rfl⟩
abbrev main_call0_call0_c_43 : Ref sig .tc := ⟨.hbm, 262, rfl⟩
abbrev main_call0_call0_v166 : Ref sig .tc := ⟨.hbm, 263, rfl⟩
abbrev main_call0_call0_v167 : Ref sig .tc := ⟨.hbm, 264, rfl⟩
abbrev main_call0_call0_v168 : Ref sig .tc := ⟨.hbm, 265, rfl⟩
abbrev main_call0_call0_v169 : Ref sig .tc := ⟨.hbm, 266, rfl⟩
abbrev main_call0_call0_v170 : Ref sig .tc := ⟨.hbm, 267, rfl⟩
abbrev main_call0_v31_0 : Ref sig .tc := ⟨.hbm, 268, rfl⟩
abbrev main_call0_call0_v172 : Ref sig .tc := ⟨.hbm, 269, rfl⟩
abbrev main_call0_call0_v173 : Ref sig .tc := ⟨.hbm, 270, rfl⟩
abbrev main_call0_call0_c_44 : Ref sig .tc := ⟨.hbm, 271, rfl⟩
abbrev main_call0_call0_v174 : Ref sig .tc := ⟨.hbm, 272, rfl⟩
abbrev main_call0_v31_1 : Ref sig .tc := ⟨.hbm, 273, rfl⟩
abbrev main_call0_v32 : Ref sig .tc := ⟨.hbm, 274, rfl⟩
abbrev main_call0_c_5 : Ref sig .tc := ⟨.hbm, 275, rfl⟩
abbrev main_call0_v33 : Ref sig .tc := ⟨.hbm, 276, rfl⟩
abbrev main_call0_v34 : Ref sig .tc := ⟨.hbm, 277, rfl⟩
abbrev main_call0_c_6 : Ref sig .tc := ⟨.hbm, 278, rfl⟩
abbrev main_call0_v35 : Ref sig .tc := ⟨.hbm, 279, rfl⟩
abbrev main_call0_v36 : Ref sig .tc := ⟨.hbm, 280, rfl⟩
abbrev main_call0_v37 : Ref sig .tc := ⟨.hbm, 281, rfl⟩
abbrev main_call0_cst : Ref sig .tc := ⟨.hbm, 282, rfl⟩
abbrev main_call0_v38 : Ref sig .tc := ⟨.hbm, 283, rfl⟩
abbrev main_call0_v39 : Ref sig .tc := ⟨.hbm, 284, rfl⟩
abbrev main_call0_v40 : Ref sig .tc := ⟨.hbm, 285, rfl⟩
abbrev main_call0_v41 : Ref sig .tc := ⟨.hbm, 286, rfl⟩
abbrev main_call0_v42 : Ref sig .tc := ⟨.hbm, 287, rfl⟩
abbrev main_call0_v43 : Ref sig .tc := ⟨.hbm, 288, rfl⟩
abbrev main_call0_v44 : Ref sig .tc := ⟨.hbm, 289, rfl⟩
abbrev main_call0_v45 : Ref sig .tc := ⟨.hbm, 290, rfl⟩
abbrev main_v8 : Ref sig .tc := ⟨.hbm, 291, rfl⟩
abbrev main_v9 : Ref sig .tc := ⟨.hbm, 292, rfl⟩
abbrev main_v10 : Ref sig .tc := ⟨.hbm, 293, rfl⟩
abbrev main_cst_3 : Ref sig .tc := ⟨.hbm, 294, rfl⟩
abbrev main_v11 : Ref sig .tc := ⟨.hbm, 295, rfl⟩
abbrev main_v12 : Ref sig .tc := ⟨.hbm, 296, rfl⟩
abbrev main_v13 : Ref sig .tc := ⟨.hbm, 297, rfl⟩
abbrev main_v14 : Ref sig .tc := ⟨.hbm, 298, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_834 : BitVec 32 := 0#32
  let c48_i32 : BitVec 32 := 48#32
  let v2075 : BitVec 32 := Scalar.addi c0_i32_834 c48_i32
  let c1_i32 : BitVec 32 := 1#32
  ⟨c0_i32_834, v2075, c1_i32⟩
def k0_off1 (k0_t1 : Fin k0_t1_loop.trips) : Fin 2 → Nat :=
  let c0_i32_834 : BitVec 32 := 0#32
  let c1_i32 : BitVec 32 := 1#32
  let arg6 : BitVec 32 := Scf.iv c0_i32_834 c1_i32 k0_t1
  let v2281 : Index := Scalar.indexCast arg6
  let c0_995 : Index := 0#32
  ![v2281.toNat, 0]
@[reducible] def k0_t2_loop : Scf.Loop 32 :=
  let c0_i32_839 : BitVec 32 := 0#32
  let c48_i32_840 : BitVec 32 := 48#32
  let v2083 : BitVec 32 := Scalar.addi c0_i32_839 c48_i32_840
  let c1_i32_841 : BitVec 32 := 1#32
  ⟨c0_i32_839, v2083, c1_i32_841⟩
def k0_off2 (k0_t2 : Fin k0_t2_loop.trips) : Fin 2 → Nat :=
  let c0_i32_839 : BitVec 32 := 0#32
  let c1_i32_841 : BitVec 32 := 1#32
  let arg6 : BitVec 32 := Scf.iv c0_i32_839 c1_i32_841 k0_t2
  let v2281 : Index := Scalar.indexCast arg6
  let c256_995 : Index := 256#32
  ![v2281.toNat, 256]
@[reducible] def k0_t3_loop : Scf.Loop 32 :=
  let c0_i32_846 : BitVec 32 := 0#32
  let c48_i32_847 : BitVec 32 := 48#32
  let v2091 : BitVec 32 := Scalar.addi c0_i32_846 c48_i32_847
  let c1_i32_848 : BitVec 32 := 1#32
  ⟨c0_i32_846, v2091, c1_i32_848⟩
def k0_off3 (k0_t3 : Fin k0_t3_loop.trips) : Fin 2 → Nat :=
  let c0_i32_846 : BitVec 32 := 0#32
  let c1_i32_848 : BitVec 32 := 1#32
  let arg6 : BitVec 32 := Scf.iv c0_i32_846 c1_i32_848 k0_t3
  let v2281 : Index := Scalar.indexCast arg6
  let c512_995 : Index := 512#32
  ![v2281.toNat, 512]
@[reducible] def k0_t4_loop : Scf.Loop 32 :=
  let c0_i32_853 : BitVec 32 := 0#32
  let c48_i32_854 : BitVec 32 := 48#32
  let v2099 : BitVec 32 := Scalar.addi c0_i32_853 c48_i32_854
  let c1_i32_855 : BitVec 32 := 1#32
  ⟨c0_i32_853, v2099, c1_i32_855⟩
def k0_off4 (k0_t4 : Fin k0_t4_loop.trips) : Fin 2 → Nat :=
  let c0_i32_853 : BitVec 32 := 0#32
  let c1_i32_855 : BitVec 32 := 1#32
  let arg6 : BitVec 32 := Scf.iv c0_i32_853 c1_i32_855 k0_t4
  let v2281 : Index := Scalar.indexCast arg6
  let c768_995 : Index := 768#32
  ![v2281.toNat, 768]
@[reducible] def k0_t5_loop : Scf.Loop 32 :=
  let c0_i32_870 : BitVec 32 := 0#32
  let c48_i32_871 : BitVec 32 := 48#32
  let v2131 : BitVec 32 := Scalar.addi c0_i32_870 c48_i32_871
  let c1_i32_872 : BitVec 32 := 1#32
  ⟨c0_i32_870, v2131, c1_i32_872⟩
def k0_off5 (k0_t5 : Fin k0_t5_loop.trips) : Fin 2 → Nat :=
  let c0_i32_870 : BitVec 32 := 0#32
  let c1_i32_872 : BitVec 32 := 1#32
  let arg6 : BitVec 32 := Scf.iv c0_i32_870 c1_i32_872 k0_t5
  let v2281 : Index := Scalar.indexCast arg6
  let c0_995 : Index := 0#32
  ![v2281.toNat, 0]
@[reducible] def k0_t6_loop : Scf.Loop 32 :=
  let c0_i32_878 : BitVec 32 := 0#32
  let c48_i32_879 : BitVec 32 := 48#32
  let v2139 : BitVec 32 := Scalar.addi c0_i32_878 c48_i32_879
  let c1_i32_880 : BitVec 32 := 1#32
  ⟨c0_i32_878, v2139, c1_i32_880⟩
def k0_off6 (k0_t6 : Fin k0_t6_loop.trips) : Fin 2 → Nat :=
  let c0_i32_878 : BitVec 32 := 0#32
  let c1_i32_880 : BitVec 32 := 1#32
  let arg6 : BitVec 32 := Scf.iv c0_i32_878 c1_i32_880 k0_t6
  let v2281 : Index := Scalar.indexCast arg6
  let c256_995 : Index := 256#32
  ![v2281.toNat, 256]
@[reducible] def k0_t7_loop : Scf.Loop 32 :=
  let c0_i32_886 : BitVec 32 := 0#32
  let c48_i32_887 : BitVec 32 := 48#32
  let v2147 : BitVec 32 := Scalar.addi c0_i32_886 c48_i32_887
  let c1_i32_888 : BitVec 32 := 1#32
  ⟨c0_i32_886, v2147, c1_i32_888⟩
def k0_off7 (k0_t7 : Fin k0_t7_loop.trips) : Fin 2 → Nat :=
  let c0_i32_886 : BitVec 32 := 0#32
  let c1_i32_888 : BitVec 32 := 1#32
  let arg6 : BitVec 32 := Scf.iv c0_i32_886 c1_i32_888 k0_t7
  let v2281 : Index := Scalar.indexCast arg6
  let c512_995 : Index := 512#32
  ![v2281.toNat, 512]
@[reducible] def k0_t8_loop : Scf.Loop 32 :=
  let c0_i32_894 : BitVec 32 := 0#32
  let c48_i32_895 : BitVec 32 := 48#32
  let v2155 : BitVec 32 := Scalar.addi c0_i32_894 c48_i32_895
  let c1_i32_896 : BitVec 32 := 1#32
  ⟨c0_i32_894, v2155, c1_i32_896⟩
def k0_off8 (k0_t8 : Fin k0_t8_loop.trips) : Fin 2 → Nat :=
  let c0_i32_894 : BitVec 32 := 0#32
  let c1_i32_896 : BitVec 32 := 1#32
  let arg6 : BitVec 32 := Scf.iv c0_i32_894 c1_i32_896 k0_t8
  let v2281 : Index := Scalar.indexCast arg6
  let c768_995 : Index := 768#32
  ![v2281.toNat, 768]
@[reducible] def k0_t9_loop : Scf.Loop 32 :=
  let c0_i32_911 : BitVec 32 := 0#32
  let c48_i32_912 : BitVec 32 := 48#32
  let v2187 : BitVec 32 := Scalar.addi c0_i32_911 c48_i32_912
  let c1_i32_913 : BitVec 32 := 1#32
  ⟨c0_i32_911, v2187, c1_i32_913⟩
def k0_off9 (k0_t9 : Fin k0_t9_loop.trips) : Fin 2 → Nat :=
  let c0_i32_911 : BitVec 32 := 0#32
  let c1_i32_913 : BitVec 32 := 1#32
  let arg6 : BitVec 32 := Scf.iv c0_i32_911 c1_i32_913 k0_t9
  let v2281 : Index := Scalar.indexCast arg6
  let c0_995 : Index := 0#32
  ![v2281.toNat, 0]
@[reducible] def k0_t10_loop : Scf.Loop 32 :=
  let c0_i32_919 : BitVec 32 := 0#32
  let c48_i32_920 : BitVec 32 := 48#32
  let v2195 : BitVec 32 := Scalar.addi c0_i32_919 c48_i32_920
  let c1_i32_921 : BitVec 32 := 1#32
  ⟨c0_i32_919, v2195, c1_i32_921⟩
def k0_off10 (k0_t10 : Fin k0_t10_loop.trips) : Fin 2 → Nat :=
  let c0_i32_919 : BitVec 32 := 0#32
  let c1_i32_921 : BitVec 32 := 1#32
  let arg6 : BitVec 32 := Scf.iv c0_i32_919 c1_i32_921 k0_t10
  let v2281 : Index := Scalar.indexCast arg6
  let c256_995 : Index := 256#32
  ![v2281.toNat, 256]
@[reducible] def k0_t11_loop : Scf.Loop 32 :=
  let c0_i32_927 : BitVec 32 := 0#32
  let c48_i32_928 : BitVec 32 := 48#32
  let v2203 : BitVec 32 := Scalar.addi c0_i32_927 c48_i32_928
  let c1_i32_929 : BitVec 32 := 1#32
  ⟨c0_i32_927, v2203, c1_i32_929⟩
def k0_off11 (k0_t11 : Fin k0_t11_loop.trips) : Fin 2 → Nat :=
  let c0_i32_927 : BitVec 32 := 0#32
  let c1_i32_929 : BitVec 32 := 1#32
  let arg6 : BitVec 32 := Scf.iv c0_i32_927 c1_i32_929 k0_t11
  let v2281 : Index := Scalar.indexCast arg6
  let c512_995 : Index := 512#32
  ![v2281.toNat, 512]
@[reducible] def k0_t12_loop : Scf.Loop 32 :=
  let c0_i32_935 : BitVec 32 := 0#32
  let c48_i32_936 : BitVec 32 := 48#32
  let v2211 : BitVec 32 := Scalar.addi c0_i32_935 c48_i32_936
  let c1_i32_937 : BitVec 32 := 1#32
  ⟨c0_i32_935, v2211, c1_i32_937⟩
def k0_off12 (k0_t12 : Fin k0_t12_loop.trips) : Fin 2 → Nat :=
  let c0_i32_935 : BitVec 32 := 0#32
  let c1_i32_937 : BitVec 32 := 1#32
  let arg6 : BitVec 32 := Scf.iv c0_i32_935 c1_i32_937 k0_t12
  let v2281 : Index := Scalar.indexCast arg6
  let c768_995 : Index := 768#32
  ![v2281.toNat, 768]
abbrev stage0_0 : Fin 1 → Memref sig .tc .vmem S16x4x3x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x4x3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4x3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16x4x3x32x32 : Shape := ⟨5, ![16, 4, 3, 32, 32]⟩
abbrev S_ : Shape := ⟨0, ![]⟩
abbrev S4x16x3x32x32 : Shape := ⟨5, ![4, 16, 3, 32, 32]⟩
abbrev S4x48x1024 : Shape := ⟨3, ![4, 48, 1024]⟩
abbrev S1x48x1024 : Shape := ⟨3, ![1, 48, 1024]⟩
abbrev S48x1024 : Shape := ⟨2, ![48, 1024]⟩
abbrev S49152 : Shape := ⟨1, ![49152]⟩
abbrev S4x49152 : Shape := ⟨2, ![4, 49152]⟩
abbrev S1x49152 : Shape := ⟨2, ![1, 49152]⟩
abbrev S4x49152x1 : Shape := ⟨3, ![4, 49152, 1]⟩
abbrev S1024 : Shape := ⟨1, ![1024]⟩
abbrev S1x1024 : Shape := ⟨2, ![1, 1024]⟩
abbrev S1x1x1024 : Shape := ⟨3, ![1, 1, 1024]⟩
abbrev S4x49152x1024 : Shape := ⟨3, ![4, 49152, 1024]⟩
abbrev S4x1024 : Shape := ⟨2, ![4, 1024]⟩
abbrev S4 : Shape := ⟨1, ![4]⟩
abbrev S4x1 : Shape := ⟨2, ![4, 1]⟩
abbrev S4x32x32 : Shape := ⟨3, ![4, 32, 32]⟩
abbrev S4x32 : Shape := ⟨2, ![4, 32]⟩
abbrev S4x32x1 : Shape := ⟨3, ![4, 32, 1]⟩
abbrev S4x1x32 : Shape := ⟨3, ![4, 1, 32]⟩
abbrev S32x32 : Shape := ⟨2, ![32, 32]⟩
abbrev S4x1024x48 : Shape := ⟨3, ![4, 1024, 48]⟩
abbrev S4x1024x48x1 : Shape := ⟨4, ![4, 1024, 48, 1]⟩
abbrev S1x1x1x1024 : Shape := ⟨4, ![1, 1, 1, 1024]⟩
abbrev S4x1024x48x1024 : Shape := ⟨4, ![4, 1024, 48, 1024]⟩
abbrev S4x1024x1024 : Shape := ⟨3, ![4, 1024, 1024]⟩
abbrev S4x1024x1 : Shape := ⟨3, ![4, 1024, 1]⟩
abbrev S4x1024x32x32 : Shape := ⟨4, ![4, 1024, 32, 32]⟩
abbrev S4x1024x32 : Shape := ⟨3, ![4, 1024, 32]⟩
abbrev S4x1024x32x1 : Shape := ⟨4, ![4, 1024, 32, 1]⟩
abbrev S4x1024x1x32 : Shape := ⟨4, ![4, 1024, 1, 32]⟩
abbrev S1024x32x32 : Shape := ⟨3, ![1024, 32, 32]⟩
abbrev S1 : Shape := ⟨1, ![1]⟩
abbrev S2 : Shape := ⟨1, ![2]⟩
abbrev S1x1x1x1x1 : Shape := ⟨5, ![1, 1, 1, 1, 1]⟩
abbrev S1x4x1x32x32 : Shape := ⟨5, ![1, 4, 1, 32, 32]⟩

abbrev nBuf : Space → Nat
  | .hbm => 473
  | .vmem => 0
  | .smem => 0
  | _ => 0

abbrev hbmTy0_0 (i : Nat) : BufTy := match i % 128 with
  | 0 => ⟨S16x4x3x32x32, .f32⟩
  | 1 => ⟨S_, .i32⟩
  | 2 => ⟨S_, .f32⟩
  | 3 => ⟨S_, .f32⟩
  | 4 => ⟨S_, .f32⟩
  | 5 => ⟨S4x16x3x32x32, .f32⟩
  | 6 => ⟨S4x48x1024, .f32⟩
  | 7 => ⟨S4x48x1024, .i32⟩
  | 8 => ⟨S1x48x1024, .i32⟩
  | 9 => ⟨S48x1024, .i32⟩
  | 10 => ⟨S49152, .i32⟩
  | 11 => ⟨S4x49152, .i32⟩
  | 12 => ⟨S_, .i32⟩
  | 13 => ⟨S49152, .i32⟩
  | 14 => ⟨S49152, .i32⟩
  | 15 => ⟨S_, .i32⟩
  | 16 => ⟨S49152, .i32⟩
  | 17 => ⟨S49152, .i32⟩
  | 18 => ⟨S_, .i32⟩
  | 19 => ⟨S4x49152, .i32⟩
  | 20 => ⟨S4x49152, .i32⟩
  | 21 => ⟨S1x49152, .i32⟩
  | 22 => ⟨S4x49152, .i32⟩
  | 23 => ⟨S4x49152, .i32⟩
  | 24 => ⟨S4x49152x1, .i32⟩
  | 25 => ⟨S1024, .i32⟩
  | 26 => ⟨S1x1024, .i32⟩
  | 27 => ⟨S1x1x1024, .i32⟩
  | 28 => ⟨S4x49152x1024, .i32⟩
  | 29 => ⟨S4x49152x1024, .i32⟩
  | 30 => ⟨S4x49152x1024, .i1⟩
  | 31 => ⟨S4x49152x1024, .i32⟩
  | 32 => ⟨S_, .i32⟩
  | 33 => ⟨S4x1024, .i32⟩
  | 34 => ⟨S4x1024, .f32⟩
  | 35 => ⟨S_, .f32⟩
  | 36 => ⟨S4, .f32⟩
  | 37 => ⟨S4x1, .f32⟩
  | 38 => ⟨S4x1024, .f32⟩
  | 39 => ⟨S4x1024, .f32⟩
  | 40 => ⟨S4x32x32, .f32⟩
  | 41 => ⟨S_, .f32⟩
  | 42 => ⟨S4x32, .f32⟩
  | 43 => ⟨S_, .f32⟩
  | 44 => ⟨S4x32, .f32⟩
  | 45 => ⟨S4x32x1, .f32⟩
  | 46 => ⟨S4x1x32, .f32⟩
  | 47 => ⟨S4x32x32, .f32⟩
  | 48 => ⟨S4x32x32, .f32⟩
  | 49 => ⟨S4x32x32, .f32⟩
  | 50 => ⟨S_, .f32⟩
  | 51 => ⟨S4x32x32, .f32⟩
  | 52 => ⟨S4x32x32, .i1⟩
  | 53 => ⟨S_, .f32⟩
  | 54 => ⟨S_, .f32⟩
  | 55 => ⟨S32x32, .f32⟩
  | 56 => ⟨S4x32x32, .f32⟩
  | 57 => ⟨S4x32x32, .f32⟩
  | 58 => ⟨S4x32x32, .f32⟩
  | 59 => ⟨S_, .f32⟩
  | 60 => ⟨S4x32x32, .f32⟩
  | 61 => ⟨S4x32x32, .i1⟩
  | 62 => ⟨S_, .f32⟩
  | 63 => ⟨S_, .f32⟩
  | 64 => ⟨S32x32, .f32⟩
  | 65 => ⟨S4x32x32, .f32⟩
  | 66 => ⟨S4x32x32, .f32⟩
  | 67 => ⟨S4x32x32, .f32⟩
  | 68 => ⟨S_, .f32⟩
  | 69 => ⟨S4x32x32, .f32⟩
  | 70 => ⟨S4x32x32, .i1⟩
  | 71 => ⟨S4x32x32, .f32⟩
  | 72 => ⟨S4x32x32, .f32⟩
  | 73 => ⟨S_, .f32⟩
  | 74 => ⟨S_, .f32⟩
  | 75 => ⟨S32x32, .f32⟩
  | 76 => ⟨S4x32x32, .f32⟩
  | 77 => ⟨S4x32x32, .f32⟩
  | 78 => ⟨S_, .f32⟩
  | 79 => ⟨S4, .f32⟩
  | 80 => ⟨S_, .i32⟩
  | 81 => ⟨S48x1024, .i32⟩
  | 82 => ⟨S48x1024, .i32⟩
  | 83 => ⟨S_, .i32⟩
  | 84 => ⟨S48x1024, .i32⟩
  | 85 => ⟨S48x1024, .i32⟩
  | 86 => ⟨S_, .i32⟩
  | 87 => ⟨S4x48x1024, .i32⟩
  | 88 => ⟨S4x48x1024, .i32⟩
  | 89 => ⟨S1x48x1024, .i32⟩
  | 90 => ⟨S4x48x1024, .i32⟩
  | 91 => ⟨S4x48x1024, .i32⟩
  | 92 => ⟨S4x1024x48, .i32⟩
  | 93 => ⟨S4x1024x48x1, .i32⟩
  | 94 => ⟨S1024, .i32⟩
  | 95 => ⟨S1x1024, .i32⟩
  | 96 => ⟨S1x1x1024, .i32⟩
  | 97 => ⟨S1x1x1x1024, .i32⟩
  | 98 => ⟨S4x1024x48x1024, .i32⟩
  | 99 => ⟨S4x1024x48x1024, .i32⟩
  | 100 => ⟨S4x1024x48x1024, .i1⟩
  | 101 => ⟨S4x1024x48x1024, .i32⟩
  | 102 => ⟨S_, .i32⟩
  | 103 => ⟨S4x1024x1024, .i32⟩
  | 104 => ⟨S4x1024x1024, .f32⟩
  | 105 => ⟨S_, .f32⟩
  | 106 => ⟨S4x1024, .f32⟩
  | 107 => ⟨S4x1024x1, .f32⟩
  | 108 => ⟨S4x1024x1024, .f32⟩
  | 109 => ⟨S4x1024x1024, .f32⟩
  | 110 => ⟨S4x1024x32x32, .f32⟩
  | 111 => ⟨S_, .f32⟩
  | 112 => ⟨S4x1024x32, .f32⟩
  | 113 => ⟨S_, .f32⟩
  | 114 => ⟨S4x1024x32, .f32⟩
  | 115 => ⟨S4x1024x32x1, .f32⟩
  | 116 => ⟨S4x1024x1x32, .f32⟩
  | 117 => ⟨S4x1024x32x32, .f32⟩
  | 118 => ⟨S4x1024x32x32, .f32⟩
  | 119 => ⟨S4x1024x32x32, .f32⟩
  | 120 => ⟨S_, .f32⟩
  | 121 => ⟨S4x1024x32x32, .f32⟩
  | 122 => ⟨S4x1024x32x32, .i1⟩
  | 123 => ⟨S_, .f32⟩
  | 124 => ⟨S_, .f32⟩
  | 125 => ⟨S32x32, .f32⟩
  | 126 => ⟨S1024x32x32, .f32⟩
  | 127 => ⟨S4x1024x32x32, .f32⟩
  | _ => ⟨S16x4x3x32x32, .f32⟩

abbrev hbmTy0_1 (i : Nat) : BufTy := match i % 128 with
  | 0 => ⟨S4x1024x32x32, .f32⟩
  | 1 => ⟨S4x1024x32x32, .f32⟩
  | 2 => ⟨S_, .f32⟩
  | 3 => ⟨S4x1024x32x32, .f32⟩
  | 4 => ⟨S4x1024x32x32, .i1⟩
  | 5 => ⟨S_, .f32⟩
  | 6 => ⟨S_, .f32⟩
  | 7 => ⟨S32x32, .f32⟩
  | 8 => ⟨S1024x32x32, .f32⟩
  | 9 => ⟨S4x1024x32x32, .f32⟩
  | 10 => ⟨S4x1024x32x32, .f32⟩
  | 11 => ⟨S4x1024x32x32, .f32⟩
  | 12 => ⟨S_, .f32⟩
  | 13 => ⟨S4x1024x32x32, .f32⟩
  | 14 => ⟨S4x1024x32x32, .i1⟩
  | 15 => ⟨S4x1024x32x32, .f32⟩
  | 16 => ⟨S4x1024x32x32, .f32⟩
  | 17 => ⟨S_, .f32⟩
  | 18 => ⟨S_, .f32⟩
  | 19 => ⟨S32x32, .f32⟩
  | 20 => ⟨S1024x32x32, .f32⟩
  | 21 => ⟨S4x1024x32x32, .f32⟩
  | 22 => ⟨S4x1024x32x32, .f32⟩
  | 23 => ⟨S_, .f32⟩
  | 24 => ⟨S4x1024, .f32⟩
  | 25 => ⟨S4x1, .f32⟩
  | 26 => ⟨S4x1024, .f32⟩
  | 27 => ⟨S4x1024, .f32⟩
  | 28 => ⟨S1x1024, .f32⟩
  | 29 => ⟨S1024, .f32⟩
  | 30 => ⟨S1x1024, .f32⟩
  | 31 => ⟨S4x1024, .f32⟩
  | 32 => ⟨S4x1024, .f32⟩
  | 33 => ⟨S_, .i32⟩
  | 34 => ⟨S1, .i32⟩
  | 35 => ⟨S_, .f32⟩
  | 36 => ⟨S1024, .f32⟩
  | 37 => ⟨S4x1024, .f32⟩
  | 38 => ⟨S4x32x32, .f32⟩
  | 39 => ⟨S_, .f32⟩
  | 40 => ⟨S4x32x32, .f32⟩
  | 41 => ⟨S4x32x32, .f32⟩
  | 42 => ⟨S_, .f32⟩
  | 43 => ⟨S_, .f32⟩
  | 44 => ⟨S_, .f32⟩
  | 45 => ⟨S4x32x32, .f32⟩
  | 46 => ⟨S4x32x32, .f32⟩
  | 47 => ⟨S_, .f32⟩
  | 48 => ⟨S4x32x32, .f32⟩
  | 49 => ⟨S4x32x32, .f32⟩
  | 50 => ⟨S_, .i32⟩
  | 51 => ⟨S_, .i32⟩
  | 52 => ⟨S_, .i32⟩
  | 53 => ⟨S_, .i32⟩
  | 54 => ⟨S1, .i32⟩
  | 55 => ⟨S_, .i32⟩
  | 56 => ⟨S_, .i32⟩
  | 57 => ⟨S_, .i32⟩
  | 58 => ⟨S1, .i32⟩
  | 59 => ⟨S2, .i32⟩
  | 60 => ⟨S_, .f32⟩
  | 61 => ⟨S_, .f32⟩
  | 62 => ⟨S_, .f32⟩
  | 63 => ⟨S_, .f32⟩
  | 64 => ⟨S1x1x1x1x1, .f32⟩
  | 65 => ⟨S1x1x1x1x1, .f32⟩
  | 66 => ⟨S1, .i32⟩
  | 67 => ⟨S_, .i32⟩
  | 68 => ⟨S1, .i32⟩
  | 69 => ⟨S_, .i32⟩
  | 70 => ⟨S16x4x3x32x32, .i64⟩
  | 71 => ⟨S16x4x3x32x32, .i64⟩
  | 72 => ⟨S16x4x3x32x32, .i64⟩
  | 73 => ⟨S16x4x3x32x32, .i64⟩
  | 74 => ⟨S16x4x3x32x32, .i64⟩
  | 75 => ⟨S_, .i64⟩
  | 76 => ⟨S16x4x3x32x32, .i64⟩
  | 77 => ⟨S16x4x3x32x32, .i64⟩
  | 78 => ⟨S_, .i64⟩
  | 79 => ⟨S16x4x3x32x32, .i64⟩
  | 80 => ⟨S16x4x3x32x32, .i64⟩
  | 81 => ⟨S_, .i64⟩
  | 82 => ⟨S16x4x3x32x32, .i64⟩
  | 83 => ⟨S16x4x3x32x32, .i64⟩
  | 84 => ⟨S_, .i64⟩
  | 85 => ⟨S16x4x3x32x32, .i64⟩
  | 86 => ⟨S16x4x3x32x32, .i64⟩
  | 87 => ⟨S_, .i64⟩
  | 88 => ⟨S16x4x3x32x32, .i64⟩
  | 89 => ⟨S16x4x3x32x32, .i64⟩
  | 90 => ⟨S16x4x3x32x32, .i64⟩
  | 91 => ⟨S16x4x3x32x32, .i64⟩
  | 92 => ⟨S16x4x3x32x32, .i64⟩
  | 93 => ⟨S16x4x3x32x32, .i64⟩
  | 94 => ⟨S_, .i64⟩
  | 95 => ⟨S16x4x3x32x32, .i64⟩
  | 96 => ⟨S16x4x3x32x32, .i64⟩
  | 97 => ⟨S16x4x3x32x32, .i32⟩
  | 98 => ⟨S16x4x3x32x32, .i32⟩
  | 99 => ⟨S_, .i32⟩
  | 100 => ⟨S_, .i32⟩
  | 101 => ⟨S_, .i32⟩
  | 102 => ⟨S16x4x3x32x32, .i32⟩
  | 103 => ⟨S16x4x3x32x32, .i32⟩
  | 104 => ⟨S16x4x3x32x32, .i32⟩
  | 105 => ⟨S16x4x3x32x32, .i32⟩
  | 106 => ⟨S16x4x3x32x32, .i32⟩
  | 107 => ⟨S_, .i32⟩
  | 108 => ⟨S16x4x3x32x32, .i32⟩
  | 109 => ⟨S16x4x3x32x32, .i32⟩
  | 110 => ⟨S_, .i32⟩
  | 111 => ⟨S16x4x3x32x32, .i32⟩
  | 112 => ⟨S16x4x3x32x32, .i32⟩
  | 113 => ⟨S16x4x3x32x32, .i32⟩
  | 114 => ⟨S16x4x3x32x32, .i32⟩
  | 115 => ⟨S16x4x3x32x32, .i32⟩
  | 116 => ⟨S_, .i32⟩
  | 117 => ⟨S16x4x3x32x32, .i32⟩
  | 118 => ⟨S16x4x3x32x32, .i32⟩
  | 119 => ⟨S_, .i32⟩
  | 120 => ⟨S16x4x3x32x32, .i32⟩
  | 121 => ⟨S16x4x3x32x32, .i32⟩
  | 122 => ⟨S16x4x3x32x32, .i32⟩
  | 123 => ⟨S16x4x3x32x32, .i32⟩
  | 124 => ⟨S16x4x3x32x32, .i32⟩
  | 125 => ⟨S_, .i32⟩
  | 126 => ⟨S16x4x3x32x32, .i32⟩
  | 127 => ⟨S16x4x3x32x32, .i32⟩
  | _ => ⟨S16x4x3x32x32, .f32⟩

abbrev hbmTy0_2 (i : Nat) : BufTy := match i % 128 with
  | 0 => ⟨S_, .i32⟩
  | 1 => ⟨S16x4x3x32x32, .i32⟩
  | 2 => ⟨S16x4x3x32x32, .i32⟩
  | 3 => ⟨S16x4x3x32x32, .i32⟩
  | 4 => ⟨S16x4x3x32x32, .i32⟩
  | 5 => ⟨S16x4x3x32x32, .i32⟩
  | 6 => ⟨S_, .i32⟩
  | 7 => ⟨S16x4x3x32x32, .i32⟩
  | 8 => ⟨S16x4x3x32x32, .i32⟩
  | 9 => ⟨S_, .i32⟩
  | 10 => ⟨S16x4x3x32x32, .i32⟩
  | 11 => ⟨S16x4x3x32x32, .i32⟩
  | 12 => ⟨S16x4x3x32x32, .i32⟩
  | 13 => ⟨S16x4x3x32x32, .i32⟩
  | 14 => ⟨S16x4x3x32x32, .i32⟩
  | 15 => ⟨S16x4x3x32x32, .i32⟩
  | 16 => ⟨S16x4x3x32x32, .i32⟩
  | 17 => ⟨S16x4x3x32x32, .i32⟩
  | 18 => ⟨S_, .i32⟩
  | 19 => ⟨S16x4x3x32x32, .i32⟩
  | 20 => ⟨S16x4x3x32x32, .i32⟩
  | 21 => ⟨S16x4x3x32x32, .i32⟩
  | 22 => ⟨S_, .i32⟩
  | 23 => ⟨S16x4x3x32x32, .i32⟩
  | 24 => ⟨S16x4x3x32x32, .i32⟩
  | 25 => ⟨S_, .i32⟩
  | 26 => ⟨S16x4x3x32x32, .i32⟩
  | 27 => ⟨S16x4x3x32x32, .i32⟩
  | 28 => ⟨S16x4x3x32x32, .i32⟩
  | 29 => ⟨S16x4x3x32x32, .i32⟩
  | 30 => ⟨S16x4x3x32x32, .i32⟩
  | 31 => ⟨S_, .i32⟩
  | 32 => ⟨S16x4x3x32x32, .i32⟩
  | 33 => ⟨S16x4x3x32x32, .i32⟩
  | 34 => ⟨S_, .i32⟩
  | 35 => ⟨S16x4x3x32x32, .i32⟩
  | 36 => ⟨S16x4x3x32x32, .i32⟩
  | 37 => ⟨S16x4x3x32x32, .i32⟩
  | 38 => ⟨S16x4x3x32x32, .i32⟩
  | 39 => ⟨S16x4x3x32x32, .i32⟩
  | 40 => ⟨S_, .i32⟩
  | 41 => ⟨S16x4x3x32x32, .i32⟩
  | 42 => ⟨S16x4x3x32x32, .i32⟩
  | 43 => ⟨S_, .i32⟩
  | 44 => ⟨S16x4x3x32x32, .i32⟩
  | 45 => ⟨S16x4x3x32x32, .i32⟩
  | 46 => ⟨S16x4x3x32x32, .i32⟩
  | 47 => ⟨S16x4x3x32x32, .i32⟩
  | 48 => ⟨S16x4x3x32x32, .i32⟩
  | 49 => ⟨S_, .i32⟩
  | 50 => ⟨S16x4x3x32x32, .i32⟩
  | 51 => ⟨S16x4x3x32x32, .i32⟩
  | 52 => ⟨S_, .i32⟩
  | 53 => ⟨S16x4x3x32x32, .i32⟩
  | 54 => ⟨S16x4x3x32x32, .i32⟩
  | 55 => ⟨S16x4x3x32x32, .i32⟩
  | 56 => ⟨S16x4x3x32x32, .i32⟩
  | 57 => ⟨S16x4x3x32x32, .i32⟩
  | 58 => ⟨S16x4x3x32x32, .i32⟩
  | 59 => ⟨S16x4x3x32x32, .i32⟩
  | 60 => ⟨S16x4x3x32x32, .i32⟩
  | 61 => ⟨S_, .i32⟩
  | 62 => ⟨S16x4x3x32x32, .i32⟩
  | 63 => ⟨S16x4x3x32x32, .i32⟩
  | 64 => ⟨S16x4x3x32x32, .i32⟩
  | 65 => ⟨S_, .i32⟩
  | 66 => ⟨S16x4x3x32x32, .i32⟩
  | 67 => ⟨S16x4x3x32x32, .i32⟩
  | 68 => ⟨S_, .i32⟩
  | 69 => ⟨S16x4x3x32x32, .i32⟩
  | 70 => ⟨S16x4x3x32x32, .i32⟩
  | 71 => ⟨S16x4x3x32x32, .i32⟩
  | 72 => ⟨S16x4x3x32x32, .i32⟩
  | 73 => ⟨S16x4x3x32x32, .i32⟩
  | 74 => ⟨S_, .i32⟩
  | 75 => ⟨S16x4x3x32x32, .i32⟩
  | 76 => ⟨S16x4x3x32x32, .i32⟩
  | 77 => ⟨S_, .i32⟩
  | 78 => ⟨S16x4x3x32x32, .i32⟩
  | 79 => ⟨S16x4x3x32x32, .i32⟩
  | 80 => ⟨S16x4x3x32x32, .i32⟩
  | 81 => ⟨S16x4x3x32x32, .i32⟩
  | 82 => ⟨S16x4x3x32x32, .i32⟩
  | 83 => ⟨S_, .i32⟩
  | 84 => ⟨S16x4x3x32x32, .i32⟩
  | 85 => ⟨S16x4x3x32x32, .i32⟩
  | 86 => ⟨S_, .i32⟩
  | 87 => ⟨S16x4x3x32x32, .i32⟩
  | 88 => ⟨S16x4x3x32x32, .i32⟩
  | 89 => ⟨S16x4x3x32x32, .i32⟩
  | 90 => ⟨S16x4x3x32x32, .i32⟩
  | 91 => ⟨S16x4x3x32x32, .i32⟩
  | 92 => ⟨S_, .i32⟩
  | 93 => ⟨S16x4x3x32x32, .i32⟩
  | 94 => ⟨S16x4x3x32x32, .i32⟩
  | 95 => ⟨S_, .i32⟩
  | 96 => ⟨S16x4x3x32x32, .i32⟩
  | 97 => ⟨S16x4x3x32x32, .i32⟩
  | 98 => ⟨S16x4x3x32x32, .i32⟩
  | 99 => ⟨S16x4x3x32x32, .i32⟩
  | 100 => ⟨S16x4x3x32x32, .i32⟩
  | 101 => ⟨S16x4x3x32x32, .i32⟩
  | 102 => ⟨S16x4x3x32x32, .i32⟩
  | 103 => ⟨S16x4x3x32x32, .i32⟩
  | 104 => ⟨S_, .i32⟩
  | 105 => ⟨S16x4x3x32x32, .i32⟩
  | 106 => ⟨S16x4x3x32x32, .i32⟩
  | 107 => ⟨S16x4x3x32x32, .i32⟩
  | 108 => ⟨S_, .i32⟩
  | 109 => ⟨S16x4x3x32x32, .i32⟩
  | 110 => ⟨S16x4x3x32x32, .i32⟩
  | 111 => ⟨S_, .i32⟩
  | 112 => ⟨S16x4x3x32x32, .i32⟩
  | 113 => ⟨S16x4x3x32x32, .i32⟩
  | 114 => ⟨S16x4x3x32x32, .i32⟩
  | 115 => ⟨S16x4x3x32x32, .i32⟩
  | 116 => ⟨S16x4x3x32x32, .i32⟩
  | 117 => ⟨S_, .i32⟩
  | 118 => ⟨S16x4x3x32x32, .i32⟩
  | 119 => ⟨S16x4x3x32x32, .i32⟩
  | 120 => ⟨S_, .i32⟩
  | 121 => ⟨S16x4x3x32x32, .i32⟩
  | 122 => ⟨S16x4x3x32x32, .i32⟩
  | 123 => ⟨S16x4x3x32x32, .i32⟩
  | 124 => ⟨S16x4x3x32x32, .i32⟩
  | 125 => ⟨S16x4x3x32x32, .i32⟩
  | 126 => ⟨S_, .i32⟩
  | 127 => ⟨S16x4x3x32x32, .i32⟩
  | _ => ⟨S16x4x3x32x32, .f32⟩

abbrev hbmTy0_3 (i : Nat) : BufTy := match i % 128 with
  | 0 => ⟨S16x4x3x32x32, .i32⟩
  | 1 => ⟨S_, .i32⟩
  | 2 => ⟨S16x4x3x32x32, .i32⟩
  | 3 => ⟨S16x4x3x32x32, .i32⟩
  | 4 => ⟨S16x4x3x32x32, .i32⟩
  | 5 => ⟨S16x4x3x32x32, .i32⟩
  | 6 => ⟨S16x4x3x32x32, .i32⟩
  | 7 => ⟨S_, .i32⟩
  | 8 => ⟨S16x4x3x32x32, .i32⟩
  | 9 => ⟨S16x4x3x32x32, .i32⟩
  | 10 => ⟨S_, .i32⟩
  | 11 => ⟨S16x4x3x32x32, .i32⟩
  | 12 => ⟨S16x4x3x32x32, .i32⟩
  | 13 => ⟨S16x4x3x32x32, .i32⟩
  | 14 => ⟨S16x4x3x32x32, .i32⟩
  | 15 => ⟨S16x4x3x32x32, .i32⟩
  | 16 => ⟨S16x4x3x32x32, .i32⟩
  | 17 => ⟨S16x4x3x32x32, .i32⟩
  | 18 => ⟨S16x4x3x32x32, .i32⟩
  | 19 => ⟨S_, .i32⟩
  | 20 => ⟨S16x4x3x32x32, .i32⟩
  | 21 => ⟨S16x4x3x32x32, .i32⟩
  | 22 => ⟨S16x4x3x32x32, .i32⟩
  | 23 => ⟨S_, .i32⟩
  | 24 => ⟨S16x4x3x32x32, .i32⟩
  | 25 => ⟨S16x4x3x32x32, .i32⟩
  | 26 => ⟨S_, .i32⟩
  | 27 => ⟨S16x4x3x32x32, .i32⟩
  | 28 => ⟨S16x4x3x32x32, .i32⟩
  | 29 => ⟨S16x4x3x32x32, .i32⟩
  | 30 => ⟨S16x4x3x32x32, .i32⟩
  | 31 => ⟨S16x4x3x32x32, .i32⟩
  | 32 => ⟨S_, .i32⟩
  | 33 => ⟨S16x4x3x32x32, .i32⟩
  | 34 => ⟨S16x4x3x32x32, .i32⟩
  | 35 => ⟨S_, .i32⟩
  | 36 => ⟨S16x4x3x32x32, .i32⟩
  | 37 => ⟨S16x4x3x32x32, .i32⟩
  | 38 => ⟨S16x4x3x32x32, .i32⟩
  | 39 => ⟨S16x4x3x32x32, .i32⟩
  | 40 => ⟨S16x4x3x32x32, .i32⟩
  | 41 => ⟨S_, .i32⟩
  | 42 => ⟨S16x4x3x32x32, .i32⟩
  | 43 => ⟨S16x4x3x32x32, .i32⟩
  | 44 => ⟨S_, .i32⟩
  | 45 => ⟨S16x4x3x32x32, .i32⟩
  | 46 => ⟨S16x4x3x32x32, .i32⟩
  | 47 => ⟨S16x4x3x32x32, .i32⟩
  | 48 => ⟨S16x4x3x32x32, .i32⟩
  | 49 => ⟨S16x4x3x32x32, .i32⟩
  | 50 => ⟨S_, .i32⟩
  | 51 => ⟨S16x4x3x32x32, .i32⟩
  | 52 => ⟨S16x4x3x32x32, .i32⟩
  | 53 => ⟨S_, .i32⟩
  | 54 => ⟨S16x4x3x32x32, .i32⟩
  | 55 => ⟨S16x4x3x32x32, .i32⟩
  | 56 => ⟨S16x4x3x32x32, .i32⟩
  | 57 => ⟨S16x4x3x32x32, .i32⟩
  | 58 => ⟨S16x4x3x32x32, .i32⟩
  | 59 => ⟨S16x4x3x32x32, .i32⟩
  | 60 => ⟨S16x4x3x32x32, .i32⟩
  | 61 => ⟨S16x4x3x32x32, .i32⟩
  | 62 => ⟨S_, .i32⟩
  | 63 => ⟨S16x4x3x32x32, .i32⟩
  | 64 => ⟨S16x4x3x32x32, .i32⟩
  | 65 => ⟨S16x4x3x32x32, .i32⟩
  | 66 => ⟨S_, .i32⟩
  | 67 => ⟨S16x4x3x32x32, .i32⟩
  | 68 => ⟨S16x4x3x32x32, .i32⟩
  | 69 => ⟨S_, .i32⟩
  | 70 => ⟨S16x4x3x32x32, .i32⟩
  | 71 => ⟨S16x4x3x32x32, .i32⟩
  | 72 => ⟨S16x4x3x32x32, .f32⟩
  | 73 => ⟨S_, .f32⟩
  | 74 => ⟨S16x4x3x32x32, .f32⟩
  | 75 => ⟨S16x4x3x32x32, .f32⟩
  | 76 => ⟨S1x1x1x1x1, .f32⟩
  | 77 => ⟨S16x4x3x32x32, .f32⟩
  | 78 => ⟨S16x4x3x32x32, .f32⟩
  | 79 => ⟨S16x4x3x32x32, .f32⟩
  | 80 => ⟨S16x4x3x32x32, .f32⟩
  | 81 => ⟨S16x4x3x32x32, .f32⟩
  | 82 => ⟨S16x4x3x32x32, .f32⟩
  | 83 => ⟨S1x4x1x32x32, .f32⟩
  | 84 => ⟨S16x4x3x32x32, .f32⟩
  | 85 => ⟨S16x4x3x32x32, .i1⟩
  | 86 => ⟨S_, .f32⟩
  | 87 => ⟨S16x4x3x32x32, .f32⟩
  | 88 => ⟨S16x4x3x32x32, .f32⟩
  | _ => ⟨S16x4x3x32x32, .f32⟩

abbrev hbmTy (i : Nat) : BufTy := match i / 128 with
  | 0 => hbmTy0_0 i
  | 1 => hbmTy0_1 i
  | 2 => hbmTy0_2 i
  | 3 => hbmTy0_3 i
  | _ => ⟨S16x4x3x32x32, .f32⟩

abbrev bufTy : (tb : Table) → Fin (tcTables nBuf tb) → BufTy
  | .hbm, ⟨i, _⟩ => hbmTy i
  | _, _ => ⟨S16x4x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_c_13 : Ref sig .tc := ⟨.hbm, 80, rfl⟩
abbrev main_v54 : Ref sig .tc := ⟨.hbm, 81, rfl⟩
abbrev main_v55 : Ref sig .tc := ⟨.hbm, 82, rfl⟩
abbrev main_c_14 : Ref sig .tc := ⟨.hbm, 83, rfl⟩
abbrev main_v56 : Ref sig .tc := ⟨.hbm, 84, rfl⟩
abbrev main_v57 : Ref sig .tc := ⟨.hbm, 85, rfl⟩
abbrev main_c_15 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_16 : Ref sig .tc := ⟨.hbm, 102, rfl⟩
abbrev main_v73 : Ref sig .tc := ⟨.hbm, 103, rfl⟩
abbrev main_v74 : Ref sig .tc := ⟨.hbm, 104, rfl⟩
abbrev main_cst_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_18 : Ref sig .tc := ⟨.hbm, 111, rfl⟩
abbrev main_v80 : Ref sig .tc := ⟨.hbm, 112, rfl⟩
abbrev main_cst_19 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_20 : Ref sig .tc := ⟨.hbm, 120, rfl⟩
abbrev main_v87 : Ref sig .tc := ⟨.hbm, 121, rfl⟩
abbrev main_v88 : Ref sig .tc := ⟨.hbm, 122, rfl⟩
abbrev main_cst_21 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_v89 : Ref sig .tc := ⟨.hbm, 128, rfl⟩
abbrev main_v90 : Ref sig .tc := ⟨.hbm, 129, rfl⟩
abbrev main_cst_22 : Ref sig .tc := ⟨.hbm, 130, rfl⟩
abbrev main_v91 : Ref sig .tc := ⟨.hbm, 131, rfl⟩
abbrev main_v92 : Ref sig .tc := ⟨.hbm, 132, rfl⟩
abbrev main_cst_23 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_v93 : Ref sig .tc := ⟨.hbm, 138, rfl⟩
abbrev main_v94 : Ref sig .tc := ⟨.hbm, 139, rfl⟩
abbrev main_cst_24 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_25 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_call5_v3 : Ref sig .tc := ⟨.hbm, 149, rfl⟩
abbrev main_v99 : Ref sig .tc := ⟨.hbm, 150, rfl⟩
abbrev main_cst_26 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_c_27 : Ref sig .tc := ⟨.hbm, 161, rfl⟩
abbrev main_v109 : Ref sig .tc := ⟨.hbm, 162, rfl⟩
abbrev main_cst_28 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_29 : Ref sig .tc := ⟨.hbm, 170, rfl⟩
abbrev main_cst_30 : Ref sig .tc := ⟨.hbm, 171, rfl⟩
abbrev main_call6_v0 : Ref sig .tc := ⟨.hbm, 172, rfl⟩
abbrev main_call6_v1 : Ref sig .tc := ⟨.hbm, 173, rfl⟩
abbrev main_call6_v2 : Ref sig .tc := ⟨.hbm, 174, rfl⟩
abbrev main_call6_v3 : Ref sig .tc := ⟨.hbm, 175, rfl⟩
abbrev main_call6_v4 : Ref sig .tc := ⟨.hbm, 176, rfl⟩
abbrev main_v116 : Ref sig .tc := ⟨.hbm, 177, rfl⟩
abbrev main_c_31 : Ref sig .tc := ⟨.hbm, 178, rfl⟩
abbrev main_c_32 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_c_33 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_cst_34 : Ref sig .tc := ⟨.hbm, 188, rfl⟩
abbrev main_cst_35 : Ref sig .tc := ⟨.hbm, 189, rfl⟩
abbrev main_call7_v0 : Ref sig .tc := ⟨.hbm, 190, rfl⟩
abbrev main_call7_v1 : Ref sig .tc := ⟨.hbm, 191, rfl⟩
abbrev main_call7_v2 : Ref sig .tc := ⟨.hbm, 192, rfl⟩
abbrev main_call7_v3 : Ref sig .tc := ⟨.hbm, 193, rfl⟩
abbrev main_call7_v4 : Ref sig .tc := ⟨.hbm, 194, rfl⟩
abbrev main_call7_v5 : Ref sig .tc := ⟨.hbm, 195, rfl⟩
abbrev main_call7_v6 : Ref sig .tc := ⟨.hbm, 196, rfl⟩
abbrev main_call7_v7 : Ref sig .tc := ⟨.hbm, 197, rfl⟩
abbrev main_call7_v8 : Ref sig .tc := ⟨.hbm, 198, rfl⟩
abbrev main_call7_v9 : Ref sig .tc := ⟨.hbm, 199, rfl⟩
abbrev main_call7_v10 : Ref sig .tc := ⟨.hbm, 200, rfl⟩
abbrev main_call7_v11 : Ref sig .tc := ⟨.hbm, 201, rfl⟩
abbrev main_call7_v12 : Ref sig .tc := ⟨.hbm, 202, rfl⟩
abbrev main_call7_c : Ref sig .tc := ⟨.hbm, 203, rfl⟩
abbrev main_call7_v13 : Ref sig .tc := ⟨.hbm, 204, rfl⟩
abbrev main_call7_v14 : Ref sig .tc := ⟨.hbm, 205, rfl⟩
abbrev main_call7_c_0 : Ref sig .tc := ⟨.hbm, 206, rfl⟩
abbrev main_call7_v15 : Ref sig .tc := ⟨.hbm, 207, rfl⟩
abbrev main_call7_v16 : Ref sig .tc := ⟨.hbm, 208, rfl⟩
abbrev main_call7_c_1 : Ref sig .tc := ⟨.hbm, 209, rfl⟩
abbrev main_call7_v17 : Ref sig .tc := ⟨.hbm, 210, rfl⟩
abbrev main_call7_v18 : Ref sig .tc := ⟨.hbm, 211, rfl⟩
abbrev main_call7_c_2 : Ref sig .tc := ⟨.hbm, 212, rfl⟩
abbrev main_call7_v19 : Ref sig .tc := ⟨.hbm, 213, rfl⟩
abbrev main_call7_v20 : Ref sig .tc := ⟨.hbm, 214, rfl⟩
abbrev main_call7_c_3 : Ref sig .tc := ⟨.hbm, 215, rfl⟩
abbrev main_call7_v21 : Ref sig .tc := ⟨.hbm, 216, rfl⟩
abbrev main_call7_v22 : Ref sig .tc := ⟨.hbm, 217, rfl⟩
abbrev main_call7_v23 : Ref sig .tc := ⟨.hbm, 218, rfl⟩
abbrev main_call7_v24 : Ref sig .tc := ⟨.hbm, 219, rfl⟩
abbrev main_call7_v25 : Ref sig .tc := ⟨.hbm, 220, rfl⟩
abbrev main_call7_v26 : Ref sig .tc := ⟨.hbm, 221, rfl⟩
abbrev main_call7_c_4 : Ref sig .tc := ⟨.hbm, 222, rfl⟩
abbrev main_call7_v27 : Ref sig .tc := ⟨.hbm, 223, rfl⟩
abbrev main_call7_v28 : Ref sig .tc := ⟨.hbm, 224, rfl⟩
abbrev main_call7_v29 : Ref sig .tc := ⟨.hbm, 225, rfl⟩
abbrev main_call7_v30 : Ref sig .tc := ⟨.hbm, 226, rfl⟩
abbrev main_call7_call0_v0 : Ref sig .tc := ⟨.hbm, 227, rfl⟩
abbrev main_call7_call0_c : Ref sig .tc := ⟨.hbm, 228, rfl⟩
abbrev main_call7_call0_v1 : Ref sig .tc := ⟨.hbm, 229, rfl⟩
abbrev main_call7_call0_v2 : Ref sig .tc := ⟨.hbm, 230, rfl⟩
abbrev main_call7_call0_v3 : Ref sig .tc := ⟨.hbm, 231, rfl⟩
abbrev main_call7_call0_v4 : Ref sig .tc := ⟨.hbm, 232, rfl⟩
abbrev main_call7_call0_v5 : Ref sig .tc := ⟨.hbm, 233, rfl⟩
abbrev main_call7_call0_v6 : Ref sig .tc := ⟨.hbm, 234, rfl⟩
abbrev main_call7_call0_c_0 : Ref sig .tc := ⟨.hbm, 235, rfl⟩
abbrev main_call7_call0_v7 : Ref sig .tc := ⟨.hbm, 236, rfl⟩
abbrev main_call7_call0_v8 : Ref sig .tc := ⟨.hbm, 237, rfl⟩
abbrev main_call7_call0_c_1 : Ref sig .tc := ⟨.hbm, 238, rfl⟩
abbrev main_call7_call0_v9 : Ref sig .tc := ⟨.hbm, 239, rfl⟩
abbrev main_call7_call0_v10 : Ref sig .tc := ⟨.hbm, 240, rfl⟩
abbrev main_call7_call0_v11 : Ref sig .tc := ⟨.hbm, 241, rfl⟩
abbrev main_call7_call0_v12 : Ref sig .tc := ⟨.hbm, 242, rfl⟩
abbrev main_call7_call0_v13 : Ref sig .tc := ⟨.hbm, 243, rfl⟩
abbrev main_call7_call0_c_2 : Ref sig .tc := ⟨.hbm, 244, rfl⟩
abbrev main_call7_call0_v14 : Ref sig .tc := ⟨.hbm, 245, rfl⟩
abbrev main_call7_call0_v15 : Ref sig .tc := ⟨.hbm, 246, rfl⟩
abbrev main_call7_call0_c_3 : Ref sig .tc := ⟨.hbm, 247, rfl⟩
abbrev main_call7_call0_v16 : Ref sig .tc := ⟨.hbm, 248, rfl⟩
abbrev main_call7_call0_v17 : Ref sig .tc := ⟨.hbm, 249, rfl⟩
abbrev main_call7_call0_v18 : Ref sig .tc := ⟨.hbm, 250, rfl⟩
abbrev main_call7_call0_v19 : Ref sig .tc := ⟨.hbm, 251, rfl⟩
abbrev main_call7_call0_v20 : Ref sig .tc := ⟨.hbm, 252, rfl⟩
abbrev main_call7_call0_c_4 : Ref sig .tc := ⟨.hbm, 253, rfl⟩
abbrev main_call7_call0_v21 : Ref sig .tc := ⟨.hbm, 254, rfl⟩
abbrev main_call7_call0_v22 : Ref sig .tc := ⟨.hbm, 255, rfl⟩
abbrev main_call7_call0_c_5 : Ref sig .tc := ⟨.hbm, 256, rfl⟩
abbrev main_call7_call0_v23 : Ref sig .tc := ⟨.hbm, 257, rfl⟩
abbrev main_call7_call0_v24 : Ref sig .tc := ⟨.hbm, 258, rfl⟩
abbrev main_call7_call0_v25 : Ref sig .tc := ⟨.hbm, 259, rfl⟩
abbrev main_call7_call0_v26 : Ref sig .tc := ⟨.hbm, 260, rfl⟩
abbrev main_call7_call0_v27 : Ref sig .tc := ⟨.hbm, 261, rfl⟩
abbrev main_call7_call0_c_6 : Ref sig .tc := ⟨.hbm, 262, rfl⟩
abbrev main_call7_call0_v28 : Ref sig .tc := ⟨.hbm, 263, rfl⟩
abbrev main_call7_call0_v29 : Ref sig .tc := ⟨.hbm, 264, rfl⟩
abbrev main_call7_call0_c_7 : Ref sig .tc := ⟨.hbm, 265, rfl⟩
abbrev main_call7_call0_v30 : Ref sig .tc := ⟨.hbm, 266, rfl⟩
abbrev main_call7_call0_v31 : Ref sig .tc := ⟨.hbm, 267, rfl⟩
abbrev main_call7_call0_v32 : Ref sig .tc := ⟨.hbm, 268, rfl⟩
abbrev main_call7_call0_v33 : Ref sig .tc := ⟨.hbm, 269, rfl⟩
abbrev main_call7_call0_v34 : Ref sig .tc := ⟨.hbm, 270, rfl⟩
abbrev main_call7_call0_v35 : Ref sig .tc := ⟨.hbm, 271, rfl⟩
abbrev main_call7_call0_v36 : Ref sig .tc := ⟨.hbm, 272, rfl⟩
abbrev main_call7_call0_v37 : Ref sig .tc := ⟨.hbm, 273, rfl⟩
abbrev main_call7_call0_c_8 : Ref sig .tc := ⟨.hbm, 274, rfl⟩
abbrev main_call7_call0_v38 : Ref sig .tc := ⟨.hbm, 275, rfl⟩
abbrev main_call7_call0_v39 : Ref sig .tc := ⟨.hbm, 276, rfl⟩
abbrev main_call7_call0_v40 : Ref sig .tc := ⟨.hbm, 277, rfl⟩
abbrev main_call7_call0_c_9 : Ref sig .tc := ⟨.hbm, 278, rfl⟩
abbrev main_call7_call0_v41 : Ref sig .tc := ⟨.hbm, 279, rfl⟩
abbrev main_call7_call0_v42 : Ref sig .tc := ⟨.hbm, 280, rfl⟩
abbrev main_call7_call0_c_10 : Ref sig .tc := ⟨.hbm, 281, rfl⟩
abbrev main_call7_call0_v43 : Ref sig .tc := ⟨.hbm, 282, rfl⟩
abbrev main_call7_call0_v44 : Ref sig .tc := ⟨.hbm, 283, rfl⟩
abbrev main_call7_call0_v45 : Ref sig .tc := ⟨.hbm, 284, rfl⟩
abbrev main_call7_call0_v46 : Ref sig .tc := ⟨.hbm, 285, rfl⟩
abbrev main_call7_call0_v47 : Ref sig .tc := ⟨.hbm, 286, rfl⟩
abbrev main_call7_call0_c_11 : Ref sig .tc := ⟨.hbm, 287, rfl⟩
abbrev main_call7_call0_v48 : Ref sig .tc := ⟨.hbm, 288, rfl⟩
abbrev main_call7_call0_v49 : Ref sig .tc := ⟨.hbm, 289, rfl⟩
abbrev main_call7_call0_c_12 : Ref sig .tc := ⟨.hbm, 290, rfl⟩
abbrev main_call7_call0_v50 : Ref sig .tc := ⟨.hbm, 291, rfl⟩
abbrev main_call7_call0_v51 : Ref sig .tc := ⟨.hbm, 292, rfl⟩
abbrev main_call7_call0_v52 : Ref sig .tc := ⟨.hbm, 293, rfl⟩
abbrev main_call7_call0_v53 : Ref sig .tc := ⟨.hbm, 294, rfl⟩
abbrev main_call7_call0_v54 : Ref sig .tc := ⟨.hbm, 295, rfl⟩
abbrev main_call7_call0_c_13 : Ref sig .tc := ⟨.hbm, 296, rfl⟩
abbrev main_call7_call0_v55 : Ref sig .tc := ⟨.hbm, 297, rfl⟩
abbrev main_call7_call0_v56 : Ref sig .tc := ⟨.hbm, 298, rfl⟩
abbrev main_call7_call0_c_14 : Ref sig .tc := ⟨.hbm, 299, rfl⟩
abbrev main_call7_call0_v57 : Ref sig .tc := ⟨.hbm, 300, rfl⟩
abbrev main_call7_call0_v58 : Ref sig .tc := ⟨.hbm, 301, rfl⟩
abbrev main_call7_call0_v59 : Ref sig .tc := ⟨.hbm, 302, rfl⟩
abbrev main_call7_call0_v60 : Ref sig .tc := ⟨.hbm, 303, rfl⟩
abbrev main_call7_call0_v61 : Ref sig .tc := ⟨.hbm, 304, rfl⟩
abbrev main_call7_call0_c_15 : Ref sig .tc := ⟨.hbm, 305, rfl⟩
abbrev main_call7_call0_v62 : Ref sig .tc := ⟨.hbm, 306, rfl⟩
abbrev main_call7_call0_v63 : Ref sig .tc := ⟨.hbm, 307, rfl⟩
abbrev main_call7_call0_c_16 : Ref sig .tc := ⟨.hbm, 308, rfl⟩
abbrev main_call7_call0_v64 : Ref sig .tc := ⟨.hbm, 309, rfl⟩
abbrev main_call7_call0_v65 : Ref sig .tc := ⟨.hbm, 310, rfl⟩
abbrev main_call7_call0_v66 : Ref sig .tc := ⟨.hbm, 311, rfl⟩
abbrev main_call7_call0_v67 : Ref sig .tc := ⟨.hbm, 312, rfl⟩
abbrev main_call7_call0_v68 : Ref sig .tc := ⟨.hbm, 313, rfl⟩
abbrev main_call7_call0_v69 : Ref sig .tc := ⟨.hbm, 314, rfl⟩
abbrev main_call7_call0_v70 : Ref sig .tc := ⟨.hbm, 315, rfl⟩
abbrev main_call7_call0_v71 : Ref sig .tc := ⟨.hbm, 316, rfl⟩
abbrev main_call7_call0_c_17 : Ref sig .tc := ⟨.hbm, 317, rfl⟩
abbrev main_call7_call0_v72 : Ref sig .tc := ⟨.hbm, 318, rfl⟩
abbrev main_call7_call0_v73 : Ref sig .tc := ⟨.hbm, 319, rfl⟩
abbrev main_call7_call0_v74 : Ref sig .tc := ⟨.hbm, 320, rfl⟩
abbrev main_call7_call0_c_18 : Ref sig .tc := ⟨.hbm, 321, rfl⟩
abbrev main_call7_call0_v75 : Ref sig .tc := ⟨.hbm, 322, rfl⟩
abbrev main_call7_call0_v76 : Ref sig .tc := ⟨.hbm, 323, rfl⟩
abbrev main_call7_call0_c_19 : Ref sig .tc := ⟨.hbm, 324, rfl⟩
abbrev main_call7_call0_v77 : Ref sig .tc := ⟨.hbm, 325, rfl⟩
abbrev main_call7_call0_v78 : Ref sig .tc := ⟨.hbm, 326, rfl⟩
abbrev main_call7_call0_v79 : Ref sig .tc := ⟨.hbm, 327, rfl⟩
abbrev main_call7_call0_v80 : Ref sig .tc := ⟨.hbm, 328, rfl⟩
abbrev main_call7_call0_v81 : Ref sig .tc := ⟨.hbm, 329, rfl⟩
abbrev main_call7_call0_c_20 : Ref sig .tc := ⟨.hbm, 330, rfl⟩
abbrev main_call7_call0_v82 : Ref sig .tc := ⟨.hbm, 331, rfl⟩
abbrev main_call7_call0_v83 : Ref sig .tc := ⟨.hbm, 332, rfl⟩
abbrev main_call7_call0_c_21 : Ref sig .tc := ⟨.hbm, 333, rfl⟩
abbrev main_call7_call0_v84 : Ref sig .tc := ⟨.hbm, 334, rfl⟩
abbrev main_call7_call0_v85 : Ref sig .tc := ⟨.hbm, 335, rfl⟩
abbrev main_call7_call0_v86 : Ref sig .tc := ⟨.hbm, 336, rfl⟩
abbrev main_call7_call0_v87 : Ref sig .tc := ⟨.hbm, 337, rfl⟩
abbrev main_call7_call0_v88 : Ref sig .tc := ⟨.hbm, 338, rfl⟩
abbrev main_call7_call0_c_22 : Ref sig .tc := ⟨.hbm, 339, rfl⟩
abbrev main_call7_call0_v89 : Ref sig .tc := ⟨.hbm, 340, rfl⟩
abbrev main_call7_call0_v90 : Ref sig .tc := ⟨.hbm, 341, rfl⟩
abbrev main_call7_call0_c_23 : Ref sig .tc := ⟨.hbm, 342, rfl⟩
abbrev main_call7_call0_v91 : Ref sig .tc := ⟨.hbm, 343, rfl⟩
abbrev main_call7_call0_v92 : Ref sig .tc := ⟨.hbm, 344, rfl⟩
abbrev main_call7_call0_v93 : Ref sig .tc := ⟨.hbm, 345, rfl⟩
abbrev main_call7_call0_v94 : Ref sig .tc := ⟨.hbm, 346, rfl⟩
abbrev main_call7_call0_v95 : Ref sig .tc := ⟨.hbm, 347, rfl⟩
abbrev main_call7_call0_c_24 : Ref sig .tc := ⟨.hbm, 348, rfl⟩
abbrev main_call7_call0_v96 : Ref sig .tc := ⟨.hbm, 349, rfl⟩
abbrev main_call7_call0_v97 : Ref sig .tc := ⟨.hbm, 350, rfl⟩
abbrev main_call7_call0_c_25 : Ref sig .tc := ⟨.hbm, 351, rfl⟩
abbrev main_call7_call0_v98 : Ref sig .tc := ⟨.hbm, 352, rfl⟩
abbrev main_call7_call0_v99 : Ref sig .tc := ⟨.hbm, 353, rfl⟩
abbrev main_call7_call0_v100 : Ref sig .tc := ⟨.hbm, 354, rfl⟩
abbrev main_call7_call0_v101 : Ref sig .tc := ⟨.hbm, 355, rfl⟩
abbrev main_call7_call0_v102 : Ref sig .tc := ⟨.hbm, 356, rfl⟩
abbrev main_call7_call0_v103 : Ref sig .tc := ⟨.hbm, 357, rfl⟩
abbrev main_call7_call0_v104 : Ref sig .tc := ⟨.hbm, 358, rfl⟩
abbrev main_call7_call0_v105 : Ref sig .tc := ⟨.hbm, 359, rfl⟩
abbrev main_call7_call0_c_26 : Ref sig .tc := ⟨.hbm, 360, rfl⟩
abbrev main_call7_call0_v106 : Ref sig .tc := ⟨.hbm, 361, rfl⟩
abbrev main_call7_call0_v107 : Ref sig .tc := ⟨.hbm, 362, rfl⟩
abbrev main_call7_call0_v108 : Ref sig .tc := ⟨.hbm, 363, rfl⟩
abbrev main_call7_call0_c_27 : Ref sig .tc := ⟨.hbm, 364, rfl⟩
abbrev main_call7_call0_v109 : Ref sig .tc := ⟨.hbm, 365, rfl⟩
abbrev main_call7_call0_v110 : Ref sig .tc := ⟨.hbm, 366, rfl⟩
abbrev main_call7_call0_c_28 : Ref sig .tc := ⟨.hbm, 367, rfl⟩
abbrev main_call7_call0_v111 : Ref sig .tc := ⟨.hbm, 368, rfl⟩
abbrev main_call7_call0_v112 : Ref sig .tc := ⟨.hbm, 369, rfl⟩
abbrev main_call7_call0_v113 : Ref sig .tc := ⟨.hbm, 370, rfl⟩
abbrev main_call7_call0_v114 : Ref sig .tc := ⟨.hbm, 371, rfl⟩
abbrev main_call7_call0_v115 : Ref sig .tc := ⟨.hbm, 372, rfl⟩
abbrev main_call7_call0_c_29 : Ref sig .tc := ⟨.hbm, 373, rfl⟩
abbrev main_call7_call0_v116 : Ref sig .tc := ⟨.hbm, 374, rfl⟩
abbrev main_call7_call0_v117 : Ref sig .tc := ⟨.hbm, 375, rfl⟩
abbrev main_call7_call0_c_30 : Ref sig .tc := ⟨.hbm, 376, rfl⟩
abbrev main_call7_call0_v118 : Ref sig .tc := ⟨.hbm, 377, rfl⟩
abbrev main_call7_call0_v119 : Ref sig .tc := ⟨.hbm, 378, rfl⟩
abbrev main_call7_call0_v120 : Ref sig .tc := ⟨.hbm, 379, rfl⟩
abbrev main_call7_call0_v121 : Ref sig .tc := ⟨.hbm, 380, rfl⟩
abbrev main_call7_call0_v122 : Ref sig .tc := ⟨.hbm, 381, rfl⟩
abbrev main_call7_call0_c_31 : Ref sig .tc := ⟨.hbm, 382, rfl⟩
abbrev main_call7_call0_v123 : Ref sig .tc := ⟨.hbm, 383, rfl⟩
abbrev main_call7_call0_v124 : Ref sig .tc := ⟨.hbm, 384, rfl⟩
abbrev main_call7_call0_c_32 : Ref sig .tc := ⟨.hbm, 385, rfl⟩
abbrev main_call7_call0_v125 : Ref sig .tc := ⟨.hbm, 386, rfl⟩
abbrev main_call7_call0_v126 : Ref sig .tc := ⟨.hbm, 387, rfl⟩
abbrev main_call7_call0_v127 : Ref sig .tc := ⟨.hbm, 388, rfl⟩
abbrev main_call7_call0_v128 : Ref sig .tc := ⟨.hbm, 389, rfl⟩
abbrev main_call7_call0_v129 : Ref sig .tc := ⟨.hbm, 390, rfl⟩
abbrev main_call7_call0_c_33 : Ref sig .tc := ⟨.hbm, 391, rfl⟩
abbrev main_call7_call0_v130 : Ref sig .tc := ⟨.hbm, 392, rfl⟩
abbrev main_call7_call0_v131 : Ref sig .tc := ⟨.hbm, 393, rfl⟩
abbrev main_call7_call0_c_34 : Ref sig .tc := ⟨.hbm, 394, rfl⟩
abbrev main_call7_call0_v132 : Ref sig .tc := ⟨.hbm, 395, rfl⟩
abbrev main_call7_call0_v133 : Ref sig .tc := ⟨.hbm, 396, rfl⟩
abbrev main_call7_call0_v134 : Ref sig .tc := ⟨.hbm, 397, rfl⟩
abbrev main_call7_call0_v135 : Ref sig .tc := ⟨.hbm, 398, rfl⟩
abbrev main_call7_call0_v136 : Ref sig .tc := ⟨.hbm, 399, rfl⟩
abbrev main_call7_call0_v137 : Ref sig .tc := ⟨.hbm, 400, rfl⟩
abbrev main_call7_call0_v138 : Ref sig .tc := ⟨.hbm, 401, rfl⟩
abbrev main_call7_call0_v139 : Ref sig .tc := ⟨.hbm, 402, rfl⟩
abbrev main_call7_call0_c_35 : Ref sig .tc := ⟨.hbm, 403, rfl⟩
abbrev main_call7_call0_v140 : Ref sig .tc := ⟨.hbm, 404, rfl⟩
abbrev main_call7_call0_v141 : Ref sig .tc := ⟨.hbm, 405, rfl⟩
abbrev main_call7_call0_v142 : Ref sig .tc := ⟨.hbm, 406, rfl⟩
abbrev main_call7_call0_c_36 : Ref sig .tc := ⟨.hbm, 407, rfl⟩
abbrev main_call7_call0_v143 : Ref sig .tc := ⟨.hbm, 408, rfl⟩
abbrev main_call7_call0_v144 : Ref sig .tc := ⟨.hbm, 409, rfl⟩
abbrev main_call7_call0_c_37 : Ref sig .tc := ⟨.hbm, 410, rfl⟩
abbrev main_call7_call0_v145 : Ref sig .tc := ⟨.hbm, 411, rfl⟩
abbrev main_call7_call0_v146 : Ref sig .tc := ⟨.hbm, 412, rfl⟩
abbrev main_call7_call0_v147 : Ref sig .tc := ⟨.hbm, 413, rfl⟩
abbrev main_call7_call0_v148 : Ref sig .tc := ⟨.hbm, 414, rfl⟩
abbrev main_call7_call0_v149 : Ref sig .tc := ⟨.hbm, 415, rfl⟩
abbrev main_call7_call0_c_38 : Ref sig .tc := ⟨.hbm, 416, rfl⟩
abbrev main_call7_call0_v150 : Ref sig .tc := ⟨.hbm, 417, rfl⟩
abbrev main_call7_call0_v151 : Ref sig .tc := ⟨.hbm, 418, rfl⟩
abbrev main_call7_call0_c_39 : Ref sig .tc := ⟨.hbm, 419, rfl⟩
abbrev main_call7_call0_v152 : Ref sig .tc := ⟨.hbm, 420, rfl⟩
abbrev main_call7_call0_v153 : Ref sig .tc := ⟨.hbm, 421, rfl⟩
abbrev main_call7_call0_v154 : Ref sig .tc := ⟨.hbm, 422, rfl⟩
abbrev main_call7_call0_v155 : Ref sig .tc := ⟨.hbm, 423, rfl⟩
abbrev main_call7_call0_v156 : Ref sig .tc := ⟨.hbm, 424, rfl⟩
abbrev main_call7_call0_c_40 : Ref sig .tc := ⟨.hbm, 425, rfl⟩
abbrev main_call7_call0_v157 : Ref sig .tc := ⟨.hbm, 426, rfl⟩
abbrev main_call7_call0_v158 : Ref sig .tc := ⟨.hbm, 427, rfl⟩
abbrev main_call7_call0_c_41 : Ref sig .tc := ⟨.hbm, 428, rfl⟩
abbrev main_call7_call0_v159 : Ref sig .tc := ⟨.hbm, 429, rfl⟩
abbrev main_call7_call0_v160 : Ref sig .tc := ⟨.hbm, 430, rfl⟩
abbrev main_call7_call0_v161 : Ref sig .tc := ⟨.hbm, 431, rfl⟩
abbrev main_call7_call0_v162 : Ref sig .tc := ⟨.hbm, 432, rfl⟩
abbrev main_call7_call0_v163 : Ref sig .tc := ⟨.hbm, 433, rfl⟩
abbrev main_call7_call0_c_42 : Ref sig .tc := ⟨.hbm, 434, rfl⟩
abbrev main_call7_call0_v164 : Ref sig .tc := ⟨.hbm, 435, rfl⟩
abbrev main_call7_call0_v165 : Ref sig .tc := ⟨.hbm, 436, rfl⟩
abbrev main_call7_call0_c_43 : Ref sig .tc := ⟨.hbm, 437, rfl⟩
abbrev main_call7_call0_v166 : Ref sig .tc := ⟨.hbm, 438, rfl⟩
abbrev main_call7_call0_v167 : Ref sig .tc := ⟨.hbm, 439, rfl⟩
abbrev main_call7_call0_v168 : Ref sig .tc := ⟨.hbm, 440, rfl⟩
abbrev main_call7_call0_v169 : Ref sig .tc := ⟨.hbm, 441, rfl⟩
abbrev main_call7_call0_v170 : Ref sig .tc := ⟨.hbm, 442, rfl⟩
abbrev main_call7_v31_0 : Ref sig .tc := ⟨.hbm, 443, rfl⟩
abbrev main_call7_call0_v172 : Ref sig .tc := ⟨.hbm, 444, rfl⟩
abbrev main_call7_call0_v173 : Ref sig .tc := ⟨.hbm, 445, rfl⟩
abbrev main_call7_call0_c_44 : Ref sig .tc := ⟨.hbm, 446, rfl⟩
abbrev main_call7_call0_v174 : Ref sig .tc := ⟨.hbm, 447, rfl⟩
abbrev main_call7_v31_1 : Ref sig .tc := ⟨.hbm, 448, rfl⟩
abbrev main_call7_v32 : Ref sig .tc := ⟨.hbm, 449, rfl⟩
abbrev main_call7_c_5 : Ref sig .tc := ⟨.hbm, 450, rfl⟩
abbrev main_call7_v33 : Ref sig .tc := ⟨.hbm, 451, rfl⟩
abbrev main_call7_v34 : Ref sig .tc := ⟨.hbm, 452, rfl⟩
abbrev main_call7_c_6 : Ref sig .tc := ⟨.hbm, 453, rfl⟩
abbrev main_call7_v35 : Ref sig .tc := ⟨.hbm, 454, rfl⟩
abbrev main_call7_v36 : Ref sig .tc := ⟨.hbm, 455, rfl⟩
abbrev main_call7_v37 : Ref sig .tc := ⟨.hbm, 456, rfl⟩
abbrev main_call7_cst : Ref sig .tc := ⟨.hbm, 457, rfl⟩
abbrev main_call7_v38 : Ref sig .tc := ⟨.hbm, 458, rfl⟩
abbrev main_call7_v39 : Ref sig .tc := ⟨.hbm, 459, rfl⟩
abbrev main_call7_v40 : Ref sig .tc := ⟨.hbm, 460, rfl⟩
abbrev main_call7_v41 : Ref sig .tc := ⟨.hbm, 461, rfl⟩
abbrev main_call7_v42 : Ref sig .tc := ⟨.hbm, 462, rfl⟩
abbrev main_call7_v43 : Ref sig .tc := ⟨.hbm, 463, rfl⟩
abbrev main_call7_v44 : Ref sig .tc := ⟨.hbm, 464, rfl⟩
abbrev main_call7_v45 : Ref sig .tc := ⟨.hbm, 465, rfl⟩
abbrev main_v124 : Ref sig .tc := ⟨.hbm, 466, rfl⟩
abbrev main_v125 : Ref sig .tc := ⟨.hbm, 467, rfl⟩
abbrev main_v126 : Ref sig .tc := ⟨.hbm, 468, rfl⟩
abbrev main_v127 : Ref sig .tc := ⟨.hbm, 469, rfl⟩
abbrev main_cst_36 : Ref sig .tc := ⟨.hbm, 470, rfl⟩
abbrev main_v128 : Ref sig .tc := ⟨.hbm, 471, rfl⟩
abbrev main_v129 : Ref sig .tc := ⟨.hbm, 472, rfl⟩

abbrev nD : Nat := 1
abbrev τ : Topo := Topo.v7x

variable {F : FTy → Type} [FloatOps F]
-- ==== Proof.Labels.lean ====
/- The label scratch of the kernel: the words it holds once every label has been stored, and the rows read from it. -/
module

public import proofs.«01_k».proof.Proof.Gen.KernelIdeal.Frame
public import Idealize.ShloMosaic.Lib.Pointwise
public import Idealize.ShloMosaic.Lib.Pipeline.ReadBack

@[expose] public section

set_option maxRecDepth 16384

noncomputable section

namespace Cert.MiMask

open Idealize.ShloMosaic Cert.KernelIdeal Cert.KernelIdeal.Gen

/-- The label scratch as a table: frame `t`, sample `i = 3b + c`, position `p`. -/
def labOf (w : IVec S16x4x3x1024 32) : IVec S4x48x1024 32 := fun y =>
  w (ix4 ⟨(y 1).val / 3, by have h : (y 1).val < 48 := (y 1).isLt; omega⟩ (y 0)
    ⟨(y 1).val % 3, by omega⟩ (y 2))

/-- One store of three rows into the label scratch writes rows of `labOf`. -/
theorem piece_lab (w : IVec S16x4x3x1024 32) (b t o : ℕ) (hb : b < 16) (ht : t < 4) (ho : o = 3 * b)
    (h1 : S16x4x3x1024.Slices ![b, t, 0, 0] S1x1x3x1024) (h2 : S1x1x3x1024.ShapeCasts S3x1024)
    (h3 : S3x1024.ShapeCasts S1x3x1024)
    (inb : ∀ a, (![t, o, 0] : Fin 3 → ℕ) a + S1x3x1024.size a ≤ S4x48x1024.size a)
    (x : (Rect.unit (s := S4x48x1024) ![t, o, 0] S1x3x1024.size inb).shape.Idx) :
    shapeCast S1x3x1024 (shapeCast S3x1024 (extractStridedSlice S1x1x3x1024 ![b, t, 0, 0] w h1) h2) h3 x
      = labOf w ((Rect.unit (s := S4x48x1024) ![t, o, 0] S1x3x1024.size inb).emb x) := by
  subst ho
  change S1x3x1024.Idx at x
  idx_vars x
  have h0 : x0 = 0 := Subsingleton.elim _ _
  subst h0
  have e : (Rect.unit (s := S4x48x1024) ![t, 3 * b, 0] S1x3x1024.size inb).emb (ix3 (0 : Fin 1) x1 x2)
      = ix3 ⟨t, ht⟩ ⟨3 * b + x1.val, by have := x1.isLt; omega⟩ x2 := by
    funext a; apply Fin.ext; fin_cases a
    · show t + 1 * _ = t; simp
    · show 3 * b + 1 * x1.val = 3 * b + x1.val; omega
    · show 0 + 1 * x2.val = x2.val; omega
  rw [e]
  pointwise [labOf]
  have := x1.isLt
  exact congrArg w (by
    funext a; apply Fin.ext; fin_cases a
    · show b = (3 * b + x1.val) / 3; omega
    · rfl
    · show x1.val = (3 * b + x1.val) % 3; omega
    · rfl)

variable (c : Dev nD) (arg0 : Memref sig .tc .vmem S16x4x3x1024 .f32) (harg0 : arg0.IsWhole)
  (arg4 : Memref sig .tc .vmem S4x48x1024 .i32) (x0 : Vec Ideal S16x4x3x1024 .f32)

/-- The label words of the block of values. -/
def LAB (x0 : Vec Ideal S16x4x3x1024 .f32) : IVec S4x48x1024 32 := labOf (k0_pay3 x0)

theorem r_eq : kernelRun0_A.sl.r c arg0 harg0 x0 = k0_pay3 x0 := by
  unfold kernelRun0_A.sl.r
  rw [View.readAt_eq_ld, harg0.read_unread]
  rw [View.ld_unit_lit _ _ (by decide)]

theorem piece_lab' (w : IVec S16x4x3x1024 32) (b t o : ℕ) (hb : b < 16) (ht : t < 4) (ho : o = 3 * b)
    (h1 : S16x4x3x1024.Slices ![b, t, 0, 0] S1x1x3x1024) (P : IVec S1x3x1024 32)
    (hP : P = shapeCast S1x3x1024 (shapeCast S3x1024 (extractStridedSlice S1x1x3x1024 ![b, t, 0, 0] w h1) shapeCasts_S1x1x3x1024_S3x1024)
      shapeCasts_S3x1024_S1x3x1024)
    (inb : ∀ a, (![t, o, 0] : Fin 3 → ℕ) a + S1x3x1024.size a ≤ S4x48x1024.size a)
    (x : (Rect.unit (s := S4x48x1024) ![t, o, 0] S1x3x1024.size inb).shape.Idx) :
    P x = labOf w ((Rect.unit (s := S4x48x1024) ![t, o, 0] S1x3x1024.size inb).emb x) := by
  subst hP
  exact piece_lab w b t o hb ht ho _ _ _ inb x

theorem piecesOf_cons (G : S4x48x1024.Idx → Elt Ideal .i32) (r : Rect S4x48x1024) (w : r.shape.Idx → Elt Ideal .i32)
    (L : List (View.Piece (Elt Ideal) S4x48x1024 .i32)) (h : ∀ x, w x = G (r.emb x)) (hL : View.PiecesOf G L) :
    View.PiecesOf G (⟨r, w⟩ :: L) := ⟨h, hL⟩

theorem pieces_lab : View.PiecesOf (Val := Elt Ideal) (labOf (kernelRun0_A.sl.r c arg0 harg0 x0))
    (kernelRun0_A.sl.HS0_64 c arg0 harg0 x0) := by
  unfold kernelRun0_A.sl.HS0_64
  apply piecesOf_cons
  · exact piece_lab' _ 15 3 45 (by decide) (by decide) rfl slices_S16x4x3x1024_o15_3_0_0_S1x1x3x1024 _ rfl _
  apply piecesOf_cons
  · exact piece_lab' _ 14 3 42 (by decide) (by decide) rfl slices_S16x4x3x1024_o14_3_0_0_S1x1x3x1024 _ rfl _
  apply piecesOf_cons
  · exact piece_lab' _ 13 3 39 (by decide) (by decide) rfl slices_S16x4x3x1024_o13_3_0_0_S1x1x3x1024 _ rfl _
  apply piecesOf_cons
  · exact piece_lab' _ 12 3 36 (by decide) (by decide) rfl slices_S16x4x3x1024_o12_3_0_0_S1x1x3x1024 _ rfl _
  apply piecesOf_cons
  · exact piece_lab' _ 11 3 33 (by decide) (by decide) rfl slices_S16x4x3x1024_o11_3_0_0_S1x1x3x1024 _ rfl _
  apply piecesOf_cons
  · exact piece_lab' _ 10 3 30 (by decide) (by decide) rfl slices_S16x4x3x1024_o10_3_0_0_S1x1x3x1024 _ rfl _
  apply piecesOf_cons
  · exact piece_lab' _ 9 3 27 (by decide) (by decide) rfl slices_S16x4x3x1024_o9_3_0_0_S1x1x3x1024 _ rfl _
  apply piecesOf_cons
  · exact piece_lab' _ 8 3 24 (by decide) (by decide) rfl slices_S16x4x3x1024_o8_3_0_0_S1x1x3x1024 _ rfl _
  apply piecesOf_cons
  · exact piece_lab' _ 7 3 21 (by decide) (by decide) rfl slices_S16x4x3x1024_o7_3_0_0_S1x1x3x1024 _ rfl _
  apply piecesOf_cons
  · exact piece_lab' _ 6 3 18 (by decide) (by decide) rfl slices_S16x4x3x1024_o6_3_0_0_S1x1x3x1024 _ rfl _
  apply piecesOf_cons
  · exact piece_lab' _ 5 3 15 (by decide) (by decide) rfl slices_S16x4x3x1024_o5_3_0_0_S1x1x3x1024 _ rfl _
  apply piecesOf_cons
  · exact piece_lab' _ 4 3 12 (by decide) (by decide) rfl slices_S16x4x3x1024_o4_3_0_0_S1x1x3x1024 _ rfl _
  apply piecesOf_cons
  · exact piece_lab' _ 3 3 9 (by decide) (by decide) rfl slices_S16x4x3x1024_o3_3_0_0_S1x1x3x1024 _ rfl _
  apply piecesOf_cons
  · exact piece_lab' _ 2 3 6 (by decide) (by decide) rfl slices_S16x4x3x1024_o2_3_0_0_S1x1x3x1024 _ rfl _
  apply piecesOf_cons
  · exact piece_lab' _ 1 3 3 (by decide) (by decide) rfl slices_S16x4x3x1024_o1_3_0_0_S1x1x3x1024 _ rfl _
  apply piecesOf_cons
  · exact piece_lab' _ 0 3 0 (by decide) (by decide) rfl slices_S16x4x3x1024_o0_3_0_0_S1x1x3x1024 _ rfl _
  apply piecesOf_cons
  · exact piece_lab' _ 15 2 45 (by decide) (by decide) rfl slices_S16x4x3x1024_o15_2_0_0_S1x1x3x1024 _ rfl _
  apply piecesOf_cons
  · exact piece_lab' _ 14 2 42 (by decide) (by decide) rfl slices_S16x4x3x1024_o14_2_0_0_S1x1x3x1024 _ rfl _
  apply piecesOf_cons
  · exact piece_lab' _ 13 2 39 (by decide) (by decide) rfl slices_S16x4x3x1024_o13_2_0_0_S1x1x3x1024 _ rfl _
  apply piecesOf_cons
  · exact piece_lab' _ 12 2 36 (by decide) (by decide) rfl slices_S16x4x3x1024_o12_2_0_0_S1x1x3x1024 _ rfl _
  apply piecesOf_cons
  · exact piece_lab' _ 11 2 33 (by decide) (by decide) rfl slices_S16x4x3x1024_o11_2_0_0_S1x1x3x1024 _ rfl _
  apply piecesOf_cons
  · exact piece_lab' _ 10 2 30 (by decide) (by decide) rfl slices_S16x4x3x1024_o10_2_0_0_S1x1x3x1024 _ rfl _
  apply piecesOf_cons
  · exact piece_lab' _ 9 2 27 (by decide) (by decide) rfl slices_S16x4x3x1024_o9_2_0_0_S1x1x3x1024 _ rfl _
  apply piecesOf_cons
  · exact piece_lab' _ 8 2 24 (by decide) (by decide) rfl slices_S16x4x3x1024_o8_2_0_0_S1x1x3x1024 _ rfl _
  apply piecesOf_cons
  · exact piece_lab' _ 7 2 21 (by decide) (by decide) rfl slices_S16x4x3x1024_o7_2_0_0_S1x1x3x1024 _ rfl _
  apply piecesOf_cons
  · exact piece_lab' _ 6 2 18 (by decide) (by decide) rfl slices_S16x4x3x1024_o6_2_0_0_S1x1x3x1024 _ rfl _
  apply piecesOf_cons
  · exact piece_lab' _ 5 2 15 (by decide) (by decide) rfl slices_S16x4x3x1024_o5_2_0_0_S1x1x3x1024 _ rfl _
  apply piecesOf_cons
  · exact piece_lab' _ 4 2 12 (by decide) (by decide) rfl slices_S16x4x3x1024_o4_2_0_0_S1x1x3x1024 _ rfl _
  apply piecesOf_cons
  · exact piece_lab' _ 3 2 9 (by decide) (by decide) rfl slices_S16x4x3x1024_o3_2_0_0_S1x1x3x1024 _ rfl _
  apply piecesOf_cons
  · exact piece_lab' _ 2 2 6 (by decide) (by decide) rfl slices_S16x4x3x1024_o2_2_0_0_S1x1x3x1024 _ rfl _
  apply piecesOf_cons
  · exact piece_lab' _ 1 2 3 (by decide) (by decide) rfl slices_S16x4x3x1024_o1_2_0_0_S1x1x3x1024 _ rfl _
  apply piecesOf_cons
  · exact piece_lab' _ 0 2 0 (by decide) (by decide) rfl slices_S16x4x3x1024_o0_2_0_0_S1x1x3x1024 _ rfl _
  apply piecesOf_cons
  · exact piece_lab' _ 15 1 45 (by decide) (by decide) rfl slices_S16x4x3x1024_o15_1_0_0_S1x1x3x1024 _ rfl _
  apply piecesOf_cons
  · exact piece_lab' _ 14 1 42 (by decide) (by decide) rfl slices_S16x4x3x1024_o14_1_0_0_S1x1x3x1024 _ rfl _
  apply piecesOf_cons
  · exact piece_lab' _ 13 1 39 (by decide) (by decide) rfl slices_S16x4x3x1024_o13_1_0_0_S1x1x3x1024 _ rfl _
  apply piecesOf_cons
  · exact piece_lab' _ 12 1 36 (by decide) (by decide) rfl slices_S16x4x3x1024_o12_1_0_0_S1x1x3x1024 _ rfl _
  apply piecesOf_cons
  · exact piece_lab' _ 11 1 33 (by decide) (by decide) rfl slices_S16x4x3x1024_o11_1_0_0_S1x1x3x1024 _ rfl _
  apply piecesOf_cons
  · exact piece_lab' _ 10 1 30 (by decide) (by decide) rfl slices_S16x4x3x1024_o10_1_0_0_S1x1x3x1024 _ rfl _
  apply piecesOf_cons
  · exact piece_lab' _ 9 1 27 (by decide) (by decide) rfl slices_S16x4x3x1024_o9_1_0_0_S1x1x3x1024 _ rfl _
  apply piecesOf_cons
  · exact piece_lab' _ 8 1 24 (by decide) (by decide) rfl slices_S16x4x3x1024_o8_1_0_0_S1x1x3x1024 _ rfl _
  apply piecesOf_cons
  · exact piece_lab' _ 7 1 21 (by decide) (by decide) rfl slices_S16x4x3x1024_o7_1_0_0_S1x1x3x1024 _ rfl _
  apply piecesOf_cons
  · exact piece_lab' _ 6 1 18 (by decide) (by decide) rfl slices_S16x4x3x1024_o6_1_0_0_S1x1x3x1024 _ rfl _
  apply piecesOf_cons
  · exact piece_lab' _ 5 1 15 (by decide) (by decide) rfl slices_S16x4x3x1024_o5_1_0_0_S1x1x3x1024 _ rfl _
  apply piecesOf_cons
  · exact piece_lab' _ 4 1 12 (by decide) (by decide) rfl slices_S16x4x3x1024_o4_1_0_0_S1x1x3x1024 _ rfl _
  apply piecesOf_cons
  · exact piece_lab' _ 3 1 9 (by decide) (by decide) rfl slices_S16x4x3x1024_o3_1_0_0_S1x1x3x1024 _ rfl _
  apply piecesOf_cons
  · exact piece_lab' _ 2 1 6 (by decide) (by decide) rfl slices_S16x4x3x1024_o2_1_0_0_S1x1x3x1024 _ rfl _
  apply piecesOf_cons
  · exact piece_lab' _ 1 1 3 (by decide) (by decide) rfl slices_S16x4x3x1024_o1_1_0_0_S1x1x3x1024 _ rfl _
  apply piecesOf_cons
  · exact piece_lab' _ 0 1 0 (by decide) (by decide) rfl slices_S16x4x3x1024_o0_1_0_0_S1x1x3x1024 _ rfl _
  apply piecesOf_cons
  · exact piece_lab' _ 15 0 45 (by decide) (by decide) rfl slices_S16x4x3x1024_o15_0_0_0_S1x1x3x1024 _ rfl _
  apply piecesOf_cons
  · exact piece_lab' _ 14 0 42 (by decide) (by decide) rfl slices_S16x4x3x1024_o14_0_0_0_S1x1x3x1024 _ rfl _
  apply piecesOf_cons
  · exact piece_lab' _ 13 0 39 (by decide) (by decide) rfl slices_S16x4x3x1024_o13_0_0_0_S1x1x3x1024 _ rfl _
  apply piecesOf_cons
  · exact piece_lab' _ 12 0 36 (by decide) (by decide) rfl slices_S16x4x3x1024_o12_0_0_0_S1x1x3x1024 _ rfl _
  apply piecesOf_cons
  · exact piece_lab' _ 11 0 33 (by decide) (by decide) rfl slices_S16x4x3x1024_o11_0_0_0_S1x1x3x1024 _ rfl _
  apply piecesOf_cons
  · exact piece_lab' _ 10 0 30 (by decide) (by decide) rfl slices_S16x4x3x1024_o10_0_0_0_S1x1x3x1024 _ rfl _
  apply piecesOf_cons
  · exact piece_lab' _ 9 0 27 (by decide) (by decide) rfl slices_S16x4x3x1024_o9_0_0_0_S1x1x3x1024 _ rfl _
  apply piecesOf_cons
  · exact piece_lab' _ 8 0 24 (by decide) (by decide) rfl slices_S16x4x3x1024_o8_0_0_0_S1x1x3x1024 _ rfl _
  apply piecesOf_cons
  · exact piece_lab' _ 7 0 21 (by decide) (by decide) rfl slices_S16x4x3x1024_o7_0_0_0_S1x1x3x1024 _ rfl _
  apply piecesOf_cons
  · exact piece_lab' _ 6 0 18 (by decide) (by decide) rfl slices_S16x4x3x1024_o6_0_0_0_S1x1x3x1024 _ rfl _
  apply piecesOf_cons
  · exact piece_lab' _ 5 0 15 (by decide) (by decide) rfl slices_S16x4x3x1024_o5_0_0_0_S1x1x3x1024 _ rfl _
  apply piecesOf_cons
  · exact piece_lab' _ 4 0 12 (by decide) (by decide) rfl slices_S16x4x3x1024_o4_0_0_0_S1x1x3x1024 _ rfl _
  apply piecesOf_cons
  · exact piece_lab' _ 3 0 9 (by decide) (by decide) rfl slices_S16x4x3x1024_o3_0_0_0_S1x1x3x1024 _ rfl _
  apply piecesOf_cons
  · exact piece_lab' _ 2 0 6 (by decide) (by decide) rfl slices_S16x4x3x1024_o2_0_0_0_S1x1x3x1024 _ rfl _
  apply piecesOf_cons
  · exact piece_lab' _ 1 0 3 (by decide) (by decide) rfl slices_S16x4x3x1024_o1_0_0_0_S1x1x3x1024 _ rfl _
  apply piecesOf_cons
  · exact piece_lab' _ 0 0 0 (by decide) (by decide) rfl slices_S16x4x3x1024_o0_0_0_0_S1x1x3x1024 _ rfl _
  trivial

theorem cover_lab (y : S4x48x1024.Idx) :
    ∃ pc ∈ kernelRun0_A.sl.HS0_64 (F := Ideal) c arg0 harg0 x0, y ∈ pc.1.set :=
  View.cover_of_tiledL (kernelRun0_A.sl.HS0_64 c arg0 harg0 x0) S1x3x1024.size (by sl_kernel_rfl) y

theorem canon_lab : View.canon (Val := Elt Ideal) (kernelRun0_A.sl.HS0_64 c arg0 harg0 x0) = LAB x0 := by
  funext y
  rw [View.canon_apply_of_pieces _ _ (pieces_lab c arg0 harg0 x0).mem y (cover_lab c arg0 harg0 x0 y), r_eq]
  rfl

/-- A load of any box of the label scratch reads the label words there. -/
theorem read_lab (B : LoadRect S4x48x1024) :
    arg4.view.readCov (Val := Elt Ideal) (kernelRun0_A.sl.HS0_64 c arg0 harg0 x0) B = fun j => LAB x0 (B.idx j) := by
  rw [View.readCov_eq_canon', canon_lab]

/-- Row `i` of frame `t` of the label scratch. -/
def rowOf (lab : IVec S4x48x1024 32) (t i : ℕ) : IVec S1x1x1024 32 := fun y =>
  lab (ix3 (Fin.ofNat 4 t) (Fin.ofNat 48 i) (y 2))

theorem read_row (t i : ℕ) (ht : t < 4) (hi : i < 48)
    (inb : ∀ a, (![t, i, 0] : Fin 3 → ℕ) a + S1x1x1024.size a ≤ S4x48x1024.size a) :
    arg4.view.readCov (Val := Elt Ideal) (kernelRun0_A.sl.HS0_64 c arg0 harg0 x0)
      (Rect.unit (s := S4x48x1024) ![t, i, 0] S1x1x1024.size inb).toLoadRect = rowOf (LAB x0) t i := by
  rw [read_lab]
  funext y
  change S1x1x1024.Idx at y
  idx_vars y
  unfold rowOf
  refine congrArg (LAB x0) ?_
  funext a; apply Fin.ext; fin_cases a
  · show t + 1 * y0.val = t % 4
    have := y0.isLt; omega
  · show i + 1 * y1.val = i % 48
    have := y1.isLt; omega
  · show 0 + 1 * y2.val = y2.val
    omega

end Cert.MiMask

end
-- ==== Proof.Hall.lean ====
/- The two accumulations over the 48 samples: the position-wise counts (`HALL`) and the joint counts (`CALL`). -/
module

public import proofs.«01_k».proof.Proof.Labels

@[expose] public section

set_option maxRecDepth 16384

noncomputable section

namespace Cert.MiMask

open Idealize.ShloMosaic Cert.KernelIdeal Cert.KernelIdeal.Gen

/-- The one-hot rows of one row of labels. -/
def onehot (row : IVec S1x1x1024 32) : FVec Ideal S32x1024 .bf16 :=
  truncf .bf16 (sitofp .f32 (extui 32 (cmpi .eq (broadcastTo S32x1024
    (shapeCast S1x1024 row shapeCasts_S1x1x1024_S1x1024) broadcasts_S1x1024_S32x1024) (iota .tc S32x1024 32 [0] iota_S32x1024_d0_w32)) natLt_1_32)) bitsLt_bf16_f32

/-- The four frames' one-hot rows of sample `i`, one above the other. -/
def ohs (lab : IVec S4x48x1024 32) (i : ℕ) : FVec Ideal S128x1024 .bf16 :=
  concatenate S128x1024 0 [⟨S32x1024, onehot (rowOf lab 0 i)⟩, ⟨S32x1024, onehot (rowOf lab 1 i)⟩,
    ⟨S32x1024, onehot (rowOf lab 2 i)⟩, ⟨S32x1024, onehot (rowOf lab 3 i)⟩]
    concatenates_S32x1024_S32x1024_S32x1024_S32x1024_S128x1024_d0

/-- The counts of each label at each position over the first samples. -/
def HALL (lab : IVec S4x48x1024 32) : ℕ → FVec Ideal S128x1024 .bf16
  | 0 => k0_pay75
  | n + 1 => addf (HALL lab n) (ohs lab n)

/-- The joint counts of the labels of frame 0 and of each frame over the first samples. -/
def CALL (lab : IVec S4x48x1024 32) : ℕ → FVec Ideal S32x128 .f32
  | 0 => k0_pay74
  | n + 1 => addf (CALL lab n) (matmul dot_S32x1024_S128x1024_S32x128_1_1_0_0_n_n none
      (extractStridedSlice S32x1024 ![0, 0] (ohs lab n) slices_S128x1024_o0_0_S32x1024) (ohs lab n)
      (constant S32x128 .f32 0x00000000#32))

variable (c : Dev nD) (arg0 : Memref sig .tc .vmem S16x4x3x1024 .f32) (harg0 : arg0.IsWhole)
  (arg4 : Memref sig .tc .vmem S4x48x1024 .i32) (x0 : Vec Ideal S16x4x3x1024 .f32)

theorem v332_eq : kernelRun0_A.sl.v332 c arg0 harg0 arg4 x0 = rowOf (LAB x0) 0 0 :=
  read_row c arg0 harg0 arg4 x0 0 0 (by decide) (by decide) _
theorem v339_eq : kernelRun0_A.sl.v339 c arg0 harg0 arg4 x0 = rowOf (LAB x0) 1 0 :=
  read_row c arg0 harg0 arg4 x0 1 0 (by decide) (by decide) _
theorem v346_eq : kernelRun0_A.sl.v346 c arg0 harg0 arg4 x0 = rowOf (LAB x0) 2 0 :=
  read_row c arg0 harg0 arg4 x0 2 0 (by decide) (by decide) _
theorem v353_eq : kernelRun0_A.sl.v353 c arg0 harg0 arg4 x0 = rowOf (LAB x0) 3 0 :=
  read_row c arg0 harg0 arg4 x0 3 0 (by decide) (by decide) _
theorem v365_eq : kernelRun0_A.sl.v365 c arg0 harg0 arg4 x0 = rowOf (LAB x0) 0 1 :=
  read_row c arg0 harg0 arg4 x0 0 1 (by decide) (by decide) _
theorem v372_eq : kernelRun0_A.sl.v372 c arg0 harg0 arg4 x0 = rowOf (LAB x0) 1 1 :=
  read_row c arg0 harg0 arg4 x0 1 1 (by decide) (by decide) _
theorem v379_eq : kernelRun0_A.sl.v379 c arg0 harg0 arg4 x0 = rowOf (LAB x0) 2 1 :=
  read_row c arg0 harg0 arg4 x0 2 1 (by decide) (by decide) _
theorem v386_eq : kernelRun0_A.sl.v386 c arg0 harg0 arg4 x0 = rowOf (LAB x0) 3 1 :=
  read_row c arg0 harg0 arg4 x0 3 1 (by decide) (by decide) _
theorem v398_eq : kernelRun0_A.sl.v398 c arg0 harg0 arg4 x0 = rowOf (LAB x0) 0 2 :=
  read_row c arg0 harg0 arg4 x0 0 2 (by decide) (by decide) _
theorem v405_eq : kernelRun0_A.sl.v405 c arg0 harg0 arg4 x0 = rowOf (LAB x0) 1 2 :=
  read_row c arg0 harg0 arg4 x0 1 2 (by decide) (by decide) _
theorem v412_eq : kernelRun0_A.sl.v412 c arg0 harg0 arg4 x0 = rowOf (LAB x0) 2 2 :=
  read_row c arg0 harg0 arg4 x0 2 2 (by decide) (by decide) _
theorem v419_eq : kernelRun0_A.sl.v419 c arg0 harg0 arg4 x0 = rowOf (LAB x0) 3 2 :=
  read_row c arg0 harg0 arg4 x0 3 2 (by decide) (by decide) _
theorem v431_eq : kernelRun0_A.sl.v431 c arg0 harg0 arg4 x0 = rowOf (LAB x0) 0 3 :=
  read_row c arg0 harg0 arg4 x0 0 3 (by decide) (by decide) _
theorem v438_eq : kernelRun0_A.sl.v438 c arg0 harg0 arg4 x0 = rowOf (LAB x0) 1 3 :=
  read_row c arg0 harg0 arg4 x0 1 3 (by decide) (by decide) _
theorem v445_eq : kernelRun0_A.sl.v445 c arg0 harg0 arg4 x0 = rowOf (LAB x0) 2 3 :=
  read_row c arg0 harg0 arg4 x0 2 3 (by decide) (by decide) _
theorem v452_eq : kernelRun0_A.sl.v452 c arg0 harg0 arg4 x0 = rowOf (LAB x0) 3 3 :=
  read_row c arg0 harg0 arg4 x0 3 3 (by decide) (by decide) _
theorem v464_eq : kernelRun0_A.sl.v464 c arg0 harg0 arg4 x0 = rowOf (LAB x0) 0 4 :=
  read_row c arg0 harg0 arg4 x0 0 4 (by decide) (by decide) _
theorem v471_eq : kernelRun0_A.sl.v471 c arg0 harg0 arg4 x0 = rowOf (LAB x0) 1 4 :=
  read_row c arg0 harg0 arg4 x0 1 4 (by decide) (by decide) _
theorem v478_eq : kernelRun0_A.sl.v478 c arg0 harg0 arg4 x0 = rowOf (LAB x0) 2 4 :=
  read_row c arg0 harg0 arg4 x0 2 4 (by decide) (by decide) _
theorem v485_eq : kernelRun0_A.sl.v485 c arg0 harg0 arg4 x0 = rowOf (LAB x0) 3 4 :=
  read_row c arg0 harg0 arg4 x0 3 4 (by decide) (by decide) _
theorem v497_eq : kernelRun0_A.sl.v497 c arg0 harg0 arg4 x0 = rowOf (LAB x0) 0 5 :=
  read_row c arg0 harg0 arg4 x0 0 5 (by decide) (by decide) _
theorem v504_eq : kernelRun0_A.sl.v504 c arg0 harg0 arg4 x0 = rowOf (LAB x0) 1 5 :=
  read_row c arg0 harg0 arg4 x0 1 5 (by decide) (by decide) _
theorem v511_eq : kernelRun0_A.sl.v511 c arg0 harg0 arg4 x0 = rowOf (LAB x0) 2 5 :=
  read_row c arg0 harg0 arg4 x0 2 5 (by decide) (by decide) _
theorem v518_eq : kernelRun0_A.sl.v518 c arg0 harg0 arg4 x0 = rowOf (LAB x0) 3 5 :=
  read_row c arg0 harg0 arg4 x0 3 5 (by decide) (by decide) _
theorem v530_eq : kernelRun0_A.sl.v530 c arg0 harg0 arg4 x0 = rowOf (LAB x0) 0 6 :=
  read_row c arg0 harg0 arg4 x0 0 6 (by decide) (by decide) _
theorem v537_eq : kernelRun0_A.sl.v537 c arg0 harg0 arg4 x0 = rowOf (LAB x0) 1 6 :=
  read_row c arg0 harg0 arg4 x0 1 6 (by decide) (by decide) _
theorem v544_eq : kernelRun0_A.sl.v544 c arg0 harg0 arg4 x0 = rowOf (LAB x0) 2 6 :=
  read_row c arg0 harg0 arg4 x0 2 6 (by decide) (by decide) _
theorem v551_eq : kernelRun0_A.sl.v551 c arg0 harg0 arg4 x0 = rowOf (LAB x0) 3 6 :=
  read_row c arg0 harg0 arg4 x0 3 6 (by decide) (by decide) _
theorem v563_eq : kernelRun0_A.sl.v563 c arg0 harg0 arg4 x0 = rowOf (LAB x0) 0 7 :=
  read_row c arg0 harg0 arg4 x0 0 7 (by decide) (by decide) _
theorem v570_eq : kernelRun0_A.sl.v570 c arg0 harg0 arg4 x0 = rowOf (LAB x0) 1 7 :=
  read_row c arg0 harg0 arg4 x0 1 7 (by decide) (by decide) _
theorem v577_eq : kernelRun0_A.sl.v577 c arg0 harg0 arg4 x0 = rowOf (LAB x0) 2 7 :=
  read_row c arg0 harg0 arg4 x0 2 7 (by decide) (by decide) _
theorem v584_eq : kernelRun0_A.sl.v584 c arg0 harg0 arg4 x0 = rowOf (LAB x0) 3 7 :=
  read_row c arg0 harg0 arg4 x0 3 7 (by decide) (by decide) _
theorem v596_eq : kernelRun0_A.sl.v596 c arg0 harg0 arg4 x0 = rowOf (LAB x0) 0 8 :=
  read_row c arg0 harg0 arg4 x0 0 8 (by decide) (by decide) _
theorem v603_eq : kernelRun0_A.sl.v603 c arg0 harg0 arg4 x0 = rowOf (LAB x0) 1 8 :=
  read_row c arg0 harg0 arg4 x0 1 8 (by decide) (by decide) _
theorem v610_eq : kernelRun0_A.sl.v610 c arg0 harg0 arg4 x0 = rowOf (LAB x0) 2 8 :=
  read_row c arg0 harg0 arg4 x0 2 8 (by decide) (by decide) _
theorem v617_eq : kernelRun0_A.sl.v617 c arg0 harg0 arg4 x0 = rowOf (LAB x0) 3 8 :=
  read_row c arg0 harg0 arg4 x0 3 8 (by decide) (by decide) _
theorem v629_eq : kernelRun0_A.sl.v629 c arg0 harg0 arg4 x0 = rowOf (LAB x0) 0 9 :=
  read_row c arg0 harg0 arg4 x0 0 9 (by decide) (by decide) _
theorem v636_eq : kernelRun0_A.sl.v636 c arg0 harg0 arg4 x0 = rowOf (LAB x0) 1 9 :=
  read_row c arg0 harg0 arg4 x0 1 9 (by decide) (by decide) _
theorem v643_eq : kernelRun0_A.sl.v643 c arg0 harg0 arg4 x0 = rowOf (LAB x0) 2 9 :=
  read_row c arg0 harg0 arg4 x0 2 9 (by decide) (by decide) _
theorem v650_eq : kernelRun0_A.sl.v650 c arg0 harg0 arg4 x0 = rowOf (LAB x0) 3 9 :=
  read_row c arg0 harg0 arg4 x0 3 9 (by decide) (by decide) _
theorem v662_eq : kernelRun0_A.sl.v662 c arg0 harg0 arg4 x0 = rowOf (LAB x0) 0 10 :=
  read_row c arg0 harg0 arg4 x0 0 10 (by decide) (by decide) _
theorem v669_eq : kernelRun0_A.sl.v669 c arg0 harg0 arg4 x0 = rowOf (LAB x0) 1 10 :=
  read_row c arg0 harg0 arg4 x0 1 10 (by decide) (by decide) _
theorem v676_eq : kernelRun0_A.sl.v676 c arg0 harg0 arg4 x0 = rowOf (LAB x0) 2 10 :=
  read_row c arg0 harg0 arg4 x0 2 10 (by decide) (by decide) _
theorem v683_eq : kernelRun0_A.sl.v683 c arg0 harg0 arg4 x0 = rowOf (LAB x0) 3 10 :=
  read_row c arg0 harg0 arg4 x0 3 10 (by decide) (by decide) _
theorem v695_eq : kernelRun0_A.sl.v695 c arg0 harg0 arg4 x0 = rowOf (LAB x0) 0 11 :=
  read_row c arg0 harg0 arg4 x0 0 11 (by decide) (by decide) _
theorem v702_eq : kernelRun0_A.sl.v702 c arg0 harg0 arg4 x0 = rowOf (LAB x0) 1 11 :=
  read_row c arg0 harg0 arg4 x0 1 11 (by decide) (by decide) _
theorem v709_eq : kernelRun0_A.sl.v709 c arg0 harg0 arg4 x0 = rowOf (LAB x0) 2 11 :=
  read_row c arg0 harg0 arg4 x0 2 11 (by decide) (by decide) _
theorem v716_eq : kernelRun0_A.sl.v716 c arg0 harg0 arg4 x0 = rowOf (LAB x0) 3 11 :=
  read_row c arg0 harg0 arg4 x0 3 11 (by decide) (by decide) _
theorem v728_eq : kernelRun0_A.sl.v728 c arg0 harg0 arg4 x0 = rowOf (LAB x0) 0 12 :=
  read_row c arg0 harg0 arg4 x0 0 12 (by decide) (by decide) _
theorem v735_eq : kernelRun0_A.sl.v735 c arg0 harg0 arg4 x0 = rowOf (LAB x0) 1 12 :=
  read_row c arg0 harg0 arg4 x0 1 12 (by decide) (by decide) _
theorem v742_eq : kernelRun0_A.sl.v742 c arg0 harg0 arg4 x0 = rowOf (LAB x0) 2 12 :=
  read_row c arg0 harg0 arg4 x0 2 12 (by decide) (by decide) _
theorem v749_eq : kernelRun0_A.sl.v749 c arg0 harg0 arg4 x0 = rowOf (LAB x0) 3 12 :=
  read_row c arg0 harg0 arg4 x0 3 12 (by decide) (by decide) _
theorem v761_eq : kernelRun0_A.sl.v761 c arg0 harg0 arg4 x0 = rowOf (LAB x0) 0 13 :=
  read_row c arg0 harg0 arg4 x0 0 13 (by decide) (by decide) _
theorem v768_eq : kernelRun0_A.sl.v768 c arg0 harg0 arg4 x0 = rowOf (LAB x0) 1 13 :=
  read_row c arg0 harg0 arg4 x0 1 13 (by decide) (by decide) _
theorem v775_eq : kernelRun0_A.sl.v775 c arg0 harg0 arg4 x0 = rowOf (LAB x0) 2 13 :=
  read_row c arg0 harg0 arg4 x0 2 13 (by decide) (by decide) _
theorem v782_eq : kernelRun0_A.sl.v782 c arg0 harg0 arg4 x0 = rowOf (LAB x0) 3 13 :=
  read_row c arg0 harg0 arg4 x0 3 13 (by decide) (by decide) _
theorem v794_eq : kernelRun0_A.sl.v794 c arg0 harg0 arg4 x0 = rowOf (LAB x0) 0 14 :=
  read_row c arg0 harg0 arg4 x0 0 14 (by decide) (by decide) _
theorem v801_eq : kernelRun0_A.sl.v801 c arg0 harg0 arg4 x0 = rowOf (LAB x0) 1 14 :=
  read_row c arg0 harg0 arg4 x0 1 14 (by decide) (by decide) _
theorem v808_eq : kernelRun0_A.sl.v808 c arg0 harg0 arg4 x0 = rowOf (LAB x0) 2 14 :=
  read_row c arg0 harg0 arg4 x0 2 14 (by decide) (by decide) _
theorem v815_eq : kernelRun0_A.sl.v815 c arg0 harg0 arg4 x0 = rowOf (LAB x0) 3 14 :=
  read_row c arg0 harg0 arg4 x0 3 14 (by decide) (by decide) _
theorem v827_eq : kernelRun0_A.sl.v827 c arg0 harg0 arg4 x0 = rowOf (LAB x0) 0 15 :=
  read_row c arg0 harg0 arg4 x0 0 15 (by decide) (by decide) _
theorem v834_eq : kernelRun0_A.sl.v834 c arg0 harg0 arg4 x0 = rowOf (LAB x0) 1 15 :=
  read_row c arg0 harg0 arg4 x0 1 15 (by decide) (by decide) _
theorem v841_eq : kernelRun0_A.sl.v841 c arg0 harg0 arg4 x0 = rowOf (LAB x0) 2 15 :=
  read_row c arg0 harg0 arg4 x0 2 15 (by decide) (by decide) _
theorem v848_eq : kernelRun0_A.sl.v848 c arg0 harg0 arg4 x0 = rowOf (LAB x0) 3 15 :=
  read_row c arg0 harg0 arg4 x0 3 15 (by decide) (by decide) _
theorem v860_eq : kernelRun0_A.sl.v860 c arg0 harg0 arg4 x0 = rowOf (LAB x0) 0 16 :=
  read_row c arg0 harg0 arg4 x0 0 16 (by decide) (by decide) _
theorem v867_eq : kernelRun0_A.sl.v867 c arg0 harg0 arg4 x0 = rowOf (LAB x0) 1 16 :=
  read_row c arg0 harg0 arg4 x0 1 16 (by decide) (by decide) _
theorem v874_eq : kernelRun0_A.sl.v874 c arg0 harg0 arg4 x0 = rowOf (LAB x0) 2 16 :=
  read_row c arg0 harg0 arg4 x0 2 16 (by decide) (by decide) _
theorem v881_eq : kernelRun0_A.sl.v881 c arg0 harg0 arg4 x0 = rowOf (LAB x0) 3 16 :=
  read_row c arg0 harg0 arg4 x0 3 16 (by decide) (by decide) _
theorem v893_eq : kernelRun0_A.sl.v893 c arg0 harg0 arg4 x0 = rowOf (LAB x0) 0 17 :=
  read_row c arg0 harg0 arg4 x0 0 17 (by decide) (by decide) _
theorem v900_eq : kernelRun0_A.sl.v900 c arg0 harg0 arg4 x0 = rowOf (LAB x0) 1 17 :=
  read_row c arg0 harg0 arg4 x0 1 17 (by decide) (by decide) _
theorem v907_eq : kernelRun0_A.sl.v907 c arg0 harg0 arg4 x0 = rowOf (LAB x0) 2 17 :=
  read_row c arg0 harg0 arg4 x0 2 17 (by decide) (by decide) _
theorem v914_eq : kernelRun0_A.sl.v914 c arg0 harg0 arg4 x0 = rowOf (LAB x0) 3 17 :=
  read_row c arg0 harg0 arg4 x0 3 17 (by decide) (by decide) _
theorem v926_eq : kernelRun0_A.sl.v926 c arg0 harg0 arg4 x0 = rowOf (LAB x0) 0 18 :=
  read_row c arg0 harg0 arg4 x0 0 18 (by decide) (by decide) _
theorem v933_eq : kernelRun0_A.sl.v933 c arg0 harg0 arg4 x0 = rowOf (LAB x0) 1 18 :=
  read_row c arg0 harg0 arg4 x0 1 18 (by decide) (by decide) _
theorem v940_eq : kernelRun0_A.sl.v940 c arg0 harg0 arg4 x0 = rowOf (LAB x0) 2 18 :=
  read_row c arg0 harg0 arg4 x0 2 18 (by decide) (by decide) _
theorem v947_eq : kernelRun0_A.sl.v947 c arg0 harg0 arg4 x0 = rowOf (LAB x0) 3 18 :=
  read_row c arg0 harg0 arg4 x0 3 18 (by decide) (by decide) _
theorem v959_eq : kernelRun0_A.sl.v959 c arg0 harg0 arg4 x0 = rowOf (LAB x0) 0 19 :=
  read_row c arg0 harg0 arg4 x0 0 19 (by decide) (by decide) _
theorem v966_eq : kernelRun0_A.sl.v966 c arg0 harg0 arg4 x0 = rowOf (LAB x0) 1 19 :=
  read_row c arg0 harg0 arg4 x0 1 19 (by decide) (by decide) _
theorem v973_eq : kernelRun0_A.sl.v973 c arg0 harg0 arg4 x0 = rowOf (LAB x0) 2 19 :=
  read_row c arg0 harg0 arg4 x0 2 19 (by decide) (by decide) _
theorem v980_eq : kernelRun0_A.sl.v980 c arg0 harg0 arg4 x0 = rowOf (LAB x0) 3 19 :=
  read_row c arg0 harg0 arg4 x0 3 19 (by decide) (by decide) _
theorem v992_eq : kernelRun0_A.sl.v992 c arg0 harg0 arg4 x0 = rowOf (LAB x0) 0 20 :=
  read_row c arg0 harg0 arg4 x0 0 20 (by decide) (by decide) _
theorem v999_eq : kernelRun0_A.sl.v999 c arg0 harg0 arg4 x0 = rowOf (LAB x0) 1 20 :=
  read_row c arg0 harg0 arg4 x0 1 20 (by decide) (by decide) _
theorem v1006_eq : kernelRun0_A.sl.v1006 c arg0 harg0 arg4 x0 = rowOf (LAB x0) 2 20 :=
  read_row c arg0 harg0 arg4 x0 2 20 (by decide) (by decide) _
theorem v1013_eq : kernelRun0_A.sl.v1013 c arg0 harg0 arg4 x0 = rowOf (LAB x0) 3 20 :=
  read_row c arg0 harg0 arg4 x0 3 20 (by decide) (by decide) _
theorem v1025_eq : kernelRun0_A.sl.v1025 c arg0 harg0 arg4 x0 = rowOf (LAB x0) 0 21 :=
  read_row c arg0 harg0 arg4 x0 0 21 (by decide) (by decide) _
theorem v1032_eq : kernelRun0_A.sl.v1032 c arg0 harg0 arg4 x0 = rowOf (LAB x0) 1 21 :=
  read_row c arg0 harg0 arg4 x0 1 21 (by decide) (by decide) _
theorem v1039_eq : kernelRun0_A.sl.v1039 c arg0 harg0 arg4 x0 = rowOf (LAB x0) 2 21 :=
  read_row c arg0 harg0 arg4 x0 2 21 (by decide) (by decide) _
theorem v1046_eq : kernelRun0_A.sl.v1046 c arg0 harg0 arg4 x0 = rowOf (LAB x0) 3 21 :=
  read_row c arg0 harg0 arg4 x0 3 21 (by decide) (by decide) _
theorem v1058_eq : kernelRun0_A.sl.v1058 c arg0 harg0 arg4 x0 = rowOf (LAB x0) 0 22 :=
  read_row c arg0 harg0 arg4 x0 0 22 (by decide) (by decide) _
theorem v1065_eq : kernelRun0_A.sl.v1065 c arg0 harg0 arg4 x0 = rowOf (LAB x0) 1 22 :=
  read_row c arg0 harg0 arg4 x0 1 22 (by decide) (by decide) _
theorem v1072_eq : kernelRun0_A.sl.v1072 c arg0 harg0 arg4 x0 = rowOf (LAB x0) 2 22 :=
  read_row c arg0 harg0 arg4 x0 2 22 (by decide) (by decide) _
theorem v1079_eq : kernelRun0_A.sl.v1079 c arg0 harg0 arg4 x0 = rowOf (LAB x0) 3 22 :=
  read_row c arg0 harg0 arg4 x0 3 22 (by decide) (by decide) _
theorem v1091_eq : kernelRun0_A.sl.v1091 c arg0 harg0 arg4 x0 = rowOf (LAB x0) 0 23 :=
  read_row c arg0 harg0 arg4 x0 0 23 (by decide) (by decide) _
theorem v1098_eq : kernelRun0_A.sl.v1098 c arg0 harg0 arg4 x0 = rowOf (LAB x0) 1 23 :=
  read_row c arg0 harg0 arg4 x0 1 23 (by decide) (by decide) _
theorem v1105_eq : kernelRun0_A.sl.v1105 c arg0 harg0 arg4 x0 = rowOf (LAB x0) 2 23 :=
  read_row c arg0 harg0 arg4 x0 2 23 (by decide) (by decide) _
theorem v1112_eq : kernelRun0_A.sl.v1112 c arg0 harg0 arg4 x0 = rowOf (LAB x0) 3 23 :=
  read_row c arg0 harg0 arg4 x0 3 23 (by decide) (by decide) _
theorem v1124_eq : kernelRun0_A.sl.v1124 c arg0 harg0 arg4 x0 = rowOf (LAB x0) 0 24 :=
  read_row c arg0 harg0 arg4 x0 0 24 (by decide) (by decide) _
theorem v1131_eq : kernelRun0_A.sl.v1131 c arg0 harg0 arg4 x0 = rowOf (LAB x0) 1 24 :=
  read_row c arg0 harg0 arg4 x0 1 24 (by decide) (by decide) _
theorem v1138_eq : kernelRun0_A.sl.v1138 c arg0 harg0 arg4 x0 = rowOf (LAB x0) 2 24 :=
  read_row c arg0 harg0 arg4 x0 2 24 (by decide) (by decide) _
theorem v1145_eq : kernelRun0_A.sl.v1145 c arg0 harg0 arg4 x0 = rowOf (LAB x0) 3 24 :=
  read_row c arg0 harg0 arg4 x0 3 24 (by decide) (by decide) _
theorem v1157_eq : kernelRun0_A.sl.v1157 c arg0 harg0 arg4 x0 = rowOf (LAB x0) 0 25 :=
  read_row c arg0 harg0 arg4 x0 0 25 (by decide) (by decide) _
theorem v1164_eq : kernelRun0_A.sl.v1164 c arg0 harg0 arg4 x0 = rowOf (LAB x0) 1 25 :=
  read_row c arg0 harg0 arg4 x0 1 25 (by decide) (by decide) _
theorem v1171_eq : kernelRun0_A.sl.v1171 c arg0 harg0 arg4 x0 = rowOf (LAB x0) 2 25 :=
  read_row c arg0 harg0 arg4 x0 2 25 (by decide) (by decide) _
theorem v1178_eq : kernelRun0_A.sl.v1178 c arg0 harg0 arg4 x0 = rowOf (LAB x0) 3 25 :=
  read_row c arg0 harg0 arg4 x0 3 25 (by decide) (by decide) _
theorem v1190_eq : kernelRun0_A.sl.v1190 c arg0 harg0 arg4 x0 = rowOf (LAB x0) 0 26 :=
  read_row c arg0 harg0 arg4 x0 0 26 (by decide) (by decide) _
theorem v1197_eq : kernelRun0_A.sl.v1197 c arg0 harg0 arg4 x0 = rowOf (LAB x0) 1 26 :=
  read_row c arg0 harg0 arg4 x0 1 26 (by decide) (by decide) _
theorem v1204_eq : kernelRun0_A.sl.v1204 c arg0 harg0 arg4 x0 = rowOf (LAB x0) 2 26 :=
  read_row c arg0 harg0 arg4 x0 2 26 (by decide) (by decide) _
theorem v1211_eq : kernelRun0_A.sl.v1211 c arg0 harg0 arg4 x0 = rowOf (LAB x0) 3 26 :=
  read_row c arg0 harg0 arg4 x0 3 26 (by decide) (by decide) _
theorem v1223_eq : kernelRun0_A.sl.v1223 c arg0 harg0 arg4 x0 = rowOf (LAB x0) 0 27 :=
  read_row c arg0 harg0 arg4 x0 0 27 (by decide) (by decide) _
theorem v1230_eq : kernelRun0_A.sl.v1230 c arg0 harg0 arg4 x0 = rowOf (LAB x0) 1 27 :=
  read_row c arg0 harg0 arg4 x0 1 27 (by decide) (by decide) _
theorem v1237_eq : kernelRun0_A.sl.v1237 c arg0 harg0 arg4 x0 = rowOf (LAB x0) 2 27 :=
  read_row c arg0 harg0 arg4 x0 2 27 (by decide) (by decide) _
theorem v1244_eq : kernelRun0_A.sl.v1244 c arg0 harg0 arg4 x0 = rowOf (LAB x0) 3 27 :=
  read_row c arg0 harg0 arg4 x0 3 27 (by decide) (by decide) _
theorem v1256_eq : kernelRun0_A.sl.v1256 c arg0 harg0 arg4 x0 = rowOf (LAB x0) 0 28 :=
  read_row c arg0 harg0 arg4 x0 0 28 (by decide) (by decide) _
theorem v1263_eq : kernelRun0_A.sl.v1263 c arg0 harg0 arg4 x0 = rowOf (LAB x0) 1 28 :=
  read_row c arg0 harg0 arg4 x0 1 28 (by decide) (by decide) _
theorem v1270_eq : kernelRun0_A.sl.v1270 c arg0 harg0 arg4 x0 = rowOf (LAB x0) 2 28 :=
  read_row c arg0 harg0 arg4 x0 2 28 (by decide) (by decide) _
theorem v1277_eq : kernelRun0_A.sl.v1277 c arg0 harg0 arg4 x0 = rowOf (LAB x0) 3 28 :=
  read_row c arg0 harg0 arg4 x0 3 28 (by decide) (by decide) _
theorem v1289_eq : kernelRun0_A.sl.v1289 c arg0 harg0 arg4 x0 = rowOf (LAB x0) 0 29 :=
  read_row c arg0 harg0 arg4 x0 0 29 (by decide) (by decide) _
theorem v1296_eq : kernelRun0_A.sl.v1296 c arg0 harg0 arg4 x0 = rowOf (LAB x0) 1 29 :=
  read_row c arg0 harg0 arg4 x0 1 29 (by decide) (by decide) _
theorem v1303_eq : kernelRun0_A.sl.v1303 c arg0 harg0 arg4 x0 = rowOf (LAB x0) 2 29 :=
  read_row c arg0 harg0 arg4 x0 2 29 (by decide) (by decide) _
theorem v1310_eq : kernelRun0_A.sl.v1310 c arg0 harg0 arg4 x0 = rowOf (LAB x0) 3 29 :=
  read_row c arg0 harg0 arg4 x0 3 29 (by decide) (by decide) _
theorem v1322_eq : kernelRun0_A.sl.v1322 c arg0 harg0 arg4 x0 = rowOf (LAB x0) 0 30 :=
  read_row c arg0 harg0 arg4 x0 0 30 (by decide) (by decide) _
theorem v1329_eq : kernelRun0_A.sl.v1329 c arg0 harg0 arg4 x0 = rowOf (LAB x0) 1 30 :=
  read_row c arg0 harg0 arg4 x0 1 30 (by decide) (by decide) _
theorem v1336_eq : kernelRun0_A.sl.v1336 c arg0 harg0 arg4 x0 = rowOf (LAB x0) 2 30 :=
  read_row c arg0 harg0 arg4 x0 2 30 (by decide) (by decide) _
theorem v1343_eq : kernelRun0_A.sl.v1343 c arg0 harg0 arg4 x0 = rowOf (LAB x0) 3 30 :=
  read_row c arg0 harg0 arg4 x0 3 30 (by decide) (by decide) _
theorem v1355_eq : kernelRun0_A.sl.v1355 c arg0 harg0 arg4 x0 = rowOf (LAB x0) 0 31 :=
  read_row c arg0 harg0 arg4 x0 0 31 (by decide) (by decide) _
theorem v1362_eq : kernelRun0_A.sl.v1362 c arg0 harg0 arg4 x0 = rowOf (LAB x0) 1 31 :=
  read_row c arg0 harg0 arg4 x0 1 31 (by decide) (by decide) _
theorem v1369_eq : kernelRun0_A.sl.v1369 c arg0 harg0 arg4 x0 = rowOf (LAB x0) 2 31 :=
  read_row c arg0 harg0 arg4 x0 2 31 (by decide) (by decide) _
theorem v1376_eq : kernelRun0_A.sl.v1376 c arg0 harg0 arg4 x0 = rowOf (LAB x0) 3 31 :=
  read_row c arg0 harg0 arg4 x0 3 31 (by decide) (by decide) _
theorem v1388_eq : kernelRun0_A.sl.v1388 c arg0 harg0 arg4 x0 = rowOf (LAB x0) 0 32 :=
  read_row c arg0 harg0 arg4 x0 0 32 (by decide) (by decide) _
theorem v1395_eq : kernelRun0_A.sl.v1395 c arg0 harg0 arg4 x0 = rowOf (LAB x0) 1 32 :=
  read_row c arg0 harg0 arg4 x0 1 32 (by decide) (by decide) _
theorem v1402_eq : kernelRun0_A.sl.v1402 c arg0 harg0 arg4 x0 = rowOf (LAB x0) 2 32 :=
  read_row c arg0 harg0 arg4 x0 2 32 (by decide) (by decide) _
theorem v1409_eq : kernelRun0_A.sl.v1409 c arg0 harg0 arg4 x0 = rowOf (LAB x0) 3 32 :=
  read_row c arg0 harg0 arg4 x0 3 32 (by decide) (by decide) _
theorem v1421_eq : kernelRun0_A.sl.v1421 c arg0 harg0 arg4 x0 = rowOf (LAB x0) 0 33 :=
  read_row c arg0 harg0 arg4 x0 0 33 (by decide) (by decide) _
theorem v1428_eq : kernelRun0_A.sl.v1428 c arg0 harg0 arg4 x0 = rowOf (LAB x0) 1 33 :=
  read_row c arg0 harg0 arg4 x0 1 33 (by decide) (by decide) _
theorem v1435_eq : kernelRun0_A.sl.v1435 c arg0 harg0 arg4 x0 = rowOf (LAB x0) 2 33 :=
  read_row c arg0 harg0 arg4 x0 2 33 (by decide) (by decide) _
theorem v1442_eq : kernelRun0_A.sl.v1442 c arg0 harg0 arg4 x0 = rowOf (LAB x0) 3 33 :=
  read_row c arg0 harg0 arg4 x0 3 33 (by decide) (by decide) _
theorem v1454_eq : kernelRun0_A.sl.v1454 c arg0 harg0 arg4 x0 = rowOf (LAB x0) 0 34 :=
  read_row c arg0 harg0 arg4 x0 0 34 (by decide) (by decide) _
theorem v1461_eq : kernelRun0_A.sl.v1461 c arg0 harg0 arg4 x0 = rowOf (LAB x0) 1 34 :=
  read_row c arg0 harg0 arg4 x0 1 34 (by decide) (by decide) _
theorem v1468_eq : kernelRun0_A.sl.v1468 c arg0 harg0 arg4 x0 = rowOf (LAB x0) 2 34 :=
  read_row c arg0 harg0 arg4 x0 2 34 (by decide) (by decide) _
theorem v1475_eq : kernelRun0_A.sl.v1475 c arg0 harg0 arg4 x0 = rowOf (LAB x0) 3 34 :=
  read_row c arg0 harg0 arg4 x0 3 34 (by decide) (by decide) _
theorem v1487_eq : kernelRun0_A.sl.v1487 c arg0 harg0 arg4 x0 = rowOf (LAB x0) 0 35 :=
  read_row c arg0 harg0 arg4 x0 0 35 (by decide) (by decide) _
theorem v1494_eq : kernelRun0_A.sl.v1494 c arg0 harg0 arg4 x0 = rowOf (LAB x0) 1 35 :=
  read_row c arg0 harg0 arg4 x0 1 35 (by decide) (by decide) _
theorem v1501_eq : kernelRun0_A.sl.v1501 c arg0 harg0 arg4 x0 = rowOf (LAB x0) 2 35 :=
  read_row c arg0 harg0 arg4 x0 2 35 (by decide) (by decide) _
theorem v1508_eq : kernelRun0_A.sl.v1508 c arg0 harg0 arg4 x0 = rowOf (LAB x0) 3 35 :=
  read_row c arg0 harg0 arg4 x0 3 35 (by decide) (by decide) _
theorem v1520_eq : kernelRun0_A.sl.v1520 c arg0 harg0 arg4 x0 = rowOf (LAB x0) 0 36 :=
  read_row c arg0 harg0 arg4 x0 0 36 (by decide) (by decide) _
theorem v1527_eq : kernelRun0_A.sl.v1527 c arg0 harg0 arg4 x0 = rowOf (LAB x0) 1 36 :=
  read_row c arg0 harg0 arg4 x0 1 36 (by decide) (by decide) _
theorem v1534_eq : kernelRun0_A.sl.v1534 c arg0 harg0 arg4 x0 = rowOf (LAB x0) 2 36 :=
  read_row c arg0 harg0 arg4 x0 2 36 (by decide) (by decide) _
theorem v1541_eq : kernelRun0_A.sl.v1541 c arg0 harg0 arg4 x0 = rowOf (LAB x0) 3 36 :=
  read_row c arg0 harg0 arg4 x0 3 36 (by decide) (by decide) _
theorem v1553_eq : kernelRun0_A.sl.v1553 c arg0 harg0 arg4 x0 = rowOf (LAB x0) 0 37 :=
  read_row c arg0 harg0 arg4 x0 0 37 (by decide) (by decide) _
theorem v1560_eq : kernelRun0_A.sl.v1560 c arg0 harg0 arg4 x0 = rowOf (LAB x0) 1 37 :=
  read_row c arg0 harg0 arg4 x0 1 37 (by decide) (by decide) _
theorem v1567_eq : kernelRun0_A.sl.v1567 c arg0 harg0 arg4 x0 = rowOf (LAB x0) 2 37 :=
  read_row c arg0 harg0 arg4 x0 2 37 (by decide) (by decide) _
theorem v1574_eq : kernelRun0_A.sl.v1574 c arg0 harg0 arg4 x0 = rowOf (LAB x0) 3 37 :=
  read_row c arg0 harg0 arg4 x0 3 37 (by decide) (by decide) _
theorem v1586_eq : kernelRun0_A.sl.v1586 c arg0 harg0 arg4 x0 = rowOf (LAB x0) 0 38 :=
  read_row c arg0 harg0 arg4 x0 0 38 (by decide) (by decide) _
theorem v1593_eq : kernelRun0_A.sl.v1593 c arg0 harg0 arg4 x0 = rowOf (LAB x0) 1 38 :=
  read_row c arg0 harg0 arg4 x0 1 38 (by decide) (by decide) _
theorem v1600_eq : kernelRun0_A.sl.v1600 c arg0 harg0 arg4 x0 = rowOf (LAB x0) 2 38 :=
  read_row c arg0 harg0 arg4 x0 2 38 (by decide) (by decide) _
theorem v1607_eq : kernelRun0_A.sl.v1607 c arg0 harg0 arg4 x0 = rowOf (LAB x0) 3 38 :=
  read_row c arg0 harg0 arg4 x0 3 38 (by decide) (by decide) _
theorem v1619_eq : kernelRun0_A.sl.v1619 c arg0 harg0 arg4 x0 = rowOf (LAB x0) 0 39 :=
  read_row c arg0 harg0 arg4 x0 0 39 (by decide) (by decide) _
theorem v1626_eq : kernelRun0_A.sl.v1626 c arg0 harg0 arg4 x0 = rowOf (LAB x0) 1 39 :=
  read_row c arg0 harg0 arg4 x0 1 39 (by decide) (by decide) _
theorem v1633_eq : kernelRun0_A.sl.v1633 c arg0 harg0 arg4 x0 = rowOf (LAB x0) 2 39 :=
  read_row c arg0 harg0 arg4 x0 2 39 (by decide) (by decide) _
theorem v1640_eq : kernelRun0_A.sl.v1640 c arg0 harg0 arg4 x0 = rowOf (LAB x0) 3 39 :=
  read_row c arg0 harg0 arg4 x0 3 39 (by decide) (by decide) _
theorem v1652_eq : kernelRun0_A.sl.v1652 c arg0 harg0 arg4 x0 = rowOf (LAB x0) 0 40 :=
  read_row c arg0 harg0 arg4 x0 0 40 (by decide) (by decide) _
theorem v1659_eq : kernelRun0_A.sl.v1659 c arg0 harg0 arg4 x0 = rowOf (LAB x0) 1 40 :=
  read_row c arg0 harg0 arg4 x0 1 40 (by decide) (by decide) _
theorem v1666_eq : kernelRun0_A.sl.v1666 c arg0 harg0 arg4 x0 = rowOf (LAB x0) 2 40 :=
  read_row c arg0 harg0 arg4 x0 2 40 (by decide) (by decide) _
theorem v1673_eq : kernelRun0_A.sl.v1673 c arg0 harg0 arg4 x0 = rowOf (LAB x0) 3 40 :=
  read_row c arg0 harg0 arg4 x0 3 40 (by decide) (by decide) _
theorem v1685_eq : kernelRun0_A.sl.v1685 c arg0 harg0 arg4 x0 = rowOf (LAB x0) 0 41 :=
  read_row c arg0 harg0 arg4 x0 0 41 (by decide) (by decide) _
theorem v1692_eq : kernelRun0_A.sl.v1692 c arg0 harg0 arg4 x0 = rowOf (LAB x0) 1 41 :=
  read_row c arg0 harg0 arg4 x0 1 41 (by decide) (by decide) _
theorem v1699_eq : kernelRun0_A.sl.v1699 c arg0 harg0 arg4 x0 = rowOf (LAB x0) 2 41 :=
  read_row c arg0 harg0 arg4 x0 2 41 (by decide) (by decide) _
theorem v1706_eq : kernelRun0_A.sl.v1706 c arg0 harg0 arg4 x0 = rowOf (LAB x0) 3 41 :=
  read_row c arg0 harg0 arg4 x0 3 41 (by decide) (by decide) _
theorem v1718_eq : kernelRun0_A.sl.v1718 c arg0 harg0 arg4 x0 = rowOf (LAB x0) 0 42 :=
  read_row c arg0 harg0 arg4 x0 0 42 (by decide) (by decide) _
theorem v1725_eq : kernelRun0_A.sl.v1725 c arg0 harg0 arg4 x0 = rowOf (LAB x0) 1 42 :=
  read_row c arg0 harg0 arg4 x0 1 42 (by decide) (by decide) _
theorem v1732_eq : kernelRun0_A.sl.v1732 c arg0 harg0 arg4 x0 = rowOf (LAB x0) 2 42 :=
  read_row c arg0 harg0 arg4 x0 2 42 (by decide) (by decide) _
theorem v1739_eq : kernelRun0_A.sl.v1739 c arg0 harg0 arg4 x0 = rowOf (LAB x0) 3 42 :=
  read_row c arg0 harg0 arg4 x0 3 42 (by decide) (by decide) _
theorem v1751_eq : kernelRun0_A.sl.v1751 c arg0 harg0 arg4 x0 = rowOf (LAB x0) 0 43 :=
  read_row c arg0 harg0 arg4 x0 0 43 (by decide) (by decide) _
theorem v1758_eq : kernelRun0_A.sl.v1758 c arg0 harg0 arg4 x0 = rowOf (LAB x0) 1 43 :=
  read_row c arg0 harg0 arg4 x0 1 43 (by decide) (by decide) _
theorem v1765_eq : kernelRun0_A.sl.v1765 c arg0 harg0 arg4 x0 = rowOf (LAB x0) 2 43 :=
  read_row c arg0 harg0 arg4 x0 2 43 (by decide) (by decide) _
theorem v1772_eq : kernelRun0_A.sl.v1772 c arg0 harg0 arg4 x0 = rowOf (LAB x0) 3 43 :=
  read_row c arg0 harg0 arg4 x0 3 43 (by decide) (by decide) _
theorem v1784_eq : kernelRun0_A.sl.v1784 c arg0 harg0 arg4 x0 = rowOf (LAB x0) 0 44 :=
  read_row c arg0 harg0 arg4 x0 0 44 (by decide) (by decide) _
theorem v1791_eq : kernelRun0_A.sl.v1791 c arg0 harg0 arg4 x0 = rowOf (LAB x0) 1 44 :=
  read_row c arg0 harg0 arg4 x0 1 44 (by decide) (by decide) _
theorem v1798_eq : kernelRun0_A.sl.v1798 c arg0 harg0 arg4 x0 = rowOf (LAB x0) 2 44 :=
  read_row c arg0 harg0 arg4 x0 2 44 (by decide) (by decide) _
theorem v1805_eq : kernelRun0_A.sl.v1805 c arg0 harg0 arg4 x0 = rowOf (LAB x0) 3 44 :=
  read_row c arg0 harg0 arg4 x0 3 44 (by decide) (by decide) _
theorem v1817_eq : kernelRun0_A.sl.v1817 c arg0 harg0 arg4 x0 = rowOf (LAB x0) 0 45 :=
  read_row c arg0 harg0 arg4 x0 0 45 (by decide) (by decide) _
theorem v1824_eq : kernelRun0_A.sl.v1824 c arg0 harg0 arg4 x0 = rowOf (LAB x0) 1 45 :=
  read_row c arg0 harg0 arg4 x0 1 45 (by decide) (by decide) _
theorem v1831_eq : kernelRun0_A.sl.v1831 c arg0 harg0 arg4 x0 = rowOf (LAB x0) 2 45 :=
  read_row c arg0 harg0 arg4 x0 2 45 (by decide) (by decide) _
theorem v1838_eq : kernelRun0_A.sl.v1838 c arg0 harg0 arg4 x0 = rowOf (LAB x0) 3 45 :=
  read_row c arg0 harg0 arg4 x0 3 45 (by decide) (by decide) _
theorem v1850_eq : kernelRun0_A.sl.v1850 c arg0 harg0 arg4 x0 = rowOf (LAB x0) 0 46 :=
  read_row c arg0 harg0 arg4 x0 0 46 (by decide) (by decide) _
theorem v1857_eq : kernelRun0_A.sl.v1857 c arg0 harg0 arg4 x0 = rowOf (LAB x0) 1 46 :=
  read_row c arg0 harg0 arg4 x0 1 46 (by decide) (by decide) _
theorem v1864_eq : kernelRun0_A.sl.v1864 c arg0 harg0 arg4 x0 = rowOf (LAB x0) 2 46 :=
  read_row c arg0 harg0 arg4 x0 2 46 (by decide) (by decide) _
theorem v1871_eq : kernelRun0_A.sl.v1871 c arg0 harg0 arg4 x0 = rowOf (LAB x0) 3 46 :=
  read_row c arg0 harg0 arg4 x0 3 46 (by decide) (by decide) _
theorem v1883_eq : kernelRun0_A.sl.v1883 c arg0 harg0 arg4 x0 = rowOf (LAB x0) 0 47 :=
  read_row c arg0 harg0 arg4 x0 0 47 (by decide) (by decide) _
theorem v1890_eq : kernelRun0_A.sl.v1890 c arg0 harg0 arg4 x0 = rowOf (LAB x0) 1 47 :=
  read_row c arg0 harg0 arg4 x0 1 47 (by decide) (by decide) _
theorem v1897_eq : kernelRun0_A.sl.v1897 c arg0 harg0 arg4 x0 = rowOf (LAB x0) 2 47 :=
  read_row c arg0 harg0 arg4 x0 2 47 (by decide) (by decide) _
theorem v1904_eq : kernelRun0_A.sl.v1904 c arg0 harg0 arg4 x0 = rowOf (LAB x0) 3 47 :=
  read_row c arg0 harg0 arg4 x0 3 47 (by decide) (by decide) _

theorem r_2_eq : kernelRun0_A.sl.r_2 c arg0 harg0 arg4 x0 = HALL (LAB x0) 1 := by
  simp only [kernelRun0_A.sl.r_2, v332_eq, v339_eq, v346_eq, v353_eq]
  rfl

theorem r_3_eq : kernelRun0_A.sl.r_3 c arg0 harg0 arg4 x0 = CALL (LAB x0) 1 := by
  simp only [kernelRun0_A.sl.r_3, v332_eq, v339_eq, v346_eq, v353_eq]
  rfl

theorem r_6_eq : kernelRun0_A.sl.r_6 c arg0 harg0 arg4 x0 = HALL (LAB x0) 2 := by
  simp only [kernelRun0_A.sl.r_6, r_2_eq, kernelRun0_A.sl.r_4, v365_eq, kernelRun0_A.sl.r_5, v372_eq, v379_eq, v386_eq]
  rfl

theorem r_7_eq : kernelRun0_A.sl.r_7 c arg0 harg0 arg4 x0 = CALL (LAB x0) 2 := by
  simp only [kernelRun0_A.sl.r_7, r_3_eq, kernelRun0_A.sl.r_4, v365_eq, kernelRun0_A.sl.r_5, v372_eq, v379_eq, v386_eq]
  rfl

theorem r_11_eq : kernelRun0_A.sl.r_11 c arg0 harg0 arg4 x0 = CALL (LAB x0) 3 := by
  simp only [kernelRun0_A.sl.r_11, r_7_eq, kernelRun0_A.sl.r_8, v398_eq, kernelRun0_A.sl.r_9, v405_eq, kernelRun0_A.sl.r_10, v412_eq, v419_eq]
  rfl

theorem r_12_eq : kernelRun0_A.sl.r_12 c arg0 harg0 arg4 x0 = HALL (LAB x0) 4 := by
  simp only [kernelRun0_A.sl.r_12, r_6_eq, kernelRun0_A.sl.r_8, v398_eq, kernelRun0_A.sl.r_9, v405_eq, kernelRun0_A.sl.r_10, v412_eq, v419_eq, v431_eq, v438_eq, v445_eq, v452_eq]
  rfl

theorem r_14_eq : kernelRun0_A.sl.r_14 c arg0 harg0 arg4 x0 = HALL (LAB x0) 5 := by
  simp only [kernelRun0_A.sl.r_14, r_12_eq, v464_eq, v471_eq, v478_eq, v485_eq]
  rfl

theorem r_15_eq : kernelRun0_A.sl.r_15 c arg0 harg0 arg4 x0 = CALL (LAB x0) 5 := by
  simp only [kernelRun0_A.sl.r_15, r_11_eq, kernelRun0_A.sl.r_13, v431_eq, v438_eq, v445_eq, v452_eq, v464_eq, v471_eq, v478_eq, v485_eq]
  rfl

theorem r_17_eq : kernelRun0_A.sl.r_17 c arg0 harg0 arg4 x0 = HALL (LAB x0) 6 := by
  simp only [kernelRun0_A.sl.r_17, r_14_eq, kernelRun0_A.sl.r_16, v497_eq, v504_eq, v511_eq, v518_eq]
  rfl

theorem r_18_eq : kernelRun0_A.sl.r_18 c arg0 harg0 arg4 x0 = CALL (LAB x0) 6 := by
  simp only [kernelRun0_A.sl.r_18, r_15_eq, kernelRun0_A.sl.r_16, v497_eq, v504_eq, v511_eq, v518_eq]
  rfl

theorem r_22_eq : kernelRun0_A.sl.r_22 c arg0 harg0 arg4 x0 = HALL (LAB x0) 7 := by
  simp only [kernelRun0_A.sl.r_22, r_17_eq, kernelRun0_A.sl.r_19, v530_eq, kernelRun0_A.sl.r_20, v537_eq, kernelRun0_A.sl.r_21, v544_eq, v551_eq]
  rfl

theorem r_23_eq : kernelRun0_A.sl.r_23 c arg0 harg0 arg4 x0 = CALL (LAB x0) 7 := by
  simp only [kernelRun0_A.sl.r_23, r_18_eq, kernelRun0_A.sl.r_19, v530_eq, kernelRun0_A.sl.r_20, v537_eq, kernelRun0_A.sl.r_21, v544_eq, v551_eq]
  rfl

theorem r_25_eq : kernelRun0_A.sl.r_25 c arg0 harg0 arg4 x0 = HALL (LAB x0) 9 := by
  simp only [kernelRun0_A.sl.r_25, r_22_eq, kernelRun0_A.sl.r_24, v563_eq, v570_eq, v577_eq, v584_eq, v596_eq, v603_eq, v610_eq, v617_eq]
  rfl

theorem r_26_eq : kernelRun0_A.sl.r_26 c arg0 harg0 arg4 x0 = CALL (LAB x0) 9 := by
  simp only [kernelRun0_A.sl.r_26, r_23_eq, kernelRun0_A.sl.r_24, v563_eq, v570_eq, v577_eq, v584_eq, v596_eq, v603_eq, v610_eq, v617_eq]
  rfl

theorem r_28_eq : kernelRun0_A.sl.r_28 c arg0 harg0 arg4 x0 = HALL (LAB x0) 10 := by
  simp only [kernelRun0_A.sl.r_28, r_25_eq, kernelRun0_A.sl.r_27, v629_eq, v636_eq, v643_eq, v650_eq]
  rfl

theorem r_29_eq : kernelRun0_A.sl.r_29 c arg0 harg0 arg4 x0 = CALL (LAB x0) 10 := by
  simp only [kernelRun0_A.sl.r_29, r_26_eq, kernelRun0_A.sl.r_27, v629_eq, v636_eq, v643_eq, v650_eq]
  rfl

theorem r_32_eq : kernelRun0_A.sl.r_32 c arg0 harg0 arg4 x0 = HALL (LAB x0) 11 := by
  simp only [kernelRun0_A.sl.r_32, r_28_eq, kernelRun0_A.sl.r_30, v662_eq, kernelRun0_A.sl.r_31, v669_eq, v676_eq, v683_eq]
  rfl

theorem r_33_eq : kernelRun0_A.sl.r_33 c arg0 harg0 arg4 x0 = CALL (LAB x0) 11 := by
  simp only [kernelRun0_A.sl.r_33, r_29_eq, kernelRun0_A.sl.r_30, v662_eq, kernelRun0_A.sl.r_31, v669_eq, v676_eq, v683_eq]
  rfl

theorem r_38_eq : kernelRun0_A.sl.r_38 c arg0 harg0 arg4 x0 = HALL (LAB x0) 13 := by
  simp only [kernelRun0_A.sl.r_38, r_32_eq, kernelRun0_A.sl.r_34, v695_eq, kernelRun0_A.sl.r_35, v702_eq, kernelRun0_A.sl.r_36, v709_eq, kernelRun0_A.sl.r_37, v716_eq, v728_eq, v735_eq, v742_eq, v749_eq]
  rfl

theorem r_39_eq : kernelRun0_A.sl.r_39 c arg0 harg0 arg4 x0 = CALL (LAB x0) 13 := by
  simp only [kernelRun0_A.sl.r_39, r_33_eq, kernelRun0_A.sl.r_34, v695_eq, kernelRun0_A.sl.r_35, v702_eq, kernelRun0_A.sl.r_36, v709_eq, kernelRun0_A.sl.r_37, v716_eq, v728_eq, v735_eq, v742_eq, v749_eq]
  rfl

theorem r_41_eq : kernelRun0_A.sl.r_41 c arg0 harg0 arg4 x0 = HALL (LAB x0) 14 := by
  simp only [kernelRun0_A.sl.r_41, r_38_eq, kernelRun0_A.sl.r_40, v761_eq, v768_eq, v775_eq, v782_eq]
  rfl

theorem r_42_eq : kernelRun0_A.sl.r_42 c arg0 harg0 arg4 x0 = CALL (LAB x0) 14 := by
  simp only [kernelRun0_A.sl.r_42, r_39_eq, kernelRun0_A.sl.r_40, v761_eq, v768_eq, v775_eq, v782_eq]
  rfl

theorem r_45_eq : kernelRun0_A.sl.r_45 c arg0 harg0 arg4 x0 = HALL (LAB x0) 15 := by
  simp only [kernelRun0_A.sl.r_45, r_41_eq, kernelRun0_A.sl.r_43, v794_eq, kernelRun0_A.sl.r_44, v801_eq, v808_eq, v815_eq]
  rfl

theorem r_46_eq : kernelRun0_A.sl.r_46 c arg0 harg0 arg4 x0 = CALL (LAB x0) 15 := by
  simp only [kernelRun0_A.sl.r_46, r_42_eq, kernelRun0_A.sl.r_43, v794_eq, kernelRun0_A.sl.r_44, v801_eq, v808_eq, v815_eq]
  rfl

theorem r_50_eq : kernelRun0_A.sl.r_50 c arg0 harg0 arg4 x0 = HALL (LAB x0) 17 := by
  simp only [kernelRun0_A.sl.r_50, r_45_eq, kernelRun0_A.sl.r_47, v827_eq, kernelRun0_A.sl.r_48, v834_eq, kernelRun0_A.sl.r_49, v841_eq, v848_eq, v860_eq, v867_eq, v874_eq, v881_eq]
  rfl

theorem r_51_eq : kernelRun0_A.sl.r_51 c arg0 harg0 arg4 x0 = CALL (LAB x0) 17 := by
  simp only [kernelRun0_A.sl.r_51, r_46_eq, kernelRun0_A.sl.r_47, v827_eq, kernelRun0_A.sl.r_48, v834_eq, kernelRun0_A.sl.r_49, v841_eq, v848_eq, v860_eq, v867_eq, v874_eq, v881_eq]
  rfl

theorem r_52_eq : kernelRun0_A.sl.r_52 c arg0 harg0 arg4 x0 = HALL (LAB x0) 18 := by
  simp only [kernelRun0_A.sl.r_52, r_50_eq, v893_eq, v900_eq, v907_eq, v914_eq]
  rfl

theorem r_53_eq : kernelRun0_A.sl.r_53 c arg0 harg0 arg4 x0 = CALL (LAB x0) 18 := by
  simp only [kernelRun0_A.sl.r_53, r_51_eq, v893_eq, v900_eq, v907_eq, v914_eq]
  rfl

theorem r_56_eq : kernelRun0_A.sl.r_56 c arg0 harg0 arg4 x0 = HALL (LAB x0) 19 := by
  simp only [kernelRun0_A.sl.r_56, r_52_eq, kernelRun0_A.sl.r_54, v926_eq, kernelRun0_A.sl.r_55, v933_eq, v940_eq, v947_eq]
  rfl

theorem r_57_eq : kernelRun0_A.sl.r_57 c arg0 harg0 arg4 x0 = CALL (LAB x0) 19 := by
  simp only [kernelRun0_A.sl.r_57, r_53_eq, kernelRun0_A.sl.r_54, v926_eq, kernelRun0_A.sl.r_55, v933_eq, v940_eq, v947_eq]
  rfl

theorem r_61_eq : kernelRun0_A.sl.r_61 c arg0 harg0 arg4 x0 = CALL (LAB x0) 20 := by
  simp only [kernelRun0_A.sl.r_61, r_57_eq, kernelRun0_A.sl.r_58, v959_eq, kernelRun0_A.sl.r_59, v966_eq, kernelRun0_A.sl.r_60, v973_eq, v980_eq]
  rfl

theorem r_63_eq : kernelRun0_A.sl.r_63 c arg0 harg0 arg4 x0 = HALL (LAB x0) 21 := by
  simp only [kernelRun0_A.sl.r_63, r_56_eq, kernelRun0_A.sl.r_58, v959_eq, kernelRun0_A.sl.r_59, v966_eq, kernelRun0_A.sl.r_60, v973_eq, v980_eq, v992_eq, v999_eq, v1006_eq, v1013_eq]
  rfl

theorem r_65_eq : kernelRun0_A.sl.r_65 c arg0 harg0 arg4 x0 = HALL (LAB x0) 22 := by
  simp only [kernelRun0_A.sl.r_65, r_63_eq, v1025_eq, v1032_eq, v1039_eq, v1046_eq]
  rfl

theorem r_66_eq : kernelRun0_A.sl.r_66 c arg0 harg0 arg4 x0 = CALL (LAB x0) 22 := by
  simp only [kernelRun0_A.sl.r_66, r_61_eq, kernelRun0_A.sl.r_62, v992_eq, v999_eq, v1006_eq, v1013_eq, kernelRun0_A.sl.r_64, v1025_eq, v1032_eq, v1039_eq, v1046_eq]
  rfl

theorem r_68_eq : kernelRun0_A.sl.r_68 c arg0 harg0 arg4 x0 = HALL (LAB x0) 23 := by
  simp only [kernelRun0_A.sl.r_68, r_65_eq, kernelRun0_A.sl.r_67, v1058_eq, v1065_eq, v1072_eq, v1079_eq]
  rfl

theorem r_69_eq : kernelRun0_A.sl.r_69 c arg0 harg0 arg4 x0 = CALL (LAB x0) 23 := by
  simp only [kernelRun0_A.sl.r_69, r_66_eq, kernelRun0_A.sl.r_67, v1058_eq, v1065_eq, v1072_eq, v1079_eq]
  rfl

theorem r_73_eq : kernelRun0_A.sl.r_73 c arg0 harg0 arg4 x0 = HALL (LAB x0) 24 := by
  simp only [kernelRun0_A.sl.r_73, r_68_eq, kernelRun0_A.sl.r_70, v1091_eq, kernelRun0_A.sl.r_71, v1098_eq, kernelRun0_A.sl.r_72, v1105_eq, v1112_eq]
  rfl

theorem r_74_eq : kernelRun0_A.sl.r_74 c arg0 harg0 arg4 x0 = CALL (LAB x0) 24 := by
  simp only [kernelRun0_A.sl.r_74, r_69_eq, kernelRun0_A.sl.r_70, v1091_eq, kernelRun0_A.sl.r_71, v1098_eq, kernelRun0_A.sl.r_72, v1105_eq, v1112_eq]
  rfl

theorem r_79_eq : kernelRun0_A.sl.r_79 c arg0 harg0 arg4 x0 = HALL (LAB x0) 26 := by
  simp only [kernelRun0_A.sl.r_79, r_73_eq, kernelRun0_A.sl.r_75, v1124_eq, kernelRun0_A.sl.r_76, v1131_eq, kernelRun0_A.sl.r_77, v1138_eq, kernelRun0_A.sl.r_78, v1145_eq, v1157_eq, v1164_eq, v1171_eq, v1178_eq]
  rfl

theorem r_80_eq : kernelRun0_A.sl.r_80 c arg0 harg0 arg4 x0 = CALL (LAB x0) 26 := by
  simp only [kernelRun0_A.sl.r_80, r_74_eq, kernelRun0_A.sl.r_75, v1124_eq, kernelRun0_A.sl.r_76, v1131_eq, kernelRun0_A.sl.r_77, v1138_eq, kernelRun0_A.sl.r_78, v1145_eq, v1157_eq, v1164_eq, v1171_eq, v1178_eq]
  rfl

theorem r_82_eq : kernelRun0_A.sl.r_82 c arg0 harg0 arg4 x0 = HALL (LAB x0) 27 := by
  simp only [kernelRun0_A.sl.r_82, r_79_eq, kernelRun0_A.sl.r_81, v1190_eq, v1197_eq, v1204_eq, v1211_eq]
  rfl

theorem r_83_eq : kernelRun0_A.sl.r_83 c arg0 harg0 arg4 x0 = CALL (LAB x0) 27 := by
  simp only [kernelRun0_A.sl.r_83, r_80_eq, kernelRun0_A.sl.r_81, v1190_eq, v1197_eq, v1204_eq, v1211_eq]
  rfl

theorem r_86_eq : kernelRun0_A.sl.r_86 c arg0 harg0 arg4 x0 = HALL (LAB x0) 28 := by
  simp only [kernelRun0_A.sl.r_86, r_82_eq, kernelRun0_A.sl.r_84, v1223_eq, kernelRun0_A.sl.r_85, v1230_eq, v1237_eq, v1244_eq]
  rfl

theorem r_87_eq : kernelRun0_A.sl.r_87 c arg0 harg0 arg4 x0 = CALL (LAB x0) 28 := by
  simp only [kernelRun0_A.sl.r_87, r_83_eq, kernelRun0_A.sl.r_84, v1223_eq, kernelRun0_A.sl.r_85, v1230_eq, v1237_eq, v1244_eq]
  rfl

theorem r_92_eq : kernelRun0_A.sl.r_92 c arg0 harg0 arg4 x0 = HALL (LAB x0) 30 := by
  simp only [kernelRun0_A.sl.r_92, r_86_eq, kernelRun0_A.sl.r_88, v1256_eq, kernelRun0_A.sl.r_89, v1263_eq, kernelRun0_A.sl.r_90, v1270_eq, kernelRun0_A.sl.r_91, v1277_eq, v1289_eq, v1296_eq, v1303_eq, v1310_eq]
  rfl

theorem r_93_eq : kernelRun0_A.sl.r_93 c arg0 harg0 arg4 x0 = CALL (LAB x0) 30 := by
  simp only [kernelRun0_A.sl.r_93, r_87_eq, kernelRun0_A.sl.r_88, v1256_eq, kernelRun0_A.sl.r_89, v1263_eq, kernelRun0_A.sl.r_90, v1270_eq, kernelRun0_A.sl.r_91, v1277_eq, v1289_eq, v1296_eq, v1303_eq, v1310_eq]
  rfl

theorem r_94_eq : kernelRun0_A.sl.r_94 c arg0 harg0 arg4 x0 = HALL (LAB x0) 31 := by
  simp only [kernelRun0_A.sl.r_94, r_92_eq, v1322_eq, v1329_eq, v1336_eq, v1343_eq]
  rfl

theorem r_95_eq : kernelRun0_A.sl.r_95 c arg0 harg0 arg4 x0 = CALL (LAB x0) 31 := by
  simp only [kernelRun0_A.sl.r_95, r_93_eq, v1322_eq, v1329_eq, v1336_eq, v1343_eq]
  rfl

theorem r_98_eq : kernelRun0_A.sl.r_98 c arg0 harg0 arg4 x0 = HALL (LAB x0) 32 := by
  simp only [kernelRun0_A.sl.r_98, r_94_eq, kernelRun0_A.sl.r_96, v1355_eq, kernelRun0_A.sl.r_97, v1362_eq, v1369_eq, v1376_eq]
  rfl

theorem r_99_eq : kernelRun0_A.sl.r_99 c arg0 harg0 arg4 x0 = CALL (LAB x0) 32 := by
  simp only [kernelRun0_A.sl.r_99, r_95_eq, kernelRun0_A.sl.r_96, v1355_eq, kernelRun0_A.sl.r_97, v1362_eq, v1369_eq, v1376_eq]
  rfl

theorem r_103_eq : kernelRun0_A.sl.r_103 c arg0 harg0 arg4 x0 = CALL (LAB x0) 33 := by
  simp only [kernelRun0_A.sl.r_103, r_99_eq, kernelRun0_A.sl.r_100, v1388_eq, kernelRun0_A.sl.r_101, v1395_eq, kernelRun0_A.sl.r_102, v1402_eq, v1409_eq]
  rfl

theorem r_104_eq : kernelRun0_A.sl.r_104 c arg0 harg0 arg4 x0 = HALL (LAB x0) 34 := by
  simp only [kernelRun0_A.sl.r_104, r_98_eq, kernelRun0_A.sl.r_100, v1388_eq, kernelRun0_A.sl.r_101, v1395_eq, kernelRun0_A.sl.r_102, v1402_eq, v1409_eq, v1421_eq, v1428_eq, v1435_eq, v1442_eq]
  rfl

theorem r_106_eq : kernelRun0_A.sl.r_106 c arg0 harg0 arg4 x0 = HALL (LAB x0) 35 := by
  simp only [kernelRun0_A.sl.r_106, r_104_eq, v1454_eq, v1461_eq, v1468_eq, v1475_eq]
  rfl

theorem r_107_eq : kernelRun0_A.sl.r_107 c arg0 harg0 arg4 x0 = CALL (LAB x0) 35 := by
  simp only [kernelRun0_A.sl.r_107, r_103_eq, kernelRun0_A.sl.r_105, v1421_eq, v1428_eq, v1435_eq, v1442_eq, v1454_eq, v1461_eq, v1468_eq, v1475_eq]
  rfl

theorem r_109_eq : kernelRun0_A.sl.r_109 c arg0 harg0 arg4 x0 = HALL (LAB x0) 36 := by
  simp only [kernelRun0_A.sl.r_109, r_106_eq, kernelRun0_A.sl.r_108, v1487_eq, v1494_eq, v1501_eq, v1508_eq]
  rfl

theorem r_110_eq : kernelRun0_A.sl.r_110 c arg0 harg0 arg4 x0 = CALL (LAB x0) 36 := by
  simp only [kernelRun0_A.sl.r_110, r_107_eq, kernelRun0_A.sl.r_108, v1487_eq, v1494_eq, v1501_eq, v1508_eq]
  rfl

theorem r_114_eq : kernelRun0_A.sl.r_114 c arg0 harg0 arg4 x0 = HALL (LAB x0) 37 := by
  simp only [kernelRun0_A.sl.r_114, r_109_eq, kernelRun0_A.sl.r_111, v1520_eq, kernelRun0_A.sl.r_112, v1527_eq, kernelRun0_A.sl.r_113, v1534_eq, v1541_eq]
  rfl

theorem r_115_eq : kernelRun0_A.sl.r_115 c arg0 harg0 arg4 x0 = CALL (LAB x0) 37 := by
  simp only [kernelRun0_A.sl.r_115, r_110_eq, kernelRun0_A.sl.r_111, v1520_eq, kernelRun0_A.sl.r_112, v1527_eq, kernelRun0_A.sl.r_113, v1534_eq, v1541_eq]
  rfl

theorem r_117_eq : kernelRun0_A.sl.r_117 c arg0 harg0 arg4 x0 = HALL (LAB x0) 39 := by
  simp only [kernelRun0_A.sl.r_117, r_114_eq, kernelRun0_A.sl.r_116, v1553_eq, v1560_eq, v1567_eq, v1574_eq, v1586_eq, v1593_eq, v1600_eq, v1607_eq]
  rfl

theorem r_118_eq : kernelRun0_A.sl.r_118 c arg0 harg0 arg4 x0 = CALL (LAB x0) 39 := by
  simp only [kernelRun0_A.sl.r_118, r_115_eq, kernelRun0_A.sl.r_116, v1553_eq, v1560_eq, v1567_eq, v1574_eq, v1586_eq, v1593_eq, v1600_eq, v1607_eq]
  rfl

theorem r_120_eq : kernelRun0_A.sl.r_120 c arg0 harg0 arg4 x0 = HALL (LAB x0) 40 := by
  simp only [kernelRun0_A.sl.r_120, r_117_eq, kernelRun0_A.sl.r_119, v1619_eq, v1626_eq, v1633_eq, v1640_eq]
  rfl

theorem r_121_eq : kernelRun0_A.sl.r_121 c arg0 harg0 arg4 x0 = CALL (LAB x0) 40 := by
  simp only [kernelRun0_A.sl.r_121, r_118_eq, kernelRun0_A.sl.r_119, v1619_eq, v1626_eq, v1633_eq, v1640_eq]
  rfl

theorem r_124_eq : kernelRun0_A.sl.r_124 c arg0 harg0 arg4 x0 = HALL (LAB x0) 41 := by
  simp only [kernelRun0_A.sl.r_124, r_120_eq, kernelRun0_A.sl.r_122, v1652_eq, kernelRun0_A.sl.r_123, v1659_eq, v1666_eq, v1673_eq]
  rfl

theorem r_125_eq : kernelRun0_A.sl.r_125 c arg0 harg0 arg4 x0 = CALL (LAB x0) 41 := by
  simp only [kernelRun0_A.sl.r_125, r_121_eq, kernelRun0_A.sl.r_122, v1652_eq, kernelRun0_A.sl.r_123, v1659_eq, v1666_eq, v1673_eq]
  rfl

theorem r_130_eq : kernelRun0_A.sl.r_130 c arg0 harg0 arg4 x0 = HALL (LAB x0) 43 := by
  simp only [kernelRun0_A.sl.r_130, r_124_eq, kernelRun0_A.sl.r_126, v1685_eq, kernelRun0_A.sl.r_127, v1692_eq, kernelRun0_A.sl.r_128, v1699_eq, kernelRun0_A.sl.r_129, v1706_eq, v1718_eq, v1725_eq, v1732_eq, v1739_eq]
  rfl

theorem r_131_eq : kernelRun0_A.sl.r_131 c arg0 harg0 arg4 x0 = CALL (LAB x0) 43 := by
  simp only [kernelRun0_A.sl.r_131, r_125_eq, kernelRun0_A.sl.r_126, v1685_eq, kernelRun0_A.sl.r_127, v1692_eq, kernelRun0_A.sl.r_128, v1699_eq, kernelRun0_A.sl.r_129, v1706_eq, v1718_eq, v1725_eq, v1732_eq, v1739_eq]
  rfl

theorem r_133_eq : kernelRun0_A.sl.r_133 c arg0 harg0 arg4 x0 = HALL (LAB x0) 44 := by
  simp only [kernelRun0_A.sl.r_133, r_130_eq, kernelRun0_A.sl.r_132, v1751_eq, v1758_eq, v1765_eq, v1772_eq]
  rfl

theorem r_134_eq : kernelRun0_A.sl.r_134 c arg0 harg0 arg4 x0 = CALL (LAB x0) 44 := by
  simp only [kernelRun0_A.sl.r_134, r_131_eq, kernelRun0_A.sl.r_132, v1751_eq, v1758_eq, v1765_eq, v1772_eq]
  rfl

theorem r_137_eq : kernelRun0_A.sl.r_137 c arg0 harg0 arg4 x0 = HALL (LAB x0) 45 := by
  simp only [kernelRun0_A.sl.r_137, r_133_eq, kernelRun0_A.sl.r_135, v1784_eq, kernelRun0_A.sl.r_136, v1791_eq, v1798_eq, v1805_eq]
  rfl

theorem r_138_eq : kernelRun0_A.sl.r_138 c arg0 harg0 arg4 x0 = CALL (LAB x0) 45 := by
  simp only [kernelRun0_A.sl.r_138, r_134_eq, kernelRun0_A.sl.r_135, v1784_eq, kernelRun0_A.sl.r_136, v1791_eq, v1798_eq, v1805_eq]
  rfl

theorem r_142_eq : kernelRun0_A.sl.r_142 c arg0 harg0 arg4 x0 = HALL (LAB x0) 47 := by
  simp only [kernelRun0_A.sl.r_142, r_137_eq, kernelRun0_A.sl.r_139, v1817_eq, kernelRun0_A.sl.r_140, v1824_eq, kernelRun0_A.sl.r_141, v1831_eq, v1838_eq, v1850_eq, v1857_eq, v1864_eq, v1871_eq]
  rfl

theorem r_143_eq : kernelRun0_A.sl.r_143 c arg0 harg0 arg4 x0 = CALL (LAB x0) 47 := by
  simp only [kernelRun0_A.sl.r_143, r_138_eq, kernelRun0_A.sl.r_139, v1817_eq, kernelRun0_A.sl.r_140, v1824_eq, kernelRun0_A.sl.r_141, v1831_eq, v1838_eq, v1850_eq, v1857_eq, v1864_eq, v1871_eq]
  rfl

theorem r_144_eq : kernelRun0_A.sl.r_144 c arg0 harg0 arg4 x0 = CALL (LAB x0) 48 := by
  simp only [kernelRun0_A.sl.r_144, r_143_eq, v1883_eq, v1890_eq, v1897_eq, v1904_eq]
  rfl

end Cert.MiMask

end
-- ==== Proof.Math.lean ====
/- The mathematics of the claim: the mutual information of two labelled columns of 48 samples, as a sum over the joint
   table, equals the entropy form over the samples. -/
module

public import Idealize.ShloMosaic.PureOps
public import Idealize.ShloMosaic.PureOps.Ideal.Laws
public import Mathlib.Analysis.SpecialFunctions.Log.Basic

@[expose] public section

noncomputable section

namespace Cert.MiMask

open Idealize.ShloMosaic

/-- How many of the samples `i` have the label pair `(a, b)`. -/
def joint {n k : ℕ} (u v : Fin n → Fin k) (a b : Fin k) : ℕ := (Finset.univ.filter fun i => u i = a ∧ v i = b).card

/-- How many of the samples have the label `a`. -/
def marg {n k : ℕ} (u : Fin n → Fin k) (a : Fin k) : ℕ := (Finset.univ.filter fun i => u i = a).card

/-- The mutual information of a joint distribution, over the extended reals, with the empty cells left out. -/
def miOf {k : ℕ} (p : Fin k → Fin k → EReal) : EReal :=
  ∑ a, ∑ b, if 0 < p a b then
    p a b * (Ideal.log (if 0 < p a b then p a b else 1)
      - Ideal.log (if 0 < (∑ b', p a b') * (∑ a', p a' b) then (∑ b', p a b') * (∑ a', p a' b) else 1)) else 0

/-- The mutual information of a real joint distribution. -/
def miR {k : ℕ} (p : Fin k → Fin k → ℝ) : ℝ :=
  ∑ a, ∑ b, if 0 < p a b then
    p a b * (Real.log (p a b) - Real.log ((∑ b', p a b') * (∑ a', p a' b))) else 0

theorem coe_sum {ι : Type} (s : Finset ι) (f : ι → ℝ) : ((∑ i ∈ s, f i : ℝ) : EReal) = ∑ i ∈ s, (f i : EReal) :=
  map_sum (⟨⟨((↑) : ℝ → EReal), rfl⟩, fun _ _ => EReal.coe_add _ _⟩ : ℝ →+ EReal) f s

theorem log_pos {r : ℝ} (h : 0 < r) : Ideal.log (r : EReal) = (Real.log r : EReal) := by
  rw [Ideal.log_coe, if_neg (not_le.mpr h)]

theorem div_real {x y : ℝ} (h : y ≠ 0) : Ideal.div (x : EReal) (y : EReal) = ((x / y : ℝ) : EReal) := by
  rw [Ideal.div_coe h, ← EReal.coe_mul, mul_one_div]

theorem miOf_coe {k : ℕ} (p : Fin k → Fin k → ℝ) (hp : ∀ a b, 0 ≤ p a b) :
    miOf (fun a b => (p a b : EReal)) = (miR p : EReal) := by
  unfold miOf miR
  rw [coe_sum]
  refine Finset.sum_congr rfl fun a _ => ?_
  rw [coe_sum]
  refine Finset.sum_congr rfl fun b _ => ?_
  rw [← coe_sum, ← coe_sum, ← EReal.coe_mul]
  by_cases h : 0 < p a b
  · have h1 : 0 < ∑ b', p a b' := lt_of_lt_of_le h (Finset.single_le_sum (f := fun b' => p a b') (fun b' _ => hp a b') (Finset.mem_univ b))
    have h2 : 0 < ∑ a', p a' b := lt_of_lt_of_le h (Finset.single_le_sum (f := fun a' => p a' b) (fun a' _ => hp a' b) (Finset.mem_univ a))
    have h3 := mul_pos h1 h2
    have e1 : (0 : EReal) < (p a b : EReal) := EReal.coe_pos.mpr h
    have e3 : (0 : EReal) < (((∑ b', p a b') * (∑ a', p a' b) : ℝ) : EReal) := EReal.coe_pos.mpr h3
    rw [if_pos e1, if_pos e1, if_pos e3, if_pos h, log_pos h, log_pos h3, ← EReal.coe_sub, ← EReal.coe_mul]
  · have e1 : ¬ (0 : EReal) < (p a b : EReal) := fun c => h (EReal.coe_pos.mp c)
    rw [if_neg e1, if_neg h, EReal.coe_zero]

theorem joint_row {n k : ℕ} (u v : Fin n → Fin k) (a : Fin k) : ∑ b, (joint u v a b : ℝ) = marg u a := by
  rw [← Nat.cast_sum]
  congr 1
  unfold joint marg
  rw [Finset.card_eq_sum_card_fiberwise (f := v) (t := Finset.univ) fun _ _ => Finset.mem_coe.mpr (Finset.mem_univ _)]
  refine Finset.sum_congr rfl fun b _ => ?_
  rw [Finset.filter_filter]

theorem joint_comm {n k : ℕ} (u v : Fin n → Fin k) (a b : Fin k) : joint u v a b = joint v u b a := by
  unfold joint
  simp only [and_comm]

theorem joint_col {n k : ℕ} (u v : Fin n → Fin k) (b : Fin k) : ∑ a, (joint u v a b : ℝ) = marg v b := by
  simp only [joint_comm u v]; exact joint_row v u b

theorem marg_sum {n k : ℕ} (u : Fin n → Fin k) : ∑ a, marg u a = n := by
  unfold marg
  rw [← Finset.card_eq_sum_card_fiberwise (f := u) (t := Finset.univ) fun _ _ => Finset.mem_coe.mpr (Finset.mem_univ _)]
  simp

/-- A sum over the samples, gathered by label pair. -/
theorem sum_pairs {n k : ℕ} (u v : Fin n → Fin k) (f : Fin k → Fin k → ℝ) :
    ∑ i, f (u i) (v i) = ∑ a, ∑ b, (joint u v a b : ℝ) * f a b := by
  have h := Finset.sum_fiberwise (Finset.univ : Finset (Fin n)) (fun i => (u i, v i)) (fun i => f (u i) (v i))
  rw [← h, Fintype.sum_prod_type]
  refine Finset.sum_congr rfl fun a _ => Finset.sum_congr rfl fun b _ => ?_
  have : ∀ i ∈ Finset.univ.filter (fun i => (u i, v i) = (a, b)), f (u i) (v i) = f a b := by
    intro i hi
    have := (Finset.mem_filter.mp hi).2
    simp only [Prod.mk.injEq] at this
    rw [this.1, this.2]
  rw [Finset.sum_congr rfl this, Finset.sum_const, nsmul_eq_mul]
  simp only [Prod.mk.injEq, joint]

/-- THE IDENTITY: the mutual information of `n` samples is `log n` and the mean over the samples of the log of the pair's
    count, less the two marginals' terms. -/
theorem miR_joint {n k : ℕ} (hn : 0 < n) (u v : Fin n → Fin k) :
    miR (fun a b => (joint u v a b : ℝ) / n)
      = Real.log n + (∑ i, Real.log (joint u v (u i) (v i)) - ∑ a, (marg u a : ℝ) * Real.log (marg u a)
          - ∑ b, (marg v b : ℝ) * Real.log (marg v b)) / n := by
  have hN : (0 : ℝ) < n := Nat.cast_pos.mpr hn
  have term : ∀ a b, (if 0 < (joint u v a b : ℝ) / n then
        (joint u v a b : ℝ) / n * (Real.log ((joint u v a b : ℝ) / n)
          - Real.log ((∑ b', (joint u v a b' : ℝ) / n) * (∑ a', (joint u v a' b : ℝ) / n))) else 0)
      = ((joint u v a b : ℝ) * Real.log (joint u v a b) + (joint u v a b : ℝ) * Real.log n
          - (joint u v a b : ℝ) * Real.log (marg u a) - (joint u v a b : ℝ) * Real.log (marg v b)) / n := by
    intro a b
    rw [← Finset.sum_div, ← Finset.sum_div, joint_row, joint_col]
    rcases Nat.eq_zero_or_pos (joint u v a b) with h | h
    · simp [h]
    · have hc : (0 : ℝ) < joint u v a b := Nat.cast_pos.mpr h
      have ha : (0 : ℝ) < marg u a := by
        rw [← joint_row u v a]
        exact lt_of_lt_of_le hc (Finset.single_le_sum (f := fun b' => (joint u v a b' : ℝ)) (fun _ _ => Nat.cast_nonneg _) (Finset.mem_univ b))
      have hb : (0 : ℝ) < marg v b := by
        rw [← joint_col u v b]
        exact lt_of_lt_of_le hc (Finset.single_le_sum (f := fun a' => (joint u v a' b : ℝ)) (fun _ _ => Nat.cast_nonneg _) (Finset.mem_univ a))
      rw [if_pos (div_pos hc hN), Real.log_div hc.ne' hN.ne', Real.log_mul (div_pos ha hN).ne' (div_pos hb hN).ne',
        Real.log_div ha.ne' hN.ne', Real.log_div hb.ne' hN.ne']
      field_simp
      ring
  unfold miR
  simp only [term]
  simp only [← Finset.sum_div, Finset.sum_sub_distrib, Finset.sum_add_distrib]
  rw [← sum_pairs u v (fun a b => Real.log (joint u v a b)), ← sum_pairs u v (fun _ _ => Real.log n),
    show ∑ a, ∑ b, (joint u v a b : ℝ) * Real.log (marg u a) = ∑ a, (marg u a : ℝ) * Real.log (marg u a) by
      refine Finset.sum_congr rfl fun a _ => ?_
      rw [← Finset.sum_mul, joint_row],
    show ∑ a, ∑ b, (joint u v a b : ℝ) * Real.log (marg v b) = ∑ b, (marg v b : ℝ) * Real.log (marg v b) by
      rw [Finset.sum_comm]
      refine Finset.sum_congr rfl fun b _ => ?_
      rw [← Finset.sum_mul, joint_col]]
  simp only [Finset.sum_const, Finset.card_univ, Fintype.card_fin, nsmul_eq_mul]
  field_simp
  ring

/-- The same when both labellings are one: `log n` less the mean marginal term. -/
theorem joint_self {n k : ℕ} (u : Fin n → Fin k) (i : Fin n) : joint u u (u i) (u i) = marg u (u i) := by
  simp [joint, marg]

theorem sum_marg {n k : ℕ} (u : Fin n → Fin k) (f : Fin k → ℝ) : ∑ i, f (u i) = ∑ a, (marg u a : ℝ) * f a := by
  rw [sum_pairs u u (fun a _ => f a)]
  refine Finset.sum_congr rfl fun a _ => ?_
  rw [← Finset.sum_mul, joint_row]

theorem miR_self {n k : ℕ} (hn : 0 < n) (u : Fin n → Fin k) :
    miR (fun a b => (joint u u a b : ℝ) / n)
      = Real.log n - (∑ a, (marg u a : ℝ) * Real.log (marg u a)) / n := by
  rw [miR_joint hn]
  simp only [joint_self]
  rw [sum_marg u (fun a => Real.log (marg u a))]
  ring

end Cert.MiMask

end
-- ==== Proof.Words.lean ====
/- Words and counts: one-hot words as numbers, sums of indicators, and folds of one-bit words. -/
module

public import proofs.«01_k».proof.Proof.Math
public import Idealize.ShloMosaic.Lib.Pointwise

@[expose] public section

noncomputable section

namespace Cert.MiMask

open Idealize.ShloMosaic

/-- A natural number as an extended real. -/
def nat (n : ℕ) : EReal := ((n : ℝ) : EReal)

theorem nat_add (a b : ℕ) : nat (a + b) = nat a + nat b := by simp [nat, EReal.coe_add]

theorem nat_zero : nat 0 = 0 := by simp [nat]

theorem nat_ite (P : Prop) [Decidable P] : nat (if P then 1 else 0) = if P then 1 else 0 := by
  split <;> simp [nat]

theorem sum_ind {ι : Type} [Fintype ι] (P : ι → Prop) [DecidablePred P] :
    (∑ i, if P i then (1 : EReal) else 0) = nat (Finset.univ.filter P).card := by
  have h : ∀ i, (if P i then (1 : EReal) else 0) = ((if P i then 1 else 0 : ℝ) : EReal) := fun i => by
    split <;> simp
  simp only [h, ← coe_sum, nat, Finset.sum_boole]

theorem word_inj {n : ℕ} (a b : Fin n) (hn : n ≤ 2 ^ 32) : BitVec.ofNat 32 a.val = BitVec.ofNat 32 b.val ↔ a = b := by
  constructor
  · intro h
    have := congrArg BitVec.toNat h
    simp only [BitVec.toNat_ofNat] at this
    rw [Nat.mod_eq_of_lt (by omega), Nat.mod_eq_of_lt (by omega)] at this
    exact Fin.ext this
  · rintro rfl; rfl

/-- The widened bit of a comparison for equality. -/
theorem bit_eq {w : ℕ} (x y : BitVec w) :
    BitVec.setWidth 32 (IntOp.cmpi CmpIPredicate.eq x y) = BitVec.ofNat 32 (if x = y then 1 else 0) := by
  by_cases h : x = y
  · subst h; simp [IntOp.cmpi]
  · have : (x == y) = false := by simpa using h
    simp [IntOp.cmpi, h, this]

/-- The number a small word stands for. -/
theorem sitofp_nat (n : ℕ) (hn : n < 2 ^ 31) :
    FloatOps.sitofp (F := Ideal) FTy.f32 (BitVec.ofNat 32 n) = nat n := by
  have h : (BitVec.ofNat 32 n).toInt = n := by
    rw [BitVec.toInt_eq_toNat_of_lt (by rw [BitVec.toNat_ofNat]; omega), BitVec.toNat_ofNat, Nat.mod_eq_of_lt (by omega)]
  show (((BitVec.ofNat 32 n).toInt : ℝ) : EReal) = nat n
  rw [h]; simp [nat]

theorem sitofp_bit {w : ℕ} (x y : BitVec w) :
    FloatOps.sitofp (F := Ideal) FTy.f32 (BitVec.setWidth 32 (IntOp.cmpi CmpIPredicate.eq x y)) = if x = y then 1 else 0 := by
  rw [bit_eq, sitofp_nat _ (by split <;> decide), nat_ite]

/-- A fold of indicator words is the word of the count. -/
theorem fold_bits {ι : Type} [DecidableEq ι] (s : Finset ι) (P : ι → Prop) [DecidablePred P] :
    s.fold IntOp.addi (0#32) (fun i => BitVec.ofNat 32 (if P i then 1 else 0)) = BitVec.ofNat 32 (s.filter P).card := by
  induction s using Finset.induction_on with
  | empty => simp
  | insert a s ha ih =>
    rw [Finset.fold_insert ha, ih, Finset.filter_insert]
    by_cases h : P a
    · rw [if_pos h, if_pos h, Finset.card_insert_of_notMem (by simp [ha]), Nat.add_comm, BitVec.ofNat_add]; rfl
    · rw [if_neg h, if_neg h]; simp [IntOp.addi]

end Cert.MiMask

end
-- ==== Proof.Consts.lean ====
/- The literal constants of the two programs as extended reals. -/
module

public import Idealize.ShloMosaic.Lib.Pointwise

@[expose] public section

namespace Cert.MiMask

open Idealize.ShloMosaic

theorem lit_48 : Ideal.ofBits .f32 0x42400000#32 = ((48 : ℝ) : EReal) := by
  simp [Ideal.ofBits, Ideal.ieee, -EReal.coe_mul]; norm_num

theorem lit_49152 : Ideal.ofBits .f32 0x47400000#32 = ((49152 : ℝ) : EReal) := by
  simp [Ideal.ofBits, Ideal.ieee, -EReal.coe_mul]; norm_num

theorem lit_16 : Ideal.ofBits .f32 0x41800000#32 = ((16 : ℝ) : EReal) := by
  simp [Ideal.ofBits, Ideal.ieee, -EReal.coe_mul]; norm_num

theorem lit_neg17 : Ideal.ofBits .f32 0xC1880000#32 = ((-17 : ℝ) : EReal) := by
  simp [Ideal.ofBits, Ideal.ieee, -EReal.coe_mul]; norm_num

end Cert.MiMask
-- ==== Proof.Spec.lean ====
/- The quantities both programs compute, as functions of the labels: the entropy of a position, the global mutual
   information of a frame, and the masking probability. -/
module

public import proofs.«01_k».proof.Proof.Words
public import proofs.«01_k».proof.Proof.Consts

@[expose] public section

noncomputable section

namespace Cert.MiMask

open Idealize.ShloMosaic

/-- All samples and positions of a frame in one row. -/
def flat (f : Fin 48 → Fin 1024 → Fin 32) (s : Fin 49152) : Fin 32 :=
  f ⟨s.val / 1024, by omega⟩ ⟨s.val % 1024, by omega⟩

theorem flat_joint (f g : Fin 48 → Fin 1024 → Fin 32) (a b : Fin 32) :
    (∑ i, (Finset.univ.filter fun p => f i p = a ∧ g i p = b).card) = joint (flat f) (flat g) a b := by
  have e : (Finset.univ.filter fun s => flat f s = a ∧ flat g s = b).card
      = (Finset.univ.filter fun x : Fin 48 × Fin 1024 => f x.1 x.2 = a ∧ g x.1 x.2 = b).card := by
    refine (Finset.card_bij' (fun x _ => (⟨x.1.val * 1024 + x.2.val, by omega⟩ : Fin 49152))
      (fun s _ => ((⟨s.val / 1024, by omega⟩ : Fin 48), (⟨s.val % 1024, by omega⟩ : Fin 1024))) ?_ ?_ ?_ ?_).symm
    · rintro ⟨i, p⟩ h
      simp only [Finset.mem_filter, Finset.mem_univ, true_and] at h ⊢
      have h1 : (⟨(i.val * 1024 + p.val) / 1024, by omega⟩ : Fin 48) = i := Fin.ext (by show _ / _ = _; omega)
      have h2 : (⟨(i.val * 1024 + p.val) % 1024, by omega⟩ : Fin 1024) = p := Fin.ext (by show _ % _ = _; omega)
      unfold flat
      rw [h1, h2]; exact h
    · intro s h
      simp only [Finset.mem_filter, Finset.mem_univ, true_and] at h ⊢
      exact h
    · rintro ⟨i, p⟩ h
      refine Prod.ext (Fin.ext ?_) (Fin.ext ?_)
      · show (i.val * 1024 + p.val) / 1024 = i.val; omega
      · show (i.val * 1024 + p.val) % 1024 = p.val; omega
    · intro s h
      apply Fin.ext
      show s.val / 1024 * 1024 + s.val % 1024 = s.val
      omega
  unfold joint
  rw [e]
  simp only [Finset.card_filter]
  rw [Fintype.sum_prod_type]

/-- The labels of all samples in frame `t` at position `p`. -/
def col (L : Fin 4 → Fin 48 → Fin 1024 → Fin 32) (t : Fin 4) (p : Fin 1024) : Fin 48 → Fin 32 := fun i => L t i p

/-- The sum of `m log m` over the label counts of one frame at one position. -/
def marginal {n k : ℕ} (u : Fin n → Fin k) : ℝ := ∑ a, (marg u a : ℝ) * Real.log (marg u a)

/-- The sum over the samples of the logarithm of how many samples share both labels. -/
def pairs {n k : ℕ} (u v : Fin n → Fin k) : ℝ := ∑ i, Real.log (joint u v (u i) (v i))

/-- The mutual information at position `p` of the labels of frame 0 and of frame `t`. -/
def ele (L : Fin 4 → Fin 48 → Fin 1024 → Fin 32) (t : Fin 4) (p : Fin 1024) : EReal :=
  ((miR (fun a b => (joint (col L 0 p) (col L t p) a b : ℝ) / (48 : ℕ)) : ℝ) : EReal)

/-- The mutual information of frame 0 and frame `t` over all samples and positions. -/
def glob (L : Fin 4 → Fin 48 → Fin 1024 → Fin 32) (t : Fin 4) : EReal :=
  miOf fun a b => Ideal.div (nat (joint (flat (L 0)) (flat (L t)) a b)) ((49152 : ℝ) : EReal)

/-- The masking probability of frame `t` at position `p`, cut to the unit interval. -/
def prob (L : Fin 4 → Fin 48 → Fin 1024 → Fin 32) (pro : EReal) (t : Fin 4) (p : Fin 1024) : EReal :=
  min 1 (max 0 (Ideal.div (ele L t p * glob L t) (ele L 0 p * glob L 0) * pro))

theorem ele_zero (L : Fin 4 → Fin 48 → Fin 1024 → Fin 32) (p : Fin 1024) :
    ele L 0 p = Ideal.log ((48 : ℝ) : EReal) - Ideal.div (marginal (col L 0 p) : EReal) ((48 : ℝ) : EReal) := by
  unfold ele
  rw [miR_self (by norm_num), log_pos (by norm_num), div_real (by norm_num), ← EReal.coe_sub]
  norm_num [marginal]

theorem ele_pairs (L : Fin 4 → Fin 48 → Fin 1024 → Fin 32) (t : Fin 4) (p : Fin 1024) :
    ele L t p = Ideal.log ((48 : ℝ) : EReal) + Ideal.div ((pairs (col L 0 p) (col L t p) : EReal)
      - (marginal (col L 0 p) : EReal) - (marginal (col L t p) : EReal)) ((48 : ℝ) : EReal) := by
  unfold ele
  rw [miR_joint (by norm_num), log_pos (by norm_num), ← EReal.coe_sub, ← EReal.coe_sub, div_real (by norm_num), ← EReal.coe_add]
  norm_num [marginal, pairs]

/-- One term of `marginal`. -/
theorem xlog (m : ℕ) : nat m * Ideal.log (max (nat m) 1) = (((m : ℝ) * Real.log m : ℝ) : EReal) := by
  rcases Nat.eq_zero_or_pos m with rfl | h
  · simp [nat_zero]
  · have h1 : (1 : ℝ) ≤ m := by exact_mod_cast h
    have e : max (nat m) 1 = nat m := max_eq_left (by unfold nat; exact_mod_cast h1)
    rw [e, nat, log_pos (by linarith), ← EReal.coe_mul]

theorem sum_xlog {n k : ℕ} (u : Fin n → Fin k) :
    (∑ a, nat (marg u a) * Ideal.log (max (nat (marg u a)) 1)) = (marginal u : EReal) := by
  simp only [xlog, marginal, coe_sum]

theorem sum_pairs_log {n k : ℕ} (u v : Fin n → Fin k) :
    (∑ i, Ideal.log (nat (joint u v (u i) (v i)))) = (pairs u v : EReal) := by
  unfold pairs
  rw [coe_sum]
  refine Finset.sum_congr rfl fun i _ => ?_
  refine log_pos ?_
  have : 0 < joint u v (u i) (v i) := Finset.card_pos.mpr ⟨i, by simp⟩
  exact_mod_cast this

theorem joint_le {n k : ℕ} (u v : Fin n → Fin k) (a b : Fin k) : joint u v a b ≤ n :=
  (Finset.card_le_univ _).trans (by simp)

theorem marg_le {n k : ℕ} (u : Fin n → Fin k) (a : Fin k) : marg u a ≤ n :=
  (Finset.card_le_univ _).trans (by simp)

end Cert.MiMask

end
-- ==== Proof.Counts.lean ====
/- The counts at an index: one-hot rows, position-wise counts and joint counts as natural numbers. -/
module

public import proofs.«01_k».proof.Proof.Hall
public import proofs.«01_k».proof.Proof.Spec

@[expose] public section

set_option maxRecDepth 16384

noncomputable section

namespace Cert.MiMask

open Idealize.ShloMosaic Cert.KernelIdeal Cert.KernelIdeal.Gen

/-- The words of `lab` are the labels `L`: frame, sample, position. -/
def Reads (lab : IVec S4x48x1024 32) (L : Fin 4 → Fin 48 → Fin 1024 → Fin 32) : Prop :=
  ∀ t i p, lab (ix3 t i p) = BitVec.ofNat 32 (L t i p).val

theorem onehot_apply (row : IVec S1x1x1024 32) (a : Fin 32) (p : Fin 1024) :
    onehot row (ix2 a p) = if row (ix3 0 0 p) = BitVec.ofNat 32 a.val then 1 else 0 := by
  unfold onehot
  pointwise
  exact sitofp_bit _ _

theorem ohs_row (lab : IVec S4x48x1024 32) (i : ℕ) (t : Fin 4) (a : Fin 32) (p : Fin 1024) (q : Fin 128)
    (hq : q.val = 32 * t.val + a.val) : ohs lab i (ix2 q p) = onehot (rowOf lab t.val i) (ix2 a p) := by
  have hq' : q = ⟨32 * t.val + a.val, by omega⟩ := Fin.ext hq
  rw [hq']
  unfold ohs
  pointwise
  have ha := a.isLt
  fin_cases t
  · rw [dif_pos (by show 32 * 0 + a.val < 32; omega)]
    congr 2; apply Fin.ext; show 32 * 0 + a.val = a.val; omega
  · rw [dif_neg (by show ¬ 32 * 1 + a.val < 32; omega), dif_pos (by show 32 * 1 + a.val - 32 < 32; omega)]
    congr 2; apply Fin.ext; show 32 * 1 + a.val - 32 = a.val; omega
  · rw [dif_neg (by show ¬ 32 * 2 + a.val < 32; omega), dif_neg (by show ¬ 32 * 2 + a.val - 32 < 32; omega),
      dif_pos (by show 32 * 2 + a.val - 32 - 32 < 32; omega)]
    congr 2; apply Fin.ext; show 32 * 2 + a.val - 32 - 32 = a.val; omega
  · rw [dif_neg (by show ¬ 32 * 3 + a.val < 32; omega), dif_neg (by show ¬ 32 * 3 + a.val - 32 < 32; omega),
      dif_neg (by show ¬ 32 * 3 + a.val - 32 - 32 < 32; omega)]
    congr 2; apply Fin.ext; show 32 * 3 + a.val - 32 - 32 - 32 = a.val; omega

variable {lab : IVec S4x48x1024 32} {L : Fin 4 → Fin 48 → Fin 1024 → Fin 32} (hL : Reads lab L)
include hL

theorem ohs_apply (i : ℕ) (t : Fin 4) (a : Fin 32) (p : Fin 1024) (q : Fin 128) (hq : q.val = 32 * t.val + a.val) :
    ohs lab i (ix2 q p) = if L t (Fin.ofNat 48 i) p = a then 1 else 0 := by
  rw [ohs_row lab i t a p q hq, onehot_apply]
  have h : rowOf lab t.val i (ix3 0 0 p) = BitVec.ofNat 32 (L t (Fin.ofNat 48 i) p).val := by
    unfold rowOf
    rw [show Fin.ofNat 4 t.val = t from Fin.ext (Nat.mod_eq_of_lt t.isLt)]
    exact hL t _ p
  simp only [h, word_inj _ _ (by norm_num : 32 ≤ 2 ^ 32)]

theorem HALL_apply (n : ℕ) (t : Fin 4) (a : Fin 32) (p : Fin 1024) (q : Fin 128) (hq : q.val = 32 * t.val + a.val) :
    HALL lab n (ix2 q p) = nat (∑ i ∈ Finset.range n, if L t (Fin.ofNat 48 i) p = a then 1 else 0) := by
  induction n with
  | zero =>
    unfold HALL
    pointwise [k0_pay75]
    simp [nat_zero]
  | succ n ih =>
    rw [Finset.sum_range_succ, nat_add, nat_ite, ← ih, ← ohs_apply hL n t a p q hq]
    rfl

theorem CALL_apply (n : ℕ) (t : Fin 4) (a b : Fin 32) (q : Fin 128) (hq : q.val = 32 * t.val + b.val) :
    CALL lab n (ix2 a q) = nat (∑ i ∈ Finset.range n,
      (Finset.univ.filter fun p => L 0 (Fin.ofNat 48 i) p = a ∧ L t (Fin.ofNat 48 i) p = b).card) := by
  induction n with
  | zero =>
    unfold CALL
    pointwise [k0_pay74]
    simp [nat_zero]
  | succ n ih =>
    rw [Finset.sum_range_succ, nat_add, ← ih, ← sum_ind]
    have e : CALL lab (n + 1) (ix2 a q) = CALL lab n (ix2 a q) + ∑ x, ohs lab n (ix2 ⟨a.val, by omega⟩ x) * ohs lab n (ix2 q x) := by
      show addf (CALL lab n) _ (ix2 a q) = _
      pointwise
    rw [e]
    refine congrArg (fun z => CALL lab n (ix2 a q) + z) ?_
    refine Finset.sum_congr rfl fun p _ => ?_
    rw [ohs_apply hL n t b p q hq, ohs_apply hL n 0 a p _ (by show a.val = 32 * 0 + a.val; omega)]
    generalize L 0 (Fin.ofNat 48 n) p = x
    generalize L t (Fin.ofNat 48 n) p = y
    by_cases h1 : x = a <;> by_cases h2 : y = b <;> simp [h1, h2]

theorem HALL_48 (t : Fin 4) (a : Fin 32) (p : Fin 1024) (q : Fin 128) (hq : q.val = 32 * t.val + a.val) :
    HALL lab 48 (ix2 q p) = nat (marg (fun i => L t i p) a) := by
  rw [HALL_apply hL 48 t a p q hq, marg, Finset.card_filter, ← Fin.sum_univ_eq_sum_range
    (fun i => if L t (Fin.ofNat 48 i) p = a then 1 else 0) 48]
  refine congrArg nat (Finset.sum_congr rfl fun i _ => ?_)
  rw [show Fin.ofNat 48 i.val = i from Fin.ext (Nat.mod_eq_of_lt i.isLt)]

theorem CALL_48 (t : Fin 4) (a b : Fin 32) (q : Fin 128) (hq : q.val = 32 * t.val + b.val) :
    CALL lab 48 (ix2 a q) = nat (joint (flat (L 0)) (flat (L t)) a b) := by
  rw [CALL_apply hL 48 t a b q hq, ← flat_joint, ← Fin.sum_univ_eq_sum_range
    (fun i => (Finset.univ.filter fun p => L 0 (Fin.ofNat 48 i) p = a ∧ L t (Fin.ofNat 48 i) p = b).card) 48]
  refine congrArg nat (Finset.sum_congr rfl fun i _ => ?_)
  rw [show Fin.ofNat 48 i.val = i from Fin.ext (Nat.mod_eq_of_lt i.isLt)]

end Cert.MiMask

end
-- ==== Proof.Loops.lean ====
/- The twelve counting loops: after its 48 trips each holds, at every sample and position, how many samples have the same word there. -/
module

public import proofs.«01_k».proof.Proof.Labels
public import proofs.«01_k».proof.Proof.Words

@[expose] public section

set_option maxRecDepth 16384

noncomputable section

namespace Cert.MiMask

open Idealize.ShloMosaic Cert.KernelIdeal Cert.KernelIdeal.Gen

/-- Position `q` of the chunk `j` of 256 positions. -/
def pos (j : Fin 4) (q : Fin 256) : Fin 1024 := ⟨256 * j.val + q.val, by omega⟩

/-- How many samples have, at position `q` of chunk `j`, the word that sample `i` has. -/
def counts (E : IVec S48x1024 32) (j : Fin 4) : IVec S48x256 32 := fun y =>
  BitVec.ofNat 32 (Finset.univ.filter fun k : Fin 48 => E (ix2 (y 0) (pos j (y 1))) = E (ix2 k (pos j (y 1)))).card

theorem count_loop (E : IVec S48x1024 32) (j : Fin 4) (st : ℕ → IVec S48x256 32) (v : Vec Ideal S48x256 .i32)
    (hv : ∀ i q, v (ix2 i q) = E (ix2 i (pos j q))) (h0 : st 0 = fun _ => 0#32)
    (hs : ∀ k (hk : k < 48), ∃ row : Vec Ideal S1x256 .i32,
      (∀ q : Fin 256, row (ix2 0 q) = E (ix2 ⟨k, hk⟩ (pos j q))) ∧ st (k + 1) = k0_pay291 (F := Ideal) v (st k) row) :
    st 48 = counts E j := by
  have key : ∀ n, n ≤ 48 → ∀ (i : Fin 48) (q : Fin 256), st n (ix2 i q) = BitVec.ofNat 32
      (∑ k ∈ Finset.range n, if E (ix2 i (pos j q)) = E (ix2 (Fin.ofNat 48 k) (pos j q)) then 1 else 0) := by
    intro n
    induction n with
    | zero => intro _ i q; rw [h0]; simp
    | succ n ih =>
      intro hn i q
      obtain ⟨row, hrow, hst⟩ := hs n (by omega)
      have e : st (n + 1) (ix2 i q) = IntOp.addi (st n (ix2 i q)) (BitVec.setWidth 32 (IntOp.cmpi CmpIPredicate.eq (v (ix2 i q)) (row (ix2 0 q)))) := by
        rw [hst]
        pointwise [k0_pay291]
      rw [e, hrow q, hv i q, bit_eq, ih (by omega), Finset.sum_range_succ, BitVec.ofNat_add]
      have hn' : (Fin.ofNat 48 n) = ⟨n, by omega⟩ := Fin.ext (Nat.mod_eq_of_lt (by omega))
      rw [hn']
      rfl
  funext y
  change S48x256.Idx at y
  idx_vars y
  rw [key 48 le_rfl y0 y1]
  unfold counts
  refine congrArg (BitVec.ofNat 32) ?_
  rw [Finset.card_filter, ← Fin.sum_univ_eq_sum_range
    (fun k => if E (ix2 y0 (pos j y1)) = E (ix2 (Fin.ofNat 48 k) (pos j y1)) then 1 else 0) 48]
  refine Finset.sum_congr rfl fun k _ => ?_
  rw [show Fin.ofNat 48 k.val = k from Fin.ext (Nat.mod_eq_of_lt k.isLt)]
  rfl

/-- A row of a chunk read out of the scratch that holds `E`. -/
theorem chunk_row (E : IVec S48x1024 32) (j : Fin 4) (k : ℕ) (hk : k < 48) (off : Fin 2 → ℕ) (hoff : off = ![k, 256 * j.val])
    (inb : ∀ a, off a + S1x256.size a ≤ S48x1024.size a) (q : Fin 256) :
    E ((Rect.unit (s := S48x1024) off S1x256.size inb).toLoadRect.idx (ix2 0 q)) = E (ix2 ⟨k, hk⟩ (pos j q)) := by
  subst hoff
  refine congrArg E ?_
  funext a; apply Fin.ext; fin_cases a
  · show k + 1 * 0 = k; omega
  · show 256 * j.val + 1 * q.val = 256 * j.val + q.val; omega

/-- A whole chunk read out of the scratch that holds `E`. -/
theorem chunk_all (E : IVec S48x1024 32) (j : Fin 4) (off : Fin 2 → ℕ) (hoff : off = ![0, 256 * j.val])
    (inb : ∀ a, off a + S48x256.size a ≤ S48x1024.size a) (i : Fin 48) (q : Fin 256) :
    E ((Rect.unit (s := S48x1024) off S48x256.size inb).toLoadRect.idx (ix2 i q)) = E (ix2 i (pos j q)) := by
  subst hoff
  refine congrArg E ?_
  funext a; apply Fin.ext; fin_cases a
  · show 0 + 1 * i.val = i.val; omega
  · show 256 * j.val + 1 * q.val = 256 * j.val + q.val; omega

variable (𝒱 : Variants) (c : Dev nD) (bd : Option 𝒱.V) (arg0 : Memref sig .tc .vmem S16x4x3x1024 .f32) (harg0 : arg0.IsWhole) (arg1 : Memref sig .tc .vmem S16x4x3x1024 .f32) (harg1 : arg1.IsWhole) (arg2 : Memref sig .tc .vmem S1x1 .f32) (harg2 : arg2.IsWhole) (arg3 : Memref sig .tc .vmem S16x4x3x1024 .f32) (harg3 : arg3.IsWhole) (arg4 : Memref sig .tc .vmem S4x48x1024 .i32) (harg4 : arg4.IsWhole) (arg5 : Memref sig .tc .vmem S48x1024 .i32) (harg5 : arg5.IsWhole)

theorem count_t1 (v2054 : IVec S48x1024 32) (v2059 : FVec Ideal S1x1024 .f32) (v2060 : FVec Ideal S1x1024 .f32) (v2073 : Vec Ideal S48x256 .i32) (X : BufTy.Contents (Elt Ideal) arg5.view.ty) (E : IVec S48x1024 32)
    (hv : ∀ i q, v2073 (ix2 i q) = E (ix2 i (pos 0 q)))
    (hX : ∀ B : LoadRect S48x1024, View.readAt (Elt Ideal) arg5.view B X = fun y => E (B.idx y)) :
    st_k0_t1 (F := Ideal) 𝒱 c bd arg0 harg0 arg1 harg1 arg2 harg2 arg3 harg3 arg4 harg4 arg5 harg5 v2054 v2059 v2060 v2073 X k0_pay290
      (Scf.trips k0_t1_loop.lb k0_t1_loop.ub k0_t1_loop.st) = counts E 0 := by
  have ht : k0_t1_loop.trips = 48 := by decide +kernel
  have ht' : Scf.trips k0_t1_loop.lb k0_t1_loop.ub k0_t1_loop.st = 48 := ht
  rw [ht']
  refine count_loop E 0 _ v2073 hv rfl fun k hk => ?_
  refine ⟨_, ?_, (st_k0_t1_succ (F := Ideal) 𝒱 c bd arg0 harg0 arg1 harg1 arg2 harg2 arg3 harg3 arg4 harg4 arg5 harg5 v2054 v2059 v2060 v2073 X k0_pay290 ⟨k, by omega⟩).trans (by
    unfold tripR_k0_t1 trip_k0_t1; rfl)⟩
  intro q
  rw [hX]
  exact chunk_row E 0 k hk _ (k0_off1_eq ⟨k, by omega⟩) _ q

theorem count_t2 (v2054 : IVec S48x1024 32) (v2059 : FVec Ideal S1x1024 .f32) (v2060 : FVec Ideal S1x1024 .f32) (v2081 : Vec Ideal S48x256 .i32) (X : BufTy.Contents (Elt Ideal) arg5.view.ty) (E : IVec S48x1024 32)
    (hv : ∀ i q, v2081 (ix2 i q) = E (ix2 i (pos 1 q)))
    (hX : ∀ B : LoadRect S48x1024, View.readAt (Elt Ideal) arg5.view B X = fun y => E (B.idx y)) :
    st_k0_t2 (F := Ideal) 𝒱 c bd arg0 harg0 arg1 harg1 arg2 harg2 arg3 harg3 arg4 harg4 arg5 harg5 v2054 v2059 v2060 v2081 X k0_pay293
      (Scf.trips k0_t2_loop.lb k0_t2_loop.ub k0_t2_loop.st) = counts E 1 := by
  have ht : k0_t2_loop.trips = 48 := by decide +kernel
  have ht' : Scf.trips k0_t2_loop.lb k0_t2_loop.ub k0_t2_loop.st = 48 := ht
  rw [ht']
  refine count_loop E 1 _ v2081 hv rfl fun k hk => ?_
  refine ⟨_, ?_, (st_k0_t2_succ (F := Ideal) 𝒱 c bd arg0 harg0 arg1 harg1 arg2 harg2 arg3 harg3 arg4 harg4 arg5 harg5 v2054 v2059 v2060 v2081 X k0_pay293 ⟨k, by omega⟩).trans (by
    unfold tripR_k0_t2 trip_k0_t2; rfl)⟩
  intro q
  rw [hX]
  exact chunk_row E 1 k hk _ (k0_off2_eq ⟨k, by omega⟩) _ q

theorem count_t3 (v1976 : Ideal .f32) (v2043 : FVec Ideal S1x1024 .f32) (v2046 : FVec Ideal S1x1024 .f32) (v2054 : IVec S48x1024 32) (v2055 : Ideal .f32) (v2061 : FVec Ideal S1x1024 .f32) (v2063 : Ideal .f32) (v2080 : FVec Ideal S1x256 .f32) (v2088 : FVec Ideal S1x256 .f32) (v2089 : Vec Ideal S48x256 .i32) (v2090 : IVec S48x256 32) (c0_i32_846 : BitVec 32) (X : BufTy.Contents (Elt Ideal) arg5.view.ty) (E : IVec S48x1024 32)
    (hv : ∀ i q, v2089 (ix2 i q) = E (ix2 i (pos 2 q)))
    (hX : ∀ B : LoadRect S48x1024, View.readAt (Elt Ideal) arg5.view B X = fun y => E (B.idx y)) :
    st_k0_t3 (F := Ideal) 𝒱 c bd arg0 harg0 arg1 harg1 arg2 harg2 arg3 harg3 arg4 harg4 arg5 harg5 v1976 v2043 v2046 v2054 v2055 v2061 v2063 v2080 v2088 v2089 v2090 c0_i32_846 X k0_pay296
      (Scf.trips k0_t3_loop.lb k0_t3_loop.ub k0_t3_loop.st) = counts E 2 := by
  have ht : k0_t3_loop.trips = 48 := by decide +kernel
  have ht' : Scf.trips k0_t3_loop.lb k0_t3_loop.ub k0_t3_loop.st = 48 := ht
  rw [ht']
  refine count_loop E 2 _ v2089 hv rfl fun k hk => ?_
  refine ⟨_, ?_, (st_k0_t3_succ (F := Ideal) 𝒱 c bd arg0 harg0 arg1 harg1 arg2 harg2 arg3 harg3 arg4 harg4 arg5 harg5 v1976 v2043 v2046 v2054 v2055 v2061 v2063 v2080 v2088 v2089 v2090 c0_i32_846 X k0_pay296 ⟨k, by omega⟩).trans (by
    unfold tripR_k0_t3 trip_k0_t3; rfl)⟩
  intro q
  rw [hX]
  exact chunk_row E 2 k hk _ (k0_off3_eq ⟨k, by omega⟩) _ q

theorem count_t4 (v1976 : Ideal .f32) (v2043 : FVec Ideal S1x1024 .f32) (v2046 : FVec Ideal S1x1024 .f32) (v2054 : IVec S48x1024 32) (v2055 : Ideal .f32) (v2061 : FVec Ideal S1x1024 .f32) (v2063 : Ideal .f32) (v2080 : FVec Ideal S1x256 .f32) (v2088 : FVec Ideal S1x256 .f32) (v2089 : Vec Ideal S48x256 .i32) (v2090 : IVec S48x256 32) (c0_i32_846 : BitVec 32) (v2097 : Vec Ideal S48x256 .i32) (X : BufTy.Contents (Elt Ideal) arg5.view.ty) (E : IVec S48x1024 32)
    (hv : ∀ i q, v2097 (ix2 i q) = E (ix2 i (pos 3 q)))
    (hX : ∀ B : LoadRect S48x1024, View.readAt (Elt Ideal) arg5.view B X = fun y => E (B.idx y)) :
    st_k0_t4 (F := Ideal) 𝒱 c bd arg0 harg0 arg1 harg1 arg2 harg2 arg3 harg3 arg4 harg4 arg5 harg5 v1976 v2043 v2046 v2054 v2055 v2061 v2063 v2080 v2088 v2089 v2090 c0_i32_846 v2097 X k0_pay298
      (Scf.trips k0_t4_loop.lb k0_t4_loop.ub k0_t4_loop.st) = counts E 3 := by
  have ht : k0_t4_loop.trips = 48 := by decide +kernel
  have ht' : Scf.trips k0_t4_loop.lb k0_t4_loop.ub k0_t4_loop.st = 48 := ht
  rw [ht']
  refine count_loop E 3 _ v2097 hv rfl fun k hk => ?_
  refine ⟨_, ?_, (st_k0_t4_succ (F := Ideal) 𝒱 c bd arg0 harg0 arg1 harg1 arg2 harg2 arg3 harg3 arg4 harg4 arg5 harg5 v1976 v2043 v2046 v2054 v2055 v2061 v2063 v2080 v2088 v2089 v2090 c0_i32_846 v2097 X k0_pay298 ⟨k, by omega⟩).trans (by
    unfold tripR_k0_t4 trip_k0_t4; rfl)⟩
  intro q
  rw [hX]
  exact chunk_row E 3 k hk _ (k0_off4_eq ⟨k, by omega⟩) _ q

theorem count_t5 (v2129 : Vec Ideal S48x256 .i32) (X : BufTy.Contents (Elt Ideal) arg5.view.ty) (E : IVec S48x1024 32)
    (hv : ∀ i q, v2129 (ix2 i q) = E (ix2 i (pos 0 q)))
    (hX : ∀ B : LoadRect S48x1024, View.readAt (Elt Ideal) arg5.view B X = fun y => E (B.idx y)) :
    st_k0_t5 (F := Ideal) 𝒱 c bd arg0 harg0 arg1 harg1 arg2 harg2 arg3 harg3 arg4 harg4 arg5 harg5 v2129 X k0_pay302
      (Scf.trips k0_t5_loop.lb k0_t5_loop.ub k0_t5_loop.st) = counts E 0 := by
  have ht : k0_t5_loop.trips = 48 := by decide +kernel
  have ht' : Scf.trips k0_t5_loop.lb k0_t5_loop.ub k0_t5_loop.st = 48 := ht
  rw [ht']
  refine count_loop E 0 _ v2129 hv rfl fun k hk => ?_
  refine ⟨_, ?_, (st_k0_t5_succ (F := Ideal) 𝒱 c bd arg0 harg0 arg1 harg1 arg2 harg2 arg3 harg3 arg4 harg4 arg5 harg5 v2129 X k0_pay302 ⟨k, by omega⟩).trans (by
    unfold tripR_k0_t5 trip_k0_t5; rfl)⟩
  intro q
  rw [hX]
  exact chunk_row E 0 k hk _ (k0_off5_eq ⟨k, by omega⟩) _ q

theorem count_t6 (v2137 : Vec Ideal S48x256 .i32) (X : BufTy.Contents (Elt Ideal) arg5.view.ty) (E : IVec S48x1024 32)
    (hv : ∀ i q, v2137 (ix2 i q) = E (ix2 i (pos 1 q)))
    (hX : ∀ B : LoadRect S48x1024, View.readAt (Elt Ideal) arg5.view B X = fun y => E (B.idx y)) :
    st_k0_t6 (F := Ideal) 𝒱 c bd arg0 harg0 arg1 harg1 arg2 harg2 arg3 harg3 arg4 harg4 arg5 harg5 v2137 X k0_pay305
      (Scf.trips k0_t6_loop.lb k0_t6_loop.ub k0_t6_loop.st) = counts E 1 := by
  have ht : k0_t6_loop.trips = 48 := by decide +kernel
  have ht' : Scf.trips k0_t6_loop.lb k0_t6_loop.ub k0_t6_loop.st = 48 := ht
  rw [ht']
  refine count_loop E 1 _ v2137 hv rfl fun k hk => ?_
  refine ⟨_, ?_, (st_k0_t6_succ (F := Ideal) 𝒱 c bd arg0 harg0 arg1 harg1 arg2 harg2 arg3 harg3 arg4 harg4 arg5 harg5 v2137 X k0_pay305 ⟨k, by omega⟩).trans (by
    unfold tripR_k0_t6 trip_k0_t6; rfl)⟩
  intro q
  rw [hX]
  exact chunk_row E 1 k hk _ (k0_off6_eq ⟨k, by omega⟩) _ q

theorem count_t7 (v2145 : Vec Ideal S48x256 .i32) (X : BufTy.Contents (Elt Ideal) arg5.view.ty) (E : IVec S48x1024 32)
    (hv : ∀ i q, v2145 (ix2 i q) = E (ix2 i (pos 2 q)))
    (hX : ∀ B : LoadRect S48x1024, View.readAt (Elt Ideal) arg5.view B X = fun y => E (B.idx y)) :
    st_k0_t7 (F := Ideal) 𝒱 c bd arg0 harg0 arg1 harg1 arg2 harg2 arg3 harg3 arg4 harg4 arg5 harg5 v2145 X k0_pay308
      (Scf.trips k0_t7_loop.lb k0_t7_loop.ub k0_t7_loop.st) = counts E 2 := by
  have ht : k0_t7_loop.trips = 48 := by decide +kernel
  have ht' : Scf.trips k0_t7_loop.lb k0_t7_loop.ub k0_t7_loop.st = 48 := ht
  rw [ht']
  refine count_loop E 2 _ v2145 hv rfl fun k hk => ?_
  refine ⟨_, ?_, (st_k0_t7_succ (F := Ideal) 𝒱 c bd arg0 harg0 arg1 harg1 arg2 harg2 arg3 harg3 arg4 harg4 arg5 harg5 v2145 X k0_pay308 ⟨k, by omega⟩).trans (by
    unfold tripR_k0_t7 trip_k0_t7; rfl)⟩
  intro q
  rw [hX]
  exact chunk_row E 2 k hk _ (k0_off7_eq ⟨k, by omega⟩) _ q

theorem count_t8 (v2153 : Vec Ideal S48x256 .i32) (X : BufTy.Contents (Elt Ideal) arg5.view.ty) (E : IVec S48x1024 32)
    (hv : ∀ i q, v2153 (ix2 i q) = E (ix2 i (pos 3 q)))
    (hX : ∀ B : LoadRect S48x1024, View.readAt (Elt Ideal) arg5.view B X = fun y => E (B.idx y)) :
    st_k0_t8 (F := Ideal) 𝒱 c bd arg0 harg0 arg1 harg1 arg2 harg2 arg3 harg3 arg4 harg4 arg5 harg5 v2153 X k0_pay311
      (Scf.trips k0_t8_loop.lb k0_t8_loop.ub k0_t8_loop.st) = counts E 3 := by
  have ht : k0_t8_loop.trips = 48 := by decide +kernel
  have ht' : Scf.trips k0_t8_loop.lb k0_t8_loop.ub k0_t8_loop.st = 48 := ht
  rw [ht']
  refine count_loop E 3 _ v2153 hv rfl fun k hk => ?_
  refine ⟨_, ?_, (st_k0_t8_succ (F := Ideal) 𝒱 c bd arg0 harg0 arg1 harg1 arg2 harg2 arg3 harg3 arg4 harg4 arg5 harg5 v2153 X k0_pay311 ⟨k, by omega⟩).trans (by
    unfold tripR_k0_t8 trip_k0_t8; rfl)⟩
  intro q
  rw [hX]
  exact chunk_row E 3 k hk _ (k0_off8_eq ⟨k, by omega⟩) _ q

theorem count_t9 (v2006 : Ideal .f32) (v2043 : FVec Ideal S1x1024 .f32) (v2049 : FVec Ideal S1x1024 .f32) (v2054 : IVec S48x1024 32) (v2055 : Ideal .f32) (v2061 : FVec Ideal S1x1024 .f32) (v2063 : Ideal .f32) (v2136 : FVec Ideal S1x256 .f32) (v2144 : FVec Ideal S1x256 .f32) (v2152 : FVec Ideal S1x256 .f32) (v2157 : FVec Ideal S48x256 .f32) (v2185 : Vec Ideal S48x256 .i32) (X : BufTy.Contents (Elt Ideal) arg5.view.ty) (E : IVec S48x1024 32)
    (hv : ∀ i q, v2185 (ix2 i q) = E (ix2 i (pos 0 q)))
    (hX : ∀ B : LoadRect S48x1024, View.readAt (Elt Ideal) arg5.view B X = fun y => E (B.idx y)) :
    st_k0_t9 (F := Ideal) 𝒱 c bd arg0 harg0 arg1 harg1 arg2 harg2 arg3 harg3 arg4 harg4 arg5 harg5 v2006 v2043 v2049 v2054 v2055 v2061 v2063 v2136 v2144 v2152 v2157 v2185 X k0_pay316
      (Scf.trips k0_t9_loop.lb k0_t9_loop.ub k0_t9_loop.st) = counts E 0 := by
  have ht : k0_t9_loop.trips = 48 := by decide +kernel
  have ht' : Scf.trips k0_t9_loop.lb k0_t9_loop.ub k0_t9_loop.st = 48 := ht
  rw [ht']
  refine count_loop E 0 _ v2185 hv rfl fun k hk => ?_
  refine ⟨_, ?_, (st_k0_t9_succ (F := Ideal) 𝒱 c bd arg0 harg0 arg1 harg1 arg2 harg2 arg3 harg3 arg4 harg4 arg5 harg5 v2006 v2043 v2049 v2054 v2055 v2061 v2063 v2136 v2144 v2152 v2157 v2185 X k0_pay316 ⟨k, by omega⟩).trans (by
    unfold tripR_k0_t9 trip_k0_t9; rfl)⟩
  intro q
  rw [hX]
  exact chunk_row E 0 k hk _ (k0_off9_eq ⟨k, by omega⟩) _ q

theorem count_t10 (v2036 : Ideal .f32) (v2043 : FVec Ideal S1x1024 .f32) (v2052 : FVec Ideal S1x1024 .f32) (v2055 : Ideal .f32) (v2061 : FVec Ideal S1x1024 .f32) (v2063 : Ideal .f32) (v2192 : FVec Ideal S1x256 .f32) (v2193 : Vec Ideal S48x256 .i32) (v2194 : IVec S48x256 32) (c0_i32_919 : BitVec 32) (X : BufTy.Contents (Elt Ideal) arg5.view.ty) (E : IVec S48x1024 32)
    (hv : ∀ i q, v2193 (ix2 i q) = E (ix2 i (pos 1 q)))
    (hX : ∀ B : LoadRect S48x1024, View.readAt (Elt Ideal) arg5.view B X = fun y => E (B.idx y)) :
    st_k0_t10 (F := Ideal) 𝒱 c bd arg0 harg0 arg1 harg1 arg2 harg2 arg3 harg3 arg4 harg4 arg5 harg5 v2036 v2043 v2052 v2055 v2061 v2063 v2192 v2193 v2194 c0_i32_919 X k0_pay319
      (Scf.trips k0_t10_loop.lb k0_t10_loop.ub k0_t10_loop.st) = counts E 1 := by
  have ht : k0_t10_loop.trips = 48 := by decide +kernel
  have ht' : Scf.trips k0_t10_loop.lb k0_t10_loop.ub k0_t10_loop.st = 48 := ht
  rw [ht']
  refine count_loop E 1 _ v2193 hv rfl fun k hk => ?_
  refine ⟨_, ?_, (st_k0_t10_succ (F := Ideal) 𝒱 c bd arg0 harg0 arg1 harg1 arg2 harg2 arg3 harg3 arg4 harg4 arg5 harg5 v2036 v2043 v2052 v2055 v2061 v2063 v2192 v2193 v2194 c0_i32_919 X k0_pay319 ⟨k, by omega⟩).trans (by
    unfold tripR_k0_t10 trip_k0_t10; rfl)⟩
  intro q
  rw [hX]
  exact chunk_row E 1 k hk _ (k0_off10_eq ⟨k, by omega⟩) _ q

theorem count_t11 (v2036 : Ideal .f32) (v2043 : FVec Ideal S1x1024 .f32) (v2052 : FVec Ideal S1x1024 .f32) (v2055 : Ideal .f32) (v2061 : FVec Ideal S1x1024 .f32) (v2063 : Ideal .f32) (v2192 : FVec Ideal S1x256 .f32) (v2193 : Vec Ideal S48x256 .i32) (v2194 : IVec S48x256 32) (c0_i32_919 : BitVec 32) (v2201 : Vec Ideal S48x256 .i32) (X : BufTy.Contents (Elt Ideal) arg5.view.ty) (E : IVec S48x1024 32)
    (hv : ∀ i q, v2201 (ix2 i q) = E (ix2 i (pos 2 q)))
    (hX : ∀ B : LoadRect S48x1024, View.readAt (Elt Ideal) arg5.view B X = fun y => E (B.idx y)) :
    st_k0_t11 (F := Ideal) 𝒱 c bd arg0 harg0 arg1 harg1 arg2 harg2 arg3 harg3 arg4 harg4 arg5 harg5 v2036 v2043 v2052 v2055 v2061 v2063 v2192 v2193 v2194 c0_i32_919 v2201 X k0_pay321
      (Scf.trips k0_t11_loop.lb k0_t11_loop.ub k0_t11_loop.st) = counts E 2 := by
  have ht : k0_t11_loop.trips = 48 := by decide +kernel
  have ht' : Scf.trips k0_t11_loop.lb k0_t11_loop.ub k0_t11_loop.st = 48 := ht
  rw [ht']
  refine count_loop E 2 _ v2201 hv rfl fun k hk => ?_
  refine ⟨_, ?_, (st_k0_t11_succ (F := Ideal) 𝒱 c bd arg0 harg0 arg1 harg1 arg2 harg2 arg3 harg3 arg4 harg4 arg5 harg5 v2036 v2043 v2052 v2055 v2061 v2063 v2192 v2193 v2194 c0_i32_919 v2201 X k0_pay321 ⟨k, by omega⟩).trans (by
    unfold tripR_k0_t11 trip_k0_t11; rfl)⟩
  intro q
  rw [hX]
  exact chunk_row E 2 k hk _ (k0_off11_eq ⟨k, by omega⟩) _ q

theorem count_t12 (v2036 : Ideal .f32) (v2043 : FVec Ideal S1x1024 .f32) (v2052 : FVec Ideal S1x1024 .f32) (v2055 : Ideal .f32) (v2061 : FVec Ideal S1x1024 .f32) (v2063 : Ideal .f32) (v2192 : FVec Ideal S1x256 .f32) (v2193 : Vec Ideal S48x256 .i32) (v2194 : IVec S48x256 32) (c0_i32_919 : BitVec 32) (v2209 : Vec Ideal S48x256 .i32) (X : BufTy.Contents (Elt Ideal) arg5.view.ty) (E : IVec S48x1024 32)
    (hv : ∀ i q, v2209 (ix2 i q) = E (ix2 i (pos 3 q)))
    (hX : ∀ B : LoadRect S48x1024, View.readAt (Elt Ideal) arg5.view B X = fun y => E (B.idx y)) :
    st_k0_t12 (F := Ideal) 𝒱 c bd arg0 harg0 arg1 harg1 arg2 harg2 arg3 harg3 arg4 harg4 arg5 harg5 v2036 v2043 v2052 v2055 v2061 v2063 v2192 v2193 v2194 c0_i32_919 v2209 X k0_pay323
      (Scf.trips k0_t12_loop.lb k0_t12_loop.ub k0_t12_loop.st) = counts E 3 := by
  have ht : k0_t12_loop.trips = 48 := by decide +kernel
  have ht' : Scf.trips k0_t12_loop.lb k0_t12_loop.ub k0_t12_loop.st = 48 := ht
  rw [ht']
  refine count_loop E 3 _ v2209 hv rfl fun k hk => ?_
  refine ⟨_, ?_, (st_k0_t12_succ (F := Ideal) 𝒱 c bd arg0 harg0 arg1 harg1 arg2 harg2 arg3 harg3 arg4 harg4 arg5 harg5 v2036 v2043 v2052 v2055 v2061 v2063 v2192 v2193 v2194 c0_i32_919 v2209 X k0_pay323 ⟨k, by omega⟩).trans (by
    unfold tripR_k0_t12 trip_k0_t12; rfl)⟩
  intro q
  rw [hX]
  exact chunk_row E 3 k hk _ (k0_off12_eq ⟨k, by omega⟩) _ q

end Cert.MiMask

end
-- ==== Proof.Pays.lean ====
/- The kernel's payloads after the counts, at an index. -/
module

public import proofs.«01_k».proof.Proof.Counts
public import proofs.«01_k».proof.Proof.Loops

@[expose] public section

set_option maxRecDepth 16384

noncomputable section

namespace Cert.MiMask

open Idealize.ShloMosaic Cert.KernelIdeal Cert.KernelIdeal.Gen

/-! ## The global mutual information -/

section
variable {L : Fin 4 → Fin 48 → Fin 1024 → Fin 32} (X : FVec Ideal S32x128 .f32)
  (hX : ∀ (t : Fin 4) (a b : Fin 32) (q : Fin 128), q.val = 32 * t.val + b.val →
    X (ix2 a q) = nat (joint (flat (L 0)) (flat (L t)) a b))
include hX

theorem glob0 (v329 : IVec S32x1024 32) (C : FVec Ideal S32x128 .f32) (r0 r1 r2 r3 : Vec Ideal S1x1x1024 .i32)
    (h : k0_pay263 v329 C r0 r1 r2 r3 = X) :
    k0_pay267 (k0_pay265 v329 C r0 r1 r2 r3) (k0_pay266 v329 C r0 r1 r2 r3) kernelRun0_A.sl.cst_776 = glob L 0 := by
  unfold k0_pay266 k0_pay265
  rw [h]
  unfold glob miOf
  have e : ∀ a b : Fin 32, X (ix2 a ⟨b.val, by omega⟩) = nat (joint (flat (L 0)) (flat (L 0)) a b) :=
    fun a b => hX 0 a b _ (by show b.val = 32 * 0 + b.val; omega)
  pointwise [k0_pay267, kernelRun0_A.sl.cst_776]
  simp only [e, lit_49152]

theorem glob1 : k0_pay272 (k0_pay269 X) (k0_pay270 X) k0_pay271 = glob L 1 := by
  unfold glob miOf
  have e : ∀ a b : Fin 32, X (ix2 a ⟨32 + b.val, by omega⟩) = nat (joint (flat (L 0)) (flat (L 1)) a b) :=
    fun a b => hX 1 a b _ (by show 32 + b.val = 32 * 1 + b.val; omega)
  pointwise [k0_pay272, k0_pay269, k0_pay270, k0_pay271, k0_pay268]
  simp only [e, lit_49152]

theorem glob2 : k0_pay273 X = glob L 2 := by
  unfold glob miOf
  have e : ∀ a b : Fin 32, X (ix2 a ⟨64 + b.val, by omega⟩) = nat (joint (flat (L 0)) (flat (L 2)) a b) :=
    fun a b => hX 2 a b _ (by show 64 + b.val = 32 * 2 + b.val; omega)
  pointwise [k0_pay273]
  simp only [e, lit_49152]

theorem glob3 : k0_pay276 (k0_pay274 X) (k0_pay275 X) kernelRun0_A.sl.cst_776 = glob L 3 := by
  unfold glob miOf
  have e : ∀ a b : Fin 32, X (ix2 a ⟨96 + b.val, by omega⟩) = nat (joint (flat (L 0)) (flat (L 3)) a b) :=
    fun a b => hX 3 a b _ (by show 96 + b.val = 32 * 3 + b.val; omega)
  pointwise [k0_pay276, k0_pay274, k0_pay275, kernelRun0_A.sl.cst_776]
  simp only [e, lit_49152]
end

/-! ## The marginal terms -/

section
variable {L : Fin 4 → Fin 48 → Fin 1024 → Fin 32} (X : FVec Ideal S128x1024 .f32)
  (hX : ∀ (t : Fin 4) (a : Fin 32) (p : Fin 1024) (q : Fin 128), q.val = 32 * t.val + a.val →
    X (ix2 q p) = nat (marg (col L t p) a)) (p : Fin 1024)
include hX

theorem marg0 : k0_pay278 X (ix2 0 p) = (marginal (col L 0 p) : EReal) := by
  have e : ∀ a : Fin 32, X (ix2 ⟨a.val, by omega⟩ p) = nat (marg (col L 0 p) a) :=
    fun a => hX 0 a p _ (by show a.val = 32 * 0 + a.val; omega)
  pointwise [k0_pay278, k0_pay277]
  simp only [e, sum_xlog]

theorem marg1 : k0_pay279 X (ix2 0 p) = (marginal (col L 1 p) : EReal) := by
  have e : ∀ a : Fin 32, X (ix2 ⟨32 + a.val, by omega⟩ p) = nat (marg (col L 1 p) a) :=
    fun a => hX 1 a p _ (by show 32 + a.val = 32 * 1 + a.val; omega)
  pointwise [k0_pay279, k0_pay277]
  simp only [e, sum_xlog]

theorem marg2 : k0_pay280 X (ix2 0 p) = (marginal (col L 2 p) : EReal) := by
  have e : ∀ a : Fin 32, X (ix2 ⟨64 + a.val, by omega⟩ p) = nat (marg (col L 2 p) a) :=
    fun a => hX 2 a p _ (by show 64 + a.val = 32 * 2 + a.val; omega)
  pointwise [k0_pay280, k0_pay277]
  simp only [e, sum_xlog]

theorem marg3 : k0_pay281 X (ix2 0 p) = (marginal (col L 3 p) : EReal) := by
  have e : ∀ a : Fin 32, X (ix2 ⟨96 + a.val, by omega⟩ p) = nat (marg (col L 3 p) a) :=
    fun a => hX 3 a p _ (by show 96 + a.val = 32 * 3 + a.val; omega)
  pointwise [k0_pay281, k0_pay277]
  simp only [e, sum_xlog]

theorem own0 : k0_pay284 X (ix2 0 p) = ele L 0 p := by
  rw [ele_zero, ← marg0 X hX p, ← lit_48]
  pointwise [k0_pay284, k0_pay283]
  rfl
end

/-! ## The pair terms -/

/-- The words that stand for the pairs of labels of frame 0 and frame `t`. -/
def words (lab : IVec S4x48x1024 32) (t : Fin 4) : IVec S48x1024 32 := fun y =>
  IntOp.addi (IntOp.muli (lab (ix3 0 (y 0) (y 1))) 32#32) (lab (ix3 t (y 0) (y 1)))

section
variable {lab : IVec S4x48x1024 32} {L : Fin 4 → Fin 48 → Fin 1024 → Fin 32} (hL : Reads lab L)
include hL

theorem words_eq (t : Fin 4) (i k : Fin 48) (p : Fin 1024) :
    words lab t (ix2 i p) = words lab t (ix2 k p) ↔ col L 0 p k = col L 0 p i ∧ col L t p k = col L t p i := by
  have e : ∀ i : Fin 48, words lab t (ix2 i p) = BitVec.ofNat 32 ((L 0 i p).val * 32 + (L t i p).val) := by
    intro i
    show IntOp.addi (IntOp.muli (lab (ix3 0 i p)) 32#32) (lab (ix3 t i p)) = _
    rw [hL, hL, BitVec.ofNat_add, BitVec.ofNat_mul]; rfl
  rw [e, e]
  unfold col
  constructor
  · intro h
    have := congrArg BitVec.toNat h
    simp only [BitVec.toNat_ofNat] at this
    have h1 := (L 0 i p).isLt; have h2 := (L t i p).isLt; have h3 := (L 0 k p).isLt; have h4 := (L t k p).isLt
    rw [Nat.mod_eq_of_lt (by omega), Nat.mod_eq_of_lt (by omega)] at this
    exact ⟨Fin.ext (by omega), Fin.ext (by omega)⟩
  · rintro ⟨h1, h2⟩; rw [h1, h2]

theorem counts_apply (t : Fin 4) (j : Fin 4) (i : Fin 48) (q : Fin 256) :
    counts (words lab t) j (ix2 i q) = BitVec.ofNat 32 (joint (col L 0 (pos j q)) (col L t (pos j q))
      (col L 0 (pos j q) i) (col L t (pos j q) i)) := by
  show BitVec.ofNat 32 (Finset.univ.filter fun k : Fin 48 => words lab t (ix2 i (pos j q)) = words lab t (ix2 k (pos j q))).card = _
  simp only [words_eq hL]
  rfl

theorem sum_counts (t : Fin 4) (j : Fin 4) (q : Fin 256) :
    (∑ i : Fin 48, Ideal.log (FloatOps.sitofp (F := Ideal) FTy.f32 (counts (words lab t) j (ix2 i q))))
      = (pairs (col L 0 (pos j q)) (col L t (pos j q)) : EReal) := by
  rw [← sum_pairs_log]
  refine Finset.sum_congr rfl fun i _ => ?_
  rw [counts_apply hL, sitofp_nat _ (lt_of_le_of_lt (joint_le _ _ _ _) (by norm_num))]

/-- The four chunks side by side, each already summed, read at a position. -/
theorem ladder (f : Fin 1024 → EReal) (c0 c1 c2 c3 : Fin 256 → EReal) (h0 : ∀ q, c0 q = f (pos 0 q)) (h1 : ∀ q, c1 q = f (pos 1 q))
    (h2 : ∀ q, c2 q = f (pos 2 q)) (h3 : ∀ q, c3 q = f (pos 3 q)) (p : Fin 1024) :
    (if h : p.val < 256 then c0 ⟨p.val, h⟩ else if h : p.val - 256 < 256 then c1 ⟨p.val - 256, h⟩
      else if h : p.val - 256 - 256 < 256 then c2 ⟨p.val - 256 - 256, h⟩
      else c3 ⟨p.val - 256 - 256 - 256, by omega⟩) = f p := by
  have hp := p.isLt
  by_cases a0 : p.val < 256
  · rw [dif_pos a0, h0]; congr 1; apply Fin.ext; show 256 * 0 + p.val = p.val; omega
  rw [dif_neg a0]
  by_cases a1 : p.val - 256 < 256
  · rw [dif_pos a1, h1]; congr 1; apply Fin.ext; show 256 * 1 + (p.val - 256) = p.val; omega
  rw [dif_neg a1]
  by_cases a2 : p.val - 256 - 256 < 256
  · rw [dif_pos a2, h2]; congr 1; apply Fin.ext; show 256 * 2 + (p.val - 256 - 256) = p.val; omega
  rw [dif_neg a2, h3]; congr 1; apply Fin.ext; show 256 * 3 + (p.val - 256 - 256 - 256) = p.val; omega

end

/-! ## The probabilities -/

section
variable {lab : IVec S4x48x1024 32} {L : Fin 4 → Fin 48 → Fin 1024 → Fin 32} (hL : Reads lab L)
  (s0 st m0 : FVec Ideal S1x1024 .f32) (pro : Ideal .f32) (p : Fin 1024)
  (hs0 : s0 (ix2 0 p) = (marginal (col L 0 p) : EReal))
  (hm0 : m0 (ix2 0 p) = ele L 0 p * glob L 0)
include hL hs0 hm0

theorem prob1 (hst : st (ix2 0 p) = (marginal (col L 1 p) : EReal)) :
    k0_pay300 (glob L 1) s0 st k0_pay283 m0 pro (k0_pay292 (counts (words lab 1) 0)) (k0_pay295 (counts (words lab 1) 1))
      (counts (words lab 1) 2) (counts (words lab 1) 3) (ix2 0 p) = prob L pro 1 p := by
  have e := sum_counts hL 1
  have l := ladder hL (fun p => (pairs (col L 0 p) (col L 1 p) : EReal)) _ _ _ _ (e 0) (e 1) (e 2) (e 3) p
  unfold prob
  rw [ele_pairs L 1 p, ← hm0, ← hs0, ← hst, ← l, ← lit_48]
  pointwise [k0_pay300, k0_pay283, k0_pay292, k0_pay295]
  rfl

theorem prob2 (hst : st (ix2 0 p) = (marginal (col L 2 p) : EReal)) :
    k0_pay314 (glob L 2) s0 st k0_pay283 m0 pro (k0_pay304 (counts (words lab 2) 0)) (k0_pay307 (counts (words lab 2) 1))
      (k0_pay310 (counts (words lab 2) 2)) (k0_pay313 (counts (words lab 2) 3)) (ix2 0 p) = prob L pro 2 p := by
  have e := sum_counts hL 2
  have l := ladder hL (fun p => (pairs (col L 0 p) (col L 2 p) : EReal)) _ _ _ _ (e 0) (e 1) (e 2) (e 3) p
  unfold prob
  rw [ele_pairs L 2 p, ← hm0, ← hs0, ← hst, ← l, ← lit_48]
  pointwise [k0_pay314, k0_pay283, k0_pay304, k0_pay307, k0_pay310, k0_pay313]
  rfl

theorem prob3 (hst : st (ix2 0 p) = (marginal (col L 3 p) : EReal)) :
    k0_pay327 (k0_pay325 (glob L 3) s0 st k0_pay283 m0 pro (k0_pay318 (counts (words lab 3) 0)) (counts (words lab 3) 1)
      (counts (words lab 3) 2) (counts (words lab 3) 3)) k0_pay326 (ix2 0 p) = prob L pro 3 p := by
  have e := sum_counts hL 3
  have l := ladder hL (fun p => (pairs (col L 0 p) (col L 3 p) : EReal)) _ _ _ _ (e 0) (e 1) (e 2) (e 3) p
  unfold prob
  rw [ele_pairs L 3 p, ← hm0, ← hs0, ← hst, ← l, ← lit_48]
  pointwise [k0_pay327, k0_pay325, k0_pay326, k0_pay283, k0_pay318]
  rfl

end

end Cert.MiMask

end
-- ==== Proof.Tail.lean ====
/- The four masking probabilities as the kernel's run computes them. -/
module

public import proofs.«01_k».proof.Proof.Pays

@[expose] public section

set_option maxRecDepth 16384

noncomputable section

namespace Cert.MiMask

open Idealize.ShloMosaic Cert.KernelIdeal Cert.KernelIdeal.Gen

variable (c : Dev nD) (arg0 : Memref sig .tc .vmem S16x4x3x1024 .f32) (harg0 : arg0.IsWhole) (arg1 : Memref sig .tc .vmem S16x4x3x1024 .f32) (harg1 : arg1.IsWhole) (arg2 : Memref sig .tc .vmem S1x1 .f32) (harg2 : arg2.IsWhole) (arg3 : Memref sig .tc .vmem S16x4x3x1024 .f32) (harg3 : arg3.IsWhole) (arg4 : Memref sig .tc .vmem S4x48x1024 .i32) (harg4 : arg4.IsWhole) (arg5 : Memref sig .tc .vmem S48x1024 .i32) (harg5 : arg5.IsWhole)
  (x0 : Vec Ideal S16x4x3x1024 .f32) (x2 : Vec Ideal S1x1 .f32)

theorem r_145_eq : kernelRun0_A.sl.r_145 c arg0 harg0 arg4 x0 = extf .f32 (HALL (LAB x0) 48) bitsLt_bf16_f32 := by
  simp only [kernelRun0_A.sl.r_145, r_142_eq, v1883_eq, v1890_eq, v1897_eq, v1904_eq]
  rfl

/-- A frame's labels read out of the label scratch. -/
theorem frame_row (t : ℕ) (ht : t < 4) (inb : ∀ a, (![t, 0, 0] : Fin 3 → ℕ) a + S1x48x1024.size a ≤ S4x48x1024.size a)
    (i : Fin 48) (p : Fin 1024) :
    arg4.view.readCov (Val := Elt Ideal) (kernelRun0_A.sl.HS0_64 c arg0 harg0 x0)
      (Rect.unit (s := S4x48x1024) ![t, 0, 0] S1x48x1024.size inb).toLoadRect (ix3 0 i p) = LAB x0 (ix3 ⟨t, ht⟩ i p) := by
  rw [read_lab]
  refine congrArg (LAB x0) ?_
  funext a; apply Fin.ext; fin_cases a
  · show t + 1 * 0 = t; omega
  · show 0 + 1 * i.val = i.val; omega
  · show 0 + 1 * p.val = p.val; omega

theorem canon1 : View.canon (Val := Elt Ideal) (kernelRun0_A.sl.HS1_1 c arg0 harg0 arg4 x0) = words (LAB x0) 1 := by
  unfold kernelRun0_A.sl.HS1_1
  rw [View.canon_cons_unit_lit _ _ _ (by decide)]
  funext y
  change S48x1024.Idx at y
  idx_vars y
  have e0 : kernelRun0_A.sl.v2053 c arg0 harg0 arg4 x0 (ix3 0 y0 y1) = LAB x0 (ix3 0 y0 y1) :=
    frame_row c arg0 harg0 arg4 x0 0 (by decide) _ y0 y1
  have e1 : kernelRun0_A.sl.v2067 c arg0 harg0 arg4 x0 (ix3 0 y0 y1) = LAB x0 (ix3 1 y0 y1) :=
    frame_row c arg0 harg0 arg4 x0 1 (by decide) _ y0 y1
  unfold kernelRun0_A.sl.r_160
  pointwise [k0_pay289, k0_pay282]
  rw [e0, e1]
  rfl

theorem canon2 : View.canon (Val := Elt Ideal) (kernelRun0_A.sl.HS1_2 c arg0 harg0 arg4 x0) = words (LAB x0) 2 := by
  unfold kernelRun0_A.sl.HS1_2
  rw [View.canon_cons_unit_lit _ _ _ (by decide)]
  funext y
  change S48x1024.Idx at y
  idx_vars y
  have e0 : kernelRun0_A.sl.v2053 c arg0 harg0 arg4 x0 (ix3 0 y0 y1) = LAB x0 (ix3 0 y0 y1) :=
    frame_row c arg0 harg0 arg4 x0 0 (by decide) _ y0 y1
  have e1 : kernelRun0_A.sl.v2123 c arg0 harg0 arg4 x0 (ix3 0 y0 y1) = LAB x0 (ix3 2 y0 y1) :=
    frame_row c arg0 harg0 arg4 x0 2 (by decide) _ y0 y1
  unfold kernelRun0_A.sl.r_160
  pointwise [k0_pay301, k0_pay282]
  rw [e0, e1]
  rfl

theorem canon3 : View.canon (Val := Elt Ideal) (kernelRun0_A.sl.HS1_3 c arg0 harg0 arg4 x0) = words (LAB x0) 3 := by
  unfold kernelRun0_A.sl.HS1_3
  rw [View.canon_cons_unit_lit _ _ _ (by decide)]
  funext y
  change S48x1024.Idx at y
  idx_vars y
  have e0 : kernelRun0_A.sl.v2053 c arg0 harg0 arg4 x0 (ix3 0 y0 y1) = LAB x0 (ix3 0 y0 y1) :=
    frame_row c arg0 harg0 arg4 x0 0 (by decide) _ y0 y1
  have e1 : kernelRun0_A.sl.v2179 c arg0 harg0 arg4 x0 (ix3 0 y0 y1) = LAB x0 (ix3 3 y0 y1) :=
    frame_row c arg0 harg0 arg4 x0 3 (by decide) _ y0 y1
  unfold kernelRun0_A.sl.r_160
  pointwise [k0_pay315, k0_pay282]
  rw [e0, e1]
  rfl

section
variable (L : List (View.Piece (Elt Ideal) S48x1024 .i32)) (E : IVec S48x1024 32) (hE : View.canon (Val := Elt Ideal) L = E)
include hE

theorem read_words (B : LoadRect S48x1024) :
    View.readAt (Elt Ideal) arg5.view B (arg5.view.writes (Elt Ideal) arg5.view.junk L) = fun y => E (B.idx y) := by
  subst hE
  exact View.readCov_eq_canon' arg5.view L B

theorem chunk_words (j : Fin 4) (off : Fin 2 → ℕ) (hoff : off = ![0, 256 * j.val])
    (inb : ∀ a, off a + S48x256.size a ≤ S48x1024.size a) (i : Fin 48) (q : Fin 256) :
    arg5.view.readCov (Val := Elt Ideal) L (Rect.unit (s := S48x1024) off S48x256.size inb).toLoadRect (ix2 i q) = E (ix2 i (pos j q)) := by
  subst hE
  rw [View.readCov_eq_canon']
  exact chunk_all _ j off hoff inb i q
end

section
variable {L : Fin 4 → Fin 48 → Fin 1024 → Fin 32} (hL : Reads (LAB x0) L)
include hL

theorem hall_apply (t : Fin 4) (a : Fin 32) (p : Fin 1024) (q : Fin 128) (hq : q.val = 32 * t.val + a.val) :
    kernelRun0_A.sl.r_145 c arg0 harg0 arg4 x0 (ix2 q p) = nat (marg (col L t p) a) := by
  rw [r_145_eq]
  pointwise
  exact HALL_48 hL t a p q hq

theorem r_148_val : kernelRun0_A.sl.r_148 c arg0 harg0 arg4 x0 = glob L 0 := by
  unfold kernelRun0_A.sl.r_148 kernelRun0_A.sl.r_146 kernelRun0_A.sl.r_147
  refine glob0 (CALL (LAB x0) 48) (CALL_48 hL) _ _ _ _ _ _ ?_
  simp only [r_143_eq, v1883_eq, v1890_eq, v1897_eq, v1904_eq]
  rfl

theorem r_151_val : kernelRun0_A.sl.r_151 c arg0 harg0 arg4 x0 = glob L 1 := by
  unfold kernelRun0_A.sl.r_151 kernelRun0_A.sl.r_149 kernelRun0_A.sl.r_150
  rw [r_144_eq]
  exact glob1 (CALL (LAB x0) 48) (CALL_48 hL)

theorem r_152_val : kernelRun0_A.sl.r_152 c arg0 harg0 arg4 x0 = glob L 2 := by
  unfold kernelRun0_A.sl.r_152
  rw [r_144_eq]
  exact glob2 (CALL (LAB x0) 48) (CALL_48 hL)

theorem r_155_val : kernelRun0_A.sl.r_155 c arg0 harg0 arg4 x0 = glob L 3 := by
  unfold kernelRun0_A.sl.r_155 kernelRun0_A.sl.r_153 kernelRun0_A.sl.r_154
  rw [r_144_eq]
  exact glob3 (CALL (LAB x0) 48) (CALL_48 hL)

theorem r_163_val (p : Fin 1024) : kernelRun0_A.sl.r_163 c arg0 harg0 arg4 x0 (ix2 0 p) = ele L 0 p * glob L 0 := by
  unfold kernelRun0_A.sl.r_163 kernelRun0_A.sl.r_161 kernelRun0_A.sl.r_162
  rw [r_148_val c arg0 harg0 arg4 x0 hL, ← own0 _ (hall_apply c arg0 harg0 arg4 x0 hL) p]
  pointwise [k0_pay286, k0_pay285]

omit hL in
theorem r_164_val : kernelRun0_A.sl.r_164 c arg2 harg2 x2 = x2 (ix2 0 0) := by
  unfold kernelRun0_A.sl.r_164
  rw [View.readAt_eq_ld, harg2.read_unread]
  pointwise [k0_pay287]

theorem r_167_val (p : Fin 1024) :
    kernelRun0_A.sl.r_167 c arg0 harg0 arg1 harg1 arg2 harg2 arg3 harg3 arg4 harg4 arg5 harg5 x0 x2 (ix2 0 p) = prob L (x2 (ix2 0 0)) 1 p := by
  have hE := canon1 c arg0 harg0 arg4 x0
  have hX := read_words arg5 _ _ hE
  have h0 : ∀ i q, kernelRun0_A.sl.v2073 c arg0 harg0 arg4 arg5 x0 (ix2 i q) = words (LAB x0) 1 (ix2 i (pos 0 q)) :=
    chunk_words arg5 _ _ hE 0 _ rfl _
  have h1 : ∀ i q, kernelRun0_A.sl.v2081 c arg0 harg0 arg4 arg5 x0 (ix2 i q) = words (LAB x0) 1 (ix2 i (pos 1 q)) :=
    chunk_words arg5 _ _ hE 1 _ rfl _
  have h2 : ∀ i q, kernelRun0_A.sl.v2089 c arg0 harg0 arg4 arg5 x0 (ix2 i q) = words (LAB x0) 1 (ix2 i (pos 2 q)) :=
    chunk_words arg5 _ _ hE 2 _ rfl _
  have h3 : ∀ i q, kernelRun0_A.sl.v2097 c arg0 harg0 arg4 arg5 x0 (ix2 i q) = words (LAB x0) 1 (ix2 i (pos 3 q)) :=
    chunk_words arg5 _ _ hE 3 _ rfl _
  unfold kernelRun0_A.sl.r_167 kernelRun0_A.sl.r_165 kernelRun0_A.sl.r_166
  rw [count_t1 (E := words (LAB x0) 1) (hv := h0) (hX := hX),
    count_t2 (E := words (LAB x0) 1) (hv := h1) (hX := hX),
    count_t3 (E := words (LAB x0) 1) (hv := h2) (hX := hX),
    count_t4 (E := words (LAB x0) 1) (hv := h3) (hX := hX),
    r_151_val c arg0 harg0 arg4 x0 hL, r_164_val]
  exact prob1 hL _ _ _ _ p (marg0 _ (hall_apply c arg0 harg0 arg4 x0 hL) p) (r_163_val c arg0 harg0 arg4 x0 hL p)
    (marg1 _ (hall_apply c arg0 harg0 arg4 x0 hL) p)

theorem r_172_val (p : Fin 1024) :
    kernelRun0_A.sl.r_172 c arg0 harg0 arg1 harg1 arg2 harg2 arg3 harg3 arg4 harg4 arg5 harg5 x0 x2 (ix2 0 p) = prob L (x2 (ix2 0 0)) 2 p := by
  have hE := canon2 c arg0 harg0 arg4 x0
  have hX := read_words arg5 _ _ hE
  have h0 : ∀ i q, kernelRun0_A.sl.v2129 c arg0 harg0 arg4 arg5 x0 (ix2 i q) = words (LAB x0) 2 (ix2 i (pos 0 q)) :=
    chunk_words arg5 _ _ hE 0 _ rfl _
  have h1 : ∀ i q, kernelRun0_A.sl.v2137 c arg0 harg0 arg4 arg5 x0 (ix2 i q) = words (LAB x0) 2 (ix2 i (pos 1 q)) :=
    chunk_words arg5 _ _ hE 1 _ rfl _
  have h2 : ∀ i q, kernelRun0_A.sl.v2145 c arg0 harg0 arg4 arg5 x0 (ix2 i q) = words (LAB x0) 2 (ix2 i (pos 2 q)) :=
    chunk_words arg5 _ _ hE 2 _ rfl _
  have h3 : ∀ i q, kernelRun0_A.sl.v2153 c arg0 harg0 arg4 arg5 x0 (ix2 i q) = words (LAB x0) 2 (ix2 i (pos 3 q)) :=
    chunk_words arg5 _ _ hE 3 _ rfl _
  unfold kernelRun0_A.sl.r_172 kernelRun0_A.sl.r_168 kernelRun0_A.sl.r_169 kernelRun0_A.sl.r_170 kernelRun0_A.sl.r_171
  rw [count_t5 (E := words (LAB x0) 2) (hv := h0) (hX := hX),
    count_t6 (E := words (LAB x0) 2) (hv := h1) (hX := hX),
    count_t7 (E := words (LAB x0) 2) (hv := h2) (hX := hX),
    count_t8 (E := words (LAB x0) 2) (hv := h3) (hX := hX),
    r_152_val c arg0 harg0 arg4 x0 hL, r_164_val]
  exact prob2 hL _ _ _ _ p (marg0 _ (hall_apply c arg0 harg0 arg4 x0 hL) p) (r_163_val c arg0 harg0 arg4 x0 hL p)
    (marg2 _ (hall_apply c arg0 harg0 arg4 x0 hL) p)

theorem r_175_val (p : Fin 1024) :
    kernelRun0_A.sl.r_175 c arg0 harg0 arg1 harg1 arg2 harg2 arg3 harg3 arg4 harg4 arg5 harg5 x0 x2 (ix2 0 p) = prob L (x2 (ix2 0 0)) 3 p := by
  have hE := canon3 c arg0 harg0 arg4 x0
  have hX := read_words arg5 _ _ hE
  have h0 : ∀ i q, kernelRun0_A.sl.v2185 c arg0 harg0 arg4 arg5 x0 (ix2 i q) = words (LAB x0) 3 (ix2 i (pos 0 q)) :=
    chunk_words arg5 _ _ hE 0 _ rfl _
  have h1 : ∀ i q, kernelRun0_A.sl.v2193 c arg0 harg0 arg4 arg5 x0 (ix2 i q) = words (LAB x0) 3 (ix2 i (pos 1 q)) :=
    chunk_words arg5 _ _ hE 1 _ rfl _
  have h2 : ∀ i q, kernelRun0_A.sl.v2201 c arg0 harg0 arg4 arg5 x0 (ix2 i q) = words (LAB x0) 3 (ix2 i (pos 2 q)) :=
    chunk_words arg5 _ _ hE 2 _ rfl _
  have h3 : ∀ i q, kernelRun0_A.sl.v2209 c arg0 harg0 arg4 arg5 x0 (ix2 i q) = words (LAB x0) 3 (ix2 i (pos 3 q)) :=
    chunk_words arg5 _ _ hE 3 _ rfl _
  unfold kernelRun0_A.sl.r_175 kernelRun0_A.sl.r_174
  rw [count_t10 (E := words (LAB x0) 3) (hv := h1) (hX := hX),
    count_t11 (E := words (LAB x0) 3) (hv := h2) (hX := hX),
    count_t12 (E := words (LAB x0) 3) (hv := h3) (hX := hX)]
  unfold kernelRun0_A.sl.r_173
  rw [count_t9 (E := words (LAB x0) 3) (hv := h0) (hX := hX),
    r_155_val c arg0 harg0 arg4 x0 hL, r_164_val]
  exact prob3 hL _ _ _ _ p (marg0 _ (hall_apply c arg0 harg0 arg4 x0 hL) p) (r_163_val c arg0 harg0 arg4 x0 hL p)
    (marg3 _ (hall_apply c arg0 harg0 arg4 x0 hL) p)

end

end Cert.MiMask

end
-- ==== Proof.Meet.lean ====
/- The labels of the values, and the result both programs leave, element by element. -/
module

public import proofs.«01_k».proof.Proof.Spec

@[expose] public section

noncomputable section

namespace Cert.MiMask

open Idealize.ShloMosaic

/-- A value's label word: the value cut to an integer, plus 16. -/
def word (x : EReal) : BitVec 32 := IntOp.addi (FloatOps.fptosi (F := Ideal) (φ := .f32) 32 x) 16#32

/-- The label of sample `i = 3b + c` in frame `t` at position `p = 32h + w`. -/
def labels (x : Fin 16 → Fin 4 → Fin 3 → Fin 32 → Fin 32 → EReal) (t : Fin 4) (i : Fin 48) (p : Fin 1024) : Fin 32 :=
  Fin.ofNat 32 (word (x ⟨i.val / 3, by omega⟩ t ⟨i.val % 3, by omega⟩ ⟨p.val / 32, by omega⟩ ⟨p.val % 32, by omega⟩)).toNat

/-- A value strictly between -17 and 16 has a label below 32. -/
theorem word_lt (x : EReal) (h1 : ((-17 : ℝ) : EReal) < x) (h2 : x < ((16 : ℝ) : EReal)) : (word x).toNat < 32 := by
  induction x with
  | bot => exact absurd h1 not_lt_bot
  | top => exact absurd h2 not_top_lt
  | coe r =>
    rw [EReal.coe_lt_coe_iff] at h1 h2
    have hz : ∃ z : ℤ, -16 ≤ z ∧ z ≤ 15 ∧ (if 0 ≤ r then ⌊r⌋ else ⌈r⌉) = z := by
      refine ⟨_, ?_, ?_, rfl⟩
      · split
        · have := Int.floor_nonneg.mpr ‹0 ≤ r›; omega
        · have : -17 < ⌈r⌉ := Int.lt_ceil.mpr (by push_cast; exact h1)
          omega
      · split
        · have : ⌊r⌋ < 16 := Int.floor_lt.mpr (by push_cast; exact h2)
          omega
        · have : ⌈r⌉ ≤ 0 := Int.ceil_le.mpr (by push_cast; linarith)
          omega
    obtain ⟨z, l, u, e⟩ := hz
    have ew : word (r : EReal) = BitVec.ofInt 32 z + 16#32 := by
      show BitVec.ofInt 32 (Ideal.toIntClamped _ _ ((r : ℝ) : EReal)) + 16#32 = _
      rw [Ideal.toIntClamped_coe, e]
      congr 2
      show max (-(2147483648 : ℤ)) (min ((2147483648 : ℤ) - 1) z) = z
      omega
    rw [ew, BitVec.toNat_add, BitVec.toNat_ofInt]
    norm_num
    omega

theorem word_eq (x : EReal) (h1 : ((-17 : ℝ) : EReal) < x) (h2 : x < ((16 : ℝ) : EReal)) :
    word x = BitVec.ofNat 32 (Fin.ofNat 32 (word x).toNat).val := by
  have h := word_lt x h1 h2
  show word x = BitVec.ofNat 32 ((word x).toNat % 32)
  rw [Nat.mod_eq_of_lt h, BitVec.ofNat_toNat, BitVec.setWidth_eq]

/-- Cutting a label below 32 to the range of the labels leaves it. -/
theorem cut_label (n : Fin 32) : IntOp.minsi (31#32) (IntOp.maxsi (0#32) (BitVec.ofNat 32 n.val)) = BitVec.ofNat 32 n.val := by
  revert n; decide

/-- The scale the probabilities are multiplied by, of the epoch's word. -/
def scale (e : BitVec 32) : EReal := Ideal.div (FloatOps.sitofp (F := Ideal) .f32 e) (Ideal.ofBits .f32 0x43480000#32)

/-- The probabilities: none in the first frame, `prob` in the others. -/
def probs (L : Fin 4 → Fin 48 → Fin 1024 → Fin 32) (pro : EReal) (t : Fin 4) (p : Fin 1024) : EReal :=
  if t = 0 then 0 else prob L pro t p

/-- One element of the result: zero where the draw `r` is below the probability, the value elsewhere. -/
def keep (L : Fin 4 → Fin 48 → Fin 1024 → Fin 32) (pro x r : EReal) (t : Fin 4) (h w : Fin 32) : EReal :=
  if r < probs L pro t ⟨h.val * 32 + w.val, by omega⟩ then 0 else x

end Cert.MiMask

end
-- ==== Proof.Out.lean ====
/- The block of values the kernel leaves: every value kept or set to zero by its frame's and position's probability. -/
module

public import proofs.«01_k».proof.Proof.Tail
public import proofs.«01_k».proof.Proof.Meet

@[expose] public section

set_option maxRecDepth 16384

noncomputable section

namespace Cert.MiMask

open Idealize.ShloMosaic Cert.KernelIdeal Cert.KernelIdeal.Gen

/-- The masked block: a value is set to zero where its uniform draw is below the probability `P t p`. -/
def masked (P : Fin 4 → Fin 1024 → EReal) (x0 x1 : Vec Ideal S16x4x3x1024 .f32) : Vec Ideal S16x4x3x1024 .f32 :=
  fun y => if x1 y < P (y 1) (y 3) then (0 : EReal) else x0 y

variable (c : Dev nD) (arg0 : Memref sig .tc .vmem S16x4x3x1024 .f32) (harg0 : arg0.IsWhole) (arg1 : Memref sig .tc .vmem S16x4x3x1024 .f32) (harg1 : arg1.IsWhole) (arg2 : Memref sig .tc .vmem S1x1 .f32) (harg2 : arg2.IsWhole) (arg3 : Memref sig .tc .vmem S16x4x3x1024 .f32) (harg3 : arg3.IsWhole) (arg4 : Memref sig .tc .vmem S4x48x1024 .i32) (harg4 : arg4.IsWhole) (arg5 : Memref sig .tc .vmem S48x1024 .i32) (harg5 : arg5.IsWhole)
  (x0 x1 : Vec Ideal S16x4x3x1024 .f32) (x2 : Vec Ideal S1x1 .f32)

theorem emb_frame (t : ℕ) (ht : t < 4) (inb : ∀ a, (![0, t, 0, 0] : Fin 4 → ℕ) a + S16x1x3x1024.size a ≤ S16x4x3x1024.size a)
    (b : Fin 16) (d : Fin 3) (p : Fin 1024) :
    (Rect.unit (s := S16x4x3x1024) ![0, t, 0, 0] S16x1x3x1024.size inb).emb (ix4 b (0 : Fin 1) d p) = ix4 b ⟨t, ht⟩ d p := by
  funext a; apply Fin.ext; fin_cases a
  · show 0 + 1 * b.val = b.val; omega
  · show t + 1 * 0 = t; omega
  · show 0 + 1 * d.val = d.val; omega
  · show 0 + 1 * p.val = p.val; omega

/-- A frame read out of a whole block. -/
theorem read_frame (arg : Memref sig .tc .vmem S16x4x3x1024 .f32) (harg : arg.IsWhole) (x : Vec Ideal S16x4x3x1024 .f32)
    (t : ℕ) (ht : t < 4) (inb : ∀ a, (![0, t, 0, 0] : Fin 4 → ℕ) a + S16x1x3x1024.size a ≤ S16x4x3x1024.size a)
    (b : Fin 16) (d : Fin 3) (p : Fin 1024) :
    View.readAt (Elt Ideal) arg.view (Rect.unit (s := S16x4x3x1024) ![0, t, 0, 0] S16x1x3x1024.size inb).toLoadRect
      (harg.unread x) (ix4 b (0 : Fin 1) d p) = x (ix4 b ⟨t, ht⟩ d p) := by
  rw [View.readAt_eq_ld, harg.read_unread]
  exact congrArg x (emb_frame t ht inb b d p)

theorem piecesOut_cons (G : S16x4x3x1024.Idx → Elt Ideal .f32) (r : Rect S16x4x3x1024) (w : r.shape.Idx → Elt Ideal .f32)
    (L : List (View.Piece (Elt Ideal) S16x4x3x1024 .f32)) (h : ∀ x, w x = G (r.emb x)) (hL : View.PiecesOf G L) :
    View.PiecesOf G (⟨r, w⟩ :: L) := ⟨h, hL⟩

/-- One frame's store writes the masked block there. -/
theorem piece_out (P : Fin 4 → Fin 1024 → EReal) (t : ℕ) (ht : t < 4)
    (inb : ∀ a, (![0, t, 0, 0] : Fin 4 → ℕ) a + S16x1x3x1024.size a ≤ S16x4x3x1024.size a)
    (w : FVec Ideal S16x1x3x1024 .f32)
    (hw : ∀ (b : Fin 16) (d : Fin 3) (p : Fin 1024), w (ix4 b (0 : Fin 1) d p)
      = if x1 (ix4 b ⟨t, ht⟩ d p) < P ⟨t, ht⟩ p then (0 : EReal) else x0 (ix4 b ⟨t, ht⟩ d p))
    (y : (Rect.unit (s := S16x4x3x1024) ![0, t, 0, 0] S16x1x3x1024.size inb).shape.Idx) :
    w y = masked P x0 x1 ((Rect.unit (s := S16x4x3x1024) ![0, t, 0, 0] S16x1x3x1024.size inb).emb y) := by
  change S16x1x3x1024.Idx at y
  idx_vars y
  have h0 : y1 = 0 := Subsingleton.elim _ _
  subst h0
  rw [hw, emb_frame t ht inb]
  rfl

variable (L : Fin 4 → Fin 48 → Fin 1024 → Fin 32)

theorem pieces_out (hL : Reads (LAB x0) L) :
    View.PiecesOf (masked (probs L (x2 (ix2 0 0))) x0 x1)
      (kernelRun0_A (F := Ideal) c arg0 harg0 arg1 harg1 arg2 harg2 arg3 harg3 arg4 harg4 arg5 harg5 x0 x1 x2).1 := by
  unfold kernelRun0_A
  dsimp only
  apply piecesOut_cons
  · refine piece_out x0 x1 _ 3 (by decide) _ _ ?_
    intro b d p
    have e1 : kernelRun0_A.sl.v2269 (F := Ideal) c arg1 harg1 x1 (ix4 b (0 : Fin 1) d p) = x1 (ix4 b 3 d p) :=
      read_frame arg1 harg1 x1 3 (by decide) _ b d p
    have e0 : kernelRun0_A.sl.v2274 (F := Ideal) c arg0 harg0 x0 (ix4 b (0 : Fin 1) d p) = x0 (ix4 b 3 d p) :=
      read_frame arg0 harg0 x0 3 (by decide) _ b d p
    pointwise [k0_pay2]
    rw [e0, e1, r_175_val c arg0 harg0 arg1 harg1 arg2 harg2 arg3 harg3 arg4 harg4 arg5 harg5 x0 x2 hL]
    rfl
  apply piecesOut_cons
  · refine piece_out x0 x1 _ 2 (by decide) _ _ ?_
    intro b d p
    have e1 : View.readAt (Elt Ideal) arg1.view (Rect.unit (s := S16x4x3x1024) ![0, 2, 0, 0] S16x1x3x1024.size
      inb_S16x4x3x1024_S16x1x3x1024_0_2_0_0).toLoadRect (harg1.unread x1) (ix4 b (0 : Fin 1) d p) = x1 (ix4 b 2 d p) :=
      read_frame arg1 harg1 x1 2 (by decide) _ b d p
    have e0 : kernelRun0_A.sl.v2262 (F := Ideal) c arg0 harg0 x0 (ix4 b (0 : Fin 1) d p) = x0 (ix4 b 2 d p) :=
      read_frame arg0 harg0 x0 2 (by decide) _ b d p
    unfold kernelRun0_A.sl.r_178 kernelRun0_A.sl.r_177 kernelRun0_A.sl.r_176
    pointwise [k0_pay1, k0_pay332, k0_pay331, k0_pay330]
    rw [e0, e1, r_172_val c arg0 harg0 arg1 harg1 arg2 harg2 arg3 harg3 arg4 harg4 arg5 harg5 x0 x2 hL]
    rfl
  apply piecesOut_cons
  · refine piece_out x0 x1 _ 1 (by decide) _ _ ?_
    intro b d p
    have e1 : View.readAt (Elt Ideal) arg1.view (Rect.unit (s := S16x4x3x1024) ![0, 1, 0, 0] S16x1x3x1024.size
      inb_S16x4x3x1024_S16x1x3x1024_0_1_0_0).toLoadRect (harg1.unread x1) (ix4 b (0 : Fin 1) d p) = x1 (ix4 b 1 d p) :=
      read_frame arg1 harg1 x1 1 (by decide) _ b d p
    have e0 : View.readAt (Elt Ideal) arg0.view (Rect.unit (s := S16x4x3x1024) ![0, 1, 0, 0] S16x1x3x1024.size
      inb_S16x4x3x1024_S16x1x3x1024_0_1_0_0).toLoadRect (harg0.unread x0) (ix4 b (0 : Fin 1) d p) = x0 (ix4 b 1 d p) :=
      read_frame arg0 harg0 x0 1 (by decide) _ b d p
    pointwise [k0_pay329]
    refine Eq.trans ?_ (congrArg₂ (fun u v => if u < v then (0 : EReal) else x0 (ix4 b 1 d p)) e1
      (r_167_val c arg0 harg0 arg1 harg1 arg2 harg2 arg3 harg3 arg4 harg4 arg5 harg5 x0 x2 hL p))
    exact congrArg (fun w => if _ < _ then (0 : EReal) else w) e0
  apply piecesOut_cons
  · refine piece_out x0 x1 _ 0 (by decide) _ _ ?_
    intro b d p
    have e1 : View.readAt (Elt Ideal) arg1.view (Rect.unit (s := S16x4x3x1024) ![0, 0, 0, 0] S16x1x3x1024.size
      inb_S16x4x3x1024_S16x1x3x1024_0_0_0_0).toLoadRect (harg1.unread x1) (ix4 b (0 : Fin 1) d p) = x1 (ix4 b 0 d p) :=
      read_frame arg1 harg1 x1 0 (by decide) _ b d p
    have e0 : View.readAt (Elt Ideal) arg0.view (Rect.unit (s := S16x4x3x1024) ![0, 0, 0, 0] S16x1x3x1024.size
      inb_S16x4x3x1024_S16x1x3x1024_0_0_0_0).toLoadRect (harg0.unread x0) (ix4 b (0 : Fin 1) d p) = x0 (ix4 b 0 d p) :=
      read_frame arg0 harg0 x0 0 (by decide) _ b d p
    pointwise [k0_pay328, k0_pay288]
    refine Eq.trans ?_ (congrArg (fun u => if u < (0 : EReal) then (0 : EReal) else x0 (ix4 b 0 d p)) e1)
    exact congrArg (fun w => if _ < _ then (0 : EReal) else w) e0
  trivial

/-- The kernel's output block. -/
theorem out_eq (hL : Reads (LAB x0) L) :
    out0_A_3 (F := Ideal) c arg0 harg0 arg1 harg1 arg2 harg2 arg3 harg3 arg4 harg4 arg5 harg5 x0 x1 x2
      = masked (probs L (x2 (ix2 0 0))) x0 x1 := by
  unfold out0_A_3
  funext y
  rw [View.read_writes_junk_apply_eq_canon]
  exact View.canon_apply_of_pieces _ _
    (pieces_out c arg0 harg0 arg1 harg1 arg2 harg2 arg3 harg3 arg4 harg4 arg5 harg5 x0 x1 x2 L hL).mem y
    (cover0_A_3 c arg0 harg0 arg1 harg1 arg2 harg2 arg3 harg3 arg4 harg4 arg5 harg5 x0 x1 x2 y)

end Cert.MiMask

end
-- ==== Proof.Sim.lean ====
/-
  Two programs that run the same line of operations over two sets of buffers. The buffers of the
  one are numbered as those of the other with a constant added, so an operation of the first line
  reads, at number `i`, what its partner reads at number `i + d`. Where the two valuations agree
  on the numbers written so far, they agree on one number more after each pair of operations.
-/
module

public import Idealize.ShloMosaic.Lib.StableHlo.Run

@[expose] public section

noncomputable section

namespace Cert.MiMask.Sim

open Idealize.ShloMosaic Idealize.ShloMosaic.StableHlo

variable {τ₁ τ₂ : Topo} {S₁ S₂ : RefSig} {Val : EltTy → Type}

/-- Device buffers `a` and `b` bear the numbers `k` and `k + d`. -/
def At (d k : ℕ) (a : Ref S₁ .tc) (b : Ref S₂ .tc) : Prop :=
  a.space = .hbm ∧ b.space = .hbm ∧ a.idx.val = k ∧ b.idx.val = k + d

/-- Device buffers `a` and `b` bear partner numbers between `lo` and `n`. -/
def Old (lo d n : ℕ) (a : Ref S₁ .tc) (b : Ref S₂ .tc) : Prop :=
  a.space = .hbm ∧ b.space = .hbm ∧ lo ≤ a.idx.val ∧ a.idx.val < n ∧ b.idx.val = a.idx.val + d

/-- The valuations hold the same contents at partner numbers from `lo` up to, but not with, `n`. -/
def Agree (lo d n : ℕ) (V₁ : Valuation τ₁ S₁ Val) (V₂ : Valuation τ₂ S₂ Val) : Prop :=
  ∀ (a : Ref S₁ .tc) (b : Ref S₂ .tc), Old lo d n a b →
    HEq (V₁ (Proc.devRef .tc a)) (V₂ (Proc.devRef .tc b))

/-- Running the two lines takes agreement up to `n` to agreement up to `N`. -/
def Sims (τ₁ τ₂ : Topo) (lo d N n : ℕ) (l₁ : List (HloOp τ₁ S₁ Val)) (l₂ : List (HloOp τ₂ S₂ Val)) : Prop :=
  ∀ V₁ V₂, Agree lo d n V₁ V₂ → Agree lo d N (after l₁ V₁) (after l₂ V₂)

theorem ref_ext {S : RefSig} {a b : Ref S .tc} (ha : a.space = .hbm) (hb : b.space = .hbm)
    (h : a.idx.val = b.idx.val) : a = b := by
  obtain ⟨sa, ia, _⟩ := a
  obtain ⟨sb, ib, _⟩ := b
  dsimp only at ha hb
  subst ha
  subst hb
  have : ia = ib := Fin.ext h
  subst this
  rfl

/-- One pair of operations: each writes its own new number with equal contents and leaves every
    other buffer alone. -/
theorem agree_step {lo d n : ℕ} {V₁ W₁ : Valuation τ₁ S₁ Val} {V₂ W₂ : Valuation τ₂ S₂ Val}
    {y₁ : Ref S₁ .tc} {y₂ : Ref S₂ .tc} (hy : At d n y₁ y₂) (hV : Agree lo d n V₁ V₂)
    (h₁ : ∀ r : Ref S₁ .tc, r ≠ y₁ → W₁ (Proc.devRef .tc r) = V₁ (Proc.devRef .tc r))
    (h₂ : ∀ r : Ref S₂ .tc, r ≠ y₂ → W₂ (Proc.devRef .tc r) = V₂ (Proc.devRef .tc r))
    (he : HEq (W₁ (Proc.devRef .tc y₁)) (W₂ (Proc.devRef .tc y₂))) : Agree lo d (n + 1) W₁ W₂ := by
  intro a b ⟨sa, sb, hl, hn, hb⟩
  obtain ⟨s₁, s₂, i₁, i₂⟩ := hy
  by_cases h : a.idx.val = n
  · have ea : a = y₁ := ref_ext sa s₁ (by omega)
    have eb : b = y₂ := ref_ext sb s₂ (by omega)
    subst ea
    subst eb
    exact he
  · have na : a ≠ y₁ := fun e => h (by rw [e, i₁])
    have nb : b ≠ y₂ := fun e => h (by
      have : b.idx.val = n + d := by rw [e, i₂]
      omega)
    rw [h₁ a na, h₂ b nb]
    exact hV a b ⟨sa, sb, hl, by omega, hb⟩

variable {lo d N n : ℕ} {l₁ : List (HloOp τ₁ S₁ Val)} {l₂ : List (HloOp τ₂ S₂ Val)}

theorem sims_nil : Sims τ₁ τ₂ lo d n n ([] : List (HloOp τ₁ S₁ Val)) ([] : List (HloOp τ₂ S₂ Val)) :=
  fun _ _ h => h

theorem read_eq {V₁ : Valuation τ₁ S₁ Val} {V₂ : Valuation τ₂ S₂ Val} {T : BufTy} {x₁ : TRef S₁ T} {x₂ : TRef S₂ T}
    (h : Agree lo d n V₁ V₂) (hx : Old lo d n x₁.ref x₂.ref) :
    x₁.ofBuf (V₁ (Proc.devRef .tc x₁.ref)) = x₂.ofBuf (V₂ (Proc.devRef .tc x₂.ref)) :=
  eq_of_heq ((cast_heq _ _).trans ((h _ _ hx).trans (cast_heq _ _).symm))

theorem write_heq {T : BufTy} (y₁ : TRef S₁ T) (y₂ : TRef S₂ T) {v w : T.Contents Val} (h : v = w) :
    HEq (y₁.toBuf v) (y₂.toBuf w) := by
  subst h
  exact (cast_heq _ _).trans (cast_heq _ _).symm

theorem sims_nullary {T : BufTy} {y₁ : TRef S₁ T} {y₂ : TRef S₂ T} {v : T.Contents Val}
    (hy : At d n y₁.ref y₂.ref) (hl : Sims τ₁ τ₂ lo d N (n + 1) l₁ l₂) :
    Sims τ₁ τ₂ lo d N n (TRef.nullary y₁ v :: l₁) (TRef.nullary y₂ v :: l₂) := fun V₁ V₂ h =>
  hl _ _ (agree_step hy h (fun _ hr => nullary_result_ne _ _ _ _ hr) (fun _ hr => nullary_result_ne _ _ _ _ hr) (by
    rw [nullary_result, nullary_result]; exact write_heq y₁ y₂ rfl))

theorem sims_unary {X T : BufTy} {x₁ : TRef S₁ X} {x₂ : TRef S₂ X} {y₁ : TRef S₁ T} {y₂ : TRef S₂ T}
    {f : X.Contents Val → T.Contents Val} (hx : Old lo d n x₁.ref x₂.ref)
    (hy : At d n y₁.ref y₂.ref) (hl : Sims τ₁ τ₂ lo d N (n + 1) l₁ l₂) :
    Sims τ₁ τ₂ lo d N n (TRef.unary x₁ y₁ f :: l₁) (TRef.unary x₂ y₂ f :: l₂) := fun V₁ V₂ h =>
  hl _ _ (agree_step hy h (fun _ hr => unary_result_ne _ _ _ _ _ _ hr) (fun _ hr => unary_result_ne _ _ _ _ _ _ hr) (by
    rw [unary_result, unary_result]; exact write_heq y₁ y₂ (congrArg f (read_eq h hx))))

theorem sims_binary {A B T : BufTy} {a₁ : TRef S₁ A} {a₂ : TRef S₂ A} {b₁ : TRef S₁ B} {b₂ : TRef S₂ B}
    {y₁ : TRef S₁ T} {y₂ : TRef S₂ T} {f : A.Contents Val → B.Contents Val → T.Contents Val}
    (ha : Old lo d n a₁.ref a₂.ref) (hb : Old lo d n b₁.ref b₂.ref)
    (hy : At d n y₁.ref y₂.ref) (hl : Sims τ₁ τ₂ lo d N (n + 1) l₁ l₂) :
    Sims τ₁ τ₂ lo d N n (TRef.binary a₁ b₁ y₁ f :: l₁) (TRef.binary a₂ b₂ y₂ f :: l₂) := fun V₁ V₂ h =>
  hl _ _ (agree_step hy h (fun _ hr => binary_result_ne _ _ _ _ _ _ _ _ hr) (fun _ hr => binary_result_ne _ _ _ _ _ _ _ _ hr) (by
    rw [binary_result, binary_result]; exact write_heq y₁ y₂ (congrArg₂ f (read_eq h ha) (read_eq h hb))))

/-- The same elements laid out at the same shape, the types of the four buffers being equal in pairs. -/
theorem recast {X₁ X₂ T₁ T₂ : BufTy} (hX : X₁ = X₂) (hT : T₁ = T₂) {v₁ : X₁.Contents Val} {v₂ : X₂.Contents Val}
    (hv : HEq v₁ v₂) (e₁ : X₁.elt = T₁.elt) (e₂ : X₂.elt = T₂.elt) (n₁ : X₁.shape.ShapeCasts T₁.shape)
    (n₂ : X₂.shape.ShapeCasts T₂.shape) :
    HEq ((fun i => e₁ ▸ shapeCast T₁.shape v₁ n₁ i : T₁.Contents Val))
      ((fun i => e₂ ▸ shapeCast T₂.shape v₂ n₂ i : T₂.Contents Val)) := by
  subst hX
  subst hT
  cases hv
  rfl

theorem sims_reshape {X T : BufTy} {x₁ : TRef S₁ X} {x₂ : TRef S₂ X} {y₁ : TRef S₁ T} {y₂ : TRef S₂ T}
    {e₁ e₂ : X.elt = T.elt} {n₁ n₂ : X.shape.ShapeCasts T.shape} (hx : Old lo d n x₁.ref x₂.ref)
    (hy : At d n y₁.ref y₂.ref) (hl : Sims τ₁ τ₂ lo d N (n + 1) l₁ l₂) :
    Sims τ₁ τ₂ lo d N n (TRef.reshape x₁ y₁ e₁ n₁ :: l₁) (TRef.reshape x₂ y₂ e₂ n₂ :: l₂) := fun V₁ V₂ h =>
  hl _ _ (agree_step hy h (fun _ hr => reshape_result_ne _ _ _ _ _ _ _ hr) (fun _ hr => reshape_result_ne _ _ _ _ _ _ _ hr) (by
    rw [reshape_result, reshape_result]
    exact recast (x₁.ty_eq.trans x₂.ty_eq.symm) (y₁.ty_eq.trans y₂.ty_eq.symm) (h _ _ hx) _ _ _ _))

/-- A line all of whose operations write one buffer of number at least `k` leaves the lower numbers alone. -/
def Above (k : ℕ) (op : HloOp τ₁ S₁ Val) : Prop :=
  ∃ r : Ref S₁ .tc, op.writes = {Proc.devRef .tc r} ∧ k ≤ r.idx.val

theorem after_below {k : ℕ} (hl : l₁.Forall (Above k)) (V : Valuation τ₁ S₁ Val) (r : Ref S₁ .tc) (hr : r.idx.val < k) :
    after l₁ V (Proc.devRef .tc r) = V (Proc.devRef .tc r) :=
  after_of_forall_not_mem l₁ V fun op hop hb => by
    obtain ⟨y, hw, hy⟩ := (List.forall_iff_forall_mem.mp hl) op hop
    rw [hw, Finset.mem_singleton] at hb
    have := Proc.devRef_injective _ hb
    subst this
    omega

end Cert.MiMask.Sim

end
-- ==== Proof.RefDraw.lean ====
/-
  The reference's draw of its random numbers, as a list of operations: the key, then the uniform
  draw itself with the two bounds, in the order the program runs them.
-/
module

public import proofs.«01_k».proof.Proof.Gen.ReferenceIdeal
public import Idealize.ShloMosaic.Lib.StableHlo.Run
public import proofs.«01_k».proof.Proof.Sim

@[expose] public section

noncomputable section

namespace Cert.MiMask.Draw

open Cert.ReferenceIdeal Cert.ReferenceIdeal.Gen Idealize.ShloMosaic Idealize.ShloMosaic.TcCoe Idealize.SL.Sem
  Idealize.ShloMosaic.StableHlo Cert.MiMask

variable {F : FTy → Type} [FloatOps F]

set_option maxHeartbeats 40000000 in
/-- The operations of the uniform draw, in order. -/
abbrev drawOps : List (HloOp τ sig (Elt F)) :=
  ( TRef.unary (.of main_cst_34 : TRef sig ⟨S_, .f32⟩) (.of main_call7_v0 : TRef sig ⟨S_, .f32⟩) id
  :: TRef.unary (.of main_cst_35 : TRef sig ⟨S_, .f32⟩) (.of main_call7_v1 : TRef sig ⟨S_, .f32⟩) id
  :: TRef.unary (.of main_call7_v0 : TRef sig ⟨S_, .f32⟩) (.of main_call7_v2 : TRef sig ⟨S1x1x1x1x1, .f32⟩) (broadcastInDim S1x1x1x1x1 ![] bcast_S_S1x1x1x1x1)
  :: TRef.unary (.of main_call7_v1 : TRef sig ⟨S_, .f32⟩) (.of main_call7_v3 : TRef sig ⟨S1x1x1x1x1, .f32⟩) (broadcastInDim S1x1x1x1x1 ![] bcast_S_S1x1x1x1x1)
  :: TRef.unary (.of main_v123 : TRef sig ⟨S2, .i32⟩) (.of main_call7_v4 : TRef sig ⟨S1, .i32⟩) (extractStridedSlice S1 ![0] · slices_S2_S1_0)
  :: TRef.reshape (.of main_call7_v4 : TRef sig ⟨S1, .i32⟩) (.of main_call7_v5 : TRef sig ⟨S_, .i32⟩) (rfl : (.i32 : EltTy) = .i32) shapeCasts_S1_S_
  :: TRef.unary (.of main_v123 : TRef sig ⟨S2, .i32⟩) (.of main_call7_v6 : TRef sig ⟨S1, .i32⟩) (extractStridedSlice S1 ![1] · slices_S2_S1_1)
  :: TRef.reshape (.of main_call7_v6 : TRef sig ⟨S1, .i32⟩) (.of main_call7_v7 : TRef sig ⟨S_, .i32⟩) (rfl : (.i32 : EltTy) = .i32) shapeCasts_S1_S_
  :: TRef.nullary (.of main_call7_v8 : TRef sig ⟨S16x4x3x32x32, .i64⟩) (iotaInDim S16x4x3x32x32 64 0)
  :: TRef.nullary (.of main_call7_v9 : TRef sig ⟨S16x4x3x32x32, .i64⟩) (iotaInDim S16x4x3x32x32 64 1)
  :: TRef.nullary (.of main_call7_v10 : TRef sig ⟨S16x4x3x32x32, .i64⟩) (iotaInDim S16x4x3x32x32 64 2)
  :: TRef.nullary (.of main_call7_v11 : TRef sig ⟨S16x4x3x32x32, .i64⟩) (iotaInDim S16x4x3x32x32 64 3)
  :: TRef.nullary (.of main_call7_v12 : TRef sig ⟨S16x4x3x32x32, .i64⟩) (iotaInDim S16x4x3x32x32 64 4)
  :: TRef.nullary (.of main_call7_c : TRef sig ⟨S_, .i64⟩) (constantI S_ 64 12288#64)
  :: TRef.unary (.of main_call7_c : TRef sig ⟨S_, .i64⟩) (.of main_call7_v13 : TRef sig ⟨S16x4x3x32x32, .i64⟩) (broadcastInDim S16x4x3x32x32 ![] bcast_S_S16x4x3x32x32)
  :: TRef.binary (.of main_call7_v13 : TRef sig ⟨S16x4x3x32x32, .i64⟩) (.of main_call7_v8 : TRef sig ⟨S16x4x3x32x32, .i64⟩) (.of main_call7_v14 : TRef sig ⟨S16x4x3x32x32, .i64⟩) muli
  :: TRef.nullary (.of main_call7_c_0 : TRef sig ⟨S_, .i64⟩) (constantI S_ 64 3072#64)
  :: TRef.unary (.of main_call7_c_0 : TRef sig ⟨S_, .i64⟩) (.of main_call7_v15 : TRef sig ⟨S16x4x3x32x32, .i64⟩) (broadcastInDim S16x4x3x32x32 ![] bcast_S_S16x4x3x32x32)
  :: TRef.binary (.of main_call7_v15 : TRef sig ⟨S16x4x3x32x32, .i64⟩) (.of main_call7_v9 : TRef sig ⟨S16x4x3x32x32, .i64⟩) (.of main_call7_v16 : TRef sig ⟨S16x4x3x32x32, .i64⟩) muli
  :: TRef.nullary (.of main_call7_c_1 : TRef sig ⟨S_, .i64⟩) (constantI S_ 64 1024#64)
  :: TRef.unary (.of main_call7_c_1 : TRef sig ⟨S_, .i64⟩) (.of main_call7_v17 : TRef sig ⟨S16x4x3x32x32, .i64⟩) (broadcastInDim S16x4x3x32x32 ![] bcast_S_S16x4x3x32x32)
  :: TRef.binary (.of main_call7_v17 : TRef sig ⟨S16x4x3x32x32, .i64⟩) (.of main_call7_v10 : TRef sig ⟨S16x4x3x32x32, .i64⟩) (.of main_call7_v18 : TRef sig ⟨S16x4x3x32x32, .i64⟩) muli
  :: TRef.nullary (.of main_call7_c_2 : TRef sig ⟨S_, .i64⟩) (constantI S_ 64 32#64)
  :: TRef.unary (.of main_call7_c_2 : TRef sig ⟨S_, .i64⟩) (.of main_call7_v19 : TRef sig ⟨S16x4x3x32x32, .i64⟩) (broadcastInDim S16x4x3x32x32 ![] bcast_S_S16x4x3x32x32)
  :: TRef.binary (.of main_call7_v19 : TRef sig ⟨S16x4x3x32x32, .i64⟩) (.of main_call7_v11 : TRef sig ⟨S16x4x3x32x32, .i64⟩) (.of main_call7_v20 : TRef sig ⟨S16x4x3x32x32, .i64⟩) muli
  :: TRef.nullary (.of main_call7_c_3 : TRef sig ⟨S_, .i64⟩) (constantI S_ 64 1#64)
  :: TRef.unary (.of main_call7_c_3 : TRef sig ⟨S_, .i64⟩) (.of main_call7_v21 : TRef sig ⟨S16x4x3x32x32, .i64⟩) (broadcastInDim S16x4x3x32x32 ![] bcast_S_S16x4x3x32x32)
  :: TRef.binary (.of main_call7_v21 : TRef sig ⟨S16x4x3x32x32, .i64⟩) (.of main_call7_v12 : TRef sig ⟨S16x4x3x32x32, .i64⟩) (.of main_call7_v22 : TRef sig ⟨S16x4x3x32x32, .i64⟩) muli
  :: TRef.binary (.of main_call7_v14 : TRef sig ⟨S16x4x3x32x32, .i64⟩) (.of main_call7_v16 : TRef sig ⟨S16x4x3x32x32, .i64⟩) (.of main_call7_v23 : TRef sig ⟨S16x4x3x32x32, .i64⟩) addi
  :: TRef.binary (.of main_call7_v23 : TRef sig ⟨S16x4x3x32x32, .i64⟩) (.of main_call7_v18 : TRef sig ⟨S16x4x3x32x32, .i64⟩) (.of main_call7_v24 : TRef sig ⟨S16x4x3x32x32, .i64⟩) addi
  :: TRef.binary (.of main_call7_v24 : TRef sig ⟨S16x4x3x32x32, .i64⟩) (.of main_call7_v20 : TRef sig ⟨S16x4x3x32x32, .i64⟩) (.of main_call7_v25 : TRef sig ⟨S16x4x3x32x32, .i64⟩) addi
  :: TRef.binary (.of main_call7_v25 : TRef sig ⟨S16x4x3x32x32, .i64⟩) (.of main_call7_v22 : TRef sig ⟨S16x4x3x32x32, .i64⟩) (.of main_call7_v26 : TRef sig ⟨S16x4x3x32x32, .i64⟩) addi
  :: TRef.nullary (.of main_call7_c_4 : TRef sig ⟨S_, .i64⟩) (constantI S_ 64 32#64)
  :: TRef.unary (.of main_call7_c_4 : TRef sig ⟨S_, .i64⟩) (.of main_call7_v27 : TRef sig ⟨S16x4x3x32x32, .i64⟩) (broadcastInDim S16x4x3x32x32 ![] bcast_S_S16x4x3x32x32)
  :: TRef.binary (.of main_call7_v26 : TRef sig ⟨S16x4x3x32x32, .i64⟩) (.of main_call7_v27 : TRef sig ⟨S16x4x3x32x32, .i64⟩) (.of main_call7_v28 : TRef sig ⟨S16x4x3x32x32, .i64⟩) Host.shrui
  :: TRef.unary (.of main_call7_v26 : TRef sig ⟨S16x4x3x32x32, .i64⟩) (.of main_call7_v29 : TRef sig ⟨S16x4x3x32x32, .i32⟩) (trunci 32 · natLt_32_64)
  :: TRef.unary (.of main_call7_v28 : TRef sig ⟨S16x4x3x32x32, .i64⟩) (.of main_call7_v30 : TRef sig ⟨S16x4x3x32x32, .i32⟩) (trunci 32 · natLt_32_64)
  :: TRef.binary (.of main_call7_v5 : TRef sig ⟨S_, .i32⟩) (.of main_call7_v7 : TRef sig ⟨S_, .i32⟩) (.of main_call7_call0_v0 : TRef sig ⟨S_, .i32⟩) xori
  :: TRef.nullary (.of main_call7_call0_c : TRef sig ⟨S_, .i32⟩) (constantI S_ 32 466688986#32)
  :: TRef.binary (.of main_call7_call0_v0 : TRef sig ⟨S_, .i32⟩) (.of main_call7_call0_c : TRef sig ⟨S_, .i32⟩) (.of main_call7_call0_v1 : TRef sig ⟨S_, .i32⟩) xori
  :: TRef.unary (.of main_call7_v5 : TRef sig ⟨S_, .i32⟩) (.of main_call7_call0_v2 : TRef sig ⟨S16x4x3x32x32, .i32⟩) (broadcastInDim S16x4x3x32x32 ![] bcast_S_S16x4x3x32x32)
  :: TRef.binary (.of main_call7_v30 : TRef sig ⟨S16x4x3x32x32, .i32⟩) (.of main_call7_call0_v2 : TRef sig ⟨S16x4x3x32x32, .i32⟩) (.of main_call7_call0_v3 : TRef sig ⟨S16x4x3x32x32, .i32⟩) addi
  :: TRef.unary (.of main_call7_v7 : TRef sig ⟨S_, .i32⟩) (.of main_call7_call0_v4 : TRef sig ⟨S16x4x3x32x32, .i32⟩) (broadcastInDim S16x4x3x32x32 ![] bcast_S_S16x4x3x32x32)
  :: TRef.binary (.of main_call7_v29 : TRef sig ⟨S16x4x3x32x32, .i32⟩) (.of main_call7_call0_v4 : TRef sig ⟨S16x4x3x32x32, .i32⟩) (.of main_call7_call0_v5 : TRef sig ⟨S16x4x3x32x32, .i32⟩) addi
  :: TRef.binary (.of main_call7_call0_v3 : TRef sig ⟨S16x4x3x32x32, .i32⟩) (.of main_call7_call0_v5 : TRef sig ⟨S16x4x3x32x32, .i32⟩) (.of main_call7_call0_v6 : TRef sig ⟨S16x4x3x32x32, .i32⟩) addi
  :: TRef.nullary (.of main_call7_call0_c_0 : TRef sig ⟨S_, .i32⟩) (constantI S_ 32 13#32)
  :: TRef.unary (.of main_call7_call0_c_0 : TRef sig ⟨S_, .i32⟩) (.of main_call7_call0_v7 : TRef sig ⟨S16x4x3x32x32, .i32⟩) (broadcastInDim S16x4x3x32x32 ![] bcast_S_S16x4x3x32x32)
  :: TRef.binary (.of main_call7_call0_v5 : TRef sig ⟨S16x4x3x32x32, .i32⟩) (.of main_call7_call0_v7 : TRef sig ⟨S16x4x3x32x32, .i32⟩) (.of main_call7_call0_v8 : TRef sig ⟨S16x4x3x32x32, .i32⟩) Host.shli
  :: TRef.nullary (.of main_call7_call0_c_1 : TRef sig ⟨S_, .i32⟩) (constantI S_ 32 19#32)
  :: TRef.unary (.of main_call7_call0_c_1 : TRef sig ⟨S_, .i32⟩) (.of main_call7_call0_v9 : TRef sig ⟨S16x4x3x32x32, .i32⟩) (broadcastInDim S16x4x3x32x32 ![] bcast_S_S16x4x3x32x32)
  :: TRef.binary (.of main_call7_call0_v5 : TRef sig ⟨S16x4x3x32x32, .i32⟩) (.of main_call7_call0_v9 : TRef sig ⟨S16x4x3x32x32, .i32⟩) (.of main_call7_call0_v10 : TRef sig ⟨S16x4x3x32x32, .i32⟩) Host.shrui
  :: TRef.binary (.of main_call7_call0_v8 : TRef sig ⟨S16x4x3x32x32, .i32⟩) (.of main_call7_call0_v10 : TRef sig ⟨S16x4x3x32x32, .i32⟩) (.of main_call7_call0_v11 : TRef sig ⟨S16x4x3x32x32, .i32⟩) ori
  :: TRef.binary (.of main_call7_call0_v6 : TRef sig ⟨S16x4x3x32x32, .i32⟩) (.of main_call7_call0_v11 : TRef sig ⟨S16x4x3x32x32, .i32⟩) (.of main_call7_call0_v12 : TRef sig ⟨S16x4x3x32x32, .i32⟩) xori
  :: TRef.binary (.of main_call7_call0_v6 : TRef sig ⟨S16x4x3x32x32, .i32⟩) (.of main_call7_call0_v12 : TRef sig ⟨S16x4x3x32x32, .i32⟩) (.of main_call7_call0_v13 : TRef sig ⟨S16x4x3x32x32, .i32⟩) addi
  :: TRef.nullary (.of main_call7_call0_c_2 : TRef sig ⟨S_, .i32⟩) (constantI S_ 32 15#32)
  :: TRef.unary (.of main_call7_call0_c_2 : TRef sig ⟨S_, .i32⟩) (.of main_call7_call0_v14 : TRef sig ⟨S16x4x3x32x32, .i32⟩) (broadcastInDim S16x4x3x32x32 ![] bcast_S_S16x4x3x32x32)
  :: TRef.binary (.of main_call7_call0_v12 : TRef sig ⟨S16x4x3x32x32, .i32⟩) (.of main_call7_call0_v14 : TRef sig ⟨S16x4x3x32x32, .i32⟩) (.of main_call7_call0_v15 : TRef sig ⟨S16x4x3x32x32, .i32⟩) Host.shli
  :: TRef.nullary (.of main_call7_call0_c_3 : TRef sig ⟨S_, .i32⟩) (constantI S_ 32 17#32)
  :: TRef.unary (.of main_call7_call0_c_3 : TRef sig ⟨S_, .i32⟩) (.of main_call7_call0_v16 : TRef sig ⟨S16x4x3x32x32, .i32⟩) (broadcastInDim S16x4x3x32x32 ![] bcast_S_S16x4x3x32x32)
  :: TRef.binary (.of main_call7_call0_v12 : TRef sig ⟨S16x4x3x32x32, .i32⟩) (.of main_call7_call0_v16 : TRef sig ⟨S16x4x3x32x32, .i32⟩) (.of main_call7_call0_v17 : TRef sig ⟨S16x4x3x32x32, .i32⟩) Host.shrui
  :: TRef.binary (.of main_call7_call0_v15 : TRef sig ⟨S16x4x3x32x32, .i32⟩) (.of main_call7_call0_v17 : TRef sig ⟨S16x4x3x32x32, .i32⟩) (.of main_call7_call0_v18 : TRef sig ⟨S16x4x3x32x32, .i32⟩) ori
  :: TRef.binary (.of main_call7_call0_v13 : TRef sig ⟨S16x4x3x32x32, .i32⟩) (.of main_call7_call0_v18 : TRef sig ⟨S16x4x3x32x32, .i32⟩) (.of main_call7_call0_v19 : TRef sig ⟨S16x4x3x32x32, .i32⟩) xori
  :: TRef.binary (.of main_call7_call0_v13 : TRef sig ⟨S16x4x3x32x32, .i32⟩) (.of main_call7_call0_v19 : TRef sig ⟨S16x4x3x32x32, .i32⟩) (.of main_call7_call0_v20 : TRef sig ⟨S16x4x3x32x32, .i32⟩) addi
  :: TRef.nullary (.of main_call7_call0_c_4 : TRef sig ⟨S_, .i32⟩) (constantI S_ 32 26#32)
  :: TRef.unary (.of main_call7_call0_c_4 : TRef sig ⟨S_, .i32⟩) (.of main_call7_call0_v21 : TRef sig ⟨S16x4x3x32x32, .i32⟩) (broadcastInDim S16x4x3x32x32 ![] bcast_S_S16x4x3x32x32)
  :: TRef.binary (.of main_call7_call0_v19 : TRef sig ⟨S16x4x3x32x32, .i32⟩) (.of main_call7_call0_v21 : TRef sig ⟨S16x4x3x32x32, .i32⟩) (.of main_call7_call0_v22 : TRef sig ⟨S16x4x3x32x32, .i32⟩) Host.shli
  :: TRef.nullary (.of main_call7_call0_c_5 : TRef sig ⟨S_, .i32⟩) (constantI S_ 32 6#32)
  :: TRef.unary (.of main_call7_call0_c_5 : TRef sig ⟨S_, .i32⟩) (.of main_call7_call0_v23 : TRef sig ⟨S16x4x3x32x32, .i32⟩) (broadcastInDim S16x4x3x32x32 ![] bcast_S_S16x4x3x32x32)
  :: TRef.binary (.of main_call7_call0_v19 : TRef sig ⟨S16x4x3x32x32, .i32⟩) (.of main_call7_call0_v23 : TRef sig ⟨S16x4x3x32x32, .i32⟩) (.of main_call7_call0_v24 : TRef sig ⟨S16x4x3x32x32, .i32⟩) Host.shrui
  :: TRef.binary (.of main_call7_call0_v22 : TRef sig ⟨S16x4x3x32x32, .i32⟩) (.of main_call7_call0_v24 : TRef sig ⟨S16x4x3x32x32, .i32⟩) (.of main_call7_call0_v25 : TRef sig ⟨S16x4x3x32x32, .i32⟩) ori
  :: TRef.binary (.of main_call7_call0_v20 : TRef sig ⟨S16x4x3x32x32, .i32⟩) (.of main_call7_call0_v25 : TRef sig ⟨S16x4x3x32x32, .i32⟩) (.of main_call7_call0_v26 : TRef sig ⟨S16x4x3x32x32, .i32⟩) xori
  :: TRef.binary (.of main_call7_call0_v20 : TRef sig ⟨S16x4x3x32x32, .i32⟩) (.of main_call7_call0_v26 : TRef sig ⟨S16x4x3x32x32, .i32⟩) (.of main_call7_call0_v27 : TRef sig ⟨S16x4x3x32x32, .i32⟩) addi
  :: TRef.nullary (.of main_call7_call0_c_6 : TRef sig ⟨S_, .i32⟩) (constantI S_ 32 6#32)
  :: TRef.unary (.of main_call7_call0_c_6 : TRef sig ⟨S_, .i32⟩) (.of main_call7_call0_v28 : TRef sig ⟨S16x4x3x32x32, .i32⟩) (broadcastInDim S16x4x3x32x32 ![] bcast_S_S16x4x3x32x32)
  :: TRef.binary (.of main_call7_call0_v26 : TRef sig ⟨S16x4x3x32x32, .i32⟩) (.of main_call7_call0_v28 : TRef sig ⟨S16x4x3x32x32, .i32⟩) (.of main_call7_call0_v29 : TRef sig ⟨S16x4x3x32x32, .i32⟩) Host.shli
  :: TRef.nullary (.of main_call7_call0_c_7 : TRef sig ⟨S_, .i32⟩) (constantI S_ 32 26#32)
  :: TRef.unary (.of main_call7_call0_c_7 : TRef sig ⟨S_, .i32⟩) (.of main_call7_call0_v30 : TRef sig ⟨S16x4x3x32x32, .i32⟩) (broadcastInDim S16x4x3x32x32 ![] bcast_S_S16x4x3x32x32)
  :: TRef.binary (.of main_call7_call0_v26 : TRef sig ⟨S16x4x3x32x32, .i32⟩) (.of main_call7_call0_v30 : TRef sig ⟨S16x4x3x32x32, .i32⟩) (.of main_call7_call0_v31 : TRef sig ⟨S16x4x3x32x32, .i32⟩) Host.shrui
  :: TRef.binary (.of main_call7_call0_v29 : TRef sig ⟨S16x4x3x32x32, .i32⟩) (.of main_call7_call0_v31 : TRef sig ⟨S16x4x3x32x32, .i32⟩) (.of main_call7_call0_v32 : TRef sig ⟨S16x4x3x32x32, .i32⟩) ori
  :: TRef.binary (.of main_call7_call0_v27 : TRef sig ⟨S16x4x3x32x32, .i32⟩) (.of main_call7_call0_v32 : TRef sig ⟨S16x4x3x32x32, .i32⟩) (.of main_call7_call0_v33 : TRef sig ⟨S16x4x3x32x32, .i32⟩) xori
  :: TRef.unary (.of main_call7_v7 : TRef sig ⟨S_, .i32⟩) (.of main_call7_call0_v34 : TRef sig ⟨S16x4x3x32x32, .i32⟩) (broadcastInDim S16x4x3x32x32 ![] bcast_S_S16x4x3x32x32)
  :: TRef.binary (.of main_call7_call0_v27 : TRef sig ⟨S16x4x3x32x32, .i32⟩) (.of main_call7_call0_v34 : TRef sig ⟨S16x4x3x32x32, .i32⟩) (.of main_call7_call0_v35 : TRef sig ⟨S16x4x3x32x32, .i32⟩) addi
  :: TRef.unary (.of main_call7_call0_v1 : TRef sig ⟨S_, .i32⟩) (.of main_call7_call0_v36 : TRef sig ⟨S16x4x3x32x32, .i32⟩) (broadcastInDim S16x4x3x32x32 ![] bcast_S_S16x4x3x32x32)
  :: TRef.binary (.of main_call7_call0_v33 : TRef sig ⟨S16x4x3x32x32, .i32⟩) (.of main_call7_call0_v36 : TRef sig ⟨S16x4x3x32x32, .i32⟩) (.of main_call7_call0_v37 : TRef sig ⟨S16x4x3x32x32, .i32⟩) addi
  :: TRef.nullary (.of main_call7_call0_c_8 : TRef sig ⟨S_, .i32⟩) (constantI S_ 32 1#32)
  :: TRef.unary (.of main_call7_call0_c_8 : TRef sig ⟨S_, .i32⟩) (.of main_call7_call0_v38 : TRef sig ⟨S16x4x3x32x32, .i32⟩) (broadcastInDim S16x4x3x32x32 ![] bcast_S_S16x4x3x32x32)
  :: TRef.binary (.of main_call7_call0_v37 : TRef sig ⟨S16x4x3x32x32, .i32⟩) (.of main_call7_call0_v38 : TRef sig ⟨S16x4x3x32x32, .i32⟩) (.of main_call7_call0_v39 : TRef sig ⟨S16x4x3x32x32, .i32⟩) addi
  :: TRef.binary (.of main_call7_call0_v35 : TRef sig ⟨S16x4x3x32x32, .i32⟩) (.of main_call7_call0_v39 : TRef sig ⟨S16x4x3x32x32, .i32⟩) (.of main_call7_call0_v40 : TRef sig ⟨S16x4x3x32x32, .i32⟩) addi
  :: TRef.nullary (.of main_call7_call0_c_9 : TRef sig ⟨S_, .i32⟩) (constantI S_ 32 17#32)
  :: TRef.unary (.of main_call7_call0_c_9 : TRef sig ⟨S_, .i32⟩) (.of main_call7_call0_v41 : TRef sig ⟨S16x4x3x32x32, .i32⟩) (broadcastInDim S16x4x3x32x32 ![] bcast_S_S16x4x3x32x32)
  :: TRef.binary (.of main_call7_call0_v39 : TRef sig ⟨S16x4x3x32x32, .i32⟩) (.of main_call7_call0_v41 : TRef sig ⟨S16x4x3x32x32, .i32⟩) (.of main_call7_call0_v42 : TRef sig ⟨S16x4x3x32x32, .i32⟩) Host.shli
  :: TRef.nullary (.of main_call7_call0_c_10 : TRef sig ⟨S_, .i32⟩) (constantI S_ 32 15#32)
  :: TRef.unary (.of main_call7_call0_c_10 : TRef sig ⟨S_, .i32⟩) (.of main_call7_call0_v43 : TRef sig ⟨S16x4x3x32x32, .i32⟩) (broadcastInDim S16x4x3x32x32 ![] bcast_S_S16x4x3x32x32)
  :: TRef.binary (.of main_call7_call0_v39 : TRef sig ⟨S16x4x3x32x32, .i32⟩) (.of main_call7_call0_v43 : TRef sig ⟨S16x4x3x32x32, .i32⟩) (.of main_call7_call0_v44 : TRef sig ⟨S16x4x3x32x32, .i32⟩) Host.shrui
  :: TRef.binary (.of main_call7_call0_v42 : TRef sig ⟨S16x4x3x32x32, .i32⟩) (.of main_call7_call0_v44 : TRef sig ⟨S16x4x3x32x32, .i32⟩) (.of main_call7_call0_v45 : TRef sig ⟨S16x4x3x32x32, .i32⟩) ori
  :: TRef.binary (.of main_call7_call0_v40 : TRef sig ⟨S16x4x3x32x32, .i32⟩) (.of main_call7_call0_v45 : TRef sig ⟨S16x4x3x32x32, .i32⟩) (.of main_call7_call0_v46 : TRef sig ⟨S16x4x3x32x32, .i32⟩) xori
  :: TRef.binary (.of main_call7_call0_v40 : TRef sig ⟨S16x4x3x32x32, .i32⟩) (.of main_call7_call0_v46 : TRef sig ⟨S16x4x3x32x32, .i32⟩) (.of main_call7_call0_v47 : TRef sig ⟨S16x4x3x32x32, .i32⟩) addi
  :: TRef.nullary (.of main_call7_call0_c_11 : TRef sig ⟨S_, .i32⟩) (constantI S_ 32 29#32)
  :: TRef.unary (.of main_call7_call0_c_11 : TRef sig ⟨S_, .i32⟩) (.of main_call7_call0_v48 : TRef sig ⟨S16x4x3x32x32, .i32⟩) (broadcastInDim S16x4x3x32x32 ![] bcast_S_S16x4x3x32x32)
  :: TRef.binary (.of main_call7_call0_v46 : TRef sig ⟨S16x4x3x32x32, .i32⟩) (.of main_call7_call0_v48 : TRef sig ⟨S16x4x3x32x32, .i32⟩) (.of main_call7_call0_v49 : TRef sig ⟨S16x4x3x32x32, .i32⟩) Host.shli
  :: TRef.nullary (.of main_call7_call0_c_12 : TRef sig ⟨S_, .i32⟩) (constantI S_ 32 3#32)
  :: TRef.unary (.of main_call7_call0_c_12 : TRef sig ⟨S_, .i32⟩) (.of main_call7_call0_v50 : TRef sig ⟨S16x4x3x32x32, .i32⟩) (broadcastInDim S16x4x3x32x32 ![] bcast_S_S16x4x3x32x32)
  :: TRef.binary (.of main_call7_call0_v46 : TRef sig ⟨S16x4x3x32x32, .i32⟩) (.of main_call7_call0_v50 : TRef sig ⟨S16x4x3x32x32, .i32⟩) (.of main_call7_call0_v51 : TRef sig ⟨S16x4x3x32x32, .i32⟩) Host.shrui
  :: TRef.binary (.of main_call7_call0_v49 : TRef sig ⟨S16x4x3x32x32, .i32⟩) (.of main_call7_call0_v51 : TRef sig ⟨S16x4x3x32x32, .i32⟩) (.of main_call7_call0_v52 : TRef sig ⟨S16x4x3x32x32, .i32⟩) ori
  :: TRef.binary (.of main_call7_call0_v47 : TRef sig ⟨S16x4x3x32x32, .i32⟩) (.of main_call7_call0_v52 : TRef sig ⟨S16x4x3x32x32, .i32⟩) (.of main_call7_call0_v53 : TRef sig ⟨S16x4x3x32x32, .i32⟩) xori
  :: TRef.binary (.of main_call7_call0_v47 : TRef sig ⟨S16x4x3x32x32, .i32⟩) (.of main_call7_call0_v53 : TRef sig ⟨S16x4x3x32x32, .i32⟩) (.of main_call7_call0_v54 : TRef sig ⟨S16x4x3x32x32, .i32⟩) addi
  :: TRef.nullary (.of main_call7_call0_c_13 : TRef sig ⟨S_, .i32⟩) (constantI S_ 32 16#32)
  :: TRef.unary (.of main_call7_call0_c_13 : TRef sig ⟨S_, .i32⟩) (.of main_call7_call0_v55 : TRef sig ⟨S16x4x3x32x32, .i32⟩) (broadcastInDim S16x4x3x32x32 ![] bcast_S_S16x4x3x32x32)
  :: TRef.binary (.of main_call7_call0_v53 : TRef sig ⟨S16x4x3x32x32, .i32⟩) (.of main_call7_call0_v55 : TRef sig ⟨S16x4x3x32x32, .i32⟩) (.of main_call7_call0_v56 : TRef sig ⟨S16x4x3x32x32, .i32⟩) Host.shli
  :: TRef.nullary (.of main_call7_call0_c_14 : TRef sig ⟨S_, .i32⟩) (constantI S_ 32 16#32)
  :: TRef.unary (.of main_call7_call0_c_14 : TRef sig ⟨S_, .i32⟩) (.of main_call7_call0_v57 : TRef sig ⟨S16x4x3x32x32, .i32⟩) (broadcastInDim S16x4x3x32x32 ![] bcast_S_S16x4x3x32x32)
  :: TRef.binary (.of main_call7_call0_v53 : TRef sig ⟨S16x4x3x32x32, .i32⟩) (.of main_call7_call0_v57 : TRef sig ⟨S16x4x3x32x32, .i32⟩) (.of main_call7_call0_v58 : TRef sig ⟨S16x4x3x32x32, .i32⟩) Host.shrui
  :: TRef.binary (.of main_call7_call0_v56 : TRef sig ⟨S16x4x3x32x32, .i32⟩) (.of main_call7_call0_v58 : TRef sig ⟨S16x4x3x32x32, .i32⟩) (.of main_call7_call0_v59 : TRef sig ⟨S16x4x3x32x32, .i32⟩) ori
  :: TRef.binary (.of main_call7_call0_v54 : TRef sig ⟨S16x4x3x32x32, .i32⟩) (.of main_call7_call0_v59 : TRef sig ⟨S16x4x3x32x32, .i32⟩) (.of main_call7_call0_v60 : TRef sig ⟨S16x4x3x32x32, .i32⟩) xori
  :: TRef.binary (.of main_call7_call0_v54 : TRef sig ⟨S16x4x3x32x32, .i32⟩) (.of main_call7_call0_v60 : TRef sig ⟨S16x4x3x32x32, .i32⟩) (.of main_call7_call0_v61 : TRef sig ⟨S16x4x3x32x32, .i32⟩) addi
  :: TRef.nullary (.of main_call7_call0_c_15 : TRef sig ⟨S_, .i32⟩) (constantI S_ 32 24#32)
  :: TRef.unary (.of main_call7_call0_c_15 : TRef sig ⟨S_, .i32⟩) (.of main_call7_call0_v62 : TRef sig ⟨S16x4x3x32x32, .i32⟩) (broadcastInDim S16x4x3x32x32 ![] bcast_S_S16x4x3x32x32)
  :: TRef.binary (.of main_call7_call0_v60 : TRef sig ⟨S16x4x3x32x32, .i32⟩) (.of main_call7_call0_v62 : TRef sig ⟨S16x4x3x32x32, .i32⟩) (.of main_call7_call0_v63 : TRef sig ⟨S16x4x3x32x32, .i32⟩) Host.shli
  :: TRef.nullary (.of main_call7_call0_c_16 : TRef sig ⟨S_, .i32⟩) (constantI S_ 32 8#32)
  :: TRef.unary (.of main_call7_call0_c_16 : TRef sig ⟨S_, .i32⟩) (.of main_call7_call0_v64 : TRef sig ⟨S16x4x3x32x32, .i32⟩) (broadcastInDim S16x4x3x32x32 ![] bcast_S_S16x4x3x32x32)
  :: TRef.binary (.of main_call7_call0_v60 : TRef sig ⟨S16x4x3x32x32, .i32⟩) (.of main_call7_call0_v64 : TRef sig ⟨S16x4x3x32x32, .i32⟩) (.of main_call7_call0_v65 : TRef sig ⟨S16x4x3x32x32, .i32⟩) Host.shrui
  :: TRef.binary (.of main_call7_call0_v63 : TRef sig ⟨S16x4x3x32x32, .i32⟩) (.of main_call7_call0_v65 : TRef sig ⟨S16x4x3x32x32, .i32⟩) (.of main_call7_call0_v66 : TRef sig ⟨S16x4x3x32x32, .i32⟩) ori
  :: TRef.binary (.of main_call7_call0_v61 : TRef sig ⟨S16x4x3x32x32, .i32⟩) (.of main_call7_call0_v66 : TRef sig ⟨S16x4x3x32x32, .i32⟩) (.of main_call7_call0_v67 : TRef sig ⟨S16x4x3x32x32, .i32⟩) xori
  :: TRef.unary (.of main_call7_call0_v1 : TRef sig ⟨S_, .i32⟩) (.of main_call7_call0_v68 : TRef sig ⟨S16x4x3x32x32, .i32⟩) (broadcastInDim S16x4x3x32x32 ![] bcast_S_S16x4x3x32x32)
  :: TRef.binary (.of main_call7_call0_v61 : TRef sig ⟨S16x4x3x32x32, .i32⟩) (.of main_call7_call0_v68 : TRef sig ⟨S16x4x3x32x32, .i32⟩) (.of main_call7_call0_v69 : TRef sig ⟨S16x4x3x32x32, .i32⟩) addi
  :: TRef.unary (.of main_call7_v5 : TRef sig ⟨S_, .i32⟩) (.of main_call7_call0_v70 : TRef sig ⟨S16x4x3x32x32, .i32⟩) (broadcastInDim S16x4x3x32x32 ![] bcast_S_S16x4x3x32x32)
  :: TRef.binary (.of main_call7_call0_v67 : TRef sig ⟨S16x4x3x32x32, .i32⟩) (.of main_call7_call0_v70 : TRef sig ⟨S16x4x3x32x32, .i32⟩) (.of main_call7_call0_v71 : TRef sig ⟨S16x4x3x32x32, .i32⟩) addi
  :: TRef.nullary (.of main_call7_call0_c_17 : TRef sig ⟨S_, .i32⟩) (constantI S_ 32 2#32)
  :: TRef.unary (.of main_call7_call0_c_17 : TRef sig ⟨S_, .i32⟩) (.of main_call7_call0_v72 : TRef sig ⟨S16x4x3x32x32, .i32⟩) (broadcastInDim S16x4x3x32x32 ![] bcast_S_S16x4x3x32x32)
  :: TRef.binary (.of main_call7_call0_v71 : TRef sig ⟨S16x4x3x32x32, .i32⟩) (.of main_call7_call0_v72 : TRef sig ⟨S16x4x3x32x32, .i32⟩) (.of main_call7_call0_v73 : TRef sig ⟨S16x4x3x32x32, .i32⟩) addi
  :: TRef.binary (.of main_call7_call0_v69 : TRef sig ⟨S16x4x3x32x32, .i32⟩) (.of main_call7_call0_v73 : TRef sig ⟨S16x4x3x32x32, .i32⟩) (.of main_call7_call0_v74 : TRef sig ⟨S16x4x3x32x32, .i32⟩) addi
  :: TRef.nullary (.of main_call7_call0_c_18 : TRef sig ⟨S_, .i32⟩) (constantI S_ 32 13#32)
  :: TRef.unary (.of main_call7_call0_c_18 : TRef sig ⟨S_, .i32⟩) (.of main_call7_call0_v75 : TRef sig ⟨S16x4x3x32x32, .i32⟩) (broadcastInDim S16x4x3x32x32 ![] bcast_S_S16x4x3x32x32)
  :: TRef.binary (.of main_call7_call0_v73 : TRef sig ⟨S16x4x3x32x32, .i32⟩) (.of main_call7_call0_v75 : TRef sig ⟨S16x4x3x32x32, .i32⟩) (.of main_call7_call0_v76 : TRef sig ⟨S16x4x3x32x32, .i32⟩) Host.shli
  :: TRef.nullary (.of main_call7_call0_c_19 : TRef sig ⟨S_, .i32⟩) (constantI S_ 32 19#32)
  :: TRef.unary (.of main_call7_call0_c_19 : TRef sig ⟨S_, .i32⟩) (.of main_call7_call0_v77 : TRef sig ⟨S16x4x3x32x32, .i32⟩) (broadcastInDim S16x4x3x32x32 ![] bcast_S_S16x4x3x32x32)
  :: TRef.binary (.of main_call7_call0_v73 : TRef sig ⟨S16x4x3x32x32, .i32⟩) (.of main_call7_call0_v77 : TRef sig ⟨S16x4x3x32x32, .i32⟩) (.of main_call7_call0_v78 : TRef sig ⟨S16x4x3x32x32, .i32⟩) Host.shrui
  :: TRef.binary (.of main_call7_call0_v76 : TRef sig ⟨S16x4x3x32x32, .i32⟩) (.of main_call7_call0_v78 : TRef sig ⟨S16x4x3x32x32, .i32⟩) (.of main_call7_call0_v79 : TRef sig ⟨S16x4x3x32x32, .i32⟩) ori
  :: TRef.binary (.of main_call7_call0_v74 : TRef sig ⟨S16x4x3x32x32, .i32⟩) (.of main_call7_call0_v79 : TRef sig ⟨S16x4x3x32x32, .i32⟩) (.of main_call7_call0_v80 : TRef sig ⟨S16x4x3x32x32, .i32⟩) xori
  :: TRef.binary (.of main_call7_call0_v74 : TRef sig ⟨S16x4x3x32x32, .i32⟩) (.of main_call7_call0_v80 : TRef sig ⟨S16x4x3x32x32, .i32⟩) (.of main_call7_call0_v81 : TRef sig ⟨S16x4x3x32x32, .i32⟩) addi
  :: TRef.nullary (.of main_call7_call0_c_20 : TRef sig ⟨S_, .i32⟩) (constantI S_ 32 15#32)
  :: TRef.unary (.of main_call7_call0_c_20 : TRef sig ⟨S_, .i32⟩) (.of main_call7_call0_v82 : TRef sig ⟨S16x4x3x32x32, .i32⟩) (broadcastInDim S16x4x3x32x32 ![] bcast_S_S16x4x3x32x32)
  :: TRef.binary (.of main_call7_call0_v80 : TRef sig ⟨S16x4x3x32x32, .i32⟩) (.of main_call7_call0_v82 : TRef sig ⟨S16x4x3x32x32, .i32⟩) (.of main_call7_call0_v83 : TRef sig ⟨S16x4x3x32x32, .i32⟩) Host.shli
  :: TRef.nullary (.of main_call7_call0_c_21 : TRef sig ⟨S_, .i32⟩) (constantI S_ 32 17#32)
  :: TRef.unary (.of main_call7_call0_c_21 : TRef sig ⟨S_, .i32⟩) (.of main_call7_call0_v84 : TRef sig ⟨S16x4x3x32x32, .i32⟩) (broadcastInDim S16x4x3x32x32 ![] bcast_S_S16x4x3x32x32)
  :: TRef.binary (.of main_call7_call0_v80 : TRef sig ⟨S16x4x3x32x32, .i32⟩) (.of main_call7_call0_v84 : TRef sig ⟨S16x4x3x32x32, .i32⟩) (.of main_call7_call0_v85 : TRef sig ⟨S16x4x3x32x32, .i32⟩) Host.shrui
  :: TRef.binary (.of main_call7_call0_v83 : TRef sig ⟨S16x4x3x32x32, .i32⟩) (.of main_call7_call0_v85 : TRef sig ⟨S16x4x3x32x32, .i32⟩) (.of main_call7_call0_v86 : TRef sig ⟨S16x4x3x32x32, .i32⟩) ori
  :: TRef.binary (.of main_call7_call0_v81 : TRef sig ⟨S16x4x3x32x32, .i32⟩) (.of main_call7_call0_v86 : TRef sig ⟨S16x4x3x32x32, .i32⟩) (.of main_call7_call0_v87 : TRef sig ⟨S16x4x3x32x32, .i32⟩) xori
  :: TRef.binary (.of main_call7_call0_v81 : TRef sig ⟨S16x4x3x32x32, .i32⟩) (.of main_call7_call0_v87 : TRef sig ⟨S16x4x3x32x32, .i32⟩) (.of main_call7_call0_v88 : TRef sig ⟨S16x4x3x32x32, .i32⟩) addi
  :: TRef.nullary (.of main_call7_call0_c_22 : TRef sig ⟨S_, .i32⟩) (constantI S_ 32 26#32)
  :: TRef.unary (.of main_call7_call0_c_22 : TRef sig ⟨S_, .i32⟩) (.of main_call7_call0_v89 : TRef sig ⟨S16x4x3x32x32, .i32⟩) (broadcastInDim S16x4x3x32x32 ![] bcast_S_S16x4x3x32x32)
  :: TRef.binary (.of main_call7_call0_v87 : TRef sig ⟨S16x4x3x32x32, .i32⟩) (.of main_call7_call0_v89 : TRef sig ⟨S16x4x3x32x32, .i32⟩) (.of main_call7_call0_v90 : TRef sig ⟨S16x4x3x32x32, .i32⟩) Host.shli
  :: TRef.nullary (.of main_call7_call0_c_23 : TRef sig ⟨S_, .i32⟩) (constantI S_ 32 6#32)
  :: TRef.unary (.of main_call7_call0_c_23 : TRef sig ⟨S_, .i32⟩) (.of main_call7_call0_v91 : TRef sig ⟨S16x4x3x32x32, .i32⟩) (broadcastInDim S16x4x3x32x32 ![] bcast_S_S16x4x3x32x32)
  :: TRef.binary (.of main_call7_call0_v87 : TRef sig ⟨S16x4x3x32x32, .i32⟩) (.of main_call7_call0_v91 : TRef sig ⟨S16x4x3x32x32, .i32⟩) (.of main_call7_call0_v92 : TRef sig ⟨S16x4x3x32x32, .i32⟩) Host.shrui
  :: TRef.binary (.of main_call7_call0_v90 : TRef sig ⟨S16x4x3x32x32, .i32⟩) (.of main_call7_call0_v92 : TRef sig ⟨S16x4x3x32x32, .i32⟩) (.of main_call7_call0_v93 : TRef sig ⟨S16x4x3x32x32, .i32⟩) ori
  :: TRef.binary (.of main_call7_call0_v88 : TRef sig ⟨S16x4x3x32x32, .i32⟩) (.of main_call7_call0_v93 : TRef sig ⟨S16x4x3x32x32, .i32⟩) (.of main_call7_call0_v94 : TRef sig ⟨S16x4x3x32x32, .i32⟩) xori
  :: TRef.binary (.of main_call7_call0_v88 : TRef sig ⟨S16x4x3x32x32, .i32⟩) (.of main_call7_call0_v94 : TRef sig ⟨S16x4x3x32x32, .i32⟩) (.of main_call7_call0_v95 : TRef sig ⟨S16x4x3x32x32, .i32⟩) addi
  :: TRef.nullary (.of main_call7_call0_c_24 : TRef sig ⟨S_, .i32⟩) (constantI S_ 32 6#32)
  :: TRef.unary (.of main_call7_call0_c_24 : TRef sig ⟨S_, .i32⟩) (.of main_call7_call0_v96 : TRef sig ⟨S16x4x3x32x32, .i32⟩) (broadcastInDim S16x4x3x32x32 ![] bcast_S_S16x4x3x32x32)
  :: TRef.binary (.of main_call7_call0_v94 : TRef sig ⟨S16x4x3x32x32, .i32⟩) (.of main_call7_call0_v96 : TRef sig ⟨S16x4x3x32x32, .i32⟩) (.of main_call7_call0_v97 : TRef sig ⟨S16x4x3x32x32, .i32⟩) Host.shli
  :: TRef.nullary (.of main_call7_call0_c_25 : TRef sig ⟨S_, .i32⟩) (constantI S_ 32 26#32)
  :: TRef.unary (.of main_call7_call0_c_25 : TRef sig ⟨S_, .i32⟩) (.of main_call7_call0_v98 : TRef sig ⟨S16x4x3x32x32, .i32⟩) (broadcastInDim S16x4x3x32x32 ![] bcast_S_S16x4x3x32x32)
  :: TRef.binary (.of main_call7_call0_v94 : TRef sig ⟨S16x4x3x32x32, .i32⟩) (.of main_call7_call0_v98 : TRef sig ⟨S16x4x3x32x32, .i32⟩) (.of main_call7_call0_v99 : TRef sig ⟨S16x4x3x32x32, .i32⟩) Host.shrui
  :: TRef.binary (.of main_call7_call0_v97 : TRef sig ⟨S16x4x3x32x32, .i32⟩) (.of main_call7_call0_v99 : TRef sig ⟨S16x4x3x32x32, .i32⟩) (.of main_call7_call0_v100 : TRef sig ⟨S16x4x3x32x32, .i32⟩) ori
  :: TRef.binary (.of main_call7_call0_v95 : TRef sig ⟨S16x4x3x32x32, .i32⟩) (.of main_call7_call0_v100 : TRef sig ⟨S16x4x3x32x32, .i32⟩) (.of main_call7_call0_v101 : TRef sig ⟨S16x4x3x32x32, .i32⟩) xori
  :: TRef.unary (.of main_call7_v5 : TRef sig ⟨S_, .i32⟩) (.of main_call7_call0_v102 : TRef sig ⟨S16x4x3x32x32, .i32⟩) (broadcastInDim S16x4x3x32x32 ![] bcast_S_S16x4x3x32x32)
  :: TRef.binary (.of main_call7_call0_v95 : TRef sig ⟨S16x4x3x32x32, .i32⟩) (.of main_call7_call0_v102 : TRef sig ⟨S16x4x3x32x32, .i32⟩) (.of main_call7_call0_v103 : TRef sig ⟨S16x4x3x32x32, .i32⟩) addi
  :: TRef.unary (.of main_call7_v7 : TRef sig ⟨S_, .i32⟩) (.of main_call7_call0_v104 : TRef sig ⟨S16x4x3x32x32, .i32⟩) (broadcastInDim S16x4x3x32x32 ![] bcast_S_S16x4x3x32x32)
  :: TRef.binary (.of main_call7_call0_v101 : TRef sig ⟨S16x4x3x32x32, .i32⟩) (.of main_call7_call0_v104 : TRef sig ⟨S16x4x3x32x32, .i32⟩) (.of main_call7_call0_v105 : TRef sig ⟨S16x4x3x32x32, .i32⟩) addi
  :: TRef.nullary (.of main_call7_call0_c_26 : TRef sig ⟨S_, .i32⟩) (constantI S_ 32 3#32)
  :: TRef.unary (.of main_call7_call0_c_26 : TRef sig ⟨S_, .i32⟩) (.of main_call7_call0_v106 : TRef sig ⟨S16x4x3x32x32, .i32⟩) (broadcastInDim S16x4x3x32x32 ![] bcast_S_S16x4x3x32x32)
  :: TRef.binary (.of main_call7_call0_v105 : TRef sig ⟨S16x4x3x32x32, .i32⟩) (.of main_call7_call0_v106 : TRef sig ⟨S16x4x3x32x32, .i32⟩) (.of main_call7_call0_v107 : TRef sig ⟨S16x4x3x32x32, .i32⟩) addi
  :: TRef.binary (.of main_call7_call0_v103 : TRef sig ⟨S16x4x3x32x32, .i32⟩) (.of main_call7_call0_v107 : TRef sig ⟨S16x4x3x32x32, .i32⟩) (.of main_call7_call0_v108 : TRef sig ⟨S16x4x3x32x32, .i32⟩) addi
  :: TRef.nullary (.of main_call7_call0_c_27 : TRef sig ⟨S_, .i32⟩) (constantI S_ 32 17#32)
  :: TRef.unary (.of main_call7_call0_c_27 : TRef sig ⟨S_, .i32⟩) (.of main_call7_call0_v109 : TRef sig ⟨S16x4x3x32x32, .i32⟩) (broadcastInDim S16x4x3x32x32 ![] bcast_S_S16x4x3x32x32)
  :: TRef.binary (.of main_call7_call0_v107 : TRef sig ⟨S16x4x3x32x32, .i32⟩) (.of main_call7_call0_v109 : TRef sig ⟨S16x4x3x32x32, .i32⟩) (.of main_call7_call0_v110 : TRef sig ⟨S16x4x3x32x32, .i32⟩) Host.shli
  :: TRef.nullary (.of main_call7_call0_c_28 : TRef sig ⟨S_, .i32⟩) (constantI S_ 32 15#32)
  :: TRef.unary (.of main_call7_call0_c_28 : TRef sig ⟨S_, .i32⟩) (.of main_call7_call0_v111 : TRef sig ⟨S16x4x3x32x32, .i32⟩) (broadcastInDim S16x4x3x32x32 ![] bcast_S_S16x4x3x32x32)
  :: TRef.binary (.of main_call7_call0_v107 : TRef sig ⟨S16x4x3x32x32, .i32⟩) (.of main_call7_call0_v111 : TRef sig ⟨S16x4x3x32x32, .i32⟩) (.of main_call7_call0_v112 : TRef sig ⟨S16x4x3x32x32, .i32⟩) Host.shrui
  :: TRef.binary (.of main_call7_call0_v110 : TRef sig ⟨S16x4x3x32x32, .i32⟩) (.of main_call7_call0_v112 : TRef sig ⟨S16x4x3x32x32, .i32⟩) (.of main_call7_call0_v113 : TRef sig ⟨S16x4x3x32x32, .i32⟩) ori
  :: TRef.binary (.of main_call7_call0_v108 : TRef sig ⟨S16x4x3x32x32, .i32⟩) (.of main_call7_call0_v113 : TRef sig ⟨S16x4x3x32x32, .i32⟩) (.of main_call7_call0_v114 : TRef sig ⟨S16x4x3x32x32, .i32⟩) xori
  :: TRef.binary (.of main_call7_call0_v108 : TRef sig ⟨S16x4x3x32x32, .i32⟩) (.of main_call7_call0_v114 : TRef sig ⟨S16x4x3x32x32, .i32⟩) (.of main_call7_call0_v115 : TRef sig ⟨S16x4x3x32x32, .i32⟩) addi
  :: TRef.nullary (.of main_call7_call0_c_29 : TRef sig ⟨S_, .i32⟩) (constantI S_ 32 29#32)
  :: TRef.unary (.of main_call7_call0_c_29 : TRef sig ⟨S_, .i32⟩) (.of main_call7_call0_v116 : TRef sig ⟨S16x4x3x32x32, .i32⟩) (broadcastInDim S16x4x3x32x32 ![] bcast_S_S16x4x3x32x32)
  :: TRef.binary (.of main_call7_call0_v114 : TRef sig ⟨S16x4x3x32x32, .i32⟩) (.of main_call7_call0_v116 : TRef sig ⟨S16x4x3x32x32, .i32⟩) (.of main_call7_call0_v117 : TRef sig ⟨S16x4x3x32x32, .i32⟩) Host.shli
  :: TRef.nullary (.of main_call7_call0_c_30 : TRef sig ⟨S_, .i32⟩) (constantI S_ 32 3#32)
  :: TRef.unary (.of main_call7_call0_c_30 : TRef sig ⟨S_, .i32⟩) (.of main_call7_call0_v118 : TRef sig ⟨S16x4x3x32x32, .i32⟩) (broadcastInDim S16x4x3x32x32 ![] bcast_S_S16x4x3x32x32)
  :: TRef.binary (.of main_call7_call0_v114 : TRef sig ⟨S16x4x3x32x32, .i32⟩) (.of main_call7_call0_v118 : TRef sig ⟨S16x4x3x32x32, .i32⟩) (.of main_call7_call0_v119 : TRef sig ⟨S16x4x3x32x32, .i32⟩) Host.shrui
  :: TRef.binary (.of main_call7_call0_v117 : TRef sig ⟨S16x4x3x32x32, .i32⟩) (.of main_call7_call0_v119 : TRef sig ⟨S16x4x3x32x32, .i32⟩) (.of main_call7_call0_v120 : TRef sig ⟨S16x4x3x32x32, .i32⟩) ori
  :: TRef.binary (.of main_call7_call0_v115 : TRef sig ⟨S16x4x3x32x32, .i32⟩) (.of main_call7_call0_v120 : TRef sig ⟨S16x4x3x32x32, .i32⟩) (.of main_call7_call0_v121 : TRef sig ⟨S16x4x3x32x32, .i32⟩) xori
  :: TRef.binary (.of main_call7_call0_v115 : TRef sig ⟨S16x4x3x32x32, .i32⟩) (.of main_call7_call0_v121 : TRef sig ⟨S16x4x3x32x32, .i32⟩) (.of main_call7_call0_v122 : TRef sig ⟨S16x4x3x32x32, .i32⟩) addi
  :: TRef.nullary (.of main_call7_call0_c_31 : TRef sig ⟨S_, .i32⟩) (constantI S_ 32 16#32)
  :: TRef.unary (.of main_call7_call0_c_31 : TRef sig ⟨S_, .i32⟩) (.of main_call7_call0_v123 : TRef sig ⟨S16x4x3x32x32, .i32⟩) (broadcastInDim S16x4x3x32x32 ![] bcast_S_S16x4x3x32x32)
  :: TRef.binary (.of main_call7_call0_v121 : TRef sig ⟨S16x4x3x32x32, .i32⟩) (.of main_call7_call0_v123 : TRef sig ⟨S16x4x3x32x32, .i32⟩) (.of main_call7_call0_v124 : TRef sig ⟨S16x4x3x32x32, .i32⟩) Host.shli
  :: TRef.nullary (.of main_call7_call0_c_32 : TRef sig ⟨S_, .i32⟩) (constantI S_ 32 16#32)
  :: TRef.unary (.of main_call7_call0_c_32 : TRef sig ⟨S_, .i32⟩) (.of main_call7_call0_v125 : TRef sig ⟨S16x4x3x32x32, .i32⟩) (broadcastInDim S16x4x3x32x32 ![] bcast_S_S16x4x3x32x32)
  :: TRef.binary (.of main_call7_call0_v121 : TRef sig ⟨S16x4x3x32x32, .i32⟩) (.of main_call7_call0_v125 : TRef sig ⟨S16x4x3x32x32, .i32⟩) (.of main_call7_call0_v126 : TRef sig ⟨S16x4x3x32x32, .i32⟩) Host.shrui
  :: TRef.binary (.of main_call7_call0_v124 : TRef sig ⟨S16x4x3x32x32, .i32⟩) (.of main_call7_call0_v126 : TRef sig ⟨S16x4x3x32x32, .i32⟩) (.of main_call7_call0_v127 : TRef sig ⟨S16x4x3x32x32, .i32⟩) ori
  :: TRef.binary (.of main_call7_call0_v122 : TRef sig ⟨S16x4x3x32x32, .i32⟩) (.of main_call7_call0_v127 : TRef sig ⟨S16x4x3x32x32, .i32⟩) (.of main_call7_call0_v128 : TRef sig ⟨S16x4x3x32x32, .i32⟩) xori
  :: TRef.binary (.of main_call7_call0_v122 : TRef sig ⟨S16x4x3x32x32, .i32⟩) (.of main_call7_call0_v128 : TRef sig ⟨S16x4x3x32x32, .i32⟩) (.of main_call7_call0_v129 : TRef sig ⟨S16x4x3x32x32, .i32⟩) addi
  :: TRef.nullary (.of main_call7_call0_c_33 : TRef sig ⟨S_, .i32⟩) (constantI S_ 32 24#32)
  :: TRef.unary (.of main_call7_call0_c_33 : TRef sig ⟨S_, .i32⟩) (.of main_call7_call0_v130 : TRef sig ⟨S16x4x3x32x32, .i32⟩) (broadcastInDim S16x4x3x32x32 ![] bcast_S_S16x4x3x32x32)
  :: TRef.binary (.of main_call7_call0_v128 : TRef sig ⟨S16x4x3x32x32, .i32⟩) (.of main_call7_call0_v130 : TRef sig ⟨S16x4x3x32x32, .i32⟩) (.of main_call7_call0_v131 : TRef sig ⟨S16x4x3x32x32, .i32⟩) Host.shli
  :: TRef.nullary (.of main_call7_call0_c_34 : TRef sig ⟨S_, .i32⟩) (constantI S_ 32 8#32)
  :: TRef.unary (.of main_call7_call0_c_34 : TRef sig ⟨S_, .i32⟩) (.of main_call7_call0_v132 : TRef sig ⟨S16x4x3x32x32, .i32⟩) (broadcastInDim S16x4x3x32x32 ![] bcast_S_S16x4x3x32x32)
  :: TRef.binary (.of main_call7_call0_v128 : TRef sig ⟨S16x4x3x32x32, .i32⟩) (.of main_call7_call0_v132 : TRef sig ⟨S16x4x3x32x32, .i32⟩) (.of main_call7_call0_v133 : TRef sig ⟨S16x4x3x32x32, .i32⟩) Host.shrui
  :: TRef.binary (.of main_call7_call0_v131 : TRef sig ⟨S16x4x3x32x32, .i32⟩) (.of main_call7_call0_v133 : TRef sig ⟨S16x4x3x32x32, .i32⟩) (.of main_call7_call0_v134 : TRef sig ⟨S16x4x3x32x32, .i32⟩) ori
  :: TRef.binary (.of main_call7_call0_v129 : TRef sig ⟨S16x4x3x32x32, .i32⟩) (.of main_call7_call0_v134 : TRef sig ⟨S16x4x3x32x32, .i32⟩) (.of main_call7_call0_v135 : TRef sig ⟨S16x4x3x32x32, .i32⟩) xori
  :: TRef.unary (.of main_call7_v7 : TRef sig ⟨S_, .i32⟩) (.of main_call7_call0_v136 : TRef sig ⟨S16x4x3x32x32, .i32⟩) (broadcastInDim S16x4x3x32x32 ![] bcast_S_S16x4x3x32x32)
  :: TRef.binary (.of main_call7_call0_v129 : TRef sig ⟨S16x4x3x32x32, .i32⟩) (.of main_call7_call0_v136 : TRef sig ⟨S16x4x3x32x32, .i32⟩) (.of main_call7_call0_v137 : TRef sig ⟨S16x4x3x32x32, .i32⟩) addi
  :: TRef.unary (.of main_call7_call0_v1 : TRef sig ⟨S_, .i32⟩) (.of main_call7_call0_v138 : TRef sig ⟨S16x4x3x32x32, .i32⟩) (broadcastInDim S16x4x3x32x32 ![] bcast_S_S16x4x3x32x32)
  :: TRef.binary (.of main_call7_call0_v135 : TRef sig ⟨S16x4x3x32x32, .i32⟩) (.of main_call7_call0_v138 : TRef sig ⟨S16x4x3x32x32, .i32⟩) (.of main_call7_call0_v139 : TRef sig ⟨S16x4x3x32x32, .i32⟩) addi
  :: TRef.nullary (.of main_call7_call0_c_35 : TRef sig ⟨S_, .i32⟩) (constantI S_ 32 4#32)
  :: TRef.unary (.of main_call7_call0_c_35 : TRef sig ⟨S_, .i32⟩) (.of main_call7_call0_v140 : TRef sig ⟨S16x4x3x32x32, .i32⟩) (broadcastInDim S16x4x3x32x32 ![] bcast_S_S16x4x3x32x32)
  :: TRef.binary (.of main_call7_call0_v139 : TRef sig ⟨S16x4x3x32x32, .i32⟩) (.of main_call7_call0_v140 : TRef sig ⟨S16x4x3x32x32, .i32⟩) (.of main_call7_call0_v141 : TRef sig ⟨S16x4x3x32x32, .i32⟩) addi
  :: TRef.binary (.of main_call7_call0_v137 : TRef sig ⟨S16x4x3x32x32, .i32⟩) (.of main_call7_call0_v141 : TRef sig ⟨S16x4x3x32x32, .i32⟩) (.of main_call7_call0_v142 : TRef sig ⟨S16x4x3x32x32, .i32⟩) addi
  :: TRef.nullary (.of main_call7_call0_c_36 : TRef sig ⟨S_, .i32⟩) (constantI S_ 32 13#32)
  :: TRef.unary (.of main_call7_call0_c_36 : TRef sig ⟨S_, .i32⟩) (.of main_call7_call0_v143 : TRef sig ⟨S16x4x3x32x32, .i32⟩) (broadcastInDim S16x4x3x32x32 ![] bcast_S_S16x4x3x32x32)
  :: TRef.binary (.of main_call7_call0_v141 : TRef sig ⟨S16x4x3x32x32, .i32⟩) (.of main_call7_call0_v143 : TRef sig ⟨S16x4x3x32x32, .i32⟩) (.of main_call7_call0_v144 : TRef sig ⟨S16x4x3x32x32, .i32⟩) Host.shli
  :: TRef.nullary (.of main_call7_call0_c_37 : TRef sig ⟨S_, .i32⟩) (constantI S_ 32 19#32)
  :: TRef.unary (.of main_call7_call0_c_37 : TRef sig ⟨S_, .i32⟩) (.of main_call7_call0_v145 : TRef sig ⟨S16x4x3x32x32, .i32⟩) (broadcastInDim S16x4x3x32x32 ![] bcast_S_S16x4x3x32x32)
  :: TRef.binary (.of main_call7_call0_v141 : TRef sig ⟨S16x4x3x32x32, .i32⟩) (.of main_call7_call0_v145 : TRef sig ⟨S16x4x3x32x32, .i32⟩) (.of main_call7_call0_v146 : TRef sig ⟨S16x4x3x32x32, .i32⟩) Host.shrui
  :: TRef.binary (.of main_call7_call0_v144 : TRef sig ⟨S16x4x3x32x32, .i32⟩) (.of main_call7_call0_v146 : TRef sig ⟨S16x4x3x32x32, .i32⟩) (.of main_call7_call0_v147 : TRef sig ⟨S16x4x3x32x32, .i32⟩) ori
  :: TRef.binary (.of main_call7_call0_v142 : TRef sig ⟨S16x4x3x32x32, .i32⟩) (.of main_call7_call0_v147 : TRef sig ⟨S16x4x3x32x32, .i32⟩) (.of main_call7_call0_v148 : TRef sig ⟨S16x4x3x32x32, .i32⟩) xori
  :: TRef.binary (.of main_call7_call0_v142 : TRef sig ⟨S16x4x3x32x32, .i32⟩) (.of main_call7_call0_v148 : TRef sig ⟨S16x4x3x32x32, .i32⟩) (.of main_call7_call0_v149 : TRef sig ⟨S16x4x3x32x32, .i32⟩) addi
  :: TRef.nullary (.of main_call7_call0_c_38 : TRef sig ⟨S_, .i32⟩) (constantI S_ 32 15#32)
  :: TRef.unary (.of main_call7_call0_c_38 : TRef sig ⟨S_, .i32⟩) (.of main_call7_call0_v150 : TRef sig ⟨S16x4x3x32x32, .i32⟩) (broadcastInDim S16x4x3x32x32 ![] bcast_S_S16x4x3x32x32)
  :: TRef.binary (.of main_call7_call0_v148 : TRef sig ⟨S16x4x3x32x32, .i32⟩) (.of main_call7_call0_v150 : TRef sig ⟨S16x4x3x32x32, .i32⟩) (.of main_call7_call0_v151 : TRef sig ⟨S16x4x3x32x32, .i32⟩) Host.shli
  :: TRef.nullary (.of main_call7_call0_c_39 : TRef sig ⟨S_, .i32⟩) (constantI S_ 32 17#32)
  :: TRef.unary (.of main_call7_call0_c_39 : TRef sig ⟨S_, .i32⟩) (.of main_call7_call0_v152 : TRef sig ⟨S16x4x3x32x32, .i32⟩) (broadcastInDim S16x4x3x32x32 ![] bcast_S_S16x4x3x32x32)
  :: TRef.binary (.of main_call7_call0_v148 : TRef sig ⟨S16x4x3x32x32, .i32⟩) (.of main_call7_call0_v152 : TRef sig ⟨S16x4x3x32x32, .i32⟩) (.of main_call7_call0_v153 : TRef sig ⟨S16x4x3x32x32, .i32⟩) Host.shrui
  :: TRef.binary (.of main_call7_call0_v151 : TRef sig ⟨S16x4x3x32x32, .i32⟩) (.of main_call7_call0_v153 : TRef sig ⟨S16x4x3x32x32, .i32⟩) (.of main_call7_call0_v154 : TRef sig ⟨S16x4x3x32x32, .i32⟩) ori
  :: TRef.binary (.of main_call7_call0_v149 : TRef sig ⟨S16x4x3x32x32, .i32⟩) (.of main_call7_call0_v154 : TRef sig ⟨S16x4x3x32x32, .i32⟩) (.of main_call7_call0_v155 : TRef sig ⟨S16x4x3x32x32, .i32⟩) xori
  :: TRef.binary (.of main_call7_call0_v149 : TRef sig ⟨S16x4x3x32x32, .i32⟩) (.of main_call7_call0_v155 : TRef sig ⟨S16x4x3x32x32, .i32⟩) (.of main_call7_call0_v156 : TRef sig ⟨S16x4x3x32x32, .i32⟩) addi
  :: TRef.nullary (.of main_call7_call0_c_40 : TRef sig ⟨S_, .i32⟩) (constantI S_ 32 26#32)
  :: TRef.unary (.of main_call7_call0_c_40 : TRef sig ⟨S_, .i32⟩) (.of main_call7_call0_v157 : TRef sig ⟨S16x4x3x32x32, .i32⟩) (broadcastInDim S16x4x3x32x32 ![] bcast_S_S16x4x3x32x32)
  :: TRef.binary (.of main_call7_call0_v155 : TRef sig ⟨S16x4x3x32x32, .i32⟩) (.of main_call7_call0_v157 : TRef sig ⟨S16x4x3x32x32, .i32⟩) (.of main_call7_call0_v158 : TRef sig ⟨S16x4x3x32x32, .i32⟩) Host.shli
  :: TRef.nullary (.of main_call7_call0_c_41 : TRef sig ⟨S_, .i32⟩) (constantI S_ 32 6#32)
  :: TRef.unary (.of main_call7_call0_c_41 : TRef sig ⟨S_, .i32⟩) (.of main_call7_call0_v159 : TRef sig ⟨S16x4x3x32x32, .i32⟩) (broadcastInDim S16x4x3x32x32 ![] bcast_S_S16x4x3x32x32)
  :: TRef.binary (.of main_call7_call0_v155 : TRef sig ⟨S16x4x3x32x32, .i32⟩) (.of main_call7_call0_v159 : TRef sig ⟨S16x4x3x32x32, .i32⟩) (.of main_call7_call0_v160 : TRef sig ⟨S16x4x3x32x32, .i32⟩) Host.shrui
  :: TRef.binary (.of main_call7_call0_v158 : TRef sig ⟨S16x4x3x32x32, .i32⟩) (.of main_call7_call0_v160 : TRef sig ⟨S16x4x3x32x32, .i32⟩) (.of main_call7_call0_v161 : TRef sig ⟨S16x4x3x32x32, .i32⟩) ori
  :: TRef.binary (.of main_call7_call0_v156 : TRef sig ⟨S16x4x3x32x32, .i32⟩) (.of main_call7_call0_v161 : TRef sig ⟨S16x4x3x32x32, .i32⟩) (.of main_call7_call0_v162 : TRef sig ⟨S16x4x3x32x32, .i32⟩) xori
  :: TRef.binary (.of main_call7_call0_v156 : TRef sig ⟨S16x4x3x32x32, .i32⟩) (.of main_call7_call0_v162 : TRef sig ⟨S16x4x3x32x32, .i32⟩) (.of main_call7_call0_v163 : TRef sig ⟨S16x4x3x32x32, .i32⟩) addi
  :: TRef.nullary (.of main_call7_call0_c_42 : TRef sig ⟨S_, .i32⟩) (constantI S_ 32 6#32)
  :: TRef.unary (.of main_call7_call0_c_42 : TRef sig ⟨S_, .i32⟩) (.of main_call7_call0_v164 : TRef sig ⟨S16x4x3x32x32, .i32⟩) (broadcastInDim S16x4x3x32x32 ![] bcast_S_S16x4x3x32x32)
  :: TRef.binary (.of main_call7_call0_v162 : TRef sig ⟨S16x4x3x32x32, .i32⟩) (.of main_call7_call0_v164 : TRef sig ⟨S16x4x3x32x32, .i32⟩) (.of main_call7_call0_v165 : TRef sig ⟨S16x4x3x32x32, .i32⟩) Host.shli
  :: TRef.nullary (.of main_call7_call0_c_43 : TRef sig ⟨S_, .i32⟩) (constantI S_ 32 26#32)
  :: TRef.unary (.of main_call7_call0_c_43 : TRef sig ⟨S_, .i32⟩) (.of main_call7_call0_v166 : TRef sig ⟨S16x4x3x32x32, .i32⟩) (broadcastInDim S16x4x3x32x32 ![] bcast_S_S16x4x3x32x32)
  :: TRef.binary (.of main_call7_call0_v162 : TRef sig ⟨S16x4x3x32x32, .i32⟩) (.of main_call7_call0_v166 : TRef sig ⟨S16x4x3x32x32, .i32⟩) (.of main_call7_call0_v167 : TRef sig ⟨S16x4x3x32x32, .i32⟩) Host.shrui
  :: TRef.binary (.of main_call7_call0_v165 : TRef sig ⟨S16x4x3x32x32, .i32⟩) (.of main_call7_call0_v167 : TRef sig ⟨S16x4x3x32x32, .i32⟩) (.of main_call7_call0_v168 : TRef sig ⟨S16x4x3x32x32, .i32⟩) ori
  :: TRef.binary (.of main_call7_call0_v163 : TRef sig ⟨S16x4x3x32x32, .i32⟩) (.of main_call7_call0_v168 : TRef sig ⟨S16x4x3x32x32, .i32⟩) (.of main_call7_call0_v169 : TRef sig ⟨S16x4x3x32x32, .i32⟩) xori
  :: TRef.unary (.of main_call7_call0_v1 : TRef sig ⟨S_, .i32⟩) (.of main_call7_call0_v170 : TRef sig ⟨S16x4x3x32x32, .i32⟩) (broadcastInDim S16x4x3x32x32 ![] bcast_S_S16x4x3x32x32)
  :: TRef.binary (.of main_call7_call0_v163 : TRef sig ⟨S16x4x3x32x32, .i32⟩) (.of main_call7_call0_v170 : TRef sig ⟨S16x4x3x32x32, .i32⟩) (.of main_call7_v31_0 : TRef sig ⟨S16x4x3x32x32, .i32⟩) addi
  :: TRef.unary (.of main_call7_v5 : TRef sig ⟨S_, .i32⟩) (.of main_call7_call0_v172 : TRef sig ⟨S16x4x3x32x32, .i32⟩) (broadcastInDim S16x4x3x32x32 ![] bcast_S_S16x4x3x32x32)
  :: TRef.binary (.of main_call7_call0_v169 : TRef sig ⟨S16x4x3x32x32, .i32⟩) (.of main_call7_call0_v172 : TRef sig ⟨S16x4x3x32x32, .i32⟩) (.of main_call7_call0_v173 : TRef sig ⟨S16x4x3x32x32, .i32⟩) addi
  :: TRef.nullary (.of main_call7_call0_c_44 : TRef sig ⟨S_, .i32⟩) (constantI S_ 32 5#32)
  :: TRef.unary (.of main_call7_call0_c_44 : TRef sig ⟨S_, .i32⟩) (.of main_call7_call0_v174 : TRef sig ⟨S16x4x3x32x32, .i32⟩) (broadcastInDim S16x4x3x32x32 ![] bcast_S_S16x4x3x32x32)
  :: TRef.binary (.of main_call7_call0_v173 : TRef sig ⟨S16x4x3x32x32, .i32⟩) (.of main_call7_call0_v174 : TRef sig ⟨S16x4x3x32x32, .i32⟩) (.of main_call7_v31_1 : TRef sig ⟨S16x4x3x32x32, .i32⟩) addi
  :: TRef.binary main_call7_call0.v171 main_call7_call0.v175 (.of main_call7_v32 : TRef sig ⟨S16x4x3x32x32, .i32⟩) xori
  :: TRef.nullary (.of main_call7_c_5 : TRef sig ⟨S_, .i32⟩) (constantI S_ 32 9#32)
  :: TRef.unary (.of main_call7_c_5 : TRef sig ⟨S_, .i32⟩) (.of main_call7_v33 : TRef sig ⟨S16x4x3x32x32, .i32⟩) (broadcastInDim S16x4x3x32x32 ![] bcast_S_S16x4x3x32x32)
  :: TRef.binary (.of main_call7_v32 : TRef sig ⟨S16x4x3x32x32, .i32⟩) (.of main_call7_v33 : TRef sig ⟨S16x4x3x32x32, .i32⟩) (.of main_call7_v34 : TRef sig ⟨S16x4x3x32x32, .i32⟩) Host.shrui
  :: TRef.nullary (.of main_call7_c_6 : TRef sig ⟨S_, .i32⟩) (constantI S_ 32 1065353216#32)
  :: TRef.unary (.of main_call7_c_6 : TRef sig ⟨S_, .i32⟩) (.of main_call7_v35 : TRef sig ⟨S16x4x3x32x32, .i32⟩) (broadcastInDim S16x4x3x32x32 ![] bcast_S_S16x4x3x32x32)
  :: TRef.binary (.of main_call7_v34 : TRef sig ⟨S16x4x3x32x32, .i32⟩) (.of main_call7_v35 : TRef sig ⟨S16x4x3x32x32, .i32⟩) (.of main_call7_v36 : TRef sig ⟨S16x4x3x32x32, .i32⟩) ori
  :: TRef.unary (.of main_call7_v36 : TRef sig ⟨S16x4x3x32x32, .i32⟩) (.of main_call7_v37 : TRef sig ⟨S16x4x3x32x32, .f32⟩) (bitcastToFloat .f32)
  :: TRef.nullary (.of main_call7_cst : TRef sig ⟨S_, .f32⟩) (constant S_ .f32 0x3F800000#32)
  :: TRef.unary (.of main_call7_cst : TRef sig ⟨S_, .f32⟩) (.of main_call7_v38 : TRef sig ⟨S16x4x3x32x32, .f32⟩) (broadcastInDim S16x4x3x32x32 ![] bcast_S_S16x4x3x32x32)
  :: TRef.binary (.of main_call7_v37 : TRef sig ⟨S16x4x3x32x32, .f32⟩) (.of main_call7_v38 : TRef sig ⟨S16x4x3x32x32, .f32⟩) (.of main_call7_v39 : TRef sig ⟨S16x4x3x32x32, .f32⟩) subf
  :: TRef.binary (.of main_call7_v3 : TRef sig ⟨S1x1x1x1x1, .f32⟩) (.of main_call7_v2 : TRef sig ⟨S1x1x1x1x1, .f32⟩) (.of main_call7_v40 : TRef sig ⟨S1x1x1x1x1, .f32⟩) subf
  :: TRef.unary (.of main_call7_v40 : TRef sig ⟨S1x1x1x1x1, .f32⟩) (.of main_call7_v41 : TRef sig ⟨S16x4x3x32x32, .f32⟩) (broadcastInDim S16x4x3x32x32 ![0, 1, 2, 3, 4] bcast_S1x1x1x1x1_S16x4x3x32x32_0_1_2_3_4)
  :: TRef.binary (.of main_call7_v39 : TRef sig ⟨S16x4x3x32x32, .f32⟩) (.of main_call7_v41 : TRef sig ⟨S16x4x3x32x32, .f32⟩) (.of main_call7_v42 : TRef sig ⟨S16x4x3x32x32, .f32⟩) mulf
  :: TRef.unary (.of main_call7_v2 : TRef sig ⟨S1x1x1x1x1, .f32⟩) (.of main_call7_v43 : TRef sig ⟨S16x4x3x32x32, .f32⟩) (broadcastInDim S16x4x3x32x32 ![0, 1, 2, 3, 4] bcast_S1x1x1x1x1_S16x4x3x32x32_0_1_2_3_4)
  :: TRef.binary (.of main_call7_v42 : TRef sig ⟨S16x4x3x32x32, .f32⟩) (.of main_call7_v43 : TRef sig ⟨S16x4x3x32x32, .f32⟩) (.of main_call7_v44 : TRef sig ⟨S16x4x3x32x32, .f32⟩) addf
  :: TRef.unary (.of main_call7_v2 : TRef sig ⟨S1x1x1x1x1, .f32⟩) (.of main_call7_v45 : TRef sig ⟨S16x4x3x32x32, .f32⟩) (broadcastInDim S16x4x3x32x32 ![0, 1, 2, 3, 4] bcast_S1x1x1x1x1_S16x4x3x32x32_0_1_2_3_4)
  :: TRef.binary (.of main_call7_v45 : TRef sig ⟨S16x4x3x32x32, .f32⟩) (.of main_call7_v44 : TRef sig ⟨S16x4x3x32x32, .f32⟩) (.of main_v124 : TRef sig ⟨S16x4x3x32x32, .f32⟩) maximumf
  :: [] )

set_option maxHeartbeats 40000000 in
theorem drawOps_sub : (drawOps : List (HloOp τ sig (Elt F))).Forall fun op => op.bufs ⊆ tcRefs τ sig :=
  ⟨unary_bufs_sub .., unary_bufs_sub .., unary_bufs_sub .., unary_bufs_sub .., unary_bufs_sub .., reshape_bufs_sub ..,
  unary_bufs_sub .., reshape_bufs_sub .., nullary_bufs_sub .., nullary_bufs_sub .., nullary_bufs_sub .., nullary_bufs_sub ..,
  nullary_bufs_sub .., nullary_bufs_sub .., unary_bufs_sub .., binary_bufs_sub .., nullary_bufs_sub .., unary_bufs_sub ..,
  binary_bufs_sub .., nullary_bufs_sub .., unary_bufs_sub .., binary_bufs_sub .., nullary_bufs_sub .., unary_bufs_sub ..,
  binary_bufs_sub .., nullary_bufs_sub .., unary_bufs_sub .., binary_bufs_sub .., binary_bufs_sub .., binary_bufs_sub ..,
  binary_bufs_sub .., binary_bufs_sub .., nullary_bufs_sub .., unary_bufs_sub .., binary_bufs_sub .., unary_bufs_sub ..,
  unary_bufs_sub .., binary_bufs_sub .., nullary_bufs_sub .., binary_bufs_sub .., unary_bufs_sub .., binary_bufs_sub ..,
  unary_bufs_sub .., binary_bufs_sub .., binary_bufs_sub .., nullary_bufs_sub .., unary_bufs_sub .., binary_bufs_sub ..,
  nullary_bufs_sub .., unary_bufs_sub .., binary_bufs_sub .., binary_bufs_sub .., binary_bufs_sub .., binary_bufs_sub ..,
  nullary_bufs_sub .., unary_bufs_sub .., binary_bufs_sub .., nullary_bufs_sub .., unary_bufs_sub .., binary_bufs_sub ..,
  binary_bufs_sub .., binary_bufs_sub .., binary_bufs_sub .., nullary_bufs_sub .., unary_bufs_sub .., binary_bufs_sub ..,
  nullary_bufs_sub .., unary_bufs_sub .., binary_bufs_sub .., binary_bufs_sub .., binary_bufs_sub .., binary_bufs_sub ..,
  nullary_bufs_sub .., unary_bufs_sub .., binary_bufs_sub .., nullary_bufs_sub .., unary_bufs_sub .., binary_bufs_sub ..,
  binary_bufs_sub .., binary_bufs_sub .., unary_bufs_sub .., binary_bufs_sub .., unary_bufs_sub .., binary_bufs_sub ..,
  nullary_bufs_sub .., unary_bufs_sub .., binary_bufs_sub .., binary_bufs_sub .., nullary_bufs_sub .., unary_bufs_sub ..,
  binary_bufs_sub .., nullary_bufs_sub .., unary_bufs_sub .., binary_bufs_sub .., binary_bufs_sub .., binary_bufs_sub ..,
  binary_bufs_sub .., nullary_bufs_sub .., unary_bufs_sub .., binary_bufs_sub .., nullary_bufs_sub .., unary_bufs_sub ..,
  binary_bufs_sub .., binary_bufs_sub .., binary_bufs_sub .., binary_bufs_sub .., nullary_bufs_sub .., unary_bufs_sub ..,
  binary_bufs_sub .., nullary_bufs_sub .., unary_bufs_sub .., binary_bufs_sub .., binary_bufs_sub .., binary_bufs_sub ..,
  binary_bufs_sub .., nullary_bufs_sub .., unary_bufs_sub .., binary_bufs_sub .., nullary_bufs_sub .., unary_bufs_sub ..,
  binary_bufs_sub .., binary_bufs_sub .., binary_bufs_sub .., unary_bufs_sub .., binary_bufs_sub .., unary_bufs_sub ..,
  binary_bufs_sub .., nullary_bufs_sub .., unary_bufs_sub .., binary_bufs_sub .., binary_bufs_sub .., nullary_bufs_sub ..,
  unary_bufs_sub .., binary_bufs_sub .., nullary_bufs_sub .., unary_bufs_sub .., binary_bufs_sub .., binary_bufs_sub ..,
  binary_bufs_sub .., binary_bufs_sub .., nullary_bufs_sub .., unary_bufs_sub .., binary_bufs_sub .., nullary_bufs_sub ..,
  unary_bufs_sub .., binary_bufs_sub .., binary_bufs_sub .., binary_bufs_sub .., binary_bufs_sub .., nullary_bufs_sub ..,
  unary_bufs_sub .., binary_bufs_sub .., nullary_bufs_sub .., unary_bufs_sub .., binary_bufs_sub .., binary_bufs_sub ..,
  binary_bufs_sub .., binary_bufs_sub .., nullary_bufs_sub .., unary_bufs_sub .., binary_bufs_sub .., nullary_bufs_sub ..,
  unary_bufs_sub .., binary_bufs_sub .., binary_bufs_sub .., binary_bufs_sub .., unary_bufs_sub .., binary_bufs_sub ..,
  unary_bufs_sub .., binary_bufs_sub .., nullary_bufs_sub .., unary_bufs_sub .., binary_bufs_sub .., binary_bufs_sub ..,
  nullary_bufs_sub .., unary_bufs_sub .., binary_bufs_sub .., nullary_bufs_sub .., unary_bufs_sub .., binary_bufs_sub ..,
  binary_bufs_sub .., binary_bufs_sub .., binary_bufs_sub .., nullary_bufs_sub .., unary_bufs_sub .., binary_bufs_sub ..,
  nullary_bufs_sub .., unary_bufs_sub .., binary_bufs_sub .., binary_bufs_sub .., binary_bufs_sub .., binary_bufs_sub ..,
  nullary_bufs_sub .., unary_bufs_sub .., binary_bufs_sub .., nullary_bufs_sub .., unary_bufs_sub .., binary_bufs_sub ..,
  binary_bufs_sub .., binary_bufs_sub .., binary_bufs_sub .., nullary_bufs_sub .., unary_bufs_sub .., binary_bufs_sub ..,
  nullary_bufs_sub .., unary_bufs_sub .., binary_bufs_sub .., binary_bufs_sub .., binary_bufs_sub .., unary_bufs_sub ..,
  binary_bufs_sub .., unary_bufs_sub .., binary_bufs_sub .., nullary_bufs_sub .., unary_bufs_sub .., binary_bufs_sub ..,
  binary_bufs_sub .., nullary_bufs_sub .., unary_bufs_sub .., binary_bufs_sub .., nullary_bufs_sub .., unary_bufs_sub ..,
  binary_bufs_sub .., binary_bufs_sub .., binary_bufs_sub .., binary_bufs_sub .., nullary_bufs_sub .., unary_bufs_sub ..,
  binary_bufs_sub .., nullary_bufs_sub .., unary_bufs_sub .., binary_bufs_sub .., binary_bufs_sub .., binary_bufs_sub ..,
  binary_bufs_sub .., nullary_bufs_sub .., unary_bufs_sub .., binary_bufs_sub .., nullary_bufs_sub .., unary_bufs_sub ..,
  binary_bufs_sub .., binary_bufs_sub .., binary_bufs_sub .., binary_bufs_sub .., nullary_bufs_sub .., unary_bufs_sub ..,
  binary_bufs_sub .., nullary_bufs_sub .., unary_bufs_sub .., binary_bufs_sub .., binary_bufs_sub .., binary_bufs_sub ..,
  unary_bufs_sub .., binary_bufs_sub .., unary_bufs_sub .., binary_bufs_sub .., nullary_bufs_sub .., unary_bufs_sub ..,
  binary_bufs_sub .., binary_bufs_sub .., nullary_bufs_sub .., unary_bufs_sub .., binary_bufs_sub .., nullary_bufs_sub ..,
  unary_bufs_sub .., binary_bufs_sub .., unary_bufs_sub .., nullary_bufs_sub .., unary_bufs_sub .., binary_bufs_sub ..,
  binary_bufs_sub .., unary_bufs_sub .., binary_bufs_sub .., unary_bufs_sub .., binary_bufs_sub .., unary_bufs_sub ..,
  binary_bufs_sub ..⟩

set_option maxHeartbeats 40000000 in
/-- Each operation of the draw determines what it writes. -/
theorem drawOps_fresh : (drawOps : List (HloOp τ sig (Elt F))).Forall fun op => op.fresh = ∅ :=
  ⟨rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl, rfl, rfl, rfl,
  rfl, rfl, rfl, rfl, rfl, rfl, rfl, rfl, rfl, rfl, rfl, rfl, rfl, rfl, rfl, rfl, rfl⟩

set_option maxHeartbeats 40000000 in
/-- The draw writes into buffers numbered from 190 on. -/
theorem drawOps_above : (drawOps : List (HloOp τ sig (Elt F))).Forall (Sim.Above 190) :=
  ⟨⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩, ⟨_, rfl, by decide⟩, ⟨_, rfl, by decide⟩, ⟨_, rfl, by decide⟩,
  ⟨_, rfl, by decide⟩, ⟨_, rfl, by decide⟩⟩

end Cert.MiMask.Draw

end
-- ==== Proof.RefRun.lean ====
/-
  The reference program as the list of its operations, and what its buffers hold after them.
-/
module

public import proofs.«01_k».proof.Proof.RefDraw
public import Idealize.ShloMosaic.Lib.StableHlo.Run
public import Idealize.ShloMosaic.Lib.Pipeline.Frame

@[expose] public section

set_option Elab.async false

noncomputable section

namespace Cert.MiMask.RefRun

open Cert.ReferenceIdeal Cert.ReferenceIdeal.Gen Idealize.ShloMosaic Idealize.ShloMosaic.TcCoe Idealize.SL.Sem Idealize.ShloMosaic.StableHlo Cert.MiMask

variable {F : FTy → Type} [FloatOps F]

/-- The program's operations 1 … 30 (window `main_part0`). -/
abbrev ops_part0_0 : List (HloOp τ sig (Elt F)) :=
  [ unary main_arg1 main_v0 (sitofp .f32 : (⟨S_, .i32⟩ : BufTy).Contents (Elt F) → (⟨S_, .f32⟩ : BufTy).Contents (Elt F)),
    nullary main_cst (constant S_ .f32 0x43480000#32),
    binary main_v0 main_cst main_v1 (Host.divf : (⟨S_, .f32⟩ : BufTy).Contents (Elt F) → (⟨S_, .f32⟩ : BufTy).Contents (Elt F) → (⟨S_, .f32⟩ : BufTy).Contents (Elt F)),
    unary main_arg0 main_v2 ((transpose S4x16x3x32x32 [1, 0, 2, 3, 4] · transposes_S16x4x3x32x32_S4x16x3x32x32_1_0_2_3_4) : (⟨S16x4x3x32x32, .f32⟩ : BufTy).Contents (Elt F) → (⟨S4x16x3x32x32, .f32⟩ : BufTy).Contents (Elt F)),
    reshape main_v2 main_v3 (rfl : (.f32 : EltTy) = .f32) shapeCasts_S4x16x3x32x32_S4x48x1024,
    unary main_v3 main_v4 (fptosi 32 : (⟨S4x48x1024, .f32⟩ : BufTy).Contents (Elt F) → (⟨S4x48x1024, .i32⟩ : BufTy).Contents (Elt F)),
    unary main_v4 main_v5 ((extractStridedSlice S1x48x1024 ![0, 0, 0] · slices_S4x48x1024_S1x48x1024_0_0_0) : (⟨S4x48x1024, .i32⟩ : BufTy).Contents (Elt F) → (⟨S1x48x1024, .i32⟩ : BufTy).Contents (Elt F)),
    reshape main_v5 main_v6 (rfl : (.i32 : EltTy) = .i32) shapeCasts_S1x48x1024_S48x1024,
    reshape main_v6 main_v7 (rfl : (.i32 : EltTy) = .i32) shapeCasts_S48x1024_S49152,
    reshape main_v4 main_v8 (rfl : (.i32 : EltTy) = .i32) shapeCasts_S4x48x1024_S4x49152,
    nullary main_c (constantI S_ 32 16#32),
    unary main_c main_v9 (broadcastInDim S49152 ![] bcast_S_S49152 : (⟨S_, .i32⟩ : BufTy).Contents (Elt F) → (⟨S49152, .i32⟩ : BufTy).Contents (Elt F)),
    binary main_v7 main_v9 main_v10 (addi : (⟨S49152, .i32⟩ : BufTy).Contents (Elt F) → (⟨S49152, .i32⟩ : BufTy).Contents (Elt F) → (⟨S49152, .i32⟩ : BufTy).Contents (Elt F)),
    nullary main_c_0 (constantI S_ 32 32#32),
    unary main_c_0 main_v11 (broadcastInDim S49152 ![] bcast_S_S49152 : (⟨S_, .i32⟩ : BufTy).Contents (Elt F) → (⟨S49152, .i32⟩ : BufTy).Contents (Elt F)),
    binary main_v10 main_v11 main_v12 (muli : (⟨S49152, .i32⟩ : BufTy).Contents (Elt F) → (⟨S49152, .i32⟩ : BufTy).Contents (Elt F) → (⟨S49152, .i32⟩ : BufTy).Contents (Elt F)),
    nullary main_c_1 (constantI S_ 32 16#32),
    unary main_c_1 main_v13 (broadcastInDim S4x49152 ![] bcast_S_S4x49152 : (⟨S_, .i32⟩ : BufTy).Contents (Elt F) → (⟨S4x49152, .i32⟩ : BufTy).Contents (Elt F)),
    binary main_v8 main_v13 main_v14 (addi : (⟨S4x49152, .i32⟩ : BufTy).Contents (Elt F) → (⟨S4x49152, .i32⟩ : BufTy).Contents (Elt F) → (⟨S4x49152, .i32⟩ : BufTy).Contents (Elt F)),
    unary main_v12 main_v15 (broadcastInDim S1x49152 ![1] bcast_S49152_S1x49152_1 : (⟨S49152, .i32⟩ : BufTy).Contents (Elt F) → (⟨S1x49152, .i32⟩ : BufTy).Contents (Elt F)),
    unary main_v15 main_v16 (broadcastInDim S4x49152 ![0, 1] bcast_S1x49152_S4x49152_0_1 : (⟨S1x49152, .i32⟩ : BufTy).Contents (Elt F) → (⟨S4x49152, .i32⟩ : BufTy).Contents (Elt F)),
    binary main_v16 main_v14 main_v17 (addi : (⟨S4x49152, .i32⟩ : BufTy).Contents (Elt F) → (⟨S4x49152, .i32⟩ : BufTy).Contents (Elt F) → (⟨S4x49152, .i32⟩ : BufTy).Contents (Elt F)),
    reshape main_v17 main_v18 (rfl : (.i32 : EltTy) = .i32) shapeCasts_S4x49152_S4x49152x1,
    nullary main_v19 (iotaInDim S1024 32 0),
    unary main_v19 main_v20 (broadcastInDim S1x1024 ![1] bcast_S1024_S1x1024_1 : (⟨S1024, .i32⟩ : BufTy).Contents (Elt F) → (⟨S1x1024, .i32⟩ : BufTy).Contents (Elt F)),
    unary main_v20 main_v21 (broadcastInDim S1x1x1024 ![1, 2] bcast_S1x1024_S1x1x1024_1_2 : (⟨S1x1024, .i32⟩ : BufTy).Contents (Elt F) → (⟨S1x1x1024, .i32⟩ : BufTy).Contents (Elt F)),
    unary main_v18 main_v22 (broadcastInDim S4x49152x1024 ![0, 1, 2] bcast_S4x49152x1_S4x49152x1024_0_1_2 : (⟨S4x49152x1, .i32⟩ : BufTy).Contents (Elt F) → (⟨S4x49152x1024, .i32⟩ : BufTy).Contents (Elt F)),
    unary main_v21 main_v23 (broadcastInDim S4x49152x1024 ![0, 1, 2] bcast_S1x1x1024_S4x49152x1024_0_1_2 : (⟨S1x1x1024, .i32⟩ : BufTy).Contents (Elt F) → (⟨S4x49152x1024, .i32⟩ : BufTy).Contents (Elt F)),
    binary main_v22 main_v23 main_v24 (cmpi .eq : (⟨S4x49152x1024, .i32⟩ : BufTy).Contents (Elt F) → (⟨S4x49152x1024, .i32⟩ : BufTy).Contents (Elt F) → (⟨S4x49152x1024, .i1⟩ : BufTy).Contents (Elt F)),
    unary main_v24 main_v25 ((extui 32 · natLt_1_32) : (⟨S4x49152x1024, .i1⟩ : BufTy).Contents (Elt F) → (⟨S4x49152x1024, .i32⟩ : BufTy).Contents (Elt F)) ]

/-- The program's operations 31 … 60 (window `main_part0`). -/
abbrev ops_part0_1 : List (HloOp τ sig (Elt F)) :=
  [ nullary main_c_2 (constantI S_ 32 0#32),
    binary main_v25 main_c_2 main_v26 ((fun x v => Host.reduce IntOp.addi x v reducesTo_S4x49152x1024_S4x1024_d1 h_S_) : (⟨S4x49152x1024, .i32⟩ : BufTy).Contents (Elt F) → (⟨S_, .i32⟩ : BufTy).Contents (Elt F) → (⟨S4x1024, .i32⟩ : BufTy).Contents (Elt F)),
    unary main_v26 main_v27 (sitofp .f32 : (⟨S4x1024, .i32⟩ : BufTy).Contents (Elt F) → (⟨S4x1024, .f32⟩ : BufTy).Contents (Elt F)),
    nullary main_cst_3 (constant S_ .f32 0x00000000#32),
    binary main_v27 main_cst_3 main_v28 ((fun x v => Host.reduceAdd x v reducesTo_S4x1024_S4_d1 h_S_) : (⟨S4x1024, .f32⟩ : BufTy).Contents (Elt F) → (⟨S_, .f32⟩ : BufTy).Contents (Elt F) → (⟨S4, .f32⟩ : BufTy).Contents (Elt F)),
    unary main_v28 main_v29 (broadcastInDim S4x1 ![0] bcast_S4_S4x1_0 : (⟨S4, .f32⟩ : BufTy).Contents (Elt F) → (⟨S4x1, .f32⟩ : BufTy).Contents (Elt F)),
    unary main_v29 main_v30 (broadcastInDim S4x1024 ![0, 1] bcast_S4x1_S4x1024_0_1 : (⟨S4x1, .f32⟩ : BufTy).Contents (Elt F) → (⟨S4x1024, .f32⟩ : BufTy).Contents (Elt F)),
    binary main_v27 main_v30 main_v31 (Host.divf : (⟨S4x1024, .f32⟩ : BufTy).Contents (Elt F) → (⟨S4x1024, .f32⟩ : BufTy).Contents (Elt F) → (⟨S4x1024, .f32⟩ : BufTy).Contents (Elt F)),
    reshape main_v31 main_v32 (rfl : (.f32 : EltTy) = .f32) shapeCasts_S4x1024_S4x32x32,
    nullary main_cst_4 (constant S_ .f32 0x00000000#32),
    binary main_v32 main_cst_4 main_v33 ((fun x v => Host.reduceAdd x v reducesTo_S4x32x32_S4x32_d2 h_S_) : (⟨S4x32x32, .f32⟩ : BufTy).Contents (Elt F) → (⟨S_, .f32⟩ : BufTy).Contents (Elt F) → (⟨S4x32, .f32⟩ : BufTy).Contents (Elt F)),
    nullary main_cst_5 (constant S_ .f32 0x00000000#32),
    binary main_v32 main_cst_5 main_v34 ((fun x v => Host.reduceAdd x v reducesTo_S4x32x32_S4x32_d1 h_S_) : (⟨S4x32x32, .f32⟩ : BufTy).Contents (Elt F) → (⟨S_, .f32⟩ : BufTy).Contents (Elt F) → (⟨S4x32, .f32⟩ : BufTy).Contents (Elt F)),
    unary main_v33 main_v35 (broadcastInDim S4x32x1 ![0, 1] bcast_S4x32_S4x32x1_0_1 : (⟨S4x32, .f32⟩ : BufTy).Contents (Elt F) → (⟨S4x32x1, .f32⟩ : BufTy).Contents (Elt F)),
    unary main_v34 main_v36 (broadcastInDim S4x1x32 ![0, 2] bcast_S4x32_S4x1x32_0_2 : (⟨S4x32, .f32⟩ : BufTy).Contents (Elt F) → (⟨S4x1x32, .f32⟩ : BufTy).Contents (Elt F)),
    unary main_v35 main_v37 (broadcastInDim S4x32x32 ![0, 1, 2] bcast_S4x32x1_S4x32x32_0_1_2 : (⟨S4x32x1, .f32⟩ : BufTy).Contents (Elt F) → (⟨S4x32x32, .f32⟩ : BufTy).Contents (Elt F)),
    unary main_v36 main_v38 (broadcastInDim S4x32x32 ![0, 1, 2] bcast_S4x1x32_S4x32x32_0_1_2 : (⟨S4x1x32, .f32⟩ : BufTy).Contents (Elt F) → (⟨S4x32x32, .f32⟩ : BufTy).Contents (Elt F)),
    binary main_v37 main_v38 main_v39 (mulf : (⟨S4x32x32, .f32⟩ : BufTy).Contents (Elt F) → (⟨S4x32x32, .f32⟩ : BufTy).Contents (Elt F) → (⟨S4x32x32, .f32⟩ : BufTy).Contents (Elt F)),
    nullary main_cst_6 (constant S_ .f32 0x00000000#32),
    unary main_cst_6 main_v40 (broadcastInDim S4x32x32 ![] bcast_S_S4x32x32 : (⟨S_, .f32⟩ : BufTy).Contents (Elt F) → (⟨S4x32x32, .f32⟩ : BufTy).Contents (Elt F)),
    binary main_v32 main_v40 main_v41 (cmpf .ogt : (⟨S4x32x32, .f32⟩ : BufTy).Contents (Elt F) → (⟨S4x32x32, .f32⟩ : BufTy).Contents (Elt F) → (⟨S4x32x32, .i1⟩ : BufTy).Contents (Elt F)),
    nullary main_cst_7 (constant S_ .f32 0x3F800000#32),
    TRef.unary (TRef.of (T := ⟨S_, .f32⟩) main_cst_7) (TRef.of (T := ⟨S_, .f32⟩) main_call0_v0) id,
    TRef.unary (TRef.of (T := ⟨S_, .f32⟩) main_call0_v0) (TRef.of (T := ⟨S32x32, .f32⟩) main_call0_v1) (broadcastInDim S32x32 ![] bcast_S_S32x32),
    TRef.unary (TRef.of (T := ⟨S32x32, .f32⟩) main_call0_v1) (TRef.of (T := ⟨S4x32x32, .f32⟩) main_call0_v2) (broadcastInDim S4x32x32 ![1, 2] bcast_S32x32_S4x32x32_1_2),
    TRef.ternary (TRef.of (T := ⟨S4x32x32, .i1⟩) main_v41) (TRef.of (T := ⟨S4x32x32, .f32⟩) main_v32) (TRef.of (T := ⟨S4x32x32, .f32⟩) main_call0_v2) (TRef.of (T := ⟨S4x32x32, .f32⟩) main_v42) select,
    unary main_v42 main_v43 (Host.log : (⟨S4x32x32, .f32⟩ : BufTy).Contents (Elt F) → (⟨S4x32x32, .f32⟩ : BufTy).Contents (Elt F)),
    nullary main_cst_8 (constant S_ .f32 0x00000000#32),
    unary main_cst_8 main_v44 (broadcastInDim S4x32x32 ![] bcast_S_S4x32x32 : (⟨S_, .f32⟩ : BufTy).Contents (Elt F) → (⟨S4x32x32, .f32⟩ : BufTy).Contents (Elt F)),
    binary main_v39 main_v44 main_v45 (cmpf .ogt : (⟨S4x32x32, .f32⟩ : BufTy).Contents (Elt F) → (⟨S4x32x32, .f32⟩ : BufTy).Contents (Elt F) → (⟨S4x32x32, .i1⟩ : BufTy).Contents (Elt F)) ]

/-- The program's operations 61 … 66 (window `main_part0`). -/
abbrev ops_part0_2 : List (HloOp τ sig (Elt F)) :=
  [ nullary main_cst_9 (constant S_ .f32 0x3F800000#32),
    TRef.unary (TRef.of (T := ⟨S_, .f32⟩) main_cst_9) (TRef.of (T := ⟨S_, .f32⟩) main_call1_v0) id,
    TRef.unary (TRef.of (T := ⟨S_, .f32⟩) main_call1_v0) (TRef.of (T := ⟨S32x32, .f32⟩) main_call1_v1) (broadcastInDim S32x32 ![] bcast_S_S32x32),
    TRef.unary (TRef.of (T := ⟨S32x32, .f32⟩) main_call1_v1) (TRef.of (T := ⟨S4x32x32, .f32⟩) main_call1_v2) (broadcastInDim S4x32x32 ![1, 2] bcast_S32x32_S4x32x32_1_2),
    TRef.ternary (TRef.of (T := ⟨S4x32x32, .i1⟩) main_v45) (TRef.of (T := ⟨S4x32x32, .f32⟩) main_v39) (TRef.of (T := ⟨S4x32x32, .f32⟩) main_call1_v2) (TRef.of (T := ⟨S4x32x32, .f32⟩) main_v46) select,
    unary main_v46 main_v47 (Host.log : (⟨S4x32x32, .f32⟩ : BufTy).Contents (Elt F) → (⟨S4x32x32, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- The program's operations 67 … 96 (window `main_part1`). -/
abbrev ops_part1_0 : List (HloOp τ sig (Elt F)) :=
  [ nullary main_cst_10 (constant S_ .f32 0x00000000#32),
    unary main_cst_10 main_v48 (broadcastInDim S4x32x32 ![] bcast_S_S4x32x32 : (⟨S_, .f32⟩ : BufTy).Contents (Elt F) → (⟨S4x32x32, .f32⟩ : BufTy).Contents (Elt F)),
    binary main_v32 main_v48 main_v49 (cmpf .ogt : (⟨S4x32x32, .f32⟩ : BufTy).Contents (Elt F) → (⟨S4x32x32, .f32⟩ : BufTy).Contents (Elt F) → (⟨S4x32x32, .i1⟩ : BufTy).Contents (Elt F)),
    binary main_v43 main_v47 main_v50 (subf : (⟨S4x32x32, .f32⟩ : BufTy).Contents (Elt F) → (⟨S4x32x32, .f32⟩ : BufTy).Contents (Elt F) → (⟨S4x32x32, .f32⟩ : BufTy).Contents (Elt F)),
    binary main_v32 main_v50 main_v51 (mulf : (⟨S4x32x32, .f32⟩ : BufTy).Contents (Elt F) → (⟨S4x32x32, .f32⟩ : BufTy).Contents (Elt F) → (⟨S4x32x32, .f32⟩ : BufTy).Contents (Elt F)),
    nullary main_cst_11 (constant S_ .f32 0x00000000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S32x32, .f32⟩) main_call2_v1) (broadcastInDim S32x32 ![] bcast_S_S32x32),
    TRef.unary (TRef.of (T := ⟨S32x32, .f32⟩) main_call2_v1) (TRef.of (T := ⟨S4x32x32, .f32⟩) main_call2_v2) (broadcastInDim S4x32x32 ![1, 2] bcast_S32x32_S4x32x32_1_2),
    TRef.ternary (TRef.of (T := ⟨S4x32x32, .i1⟩) main_v49) (TRef.of (T := ⟨S4x32x32, .f32⟩) main_v51) (TRef.of (T := ⟨S4x32x32, .f32⟩) main_call2_v2) (TRef.of (T := ⟨S4x32x32, .f32⟩) main_v52) select,
    nullary main_cst_12 (constant S_ .f32 0x00000000#32),
    binary main_v52 main_cst_12 main_v53 ((fun x v => Host.reduceAdd x v reducesTo_S4x32x32_S4_d1_2 h_S_) : (⟨S4x32x32, .f32⟩ : BufTy).Contents (Elt F) → (⟨S_, .f32⟩ : BufTy).Contents (Elt F) → (⟨S4, .f32⟩ : BufTy).Contents (Elt F)),
    nullary main_c_13 (constantI S_ 32 16#32),
    unary main_c_13 main_v54 (broadcastInDim S48x1024 ![] bcast_S_S48x1024 : (⟨S_, .i32⟩ : BufTy).Contents (Elt F) → (⟨S48x1024, .i32⟩ : BufTy).Contents (Elt F)),
    binary main_v6 main_v54 main_v55 (addi : (⟨S48x1024, .i32⟩ : BufTy).Contents (Elt F) → (⟨S48x1024, .i32⟩ : BufTy).Contents (Elt F) → (⟨S48x1024, .i32⟩ : BufTy).Contents (Elt F)),
    nullary main_c_14 (constantI S_ 32 32#32),
    unary main_c_14 main_v56 (broadcastInDim S48x1024 ![] bcast_S_S48x1024 : (⟨S_, .i32⟩ : BufTy).Contents (Elt F) → (⟨S48x1024, .i32⟩ : BufTy).Contents (Elt F)),
    binary main_v55 main_v56 main_v57 (muli : (⟨S48x1024, .i32⟩ : BufTy).Contents (Elt F) → (⟨S48x1024, .i32⟩ : BufTy).Contents (Elt F) → (⟨S48x1024, .i32⟩ : BufTy).Contents (Elt F)),
    nullary main_c_15 (constantI S_ 32 16#32),
    unary main_c_15 main_v58 (broadcastInDim S4x48x1024 ![] bcast_S_S4x48x1024 : (⟨S_, .i32⟩ : BufTy).Contents (Elt F) → (⟨S4x48x1024, .i32⟩ : BufTy).Contents (Elt F)),
    binary main_v4 main_v58 main_v59 (addi : (⟨S4x48x1024, .i32⟩ : BufTy).Contents (Elt F) → (⟨S4x48x1024, .i32⟩ : BufTy).Contents (Elt F) → (⟨S4x48x1024, .i32⟩ : BufTy).Contents (Elt F)),
    unary main_v57 main_v60 (broadcastInDim S1x48x1024 ![1, 2] bcast_S48x1024_S1x48x1024_1_2 : (⟨S48x1024, .i32⟩ : BufTy).Contents (Elt F) → (⟨S1x48x1024, .i32⟩ : BufTy).Contents (Elt F)),
    unary main_v60 main_v61 (broadcastInDim S4x48x1024 ![0, 1, 2] bcast_S1x48x1024_S4x48x1024_0_1_2 : (⟨S1x48x1024, .i32⟩ : BufTy).Contents (Elt F) → (⟨S4x48x1024, .i32⟩ : BufTy).Contents (Elt F)),
    binary main_v61 main_v59 main_v62 (addi : (⟨S4x48x1024, .i32⟩ : BufTy).Contents (Elt F) → (⟨S4x48x1024, .i32⟩ : BufTy).Contents (Elt F) → (⟨S4x48x1024, .i32⟩ : BufTy).Contents (Elt F)),
    unary main_v62 main_v63 ((transpose S4x1024x48 [0, 2, 1] · transposes_S4x48x1024_S4x1024x48_0_2_1) : (⟨S4x48x1024, .i32⟩ : BufTy).Contents (Elt F) → (⟨S4x1024x48, .i32⟩ : BufTy).Contents (Elt F)),
    reshape main_v63 main_v64 (rfl : (.i32 : EltTy) = .i32) shapeCasts_S4x1024x48_S4x1024x48x1,
    nullary main_v65 (iotaInDim S1024 32 0),
    unary main_v65 main_v66 (broadcastInDim S1x1024 ![1] bcast_S1024_S1x1024_1 : (⟨S1024, .i32⟩ : BufTy).Contents (Elt F) → (⟨S1x1024, .i32⟩ : BufTy).Contents (Elt F)),
    unary main_v66 main_v67 (broadcastInDim S1x1x1024 ![1, 2] bcast_S1x1024_S1x1x1024_1_2 : (⟨S1x1024, .i32⟩ : BufTy).Contents (Elt F) → (⟨S1x1x1024, .i32⟩ : BufTy).Contents (Elt F)),
    unary main_v67 main_v68 (broadcastInDim S1x1x1x1024 ![1, 2, 3] bcast_S1x1x1024_S1x1x1x1024_1_2_3 : (⟨S1x1x1024, .i32⟩ : BufTy).Contents (Elt F) → (⟨S1x1x1x1024, .i32⟩ : BufTy).Contents (Elt F)) ]

/-- The program's operations 97 … 126 (window `main_part1`). -/
abbrev ops_part1_1 : List (HloOp τ sig (Elt F)) :=
  [ unary main_v64 main_v69 (broadcastInDim S4x1024x48x1024 ![0, 1, 2, 3] bcast_S4x1024x48x1_S4x1024x48x1024_0_1_2_3 : (⟨S4x1024x48x1, .i32⟩ : BufTy).Contents (Elt F) → (⟨S4x1024x48x1024, .i32⟩ : BufTy).Contents (Elt F)),
    unary main_v68 main_v70 (broadcastInDim S4x1024x48x1024 ![0, 1, 2, 3] bcast_S1x1x1x1024_S4x1024x48x1024_0_1_2_3 : (⟨S1x1x1x1024, .i32⟩ : BufTy).Contents (Elt F) → (⟨S4x1024x48x1024, .i32⟩ : BufTy).Contents (Elt F)),
    binary main_v69 main_v70 main_v71 (cmpi .eq : (⟨S4x1024x48x1024, .i32⟩ : BufTy).Contents (Elt F) → (⟨S4x1024x48x1024, .i32⟩ : BufTy).Contents (Elt F) → (⟨S4x1024x48x1024, .i1⟩ : BufTy).Contents (Elt F)),
    unary main_v71 main_v72 ((extui 32 · natLt_1_32) : (⟨S4x1024x48x1024, .i1⟩ : BufTy).Contents (Elt F) → (⟨S4x1024x48x1024, .i32⟩ : BufTy).Contents (Elt F)),
    nullary main_c_16 (constantI S_ 32 0#32),
    binary main_v72 main_c_16 main_v73 ((fun x v => Host.reduce IntOp.addi x v reducesTo_S4x1024x48x1024_S4x1024x1024_d2 h_S_) : (⟨S4x1024x48x1024, .i32⟩ : BufTy).Contents (Elt F) → (⟨S_, .i32⟩ : BufTy).Contents (Elt F) → (⟨S4x1024x1024, .i32⟩ : BufTy).Contents (Elt F)),
    unary main_v73 main_v74 (sitofp .f32 : (⟨S4x1024x1024, .i32⟩ : BufTy).Contents (Elt F) → (⟨S4x1024x1024, .f32⟩ : BufTy).Contents (Elt F)),
    nullary main_cst_17 (constant S_ .f32 0x00000000#32),
    binary main_v74 main_cst_17 main_v75 ((fun x v => Host.reduceAdd x v reducesTo_S4x1024x1024_S4x1024_d2 h_S_) : (⟨S4x1024x1024, .f32⟩ : BufTy).Contents (Elt F) → (⟨S_, .f32⟩ : BufTy).Contents (Elt F) → (⟨S4x1024, .f32⟩ : BufTy).Contents (Elt F)),
    unary main_v75 main_v76 (broadcastInDim S4x1024x1 ![0, 1] bcast_S4x1024_S4x1024x1_0_1 : (⟨S4x1024, .f32⟩ : BufTy).Contents (Elt F) → (⟨S4x1024x1, .f32⟩ : BufTy).Contents (Elt F)),
    unary main_v76 main_v77 (broadcastInDim S4x1024x1024 ![0, 1, 2] bcast_S4x1024x1_S4x1024x1024_0_1_2 : (⟨S4x1024x1, .f32⟩ : BufTy).Contents (Elt F) → (⟨S4x1024x1024, .f32⟩ : BufTy).Contents (Elt F)),
    binary main_v74 main_v77 main_v78 (Host.divf : (⟨S4x1024x1024, .f32⟩ : BufTy).Contents (Elt F) → (⟨S4x1024x1024, .f32⟩ : BufTy).Contents (Elt F) → (⟨S4x1024x1024, .f32⟩ : BufTy).Contents (Elt F)),
    reshape main_v78 main_v79 (rfl : (.f32 : EltTy) = .f32) shapeCasts_S4x1024x1024_S4x1024x32x32,
    nullary main_cst_18 (constant S_ .f32 0x00000000#32),
    binary main_v79 main_cst_18 main_v80 ((fun x v => Host.reduceAdd x v reducesTo_S4x1024x32x32_S4x1024x32_d3 h_S_) : (⟨S4x1024x32x32, .f32⟩ : BufTy).Contents (Elt F) → (⟨S_, .f32⟩ : BufTy).Contents (Elt F) → (⟨S4x1024x32, .f32⟩ : BufTy).Contents (Elt F)),
    nullary main_cst_19 (constant S_ .f32 0x00000000#32),
    binary main_v79 main_cst_19 main_v81 ((fun x v => Host.reduceAdd x v reducesTo_S4x1024x32x32_S4x1024x32_d2 h_S_) : (⟨S4x1024x32x32, .f32⟩ : BufTy).Contents (Elt F) → (⟨S_, .f32⟩ : BufTy).Contents (Elt F) → (⟨S4x1024x32, .f32⟩ : BufTy).Contents (Elt F)),
    unary main_v80 main_v82 (broadcastInDim S4x1024x32x1 ![0, 1, 2] bcast_S4x1024x32_S4x1024x32x1_0_1_2 : (⟨S4x1024x32, .f32⟩ : BufTy).Contents (Elt F) → (⟨S4x1024x32x1, .f32⟩ : BufTy).Contents (Elt F)),
    unary main_v81 main_v83 (broadcastInDim S4x1024x1x32 ![0, 1, 3] bcast_S4x1024x32_S4x1024x1x32_0_1_3 : (⟨S4x1024x32, .f32⟩ : BufTy).Contents (Elt F) → (⟨S4x1024x1x32, .f32⟩ : BufTy).Contents (Elt F)),
    unary main_v82 main_v84 (broadcastInDim S4x1024x32x32 ![0, 1, 2, 3] bcast_S4x1024x32x1_S4x1024x32x32_0_1_2_3 : (⟨S4x1024x32x1, .f32⟩ : BufTy).Contents (Elt F) → (⟨S4x1024x32x32, .f32⟩ : BufTy).Contents (Elt F)),
    unary main_v83 main_v85 (broadcastInDim S4x1024x32x32 ![0, 1, 2, 3] bcast_S4x1024x1x32_S4x1024x32x32_0_1_2_3 : (⟨S4x1024x1x32, .f32⟩ : BufTy).Contents (Elt F) → (⟨S4x1024x32x32, .f32⟩ : BufTy).Contents (Elt F)),
    binary main_v84 main_v85 main_v86 (mulf : (⟨S4x1024x32x32, .f32⟩ : BufTy).Contents (Elt F) → (⟨S4x1024x32x32, .f32⟩ : BufTy).Contents (Elt F) → (⟨S4x1024x32x32, .f32⟩ : BufTy).Contents (Elt F)),
    nullary main_cst_20 (constant S_ .f32 0x00000000#32),
    unary main_cst_20 main_v87 (broadcastInDim S4x1024x32x32 ![] bcast_S_S4x1024x32x32 : (⟨S_, .f32⟩ : BufTy).Contents (Elt F) → (⟨S4x1024x32x32, .f32⟩ : BufTy).Contents (Elt F)),
    binary main_v79 main_v87 main_v88 (cmpf .ogt : (⟨S4x1024x32x32, .f32⟩ : BufTy).Contents (Elt F) → (⟨S4x1024x32x32, .f32⟩ : BufTy).Contents (Elt F) → (⟨S4x1024x32x32, .i1⟩ : BufTy).Contents (Elt F)),
    nullary main_cst_21 (constant S_ .f32 0x3F800000#32),
    TRef.unary (TRef.of (T := ⟨S_, .f32⟩) main_cst_21) (TRef.of (T := ⟨S_, .f32⟩) main_call3_v0) id,
    TRef.unary (TRef.of (T := ⟨S_, .f32⟩) main_call3_v0) (TRef.of (T := ⟨S32x32, .f32⟩) main_call3_v1) (broadcastInDim S32x32 ![] bcast_S_S32x32),
    TRef.unary (TRef.of (T := ⟨S32x32, .f32⟩) main_call3_v1) (TRef.of (T := ⟨S1024x32x32, .f32⟩) main_call3_v2) (broadcastInDim S1024x32x32 ![1, 2] bcast_S32x32_S1024x32x32_1_2),
    TRef.unary (TRef.of (T := ⟨S1024x32x32, .f32⟩) main_call3_v2) (TRef.of (T := ⟨S4x1024x32x32, .f32⟩) main_call3_v3) (broadcastInDim S4x1024x32x32 ![1, 2, 3] bcast_S1024x32x32_S4x1024x32x32_1_2_3) ]

/-- The program's operations 127 … 137 (window `main_part1`). -/
abbrev ops_part1_2 : List (HloOp τ sig (Elt F)) :=
  [ TRef.ternary (TRef.of (T := ⟨S4x1024x32x32, .i1⟩) main_v88) (TRef.of (T := ⟨S4x1024x32x32, .f32⟩) main_v79) (TRef.of (T := ⟨S4x1024x32x32, .f32⟩) main_call3_v3) (TRef.of (T := ⟨S4x1024x32x32, .f32⟩) main_v89) select,
    unary main_v89 main_v90 (Host.log : (⟨S4x1024x32x32, .f32⟩ : BufTy).Contents (Elt F) → (⟨S4x1024x32x32, .f32⟩ : BufTy).Contents (Elt F)),
    nullary main_cst_22 (constant S_ .f32 0x00000000#32),
    unary main_cst_22 main_v91 (broadcastInDim S4x1024x32x32 ![] bcast_S_S4x1024x32x32 : (⟨S_, .f32⟩ : BufTy).Contents (Elt F) → (⟨S4x1024x32x32, .f32⟩ : BufTy).Contents (Elt F)),
    binary main_v86 main_v91 main_v92 (cmpf .ogt : (⟨S4x1024x32x32, .f32⟩ : BufTy).Contents (Elt F) → (⟨S4x1024x32x32, .f32⟩ : BufTy).Contents (Elt F) → (⟨S4x1024x32x32, .i1⟩ : BufTy).Contents (Elt F)),
    nullary main_cst_23 (constant S_ .f32 0x3F800000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S32x32, .f32⟩) main_call4_v1) (broadcastInDim S32x32 ![] bcast_S_S32x32),
    TRef.unary (TRef.of (T := ⟨S32x32, .f32⟩) main_call4_v1) (TRef.of (T := ⟨S1024x32x32, .f32⟩) main_call4_v2) (broadcastInDim S1024x32x32 ![1, 2] bcast_S32x32_S1024x32x32_1_2),
    TRef.unary (TRef.of (T := ⟨S1024x32x32, .f32⟩) main_call4_v2) (TRef.of (T := ⟨S4x1024x32x32, .f32⟩) main_call4_v3) (broadcastInDim S4x1024x32x32 ![1, 2, 3] bcast_S1024x32x32_S4x1024x32x32_1_2_3),
    TRef.ternary (TRef.of (T := ⟨S4x1024x32x32, .i1⟩) main_v92) (TRef.of (T := ⟨S4x1024x32x32, .f32⟩) main_v86) (TRef.of (T := ⟨S4x1024x32x32, .f32⟩) main_call4_v3) (TRef.of (T := ⟨S4x1024x32x32, .f32⟩) main_v93) select ]

/-- Window `main_part1`'s operations. Not an abbreviation: `main_eq` below splits `ops` into the windows and no further. -/
def ops_part1 : List (HloOp τ sig (Elt F)) :=
  ops_part1_0 ++ (ops_part1_1 ++ (ops_part1_2))

/-- The rest of the computation up to the probabilities, cut to between zero and one. -/
abbrev ops_part2 : List (HloOp τ sig (Elt F)) :=
  [ unary main_v93 main_v94 (Host.log : (⟨S4x1024x32x32, .f32⟩ : BufTy).Contents (Elt F) → (⟨S4x1024x32x32, .f32⟩ : BufTy).Contents (Elt F)),
    nullary main_cst_24 (constant S_ .f32 0x00000000#32),
    unary main_cst_24 main_v95 (broadcastInDim S4x1024x32x32 ![] bcast_S_S4x1024x32x32 : (⟨S_, .f32⟩ : BufTy).Contents (Elt F) → (⟨S4x1024x32x32, .f32⟩ : BufTy).Contents (Elt F)),
    binary main_v79 main_v95 main_v96 (cmpf .ogt : (⟨S4x1024x32x32, .f32⟩ : BufTy).Contents (Elt F) → (⟨S4x1024x32x32, .f32⟩ : BufTy).Contents (Elt F) → (⟨S4x1024x32x32, .i1⟩ : BufTy).Contents (Elt F)),
    binary main_v90 main_v94 main_v97 (subf : (⟨S4x1024x32x32, .f32⟩ : BufTy).Contents (Elt F) → (⟨S4x1024x32x32, .f32⟩ : BufTy).Contents (Elt F) → (⟨S4x1024x32x32, .f32⟩ : BufTy).Contents (Elt F)),
    binary main_v79 main_v97 main_v98 (mulf : (⟨S4x1024x32x32, .f32⟩ : BufTy).Contents (Elt F) → (⟨S4x1024x32x32, .f32⟩ : BufTy).Contents (Elt F) → (⟨S4x1024x32x32, .f32⟩ : BufTy).Contents (Elt F)),
    nullary main_cst_25 (constant S_ .f32 0x00000000#32),
    TRef.unary (TRef.of (T := ⟨S_, .f32⟩) main_cst_25) (TRef.of (T := ⟨S_, .f32⟩) main_call5_v0) id,
    TRef.unary (TRef.of (T := ⟨S_, .f32⟩) main_call5_v0) (TRef.of (T := ⟨S32x32, .f32⟩) main_call5_v1) (broadcastInDim S32x32 ![] bcast_S_S32x32),
    TRef.unary (TRef.of (T := ⟨S32x32, .f32⟩) main_call5_v1) (TRef.of (T := ⟨S1024x32x32, .f32⟩) main_call5_v2) (broadcastInDim S1024x32x32 ![1, 2] bcast_S32x32_S1024x32x32_1_2),
    TRef.unary (TRef.of (T := ⟨S1024x32x32, .f32⟩) main_call5_v2) (TRef.of (T := ⟨S4x1024x32x32, .f32⟩) main_call5_v3) (broadcastInDim S4x1024x32x32 ![1, 2, 3] bcast_S1024x32x32_S4x1024x32x32_1_2_3),
    TRef.ternary (TRef.of (T := ⟨S4x1024x32x32, .i1⟩) main_v96) (TRef.of (T := ⟨S4x1024x32x32, .f32⟩) main_v98) (TRef.of (T := ⟨S4x1024x32x32, .f32⟩) main_call5_v3) (TRef.of (T := ⟨S4x1024x32x32, .f32⟩) main_v99) select,
    nullary main_cst_26 (constant S_ .f32 0x00000000#32),
    binary main_v99 main_cst_26 main_v100 ((fun x v => Host.reduceAdd x v reducesTo_S4x1024x32x32_S4x1024_d2_3 h_S_) : (⟨S4x1024x32x32, .f32⟩ : BufTy).Contents (Elt F) → (⟨S_, .f32⟩ : BufTy).Contents (Elt F) → (⟨S4x1024, .f32⟩ : BufTy).Contents (Elt F)),
    unary main_v53 main_v101 (broadcastInDim S4x1 ![0] bcast_S4_S4x1_0 : (⟨S4, .f32⟩ : BufTy).Contents (Elt F) → (⟨S4x1, .f32⟩ : BufTy).Contents (Elt F)),
    unary main_v101 main_v102 (broadcastInDim S4x1024 ![0, 1] bcast_S4x1_S4x1024_0_1 : (⟨S4x1, .f32⟩ : BufTy).Contents (Elt F) → (⟨S4x1024, .f32⟩ : BufTy).Contents (Elt F)),
    binary main_v100 main_v102 main_v103 (mulf : (⟨S4x1024, .f32⟩ : BufTy).Contents (Elt F) → (⟨S4x1024, .f32⟩ : BufTy).Contents (Elt F) → (⟨S4x1024, .f32⟩ : BufTy).Contents (Elt F)),
    unary main_v103 main_v104 ((extractStridedSlice S1x1024 ![0, 0] · slices_S4x1024_S1x1024_0_0) : (⟨S4x1024, .f32⟩ : BufTy).Contents (Elt F) → (⟨S1x1024, .f32⟩ : BufTy).Contents (Elt F)),
    reshape main_v104 main_v105 (rfl : (.f32 : EltTy) = .f32) shapeCasts_S1x1024_S1024,
    unary main_v105 main_v106 (broadcastInDim S1x1024 ![1] bcast_S1024_S1x1024_1 : (⟨S1024, .f32⟩ : BufTy).Contents (Elt F) → (⟨S1x1024, .f32⟩ : BufTy).Contents (Elt F)),
    unary main_v106 main_v107 (broadcastInDim S4x1024 ![0, 1] bcast_S1x1024_S4x1024_0_1 : (⟨S1x1024, .f32⟩ : BufTy).Contents (Elt F) → (⟨S4x1024, .f32⟩ : BufTy).Contents (Elt F)),
    binary main_v103 main_v107 main_v108 (Host.divf : (⟨S4x1024, .f32⟩ : BufTy).Contents (Elt F) → (⟨S4x1024, .f32⟩ : BufTy).Contents (Elt F) → (⟨S4x1024, .f32⟩ : BufTy).Contents (Elt F)),
    nullary main_c_27 (constantI S_ 32 0#32),
    unary main_c_27 main_v109 (broadcastInDim S1 ![] bcast_S_S1 : (⟨S_, .i32⟩ : BufTy).Contents (Elt F) → (⟨S1, .i32⟩ : BufTy).Contents (Elt F)),
    nullary main_cst_28 (constant S_ .f32 0x00000000#32),
    unary main_cst_28 main_v110 (broadcastInDim S1024 ![] bcast_S_S1024 : (⟨S_, .f32⟩ : BufTy).Contents (Elt F) → (⟨S1024, .f32⟩ : BufTy).Contents (Elt F)),
    ternary main_v108 main_v109 main_v110 main_v111 ((fun x i u => Host.scatter scatter_S4x1024_S1_S1024_0_0_0_0 (fun _ b => b) x i u) : (⟨S4x1024, .f32⟩ : BufTy).Contents (Elt F) → (⟨S1, .i32⟩ : BufTy).Contents (Elt F) → (⟨S1024, .f32⟩ : BufTy).Contents (Elt F) → (⟨S4x1024, .f32⟩ : BufTy).Contents (Elt F)),
    reshape main_v111 main_v112 (rfl : (.f32 : EltTy) = .f32) shapeCasts_S4x1024_S4x32x32,
    unary main_v1 main_v113 (id : (⟨S_, .f32⟩ : BufTy).Contents (Elt F) → (⟨S_, .f32⟩ : BufTy).Contents (Elt F)),
    unary main_v113 main_v114 (broadcastInDim S4x32x32 ![] bcast_S_S4x32x32 : (⟨S_, .f32⟩ : BufTy).Contents (Elt F) → (⟨S4x32x32, .f32⟩ : BufTy).Contents (Elt F)),
    binary main_v112 main_v114 main_v115 (mulf : (⟨S4x32x32, .f32⟩ : BufTy).Contents (Elt F) → (⟨S4x32x32, .f32⟩ : BufTy).Contents (Elt F) → (⟨S4x32x32, .f32⟩ : BufTy).Contents (Elt F)),
    nullary main_cst_29 (constant S_ .f32 0x00000000#32),
    nullary main_cst_30 (constant S_ .f32 0x3F800000#32),
    TRef.unary (TRef.of (T := ⟨S_, .f32⟩) main_cst_29) (TRef.of (T := ⟨S_, .f32⟩) main_call6_v0) id,
    TRef.unary (TRef.of (T := ⟨S_, .f32⟩) main_call6_v0) (TRef.of (T := ⟨S4x32x32, .f32⟩) main_call6_v1) (broadcastInDim S4x32x32 ![] bcast_S_S4x32x32),
    TRef.binary (TRef.of (T := ⟨S4x32x32, .f32⟩) main_call6_v1) (TRef.of (T := ⟨S4x32x32, .f32⟩) main_v115) (TRef.of (T := ⟨S4x32x32, .f32⟩) main_call6_v2) maximumf,
    TRef.unary (TRef.of (T := ⟨S_, .f32⟩) main_cst_30) (TRef.of (T := ⟨S_, .f32⟩) main_call6_v3) id,
    TRef.unary (TRef.of (T := ⟨S_, .f32⟩) main_call6_v3) (TRef.of (T := ⟨S4x32x32, .f32⟩) main_call6_v4) (broadcastInDim S4x32x32 ![] bcast_S_S4x32x32),
    TRef.binary (TRef.of (T := ⟨S4x32x32, .f32⟩) main_call6_v4) (TRef.of (T := ⟨S4x32x32, .f32⟩) main_call6_v2) (TRef.of (T := ⟨S4x32x32, .f32⟩) main_v116) minimumf ]

/-- The key of the draw and its two bounds. -/
abbrev keyOps : List (HloOp τ sig (Elt F)) :=
  [ nullary main_c_31 (constantI S_ 32 1#32),
    nullary main_c_32 (constantI S_ 32 32#32),
    binary main_c_31 main_c_32 main_v117 (Host.shrui : (⟨S_, .i32⟩ : BufTy).Contents (Elt F) → (⟨S_, .i32⟩ : BufTy).Contents (Elt F) → (⟨S_, .i32⟩ : BufTy).Contents (Elt F)),
    unary main_v117 main_v118 (id : (⟨S_, .i32⟩ : BufTy).Contents (Elt F) → (⟨S_, .i32⟩ : BufTy).Contents (Elt F)),
    unary main_v118 main_v119 (broadcastInDim S1 ![] bcast_S_S1 : (⟨S_, .i32⟩ : BufTy).Contents (Elt F) → (⟨S1, .i32⟩ : BufTy).Contents (Elt F)),
    nullary main_c_33 (constantI S_ 32 4294967295#32),
    binary main_c_31 main_c_33 main_v120 (andi : (⟨S_, .i32⟩ : BufTy).Contents (Elt F) → (⟨S_, .i32⟩ : BufTy).Contents (Elt F) → (⟨S_, .i32⟩ : BufTy).Contents (Elt F)),
    unary main_v120 main_v121 (id : (⟨S_, .i32⟩ : BufTy).Contents (Elt F) → (⟨S_, .i32⟩ : BufTy).Contents (Elt F)),
    unary main_v121 main_v122 (broadcastInDim S1 ![] bcast_S_S1 : (⟨S_, .i32⟩ : BufTy).Contents (Elt F) → (⟨S1, .i32⟩ : BufTy).Contents (Elt F)),
    binary main_v119 main_v122 main_v123 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_cst_34 (constant S_ .f32 0x00000000#32),
    nullary main_cst_35 (constant S_ .f32 0x3F800000#32) ]

/-- The mask: the drawn numbers against the probabilities. -/
abbrev tailOps : List (HloOp τ sig (Elt F)) :=
  [ unary main_v116 main_v125 (broadcastInDim S1x4x1x32x32 ![1, 3, 4] bcast_S4x32x32_S1x4x1x32x32_1_3_4 : (⟨S4x32x32, .f32⟩ : BufTy).Contents (Elt F) → (⟨S1x4x1x32x32, .f32⟩ : BufTy).Contents (Elt F)),
    unary main_v125 main_v126 (broadcastInDim S16x4x3x32x32 ![0, 1, 2, 3, 4] bcast_S1x4x1x32x32_S16x4x3x32x32_0_1_2_3_4 : (⟨S1x4x1x32x32, .f32⟩ : BufTy).Contents (Elt F) → (⟨S16x4x3x32x32, .f32⟩ : BufTy).Contents (Elt F)),
    binary main_v124 main_v126 main_v127 (cmpf .olt : (⟨S16x4x3x32x32, .f32⟩ : BufTy).Contents (Elt F) → (⟨S16x4x3x32x32, .f32⟩ : BufTy).Contents (Elt F) → (⟨S16x4x3x32x32, .i1⟩ : BufTy).Contents (Elt F)),
    nullary main_cst_36 (constant S_ .f32 0x00000000#32),
    unary main_cst_36 main_v128 (broadcastInDim S16x4x3x32x32 ![] bcast_S_S16x4x3x32x32 : (⟨S_, .f32⟩ : BufTy).Contents (Elt F) → (⟨S16x4x3x32x32, .f32⟩ : BufTy).Contents (Elt F)),
    TRef.ternary (TRef.of (T := ⟨S16x4x3x32x32, .i1⟩) main_v127) (TRef.of (T := ⟨S16x4x3x32x32, .f32⟩) main_v128) (TRef.of (T := ⟨S16x4x3x32x32, .f32⟩) main_arg0) (TRef.of (T := ⟨S16x4x3x32x32, .f32⟩) main_v129) select ]

/-- The program's operations, in order (a called function's operations stand in its call's place). -/
abbrev ops : List (HloOp τ sig (Elt F)) :=
  ops_part0 ++ (ops_part1 ++ (ops_part2 ++ (keyOps ++ (Draw.drawOps ++ tailOps))))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 32768 in
set_option maxHeartbeats 40000000 in
theorem main_part2_eq (c : Dev nD) :
    main_part2 (F := F) c = seq (ops_part2 ++ (keyOps ++ (Draw.drawOps ++ tailOps))) := rfl
set_option maxRecDepth 8192 in
theorem main_eq (c : Dev nD) : main (F := F) c = seq ops := by
  rw [ops, seq_append ops_part0, seq_append ops_part1, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., nullary_bufs_sub .., binary_bufs_sub .., unary_bufs_sub .., reshape_bufs_sub .., unary_bufs_sub .., unary_bufs_sub .., reshape_bufs_sub .., reshape_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., nullary_bufs_sub .., unary_bufs_sub .., unary_bufs_sub .., unary_bufs_sub .., unary_bufs_sub .., binary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨nullary_bufs_sub .., binary_bufs_sub .., unary_bufs_sub .., nullary_bufs_sub .., binary_bufs_sub .., unary_bufs_sub .., unary_bufs_sub .., binary_bufs_sub .., reshape_bufs_sub .., nullary_bufs_sub .., binary_bufs_sub .., nullary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., unary_bufs_sub .., unary_bufs_sub .., ternary_bufs_sub .., unary_bufs_sub .., nullary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., unary_bufs_sub .., unary_bufs_sub .., unary_bufs_sub .., ternary_bufs_sub .., unary_bufs_sub ..⟩
set_option maxRecDepth 8192 in
theorem ops_part0_2_fresh : (ops_part0_2 : List (HloOp τ sig (Elt F))).Forall fun op => op.fresh = ∅ :=
  ⟨rfl, rfl, rfl, rfl, rfl, rfl⟩
set_option maxRecDepth 8192 in
theorem ops_part1_0_sub : (ops_part1_0 : List (HloOp τ sig (Elt F))).Forall fun op => op.bufs ⊆ tcRefs τ sig :=
  ⟨nullary_bufs_sub .., unary_bufs_sub .., binary_bufs_sub .., binary_bufs_sub .., binary_bufs_sub .., nullary_bufs_sub .., unary_bufs_sub .., unary_bufs_sub .., unary_bufs_sub .., ternary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., reshape_bufs_sub .., nullary_bufs_sub .., unary_bufs_sub .., unary_bufs_sub .., unary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., unary_bufs_sub .., binary_bufs_sub .., unary_bufs_sub .., nullary_bufs_sub .., binary_bufs_sub .., unary_bufs_sub .., nullary_bufs_sub .., binary_bufs_sub .., unary_bufs_sub .., unary_bufs_sub .., binary_bufs_sub .., reshape_bufs_sub .., nullary_bufs_sub .., binary_bufs_sub .., nullary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., unary_bufs_sub .., unary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨ternary_bufs_sub .., unary_bufs_sub .., nullary_bufs_sub .., unary_bufs_sub .., binary_bufs_sub .., nullary_bufs_sub .., unary_bufs_sub .., unary_bufs_sub .., unary_bufs_sub .., unary_bufs_sub .., ternary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨unary_bufs_sub .., nullary_bufs_sub .., unary_bufs_sub .., binary_bufs_sub .., binary_bufs_sub .., binary_bufs_sub .., nullary_bufs_sub .., unary_bufs_sub .., unary_bufs_sub .., unary_bufs_sub .., unary_bufs_sub .., ternary_bufs_sub .., nullary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., nullary_bufs_sub .., unary_bufs_sub .., ternary_bufs_sub .., reshape_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem keyOps_sub : (keyOps : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub ..⟩
set_option maxRecDepth 8192 in
theorem keyOps_fresh : (keyOps : List (HloOp τ sig (Elt F))).Forall fun op => op.fresh = ∅ :=
  ⟨rfl, rfl, rfl, rfl, rfl, rfl, rfl, rfl, rfl, rfl, rfl, rfl⟩
set_option maxRecDepth 8192 in
theorem tailOps_sub : (tailOps : List (HloOp τ sig (Elt F))).Forall fun op => op.bufs ⊆ tcRefs τ sig :=
  ⟨unary_bufs_sub .., unary_bufs_sub .., binary_bufs_sub .., nullary_bufs_sub .., unary_bufs_sub .., ternary_bufs_sub ..⟩
set_option maxRecDepth 8192 in
theorem tailOps_fresh : (tailOps : List (HloOp τ sig (Elt F))).Forall fun op => op.fresh = ∅ :=
  ⟨rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_sub op h, List.forall_iff_forall_mem.mp keyOps_sub op h, List.forall_iff_forall_mem.mp Draw.drawOps_sub op h, List.forall_iff_forall_mem.mp tailOps_sub op h]
theorem ops_fresh : ∀ op ∈ (ops : List (HloOp τ sig (Elt F))), op.fresh = ∅ := fun op h => by
    simp only [ops, ops_part0, ops_part1, List.mem_append, or_assoc] at h
    rcases h with h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_fresh op h, List.forall_iff_forall_mem.mp keyOps_fresh op h, List.forall_iff_forall_mem.mp Draw.drawOps_fresh op h, List.forall_iff_forall_mem.mp tailOps_fresh op h]

set_option maxRecDepth 8192 in
/-- `main_v4`'s composed term of the arguments (named: it is used 3 times). -/
def res_main_v4 (V0 : Valuation τ sig (Elt F)) : (Proc.devRef .tc main_v4 : DevRef τ sig).ty.Contents (Elt F) :=
  fptosi 32 (shapeCast _ (transpose S4x16x3x32x32 [1, 0, 2, 3, 4] (V0 (Proc.devRef .tc main_arg0)) transposes_S16x4x3x32x32_S4x16x3x32x32_1_0_2_3_4) shapeCasts_S4x16x3x32x32_S4x48x1024)

set_option maxRecDepth 8192 in
/-- `main_v6`'s composed term of the arguments (named: it is used 2 times). -/
def res_main_v6 (V0 : Valuation τ sig (Elt F)) : (Proc.devRef .tc main_v6 : DevRef τ sig).ty.Contents (Elt F) :=
  shapeCast _ (extractStridedSlice S1x48x1024 ![0, 0, 0] (res_main_v4 V0) slices_S4x48x1024_S1x48x1024_0_0_0) shapeCasts_S1x48x1024_S48x1024

set_option maxRecDepth 8192 in
/-- `main_v27`'s composed term of the arguments (named: it is used 2 times). -/
def res_main_v27 (V0 : Valuation τ sig (Elt F)) : (Proc.devRef .tc main_v27 : DevRef τ sig).ty.Contents (Elt F) :=
  sitofp .f32 (Host.reduce IntOp.addi (extui 32 (cmpi .eq (broadcastInDim S4x49152x1024 ![0, 1, 2] bcast_S4x49152x1_S4x49152x1024_0_1_2 (shapeCast _ (addi (broadcastInDim S4x49152 ![0, 1] bcast_S1x49152_S4x49152_0_1 (broadcastInDim S1x49152 ![1] bcast_S49152_S1x49152_1 (muli (addi (shapeCast _ (res_main_v6 V0) shapeCasts_S48x1024_S49152) (broadcastInDim S49152 ![] bcast_S_S49152 (constantI S_ 32 16#32))) (broadcastInDim S49152 ![] bcast_S_S49152 (constantI S_ 32 32#32))))) (addi (shapeCast _ (res_main_v4 V0) shapeCasts_S4x48x1024_S4x49152) (broadcastInDim S4x49152 ![] bcast_S_S4x49152 (constantI S_ 32 16#32)))) shapeCasts_S4x49152_S4x49152x1)) (broadcastInDim S4x49152x1024 ![0, 1, 2] bcast_S1x1x1024_S4x49152x1024_0_1_2 (broadcastInDim S1x1x1024 ![1, 2] bcast_S1x1024_S1x1x1024_1_2 (broadcastInDim S1x1024 ![1] bcast_S1024_S1x1024_1 (iotaInDim S1024 32 0))))) natLt_1_32) (constantI S_ 32 0#32) reducesTo_S4x49152x1024_S4x1024_d1 h_S_)

set_option maxRecDepth 8192 in
/-- `main_v32`'s composed term of the arguments (named: it is used 6 times). -/
def res_main_v32 (V0 : Valuation τ sig (Elt F)) : (Proc.devRef .tc main_v32 : DevRef τ sig).ty.Contents (Elt F) :=
  shapeCast _ (Host.divf (res_main_v27 V0) (broadcastInDim S4x1024 ![0, 1] bcast_S4x1_S4x1024_0_1 (broadcastInDim S4x1 ![0] bcast_S4_S4x1_0 (Host.reduceAdd (res_main_v27 V0) (constant S_ .f32 0x00000000#32) reducesTo_S4x1024_S4_d1 h_S_)))) shapeCasts_S4x1024_S4x32x32

set_option maxRecDepth 8192 in
/-- `main_v39`'s composed term of the arguments (named: it is used 2 times). -/
def res_main_v39 (V0 : Valuation τ sig (Elt F)) : (Proc.devRef .tc main_v39 : DevRef τ sig).ty.Contents (Elt F) :=
  mulf (broadcastInDim S4x32x32 ![0, 1, 2] bcast_S4x32x1_S4x32x32_0_1_2 (broadcastInDim S4x32x1 ![0, 1] bcast_S4x32_S4x32x1_0_1 (Host.reduceAdd (res_main_v32 V0) (constant S_ .f32 0x00000000#32) reducesTo_S4x32x32_S4x32_d2 h_S_))) (broadcastInDim S4x32x32 ![0, 1, 2] bcast_S4x1x32_S4x32x32_0_1_2 (broadcastInDim S4x1x32 ![0, 2] bcast_S4x32_S4x1x32_0_2 (Host.reduceAdd (res_main_v32 V0) (constant S_ .f32 0x00000000#32) reducesTo_S4x32x32_S4x32_d1 h_S_)))

set_option maxRecDepth 8192 in
/-- `main_v74`'s composed term of the arguments (named: it is used 2 times). -/
def res_main_v74 (V0 : Valuation τ sig (Elt F)) : (Proc.devRef .tc main_v74 : DevRef τ sig).ty.Contents (Elt F) :=
  sitofp .f32 (Host.reduce IntOp.addi (extui 32 (cmpi .eq (broadcastInDim S4x1024x48x1024 ![0, 1, 2, 3] bcast_S4x1024x48x1_S4x1024x48x1024_0_1_2_3 (shapeCast _ (transpose S4x1024x48 [0, 2, 1] (addi (broadcastInDim S4x48x1024 ![0, 1, 2] bcast_S1x48x1024_S4x48x1024_0_1_2 (broadcastInDim S1x48x1024 ![1, 2] bcast_S48x1024_S1x48x1024_1_2 (muli (addi (res_main_v6 V0) (broadcastInDim S48x1024 ![] bcast_S_S48x1024 (constantI S_ 32 16#32))) (broadcastInDim S48x1024 ![] bcast_S_S48x1024 (constantI S_ 32 32#32))))) (addi (res_main_v4 V0) (broadcastInDim S4x48x1024 ![] bcast_S_S4x48x1024 (constantI S_ 32 16#32)))) transposes_S4x48x1024_S4x1024x48_0_2_1) shapeCasts_S4x1024x48_S4x1024x48x1)) (broadcastInDim S4x1024x48x1024 ![0, 1, 2, 3] bcast_S1x1x1x1024_S4x1024x48x1024_0_1_2_3 (broadcastInDim S1x1x1x1024 ![1, 2, 3] bcast_S1x1x1024_S1x1x1x1024_1_2_3 (broadcastInDim S1x1x1024 ![1, 2] bcast_S1x1024_S1x1x1024_1_2 (broadcastInDim S1x1024 ![1] bcast_S1024_S1x1024_1 (iotaInDim S1024 32 0)))))) natLt_1_32) (constantI S_ 32 0#32) reducesTo_S4x1024x48x1024_S4x1024x1024_d2 h_S_)

set_option maxRecDepth 8192 in
/-- `main_v79`'s composed term of the arguments (named: it is used 6 times). -/
def res_main_v79 (V0 : Valuation τ sig (Elt F)) : (Proc.devRef .tc main_v79 : DevRef τ sig).ty.Contents (Elt F) :=
  shapeCast _ (Host.divf (res_main_v74 V0) (broadcastInDim S4x1024x1024 ![0, 1, 2] bcast_S4x1024x1_S4x1024x1024_0_1_2 (broadcastInDim S4x1024x1 ![0, 1] bcast_S4x1024_S4x1024x1_0_1 (Host.reduceAdd (res_main_v74 V0) (constant S_ .f32 0x00000000#32) reducesTo_S4x1024x1024_S4x1024_d2 h_S_)))) shapeCasts_S4x1024x1024_S4x1024x32x32

set_option maxRecDepth 8192 in
/-- `main_v86`'s composed term of the arguments (named: it is used 2 times). -/
def res_main_v86 (V0 : Valuation τ sig (Elt F)) : (Proc.devRef .tc main_v86 : DevRef τ sig).ty.Contents (Elt F) :=
  mulf (broadcastInDim S4x1024x32x32 ![0, 1, 2, 3] bcast_S4x1024x32x1_S4x1024x32x32_0_1_2_3 (broadcastInDim S4x1024x32x1 ![0, 1, 2] bcast_S4x1024x32_S4x1024x32x1_0_1_2 (Host.reduceAdd (res_main_v79 V0) (constant S_ .f32 0x00000000#32) reducesTo_S4x1024x32x32_S4x1024x32_d3 h_S_))) (broadcastInDim S4x1024x32x32 ![0, 1, 2, 3] bcast_S4x1024x1x32_S4x1024x32x32_0_1_2_3 (broadcastInDim S4x1024x1x32 ![0, 1, 3] bcast_S4x1024x32_S4x1024x1x32_0_1_3 (Host.reduceAdd (res_main_v79 V0) (constant S_ .f32 0x00000000#32) reducesTo_S4x1024x32x32_S4x1024x32_d2 h_S_)))

set_option maxRecDepth 8192 in
/-- `main_v103`'s composed term of the arguments (named: it is used 2 times). -/
def res_main_v103 (V0 : Valuation τ sig (Elt F)) : (Proc.devRef .tc main_v103 : DevRef τ sig).ty.Contents (Elt F) :=
  mulf (Host.reduceAdd (select (cmpf .ogt (res_main_v79 V0) (broadcastInDim S4x1024x32x32 ![] bcast_S_S4x1024x32x32 (constant S_ .f32 0x00000000#32))) (mulf (res_main_v79 V0) (subf (Host.log (select (cmpf .ogt (res_main_v79 V0) (broadcastInDim S4x1024x32x32 ![] bcast_S_S4x1024x32x32 (constant S_ .f32 0x00000000#32))) (res_main_v79 V0) (broadcastInDim S4x1024x32x32 ![1, 2, 3] bcast_S1024x32x32_S4x1024x32x32_1_2_3 (broadcastInDim S1024x32x32 ![1, 2] bcast_S32x32_S1024x32x32_1_2 (broadcastInDim S32x32 ![] bcast_S_S32x32 (id (constant S_ .f32 0x3F800000#32))))))) (Host.log (select (cmpf .ogt (res_main_v86 V0) (broadcastInDim S4x1024x32x32 ![] bcast_S_S4x1024x32x32 (constant S_ .f32 0x00000000#32))) (res_main_v86 V0) (broadcastInDim S4x1024x32x32 ![1, 2, 3] bcast_S1024x32x32_S4x1024x32x32_1_2_3 (broadcastInDim S1024x32x32 ![1, 2] bcast_S32x32_S1024x32x32_1_2 (broadcastInDim S32x32 ![] bcast_S_S32x32 (id (constant S_ .f32 0x3F800000#32))))))))) (broadcastInDim S4x1024x32x32 ![1, 2, 3] bcast_S1024x32x32_S4x1024x32x32_1_2_3 (broadcastInDim S1024x32x32 ![1, 2] bcast_S32x32_S1024x32x32_1_2 (broadcastInDim S32x32 ![] bcast_S_S32x32 (id (constant S_ .f32 0x00000000#32)))))) (constant S_ .f32 0x00000000#32) reducesTo_S4x1024x32x32_S4x1024_d2_3 h_S_) (broadcastInDim S4x1024 ![0, 1] bcast_S4x1_S4x1024_0_1 (broadcastInDim S4x1 ![0] bcast_S4_S4x1_0 (Host.reduceAdd (select (cmpf .ogt (res_main_v32 V0) (broadcastInDim S4x32x32 ![] bcast_S_S4x32x32 (constant S_ .f32 0x00000000#32))) (mulf (res_main_v32 V0) (subf (Host.log (select (cmpf .ogt (res_main_v32 V0) (broadcastInDim S4x32x32 ![] bcast_S_S4x32x32 (constant S_ .f32 0x00000000#32))) (res_main_v32 V0) (broadcastInDim S4x32x32 ![1, 2] bcast_S32x32_S4x32x32_1_2 (broadcastInDim S32x32 ![] bcast_S_S32x32 (id (constant S_ .f32 0x3F800000#32)))))) (Host.log (select (cmpf .ogt (res_main_v39 V0) (broadcastInDim S4x32x32 ![] bcast_S_S4x32x32 (constant S_ .f32 0x00000000#32))) (res_main_v39 V0) (broadcastInDim S4x32x32 ![1, 2] bcast_S32x32_S4x32x32_1_2 (broadcastInDim S32x32 ![] bcast_S_S32x32 (id (constant S_ .f32 0x3F800000#32)))))))) (broadcastInDim S4x32x32 ![1, 2] bcast_S32x32_S4x32x32_1_2 (broadcastInDim S32x32 ![] bcast_S_S32x32 (id (constant S_ .f32 0x00000000#32))))) (constant S_ .f32 0x00000000#32) reducesTo_S4x32x32_S4_d1_2 h_S_)))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The device's buffer contents after the program's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_cst, main_v1, main_v2, main_v3, main_v4, main_v5, main_v6, main_v7, main_v8, main_c, main_v9, main_v10, main_c_0, main_v11, main_v12, main_c_1, main_v13, main_v14, main_v15, main_v16, main_v17, main_v18, main_v19, main_v20, main_v21, main_v22, main_v23, main_v24, main_v25]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
set_option maxRecDepth 8192 in
set_option maxHeartbeats 2000000 in
theorem val0_1_main_v1 (V0 : Valuation τ sig (Elt F)) : val0_1 V0 (no_index (Proc.devRef .tc main_v1)) = Host.divf (sitofp .f32 (V0 (Proc.devRef .tc main_arg1))) (constant S_ .f32 0x43480000#32) := by
  unfold val0_1
  simp only [ops_part0_0]
  after_results_simp
  simp only [val0_main_arg1] <;> rfl
set_option maxRecDepth 8192 in
set_option maxHeartbeats 2000000 in
theorem val0_1_main_v4 (V0 : Valuation τ sig (Elt F)) : val0_1 V0 (no_index (Proc.devRef .tc main_v4)) = res_main_v4 V0 := by
  unfold val0_1
  simp only [ops_part0_0]
  after_results_simp
  simp only [val0_main_arg0] <;> rfl
set_option maxRecDepth 8192 in
set_option maxHeartbeats 2000000 in
theorem val0_1_main_v6 (V0 : Valuation τ sig (Elt F)) : val0_1 V0 (no_index (Proc.devRef .tc main_v6)) = res_main_v6 V0 := by
  unfold val0_1
  simp only [ops_part0_0]
  after_results_simp
  simp only [val0_main_arg0] <;> rfl
set_option maxRecDepth 8192 in
set_option maxHeartbeats 2000000 in
theorem val0_1_main_v25 (V0 : Valuation τ sig (Elt F)) : val0_1 V0 (no_index (Proc.devRef .tc main_v25)) = extui 32 (cmpi .eq (broadcastInDim S4x49152x1024 ![0, 1, 2] bcast_S4x49152x1_S4x49152x1024_0_1_2 (shapeCast _ (addi (broadcastInDim S4x49152 ![0, 1] bcast_S1x49152_S4x49152_0_1 (broadcastInDim S1x49152 ![1] bcast_S49152_S1x49152_1 (muli (addi (shapeCast _ (res_main_v6 V0) shapeCasts_S48x1024_S49152) (broadcastInDim S49152 ![] bcast_S_S49152 (constantI S_ 32 16#32))) (broadcastInDim S49152 ![] bcast_S_S49152 (constantI S_ 32 32#32))))) (addi (shapeCast _ (res_main_v4 V0) shapeCasts_S4x48x1024_S4x49152) (broadcastInDim S4x49152 ![] bcast_S_S4x49152 (constantI S_ 32 16#32)))) shapeCasts_S4x49152_S4x49152x1)) (broadcastInDim S4x49152x1024 ![0, 1, 2] bcast_S1x1x1024_S4x49152x1024_0_1_2 (broadcastInDim S1x1x1024 ![1, 2] bcast_S1x1024_S1x1x1024_1_2 (broadcastInDim S1x1024 ![1] bcast_S1024_S1x1024_1 (iotaInDim S1024 32 0))))) natLt_1_32 := by
  unfold val0_1
  simp only [ops_part0_0]
  after_results_simp
  simp only [val0_main_arg0] <;> rfl

/-- The device's buffer contents after the program's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_c_2, main_v26, main_v27, main_cst_3, main_v28, main_v29, main_v30, main_v31, main_v32, main_cst_4, main_v33, main_cst_5, main_v34, main_v35, main_v36, main_v37, main_v38, main_v39, main_cst_6, main_v40, main_v41, main_cst_7, main_call0_v0, main_call0_v1, main_call0_v2, main_v42, main_v43, main_cst_8, main_v44, main_v45]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_v1 (V0 : Valuation τ sig (Elt F)) : val0_2 V0 (no_index (Proc.devRef .tc main_v1)) = Host.divf (sitofp .f32 (V0 (Proc.devRef .tc main_arg1))) (constant S_ .f32 0x43480000#32) :=
  (val0_2_keep V0 main_v1 (by decide)).trans (val0_1_main_v1 V0)
theorem val0_2_main_v4 (V0 : Valuation τ sig (Elt F)) : val0_2 V0 (no_index (Proc.devRef .tc main_v4)) = res_main_v4 V0 :=
  (val0_2_keep V0 main_v4 (by decide)).trans (val0_1_main_v4 V0)
theorem val0_2_main_v6 (V0 : Valuation τ sig (Elt F)) : val0_2 V0 (no_index (Proc.devRef .tc main_v6)) = res_main_v6 V0 :=
  (val0_2_keep V0 main_v6 (by decide)).trans (val0_1_main_v6 V0)
set_option maxRecDepth 8192 in
set_option maxHeartbeats 2000000 in
theorem val0_2_main_v32 (V0 : Valuation τ sig (Elt F)) : val0_2 V0 (no_index (Proc.devRef .tc main_v32)) = res_main_v32 V0 := by
  unfold val0_2
  simp only [ops_part0_1, TRef.ternary, TRef.unary, TRef.toBuf, TRef.ofBuf, cast_eq]
  after_results_simp
  simp only [val0_1_main_v25] <;> rfl
set_option maxRecDepth 8192 in
set_option maxHeartbeats 2000000 in
theorem val0_2_main_v39 (V0 : Valuation τ sig (Elt F)) : val0_2 V0 (no_index (Proc.devRef .tc main_v39)) = res_main_v39 V0 := by
  unfold val0_2
  simp only [ops_part0_1, TRef.ternary, TRef.unary, TRef.toBuf, TRef.ofBuf, cast_eq]
  after_results_simp
  simp only [val0_1_main_v25] <;> rfl
set_option maxRecDepth 8192 in
set_option maxHeartbeats 2000000 in
theorem val0_2_main_v43 (V0 : Valuation τ sig (Elt F)) : val0_2 V0 (no_index (Proc.devRef .tc main_v43)) = Host.log (select (cmpf .ogt (res_main_v32 V0) (broadcastInDim S4x32x32 ![] bcast_S_S4x32x32 (constant S_ .f32 0x00000000#32))) (res_main_v32 V0) (broadcastInDim S4x32x32 ![1, 2] bcast_S32x32_S4x32x32_1_2 (broadcastInDim S32x32 ![] bcast_S_S32x32 (id (constant S_ .f32 0x3F800000#32))))) := by
  unfold val0_2
  simp only [ops_part0_1, TRef.ternary, TRef.unary, TRef.toBuf, TRef.ofBuf, cast_eq]
  after_results_simp
  simp only [val0_1_main_v25] <;> rfl
set_option maxRecDepth 8192 in
set_option maxHeartbeats 2000000 in
theorem val0_2_main_v45 (V0 : Valuation τ sig (Elt F)) : val0_2 V0 (no_index (Proc.devRef .tc main_v45)) = cmpf .ogt (res_main_v39 V0) (broadcastInDim S4x32x32 ![] bcast_S_S4x32x32 (constant S_ .f32 0x00000000#32)) := by
  unfold val0_2
  simp only [ops_part0_1, TRef.ternary, TRef.unary, TRef.toBuf, TRef.ofBuf, cast_eq]
  after_results_simp
  simp only [val0_1_main_v25] <;> rfl

/-- The device's buffer contents after the program's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_cst_9, main_call1_v0, main_call1_v1, main_call1_v2, main_v46, main_v47]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_v1 (V0 : Valuation τ sig (Elt F)) : val1 V0 (no_index (Proc.devRef .tc main_v1)) = Host.divf (sitofp .f32 (V0 (Proc.devRef .tc main_arg1))) (constant S_ .f32 0x43480000#32) :=
  (val1_keep V0 main_v1 (by decide)).trans (val0_2_main_v1 V0)
theorem val1_main_v4 (V0 : Valuation τ sig (Elt F)) : val1 V0 (no_index (Proc.devRef .tc main_v4)) = res_main_v4 V0 :=
  (val1_keep V0 main_v4 (by decide)).trans (val0_2_main_v4 V0)
theorem val1_main_v6 (V0 : Valuation τ sig (Elt F)) : val1 V0 (no_index (Proc.devRef .tc main_v6)) = res_main_v6 V0 :=
  (val1_keep V0 main_v6 (by decide)).trans (val0_2_main_v6 V0)
theorem val1_main_v32 (V0 : Valuation τ sig (Elt F)) : val1 V0 (no_index (Proc.devRef .tc main_v32)) = res_main_v32 V0 :=
  (val1_keep V0 main_v32 (by decide)).trans (val0_2_main_v32 V0)
theorem val1_main_v43 (V0 : Valuation τ sig (Elt F)) : val1 V0 (no_index (Proc.devRef .tc main_v43)) = Host.log (select (cmpf .ogt (res_main_v32 V0) (broadcastInDim S4x32x32 ![] bcast_S_S4x32x32 (constant S_ .f32 0x00000000#32))) (res_main_v32 V0) (broadcastInDim S4x32x32 ![1, 2] bcast_S32x32_S4x32x32_1_2 (broadcastInDim S32x32 ![] bcast_S_S32x32 (id (constant S_ .f32 0x3F800000#32))))) :=
  (val1_keep V0 main_v43 (by decide)).trans (val0_2_main_v43 V0)
set_option maxRecDepth 8192 in
theorem val1_main_v47 (V0 : Valuation τ sig (Elt F)) : val1 V0 (no_index (Proc.devRef .tc main_v47)) = Host.log (select (cmpf .ogt (res_main_v39 V0) (broadcastInDim S4x32x32 ![] bcast_S_S4x32x32 (constant S_ .f32 0x00000000#32))) (res_main_v39 V0) (broadcastInDim S4x32x32 ![1, 2] bcast_S32x32_S4x32x32_1_2 (broadcastInDim S32x32 ![] bcast_S_S32x32 (id (constant S_ .f32 0x3F800000#32))))) := by
  unfold val1
  simp only [ops_part0_2, TRef.ternary, TRef.unary, TRef.toBuf, TRef.ofBuf, cast_eq]
  after_results_simp
  simp only [val0_2_main_v39, val0_2_main_v45] <;> rfl

/-- The device's buffer contents after the program's first 96 operations. -/
def val1_1 (V0 : Valuation τ sig (Elt F)) : Valuation τ sig (Elt F) := after ops_part1_0 (val1 V0)
/-- The buffers that window `ops_part1_0`'s operations write. -/
abbrev ops_part1_0_W : List (Ref sig .tc) := [main_cst_10, main_v48, main_v49, main_v50, main_v51, main_cst_11, main_call2_v0, main_call2_v1, main_call2_v2, main_v52, main_cst_12, main_v53, main_c_13, main_v54, main_v55, main_c_14, main_v56, main_v57, main_c_15, main_v58, main_v59, main_v60, main_v61, main_v62, main_v63, main_v64, main_v65, main_v66, main_v67, main_v68]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_v1 (V0 : Valuation τ sig (Elt F)) : val1_1 V0 (no_index (Proc.devRef .tc main_v1)) = Host.divf (sitofp .f32 (V0 (Proc.devRef .tc main_arg1))) (constant S_ .f32 0x43480000#32) :=
  (val1_1_keep V0 main_v1 (by decide)).trans (val1_main_v1 V0)
set_option maxRecDepth 8192 in
set_option maxHeartbeats 2000000 in
theorem val1_1_main_v53 (V0 : Valuation τ sig (Elt F)) : val1_1 V0 (no_index (Proc.devRef .tc main_v53)) = Host.reduceAdd (select (cmpf .ogt (res_main_v32 V0) (broadcastInDim S4x32x32 ![] bcast_S_S4x32x32 (constant S_ .f32 0x00000000#32))) (mulf (res_main_v32 V0) (subf (Host.log (select (cmpf .ogt (res_main_v32 V0) (broadcastInDim S4x32x32 ![] bcast_S_S4x32x32 (constant S_ .f32 0x00000000#32))) (res_main_v32 V0) (broadcastInDim S4x32x32 ![1, 2] bcast_S32x32_S4x32x32_1_2 (broadcastInDim S32x32 ![] bcast_S_S32x32 (id (constant S_ .f32 0x3F800000#32)))))) (Host.log (select (cmpf .ogt (res_main_v39 V0) (broadcastInDim S4x32x32 ![] bcast_S_S4x32x32 (constant S_ .f32 0x00000000#32))) (res_main_v39 V0) (broadcastInDim S4x32x32 ![1, 2] bcast_S32x32_S4x32x32_1_2 (broadcastInDim S32x32 ![] bcast_S_S32x32 (id (constant S_ .f32 0x3F800000#32)))))))) (broadcastInDim S4x32x32 ![1, 2] bcast_S32x32_S4x32x32_1_2 (broadcastInDim S32x32 ![] bcast_S_S32x32 (id (constant S_ .f32 0x00000000#32))))) (constant S_ .f32 0x00000000#32) reducesTo_S4x32x32_S4_d1_2 h_S_ := by
  unfold val1_1
  simp only [ops_part1_0, TRef.ternary, TRef.unary, TRef.toBuf, TRef.ofBuf, cast_eq]
  after_results_simp
  simp only [val1_main_v47, val1_main_v43, val1_main_v32] <;> rfl
set_option maxRecDepth 8192 in
set_option maxHeartbeats 2000000 in
theorem val1_1_main_v64 (V0 : Valuation τ sig (Elt F)) : val1_1 V0 (no_index (Proc.devRef .tc main_v64)) = shapeCast _ (transpose S4x1024x48 [0, 2, 1] (addi (broadcastInDim S4x48x1024 ![0, 1, 2] bcast_S1x48x1024_S4x48x1024_0_1_2 (broadcastInDim S1x48x1024 ![1, 2] bcast_S48x1024_S1x48x1024_1_2 (muli (addi (res_main_v6 V0) (broadcastInDim S48x1024 ![] bcast_S_S48x1024 (constantI S_ 32 16#32))) (broadcastInDim S48x1024 ![] bcast_S_S48x1024 (constantI S_ 32 32#32))))) (addi (res_main_v4 V0) (broadcastInDim S4x48x1024 ![] bcast_S_S4x48x1024 (constantI S_ 32 16#32)))) transposes_S4x48x1024_S4x1024x48_0_2_1) shapeCasts_S4x1024x48_S4x1024x48x1 := by
  unfold val1_1
  simp only [ops_part1_0, TRef.ternary, TRef.unary, TRef.toBuf, TRef.ofBuf, cast_eq]
  after_results_simp
  simp only [val1_main_v4, val1_main_v6] <;> rfl
set_option maxRecDepth 8192 in
set_option maxHeartbeats 2000000 in
theorem val1_1_main_v68 (V0 : Valuation τ sig (Elt F)) : val1_1 V0 (no_index (Proc.devRef .tc main_v68)) = broadcastInDim S1x1x1x1024 ![1, 2, 3] bcast_S1x1x1024_S1x1x1x1024_1_2_3 (broadcastInDim S1x1x1024 ![1, 2] bcast_S1x1024_S1x1x1024_1_2 (broadcastInDim S1x1024 ![1] bcast_S1024_S1x1024_1 (iotaInDim S1024 32 0))) := by
  unfold val1_1
  simp only [ops_part1_0, TRef.ternary, TRef.unary, TRef.toBuf, TRef.ofBuf, cast_eq]
  after_results_simp
  all_goals rfl

/-- The device's buffer contents after the program's first 126 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v69, main_v70, main_v71, main_v72, main_c_16, main_v73, main_v74, main_cst_17, main_v75, main_v76, main_v77, main_v78, main_v79, main_cst_18, main_v80, main_cst_19, main_v81, main_v82, main_v83, main_v84, main_v85, main_v86, main_cst_20, main_v87, main_v88, main_cst_21, main_call3_v0, main_call3_v1, main_call3_v2, main_call3_v3]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_v1 (V0 : Valuation τ sig (Elt F)) : val1_2 V0 (no_index (Proc.devRef .tc main_v1)) = Host.divf (sitofp .f32 (V0 (Proc.devRef .tc main_arg1))) (constant S_ .f32 0x43480000#32) :=
  (val1_2_keep V0 main_v1 (by decide)).trans (val1_1_main_v1 V0)
theorem val1_2_main_v53 (V0 : Valuation τ sig (Elt F)) : val1_2 V0 (no_index (Proc.devRef .tc main_v53)) = Host.reduceAdd (select (cmpf .ogt (res_main_v32 V0) (broadcastInDim S4x32x32 ![] bcast_S_S4x32x32 (constant S_ .f32 0x00000000#32))) (mulf (res_main_v32 V0) (subf (Host.log (select (cmpf .ogt (res_main_v32 V0) (broadcastInDim S4x32x32 ![] bcast_S_S4x32x32 (constant S_ .f32 0x00000000#32))) (res_main_v32 V0) (broadcastInDim S4x32x32 ![1, 2] bcast_S32x32_S4x32x32_1_2 (broadcastInDim S32x32 ![] bcast_S_S32x32 (id (constant S_ .f32 0x3F800000#32)))))) (Host.log (select (cmpf .ogt (res_main_v39 V0) (broadcastInDim S4x32x32 ![] bcast_S_S4x32x32 (constant S_ .f32 0x00000000#32))) (res_main_v39 V0) (broadcastInDim S4x32x32 ![1, 2] bcast_S32x32_S4x32x32_1_2 (broadcastInDim S32x32 ![] bcast_S_S32x32 (id (constant S_ .f32 0x3F800000#32)))))))) (broadcastInDim S4x32x32 ![1, 2] bcast_S32x32_S4x32x32_1_2 (broadcastInDim S32x32 ![] bcast_S_S32x32 (id (constant S_ .f32 0x00000000#32))))) (constant S_ .f32 0x00000000#32) reducesTo_S4x32x32_S4_d1_2 h_S_ :=
  (val1_2_keep V0 main_v53 (by decide)).trans (val1_1_main_v53 V0)
set_option maxRecDepth 8192 in
set_option maxHeartbeats 2000000 in
theorem val1_2_main_v79 (V0 : Valuation τ sig (Elt F)) : val1_2 V0 (no_index (Proc.devRef .tc main_v79)) = res_main_v79 V0 := by
  unfold val1_2
  simp only [ops_part1_1, TRef.unary, TRef.toBuf, TRef.ofBuf, cast_eq]
  after_results_simp
  simp only [val1_1_main_v68, val1_1_main_v64] <;> rfl
set_option maxRecDepth 8192 in
set_option maxHeartbeats 2000000 in
theorem val1_2_main_v86 (V0 : Valuation τ sig (Elt F)) : val1_2 V0 (no_index (Proc.devRef .tc main_v86)) = res_main_v86 V0 := by
  unfold val1_2
  simp only [ops_part1_1, TRef.unary, TRef.toBuf, TRef.ofBuf, cast_eq]
  after_results_simp
  simp only [val1_1_main_v68, val1_1_main_v64] <;> rfl
set_option maxRecDepth 8192 in
set_option maxHeartbeats 2000000 in
theorem val1_2_main_v88 (V0 : Valuation τ sig (Elt F)) : val1_2 V0 (no_index (Proc.devRef .tc main_v88)) = cmpf .ogt (res_main_v79 V0) (broadcastInDim S4x1024x32x32 ![] bcast_S_S4x1024x32x32 (constant S_ .f32 0x00000000#32)) := by
  unfold val1_2
  simp only [ops_part1_1, TRef.unary, TRef.toBuf, TRef.ofBuf, cast_eq]
  after_results_simp
  simp only [val1_1_main_v68, val1_1_main_v64] <;> rfl
set_option maxRecDepth 8192 in
set_option maxHeartbeats 2000000 in
theorem val1_2_main_call3_v3 (V0 : Valuation τ sig (Elt F)) : val1_2 V0 (no_index (Proc.devRef .tc main_call3_v3)) = broadcastInDim S4x1024x32x32 ![1, 2, 3] bcast_S1024x32x32_S4x1024x32x32_1_2_3 (broadcastInDim S1024x32x32 ![1, 2] bcast_S32x32_S1024x32x32_1_2 (broadcastInDim S32x32 ![] bcast_S_S32x32 (id (constant S_ .f32 0x3F800000#32)))) := by
  unfold val1_2
  simp only [ops_part1_1, TRef.unary, TRef.toBuf, TRef.ofBuf, cast_eq]
  after_results_simp
  all_goals rfl

/-- The device's buffer contents after the program's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v89, main_v90, main_cst_22, main_v91, main_v92, main_cst_23, main_call4_v0, main_call4_v1, main_call4_v2, main_call4_v3, main_v93]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_v1 (V0 : Valuation τ sig (Elt F)) : val2 V0 (no_index (Proc.devRef .tc main_v1)) = Host.divf (sitofp .f32 (V0 (Proc.devRef .tc main_arg1))) (constant S_ .f32 0x43480000#32) :=
  (val2_keep V0 main_v1 (by decide)).trans (val1_2_main_v1 V0)
theorem val2_main_v53 (V0 : Valuation τ sig (Elt F)) : val2 V0 (no_index (Proc.devRef .tc main_v53)) = Host.reduceAdd (select (cmpf .ogt (res_main_v32 V0) (broadcastInDim S4x32x32 ![] bcast_S_S4x32x32 (constant S_ .f32 0x00000000#32))) (mulf (res_main_v32 V0) (subf (Host.log (select (cmpf .ogt (res_main_v32 V0) (broadcastInDim S4x32x32 ![] bcast_S_S4x32x32 (constant S_ .f32 0x00000000#32))) (res_main_v32 V0) (broadcastInDim S4x32x32 ![1, 2] bcast_S32x32_S4x32x32_1_2 (broadcastInDim S32x32 ![] bcast_S_S32x32 (id (constant S_ .f32 0x3F800000#32)))))) (Host.log (select (cmpf .ogt (res_main_v39 V0) (broadcastInDim S4x32x32 ![] bcast_S_S4x32x32 (constant S_ .f32 0x00000000#32))) (res_main_v39 V0) (broadcastInDim S4x32x32 ![1, 2] bcast_S32x32_S4x32x32_1_2 (broadcastInDim S32x32 ![] bcast_S_S32x32 (id (constant S_ .f32 0x3F800000#32)))))))) (broadcastInDim S4x32x32 ![1, 2] bcast_S32x32_S4x32x32_1_2 (broadcastInDim S32x32 ![] bcast_S_S32x32 (id (constant S_ .f32 0x00000000#32))))) (constant S_ .f32 0x00000000#32) reducesTo_S4x32x32_S4_d1_2 h_S_ :=
  (val2_keep V0 main_v53 (by decide)).trans (val1_2_main_v53 V0)
theorem val2_main_v79 (V0 : Valuation τ sig (Elt F)) : val2 V0 (no_index (Proc.devRef .tc main_v79)) = res_main_v79 V0 :=
  (val2_keep V0 main_v79 (by decide)).trans (val1_2_main_v79 V0)
set_option maxRecDepth 8192 in
set_option maxHeartbeats 1100000 in
theorem val2_main_v90 (V0 : Valuation τ sig (Elt F)) : val2 V0 (no_index (Proc.devRef .tc main_v90)) = Host.log (select (cmpf .ogt (res_main_v79 V0) (broadcastInDim S4x1024x32x32 ![] bcast_S_S4x1024x32x32 (constant S_ .f32 0x00000000#32))) (res_main_v79 V0) (broadcastInDim S4x1024x32x32 ![1, 2, 3] bcast_S1024x32x32_S4x1024x32x32_1_2_3 (broadcastInDim S1024x32x32 ![1, 2] bcast_S32x32_S1024x32x32_1_2 (broadcastInDim S32x32 ![] bcast_S_S32x32 (id (constant S_ .f32 0x3F800000#32)))))) := by
  unfold val2
  simp only [ops_part1_2, TRef.ternary, TRef.unary, TRef.toBuf, TRef.ofBuf, cast_eq]
  after_results_simp
  simp only [val1_2_main_call3_v3, val1_2_main_v79, val1_2_main_v88] <;> rfl
set_option maxRecDepth 8192 in
set_option maxHeartbeats 1100000 in
theorem val2_main_v93 (V0 : Valuation τ sig (Elt F)) : val2 V0 (no_index (Proc.devRef .tc main_v93)) = select (cmpf .ogt (res_main_v86 V0) (broadcastInDim S4x1024x32x32 ![] bcast_S_S4x1024x32x32 (constant S_ .f32 0x00000000#32))) (res_main_v86 V0) (broadcastInDim S4x1024x32x32 ![1, 2, 3] bcast_S1024x32x32_S4x1024x32x32_1_2_3 (broadcastInDim S1024x32x32 ![1, 2] bcast_S32x32_S1024x32x32_1_2 (broadcastInDim S32x32 ![] bcast_S_S32x32 (id (constant S_ .f32 0x3F800000#32))))) := by
  unfold val2
  simp only [ops_part1_2, TRef.ternary, TRef.unary, TRef.toBuf, TRef.ofBuf, cast_eq]
  after_results_simp
  simp only [val1_2_main_v86] <;> rfl

/-- The device's buffer contents after the program's first 3 windows. -/
def val3 (V0 : Valuation τ sig (Elt F)) : Valuation τ sig (Elt F) := after ops_part2 (val2 V0)
/-- The buffers that window `main_part2`'s operations write. -/
abbrev ops_part2_W : List (Ref sig .tc) := [main_v94, main_cst_24, main_v95, main_v96, main_v97, main_v98, main_cst_25, main_call5_v0, main_call5_v1, main_call5_v2, main_call5_v3, main_v99, main_cst_26, main_v100, main_v101, main_v102, main_v103, main_v104, main_v105, main_v106, main_v107, main_v108, main_c_27, main_v109, main_cst_28, main_v110, main_v111, main_v112, main_v113, main_v114, main_v115, main_cst_29, main_cst_30, main_call6_v0, main_call6_v1, main_call6_v2, main_call6_v3, main_call6_v4, main_v116]
set_option maxRecDepth 8192 in
theorem ops_part2_writes : (ops_part2 : List (HloOp τ sig (Elt F))).Forall fun op => op.writes ⊆ (ops_part2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
set_option maxRecDepth 8192 in
set_option maxHeartbeats 2000000 in
theorem val3_main_v116 (V0 : Valuation τ sig (Elt F)) : val3 V0 (no_index (Proc.devRef .tc main_v116)) = minimumf (broadcastInDim S4x32x32 ![] bcast_S_S4x32x32 (id (constant S_ .f32 0x3F800000#32))) (maximumf (broadcastInDim S4x32x32 ![] bcast_S_S4x32x32 (id (constant S_ .f32 0x00000000#32))) (mulf (shapeCast _ (Host.scatter scatter_S4x1024_S1_S1024_0_0_0_0 (fun _ b => b) (Host.divf (res_main_v103 V0) (broadcastInDim S4x1024 ![0, 1] bcast_S1x1024_S4x1024_0_1 (broadcastInDim S1x1024 ![1] bcast_S1024_S1x1024_1 (shapeCast _ (extractStridedSlice S1x1024 ![0, 0] (res_main_v103 V0) slices_S4x1024_S1x1024_0_0) shapeCasts_S1x1024_S1024)))) (broadcastInDim S1 ![] bcast_S_S1 (constantI S_ 32 0#32)) (broadcastInDim S1024 ![] bcast_S_S1024 (constant S_ .f32 0x00000000#32))) shapeCasts_S4x1024_S4x32x32) (broadcastInDim S4x32x32 ![] bcast_S_S4x32x32 (id (Host.divf (sitofp .f32 (V0 (Proc.devRef .tc main_arg1))) (constant S_ .f32 0x43480000#32)))))) := by
  unfold val3
  simp only [ops_part2, TRef.binary, TRef.ternary, TRef.unary, TRef.toBuf, TRef.ofBuf, cast_eq]
  after_results_simp
  simp only [val2_main_arg0, val2_main_v1, val2_main_v53, val2_main_v93, val2_main_v90, val2_main_v79] <;> rfl

/-- The contents once the key is made. -/
def valKey (V0 : Valuation τ sig (Elt F)) : Valuation τ sig (Elt F) := after keyOps (val3 V0)
/-- The contents once the numbers are drawn. -/
def valDraw (V0 : Valuation τ sig (Elt F)) : Valuation τ sig (Elt F) := after Draw.drawOps (valKey V0)
/-- The drawn numbers. -/
def rand (V0 : Valuation τ sig (Elt F)) : (Proc.devRef .tc main_v124 : DevRef τ sig).ty.Contents (Elt F) :=
  valDraw V0 (Proc.devRef .tc main_v124)
/-- The contents at the end. -/
def valEnd (V0 : Valuation τ sig (Elt F)) : Valuation τ sig (Elt F) := after tailOps (valDraw V0)

theorem keyOps_above : (keyOps : List (HloOp τ sig (Elt F))).Forall (Sim.Above 178) :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem tailOps_above : (tailOps : List (HloOp τ sig (Elt F))).Forall (Sim.Above 467) :=
  ⟨⟨_, rfl, by decide⟩, ⟨_, rfl, by decide⟩, ⟨_, rfl, by decide⟩, ⟨_, rfl, by decide⟩, ⟨_, rfl, by decide⟩, ⟨_, rfl, by decide⟩⟩

theorem valDraw_low (V0 : Valuation τ sig (Elt F)) (r : Ref sig .tc) (h : r.idx.val < 178) :
    valDraw V0 (Proc.devRef .tc r) = val3 V0 (Proc.devRef .tc r) :=
  (Sim.after_below Draw.drawOps_above (valKey V0) r (by omega)).trans (Sim.after_below keyOps_above (val3 V0) r h)
theorem valEnd_low (V0 : Valuation τ sig (Elt F)) (r : Ref sig .tc) (h : r.idx.val < 178) :
    valEnd V0 (Proc.devRef .tc r) = val3 V0 (Proc.devRef .tc r) :=
  (Sim.after_below tailOps_above (valDraw V0) r (by omega)).trans (valDraw_low V0 r h)
theorem valDraw_main_v116 (V0 : Valuation τ sig (Elt F)) : valDraw V0 (no_index (Proc.devRef .tc main_v116)) = val3 V0 (Proc.devRef .tc main_v116) :=
  valDraw_low V0 main_v116 (by decide)
theorem valDraw_main_arg0 (V0 : Valuation τ sig (Elt F)) : valDraw V0 (no_index (Proc.devRef .tc main_arg0)) = V0 (Proc.devRef .tc main_arg0) :=
  (valDraw_low V0 main_arg0 (by decide)).trans (val3_main_arg0 V0)
theorem valDraw_main_v124 (V0 : Valuation τ sig (Elt F)) : valDraw V0 (no_index (Proc.devRef .tc main_v124)) = rand V0 := rfl

set_option maxRecDepth 8192 in
set_option maxHeartbeats 2000000 in
theorem valEnd_main_v129 (V0 : Valuation τ sig (Elt F)) : valEnd V0 (no_index (Proc.devRef .tc main_v129)) = select (cmpf .olt (rand V0) (broadcastInDim S16x4x3x32x32 ![0, 1, 2, 3, 4] bcast_S1x4x1x32x32_S16x4x3x32x32_0_1_2_3_4 (broadcastInDim S1x4x1x32x32 ![1, 3, 4] bcast_S4x32x32_S1x4x1x32x32_1_3_4 (minimumf (broadcastInDim S4x32x32 ![] bcast_S_S4x32x32 (id (constant S_ .f32 0x3F800000#32))) (maximumf (broadcastInDim S4x32x32 ![] bcast_S_S4x32x32 (id (constant S_ .f32 0x00000000#32))) (mulf (shapeCast _ (Host.scatter scatter_S4x1024_S1_S1024_0_0_0_0 (fun _ b => b) (Host.divf (res_main_v103 V0) (broadcastInDim S4x1024 ![0, 1] bcast_S1x1024_S4x1024_0_1 (broadcastInDim S1x1024 ![1] bcast_S1024_S1x1024_1 (shapeCast _ (extractStridedSlice S1x1024 ![0, 0] (res_main_v103 V0) slices_S4x1024_S1x1024_0_0) shapeCasts_S1x1024_S1024)))) (broadcastInDim S1 ![] bcast_S_S1 (constantI S_ 32 0#32)) (broadcastInDim S1024 ![] bcast_S_S1024 (constant S_ .f32 0x00000000#32))) shapeCasts_S4x1024_S4x32x32) (broadcastInDim S4x32x32 ![] bcast_S_S4x32x32 (id (Host.divf (sitofp .f32 (V0 (Proc.devRef .tc main_arg1))) (constant S_ .f32 0x43480000#32)))))))))) (broadcastInDim S16x4x3x32x32 ![] bcast_S_S16x4x3x32x32 (constant S_ .f32 0x00000000#32)) (V0 (Proc.devRef .tc main_arg0)) := by
  unfold valEnd
  simp only [tailOps, TRef.ternary, TRef.toBuf, TRef.ofBuf, cast_eq]
  after_results_simp
  simp only [valDraw_main_v116, valDraw_main_arg0, valDraw_main_v124, val3_main_v116] <;> rfl

theorem after_ops (V0 : Valuation τ sig (Elt F)) : after ops V0 = valEnd V0 := by
  simp only [ops, ops_part0, ops_part1, after_append]
  rfl

set_option maxRecDepth 8192 in
/-- From any memory with zero counters: every weakly fair execution ends with the result at the operations'
    composed term of the arguments and the drawn numbers, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v129) = valEnd (launchContents m c) (Proc.devRef .tc main_v129)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v129).trans (congrFun (after_ops (launchContents m c)) (Proc.devRef .tc main_v129)),
      (h c main_arg0).trans ((congrFun (after_ops (launchContents m c)) (Proc.devRef .tc main_arg0)).trans
        ((valEnd_low (launchContents m c) main_arg0 (by decide)).trans (val3_main_arg0 (launchContents m c)))),
      (h c main_arg1).trans ((congrFun (after_ops (launchContents m c)) (Proc.devRef .tc main_arg1)).trans
        ((valEnd_low (launchContents m c) main_arg1 (by decide)).trans (val3_main_arg1 (launchContents m c))))⟩)
    (run_seq scopedRefs_eq scopedSems_eq defs main (fun _ => ops) main_eq (fun _ => ops_sub) m ρ fun _ => ops_fresh)

end Cert.MiMask.RefRun

end
-- ==== Proof.Draws.lean ====
/-
  The kernel and the reference draw the same random numbers: the two draws are one line of
  operations over partner buffers, from the same key and the same bounds.
-/
module

public import proofs.«01_k».proof.Proof.Gen.KernelIdeal.Launch
public import proofs.«01_k».proof.Proof.RefRun
public import Idealize.ShloMosaic.PureOps.Ideal.Laws

@[expose] public section

set_option maxRecDepth 32768

noncomputable section

namespace Cert.MiMask

open Idealize.ShloMosaic Idealize.ShloMosaic.StableHlo

/-- What the buffers of the kernel's program hold. -/
abbrev KV := Valuation Cert.KernelIdeal.τ Cert.KernelIdeal.sig (Elt Ideal)
/-- What the buffers of the reference hold. -/
abbrev RV := Valuation Cert.ReferenceIdeal.τ Cert.ReferenceIdeal.sig (Elt Ideal)

set_option maxHeartbeats 4000000 in
/-- The two draws, operation by operation. -/
theorem draw_sims : Sim.Sims Cert.KernelIdeal.τ Cert.ReferenceIdeal.τ 12 175 292 15
    (Cert.KernelIdeal.Gen.hostOps0_1 (F := Ideal)) (Draw.drawOps (F := Ideal)) := by
  delta Cert.KernelIdeal.Gen.hostOps0_1 Draw.drawOps
  refine Sim.sims_unary ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_reshape ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_reshape ⟨rfl, rfl, by decide, by decide, rfl⟩ ⟨rfl, rfl, rfl, rfl⟩ ?_
  refine Sim.sims_nullary ⟨rfl, rfl, rfl, rfl⟩ ?_
  refine Sim.sims_nullary ⟨rfl, rfl, rfl, rfl⟩ ?_
  refine Sim.sims_nullary ⟨rfl, rfl, rfl, rfl⟩ ?_
  refine Sim.sims_nullary ⟨rfl, rfl, rfl, rfl⟩ ?_
  refine Sim.sims_nullary ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_nullary ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  refine Sim.sims_unary ⟨rfl, rfl, by decide, by decide, rfl⟩ ⟨rfl, rfl, rfl, rfl⟩ ?_
  refine Sim.sims_binary ⟨rfl, rfl, by decide, by decide, rfl⟩ ⟨rfl, rfl, by decide, by decide, rfl⟩ ⟨rfl, rfl, rfl, rfl⟩ ?_
  exact Sim.sims_nil

/-- The words of the key. -/
def keyWords : IVec Cert.KernelIdeal.S2 32 :=
  concatenate Cert.KernelIdeal.S2 0
    [⟨Cert.KernelIdeal.S1, broadcastInDim Cert.KernelIdeal.S1 ![] Cert.KernelIdeal.Gen.bcast_S_S1
        (Host.shrui (constantI Cert.KernelIdeal.S_ 32 1#32) (constantI Cert.KernelIdeal.S_ 32 32#32))⟩,
     ⟨Cert.KernelIdeal.S1, broadcastInDim Cert.KernelIdeal.S1 ![] Cert.KernelIdeal.Gen.bcast_S_S1
        (andi (constantI Cert.KernelIdeal.S_ 32 1#32) (constantI Cert.KernelIdeal.S_ 32 4294967295#32))⟩]
    Cert.KernelIdeal.Gen.concatenates_S1_S1_S2_d0

theorem kernel_key (V : KV) : after Cert.KernelIdeal.Gen.hostOps0 V (Proc.devRef .tc Cert.KernelIdeal.main_v7) = keyWords := by
  after_results
  rfl
theorem kernel_low (V : KV) : after Cert.KernelIdeal.Gen.hostOps0 V (Proc.devRef .tc Cert.KernelIdeal.main_cst)
    = constant (F := Ideal) Cert.KernelIdeal.S_ .f32 0x00000000#32 := by
  after_results
theorem kernel_high (V : KV) : after Cert.KernelIdeal.Gen.hostOps0 V (Proc.devRef .tc Cert.KernelIdeal.main_cst_2)
    = constant (F := Ideal) Cert.KernelIdeal.S_ .f32 0x3F800000#32 := by
  after_results
theorem reference_key (V : RV) : after RefRun.keyOps V (Proc.devRef .tc Cert.ReferenceIdeal.main_v123) = keyWords := by
  after_results
  rfl
theorem reference_low (V : RV) : after RefRun.keyOps V (Proc.devRef .tc Cert.ReferenceIdeal.main_cst_34)
    = constant (F := Ideal) Cert.KernelIdeal.S_ .f32 0x00000000#32 := by
  after_results
theorem reference_high (V : RV) : after RefRun.keyOps V (Proc.devRef .tc Cert.ReferenceIdeal.main_cst_35)
    = constant (F := Ideal) Cert.KernelIdeal.S_ .f32 0x3F800000#32 := by
  after_results

/-- Both programs begin the draw with the same key and the same bounds. -/
theorem start (V : KV) (W : RV) :
    Sim.Agree 12 175 15 (after Cert.KernelIdeal.Gen.hostOps0 V) (after RefRun.keyOps W) := by
  intro a b ⟨sa, sb, hl, hn, hb⟩
  obtain h | h | h : a.idx.val = 12 ∨ a.idx.val = 13 ∨ a.idx.val = 14 := by omega
  · have ea : a = Cert.KernelIdeal.main_v7 := Sim.ref_ext sa rfl h
    have eb : b = Cert.ReferenceIdeal.main_v123 := Sim.ref_ext sb rfl (hb.trans (by rw [h]; rfl))
    subst ea eb
    exact (heq_of_eq (kernel_key V)).trans (heq_of_eq (reference_key W).symm)
  · have ea : a = Cert.KernelIdeal.main_cst := Sim.ref_ext sa rfl h
    have eb : b = Cert.ReferenceIdeal.main_cst_34 := Sim.ref_ext sb rfl (hb.trans (by rw [h]; rfl))
    subst ea eb
    exact (heq_of_eq (kernel_low V)).trans (heq_of_eq (reference_low W).symm)
  · have ea : a = Cert.KernelIdeal.main_cst_2 := Sim.ref_ext sa rfl h
    have eb : b = Cert.ReferenceIdeal.main_cst_35 := Sim.ref_ext sb rfl (hb.trans (by rw [h]; rfl))
    subst ea eb
    exact (heq_of_eq (kernel_high V)).trans (heq_of_eq (reference_high W).symm)

/-- The numbers the kernel's program draws. -/
def drawn (V : KV) : FVec Ideal Cert.KernelIdeal.S16x4x3x32x32 .f32 :=
  after Cert.KernelIdeal.Gen.hostOps0_1 (after Cert.KernelIdeal.Gen.hostOps0 V) (Proc.devRef .tc Cert.KernelIdeal.main_v8)

/-- The reference draws the same. -/
theorem drawn_eq (V : KV) (W : RV) : RefRun.rand W = drawn V :=
  (eq_of_heq (draw_sims _ _ (start V (RefRun.val3 W)) Cert.KernelIdeal.main_v8 Cert.ReferenceIdeal.main_v124
    ⟨rfl, rfl, by decide, by decide, rfl⟩)).symm

end Cert.MiMask

end
-- ==== Proof.KernelValue.lean ====
/- The kernel's result array after its run, as a function of its arguments. -/
module

public import proofs.«01_k».proof.Proof.Out
public import proofs.«01_k».proof.Proof.Draws
public import Idealize.ShloMosaic.Lib.Pipeline.ValueKit

@[expose] public section

set_option maxRecDepth 16384

noncomputable section

namespace Cert.MiMask

open Idealize.ShloMosaic Idealize.ShloMosaic.TcCoe Cert.KernelIdeal Cert.KernelIdeal.Gen
open Idealize.ShloMosaic.Tactic

variable (m : (ℓ : Loc nD τ sig) → Buf (Elt Ideal) ℓ) (c : Dev nD)

/-- The contents once the numbers are drawn. -/
def valDrawn : KV := StableHlo.after hostOps0_1 (StableHlo.after hostOps0 (fun b => m (c, b)))

theorem host_eq : V0 m c = StableHlo.after hostOps0_2 (valDrawn m c) := by
  show StableHlo.after (List.flatten [hostOps0, hostOps0_1, hostOps0_2]) (fun b => m (c, b)) = _
  rw [List.flatten_cons, List.flatten_cons, List.flatten_cons, List.flatten_nil, List.append_nil,
    StableHlo.after_append, StableHlo.after_append]
  rfl

set_option maxHeartbeats 40000000 in
/-- The draw writes into buffers numbered from 15 on. -/
theorem draw_above : (hostOps0_1 : List (HloOp τ sig (Elt Ideal))).Forall (Sim.Above 15) :=
  ⟨⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩,
    ⟨_, rfl, by decide⟩, ⟨_, rfl, by decide⟩⟩

theorem valDrawn_low (r : Ref sig .tc) (h : r.idx.val < 15) :
    valDrawn m c (Proc.devRef .tc r) = StableHlo.after hostOps0 (fun b => m (c, b)) (Proc.devRef .tc r) :=
  Sim.after_below draw_above _ r h

theorem v0_eq : V m c main_v0
    = shapeCast S16x4x3x1024 (m ((c : Thread nD τ).loc main_arg0)) shapeCasts_S16x4x3x32x32_S16x4x3x1024 := by
  have e : V m c main_v0 = valDrawn m c (Proc.devRef .tc main_v0) := by
    show V0 m c (Proc.devRef .tc main_v0) = _
    rw [host_eq]
    generalize valDrawn m c = W
    after_results
  rw [e, valDrawn_low m c main_v0 (by decide)]
  after_results
  rfl

theorem v9_eq : V m c main_v9
    = shapeCast S16x4x3x1024 (drawn (fun b => m (c, b))) shapeCasts_S16x4x3x32x32_S16x4x3x1024 := by
  show V0 m c (Proc.devRef .tc main_v9) = _
  rw [host_eq]
  show StableHlo.after hostOps0_2 (valDrawn m c) (Proc.devRef .tc main_v9)
    = shapeCast S16x4x3x1024 (valDrawn m c (Proc.devRef .tc main_v8)) shapeCasts_S16x4x3x32x32_S16x4x3x1024
  generalize valDrawn m c = W
  after_results
  rfl

theorem v12_eq : V m c main_v12
    = shapeCast S1x1 (Host.divf (sitofp .f32 (m ((c : Thread nD τ).loc main_arg1))) (constant (F := Ideal) S_ .f32 0x43480000#32))
      shapeCasts_S_S1x1 := by
  have e : valDrawn m c (Proc.devRef .tc main_arg1) = m ((c : Thread nD τ).loc main_arg1) := by
    rw [valDrawn_low m c main_arg1 (by decide)]
    after_results
  rw [← e]
  show V0 m c (Proc.devRef .tc main_v12) = _
  rw [host_eq]
  generalize valDrawn m c = W
  after_results
  rfl

/-- Every window's block index at the one point. -/
theorem idx_zero : ∀ t : Fin cfg0.N, win0_0.index t = ![0, 0, 0, 0] ∧ win0_1.index t = ![0, 0, 0, 0]
    ∧ win0_2.index t = ![0, 0] :=
  (by decide +kernel : ∀ t : Fin grid0.N, _)

variable (W : (b : Ref sig .tc) → Buf (Elt Ideal) ((c : Thread nD τ).loc b))

/-- Each window's one block is its whole array, whatever the buffers hold. -/
theorem read0 : ((cfg0.win 0).blk t0_0).view.read (Elt Ideal) (W (Pipeline.arrRef spec0 0)) = W main_v0 := by
  show View.read (Elt Ideal) ((cfg0.win 0).blk t0_0).view (W main_v0) = W main_v0
  generalize W main_v0 = x
  blk_ext! [idx_zero t0_0]

theorem read1 : ((cfg0.win 1).blk t0_0).view.read (Elt Ideal) (W (Pipeline.arrRef spec0 1)) = W main_v9 := by
  show View.read (Elt Ideal) ((cfg0.win 1).blk t0_0).view (W main_v9) = W main_v9
  generalize W main_v9 = x
  blk_ext! [idx_zero t0_0]

theorem read2 : ((cfg0.win 2).blk t0_0).view.read (Elt Ideal) (W (Pipeline.arrRef spec0 2)) = W main_v12 := by
  show View.read (Elt Ideal) ((cfg0.win 2).blk t0_0).view (W main_v12) = W main_v12
  generalize W main_v12 = x
  blk_ext! [idx_zero t0_0]

theorem iblk0 : iblk m c 0 t0_0 = V m c main_v0 := read0 c fun b => V m c b

theorem iblk1 : iblk m c 1 t0_0 = V m c main_v9 := read1 c fun b => V m c b

theorem iblk2 : iblk m c 2 t0_0 = V m c main_v12 := read2 c fun b => V m c b

variable (L : Fin 4 → Fin 48 → Fin 1024 → Fin 32)

theorem final (hL : Reads (LAB (V m c main_v0)) L) : (dats m 0 c).arrAt 3 cfg0.N
    = masked (probs L (V m c main_v12 (ix2 0 0))) (V m c main_v0) (V m c main_v9) := by
  refine (dats m 0 c).arrAt_eq_of_after_last 3 t0_0 (by decide +kernel) _ fun j => ?_
  blk_simp
  rw [after0_3]
  unfold outsAt0
  rw [iblk0, iblk1, iblk2]
  exact congrFun (out_eq c _ _ _ _ _ _ _ _ _ _ _ _ (V m c main_v0) (V m c main_v9) (V m c main_v12) L hL) j

/-- The result array: the region's array, reshaped. -/
theorem tail_eq : Pipeline.afterTail₀ cfgs (dats m) 0 (V0 m) [hostOps1] c main_v14
    = shapeCast S16x4x3x32x32 ((dats m 0 c).arrAt 3 cfg0.N) shapeCasts_S16x4x3x1024_S16x4x3x32x32 := by
  unfold Pipeline.afterTail₀
  show StableHlo.after hostOps1 _ (Proc.devRef .tc main_v14) = _
  after_results
  exact congrArg (fun a : Vec Ideal S16x4x3x1024 .f32 => shapeCast S16x4x3x32x32 a shapeCasts_S16x4x3x1024_S16x4x3x32x32)
    (Pipeline.withArrays_arr spec0 (by decide) c (V0 m c) (fun w => (dats m 0 c).arrAt w (cfgs 0).N) 3)

/-- The values, by image, frame, channel, row and column. -/
abbrev vals (x : Vec Ideal S16x4x3x32x32 .f32) : Fin 16 → Fin 4 → Fin 3 → Fin 32 → Fin 32 → EReal :=
  fun b t d h w => x (ix5 b t d h w)

/-- Every value lies strictly between -17 and 16. -/
def Within (x : Vec Ideal S16x4x3x32x32 .f32) : Prop := ∀ y, ((-17 : ℝ) : EReal) < x y ∧ x y < ((16 : ℝ) : EReal)

/-- Of values in range the label scratch reads the labels. -/
theorem reads_labels (x : Vec Ideal S16x4x3x32x32 .f32)
    (H : Within x) :
    Reads (LAB (shapeCast S16x4x3x1024 x shapeCasts_S16x4x3x32x32_S16x4x3x1024)) (labels (vals x)) := by
  intro t i p
  unfold LAB labOf
  pointwise [k0_pay3]
  refine Eq.trans ?_ (cut_label (labels (vals x) t i p))
  refine congrArg (fun w => IntOp.minsi (31#32) (IntOp.maxsi (0#32) w)) ?_
  exact word_eq _ (H _).1 (H _).2

/-- The kernel's result at an element. -/
theorem kernel_value (H : Within (m ((c : Thread nD τ).loc main_arg0)))
    (b : Fin 16) (t : Fin 4) (d : Fin 3) (h w : Fin 32) :
    Pipeline.afterTail₀ cfgs (dats m) 0 (V0 m) [hostOps1] c main_v14 (ix5 b t d h w)
      = keep (labels (vals (m ((c : Thread nD τ).loc main_arg0)))) (scale (m ((c : Thread nD τ).loc main_arg1) ix0))
          (m ((c : Thread nD τ).loc main_arg0) (ix5 b t d h w)) (drawn (fun b => m (c, b)) (ix5 b t d h w)) t h w := by
  have hL := reads_labels (m ((c : Thread nD τ).loc main_arg0)) H
  rw [← v0_eq m c] at hL
  rw [tail_eq, final m c _ hL, v0_eq, v9_eq, v12_eq]
  generalize hx : m ((c : Thread nD τ).loc main_arg0) = x
  generalize hr : drawn (fun b => m (c, b)) = r
  generalize he : m ((c : Thread nD τ).loc main_arg1) = e
  pointwise [masked]
  rfl

end Cert.MiMask

end
-- ==== Proof.RefRead.lean ====
/-
  The reference one operation at a time: the value each operation writes as a function of the arguments,
  and of the drawn numbers, and that value read at an index.
-/
module

public import proofs.«01_k».proof.Proof.RefRun
public import Idealize.ShloMosaic.Lib.Pipeline.Value
public import Idealize.ShloMosaic.PureOps.Ideal.Laws

@[expose] public section

noncomputable section

namespace Cert.MiMask.RefRead

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S_, .i32⟩ : BufTy).Contents (Elt F)) : (⟨S_, .f32⟩ : BufTy).Contents (Elt F) :=
  sitofp .f32 (x1)
theorem val_main_v0_apply (x1 : (⟨S_, .i32⟩ : BufTy).Contents (Elt F)) (i : S_.Idx) :
    val_main_v0 (F := F) x1 i = FloatOps.sitofp .f32 (x1 i) := rfl

def val_main_cst : (⟨S_, .f32⟩ : BufTy).Contents (Elt F) :=
  constant S_ .f32 0x43480000#32
theorem val_main_cst_apply (i : S_.Idx) :
    val_main_cst (F := F) i = FloatOps.ofBits .f32 0x43480000#32 := rfl

def val_main_v1 (x1 : (⟨S_, .i32⟩ : BufTy).Contents (Elt F)) : (⟨S_, .f32⟩ : BufTy).Contents (Elt F) :=
  Host.divf (val_main_v0 (F := F) x1) (val_main_cst (F := F))
theorem val_main_v1_apply (x1 : (⟨S_, .i32⟩ : BufTy).Contents (Elt F)) (i : S_.Idx) :
    val_main_v1 (F := F) x1 i = FloatOps.hostDivf (val_main_v0 (F := F) x1 i) (val_main_cst (F := F) i) := rfl

def val_main_v2 (x0 : (⟨S16x4x3x32x32, .f32⟩ : BufTy).Contents (Elt F)) : (⟨S4x16x3x32x32, .f32⟩ : BufTy).Contents (Elt F) :=
  transpose S4x16x3x32x32 [1, 0, 2, 3, 4] (x0) transposes_S16x4x3x32x32_S4x16x3x32x32_1_0_2_3_4
abbrev idx_main_v2 (i : S4x16x3x32x32.Idx) : S16x4x3x32x32.Idx := fun a => match a with
  | ⟨0, _⟩ => ⟨(i 1).val, (i 1).isLt⟩
  | ⟨1, _⟩ => ⟨(i 0).val, (i 0).isLt⟩
  | ⟨2, _⟩ => ⟨(i 2).val, (i 2).isLt⟩
  | ⟨3, _⟩ => ⟨(i 3).val, (i 3).isLt⟩
  | ⟨4, _⟩ => ⟨(i 4).val, (i 4).isLt⟩
theorem val_main_v2_apply (x0 : (⟨S16x4x3x32x32, .f32⟩ : BufTy).Contents (Elt F)) (i : S4x16x3x32x32.Idx) :
    val_main_v2 (F := F) x0 i = x0 (idx_main_v2 i) := by
  unfold val_main_v2
  exact transpose_apply [1, 0, 2, 3, 4] x0 transposes_S16x4x3x32x32_S4x16x3x32x32_1_0_2_3_4 i (idx_main_v2 i) (fun b => match b with
    | ⟨0, _⟩ => rfl
    | ⟨1, _⟩ => rfl
    | ⟨2, _⟩ => rfl
    | ⟨3, _⟩ => rfl
    | ⟨4, _⟩ => rfl)

def val_main_v3 (x0 : (⟨S16x4x3x32x32, .f32⟩ : BufTy).Contents (Elt F)) : (⟨S4x48x1024, .f32⟩ : BufTy).Contents (Elt F) :=
  shapeCast _ (val_main_v2 (F := F) x0) shapeCasts_S4x16x3x32x32_S4x48x1024
set_option backward.proofsInPublic true in
abbrev idx_main_v3 (i : S4x48x1024.Idx) : S4x16x3x32x32.Idx := fun a => match a with
  | ⟨0, _⟩ => ⟨(((i 0).val * 48 + (i 1).val) * 1024 + (i 2).val) / 49152, by have h0 : (i 0).val < 4 := (i 0).isLt; have h1 : (i 1).val < 48 := (i 1).isLt; have h2 : (i 2).val < 1024 := (i 2).isLt; show (((i 0).val * 48 + (i 1).val) * 1024 + (i 2).val) / 49152 < 4; omega⟩
  | ⟨1, _⟩ => ⟨(((i 0).val * 48 + (i 1).val) * 1024 + (i 2).val) / 3072 % 16, by have h0 : (i 0).val < 4 := (i 0).isLt; have h1 : (i 1).val < 48 := (i 1).isLt; have h2 : (i 2).val < 1024 := (i 2).isLt; show (((i 0).val * 48 + (i 1).val) * 1024 + (i 2).val) / 3072 % 16 < 16; omega⟩
  | ⟨2, _⟩ => ⟨(((i 0).val * 48 + (i 1).val) * 1024 + (i 2).val) / 1024 % 3, by have h0 : (i 0).val < 4 := (i 0).isLt; have h1 : (i 1).val < 48 := (i 1).isLt; have h2 : (i 2).val < 1024 := (i 2).isLt; show (((i 0).val * 48 + (i 1).val) * 1024 + (i 2).val) / 1024 % 3 < 3; omega⟩
  | ⟨3, _⟩ => ⟨(((i 0).val * 48 + (i 1).val) * 1024 + (i 2).val) / 32 % 32, by have h0 : (i 0).val < 4 := (i 0).isLt; have h1 : (i 1).val < 48 := (i 1).isLt; have h2 : (i 2).val < 1024 := (i 2).isLt; show (((i 0).val * 48 + (i 1).val) * 1024 + (i 2).val) / 32 % 32 < 32; omega⟩
  | ⟨4, _⟩ => ⟨(((i 0).val * 48 + (i 1).val) * 1024 + (i 2).val) % 32, by have h0 : (i 0).val < 4 := (i 0).isLt; have h1 : (i 1).val < 48 := (i 1).isLt; have h2 : (i 2).val < 1024 := (i 2).isLt; show (((i 0).val * 48 + (i 1).val) * 1024 + (i 2).val) % 32 < 32; omega⟩
theorem val_main_v3_apply (x0 : (⟨S16x4x3x32x32, .f32⟩ : BufTy).Contents (Elt F)) (i : S4x48x1024.Idx) :
    val_main_v3 (F := F) x0 i = val_main_v2 (F := F) x0 (idx_main_v3 i) := by
  unfold val_main_v3
  generalize val_main_v2 (F := F) x0 = y
  exact shapeCast_apply y shapeCasts_S4x16x3x32x32_S4x48x1024 i (idx_main_v3 i)
    (by rewrite [Shape.rowMajor_val_five, Shape.rowMajor_val_three]; have h0 : (i 0).val < 4 := (i 0).isLt; have h1 : (i 1).val < 48 := (i 1).isLt; have h2 : (i 2).val < 1024 := (i 2).isLt; show ((((((i 0).val * 48 + (i 1).val) * 1024 + (i 2).val) / 49152 * 16 + (((i 0).val * 48 + (i 1).val) * 1024 + (i 2).val) / 3072 % 16) * 3 + (((i 0).val * 48 + (i 1).val) * 1024 + (i 2).val) / 1024 % 3) * 32 + (((i 0).val * 48 + (i 1).val) * 1024 + (i 2).val) / 32 % 32) * 32 + (((i 0).val * 48 + (i 1).val) * 1024 + (i 2).val) % 32 = ((i 0).val * 48 + (i 1).val) * 1024 + (i 2).val; omega)

def val_main_v4 (x0 : (⟨S16x4x3x32x32, .f32⟩ : BufTy).Contents (Elt F)) : (⟨S4x48x1024, .i32⟩ : BufTy).Contents (Elt F) :=
  fptosi 32 (val_main_v3 (F := F) x0)
theorem val_main_v4_apply (x0 : (⟨S16x4x3x32x32, .f32⟩ : BufTy).Contents (Elt F)) (i : S4x48x1024.Idx) :
    val_main_v4 (F := F) x0 i = FloatOps.fptosi 32 (val_main_v3 (F := F) x0 i) := rfl

def val_main_v5 (x0 : (⟨S16x4x3x32x32, .f32⟩ : BufTy).Contents (Elt F)) : (⟨S1x48x1024, .i32⟩ : BufTy).Contents (Elt F) :=
  extractStridedSlice S1x48x1024 ![0, 0, 0] (val_main_v4 (F := F) x0) slices_S4x48x1024_S1x48x1024_0_0_0
set_option backward.proofsInPublic true in
abbrev idx_main_v5 (i : S1x48x1024.Idx) : S4x48x1024.Idx := fun a => match a with
  | ⟨0, _⟩ => ⟨(i 0).val, by have h0 : (i 0).val < 1 := (i 0).isLt; show (i 0).val < 4; omega⟩
  | ⟨1, _⟩ => ⟨(i 1).val, (i 1).isLt⟩
  | ⟨2, _⟩ => ⟨(i 2).val, (i 2).isLt⟩
theorem val_main_v5_apply (x0 : (⟨S16x4x3x32x32, .f32⟩ : BufTy).Contents (Elt F)) (i : S1x48x1024.Idx) :
    val_main_v5 (F := F) x0 i = val_main_v4 (F := F) x0 (idx_main_v5 i) := by
  unfold val_main_v5
  generalize val_main_v4 (F := F) x0 = y
  exact extractStridedSlice_apply ![0, 0, 0] y slices_S4x48x1024_S1x48x1024_0_0_0 i (idx_main_v5 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v6 (x0 : (⟨S16x4x3x32x32, .f32⟩ : BufTy).Contents (Elt F)) : (⟨S48x1024, .i32⟩ : BufTy).Contents (Elt F) :=
  shapeCast _ (val_main_v5 (F := F) x0) shapeCasts_S1x48x1024_S48x1024
set_option backward.proofsInPublic true in
abbrev idx_main_v6 (i : S48x1024.Idx) : S1x48x1024.Idx := fun a => match a with
  | ⟨0, _⟩ => ⟨0, Nat.one_pos⟩
  | ⟨1, _⟩ => ⟨((i 0).val * 1024 + (i 1).val) / 1024 % 48, by have h0 : (i 0).val < 48 := (i 0).isLt; have h1 : (i 1).val < 1024 := (i 1).isLt; show ((i 0).val * 1024 + (i 1).val) / 1024 % 48 < 48; omega⟩
  | ⟨2, _⟩ => ⟨((i 0).val * 1024 + (i 1).val) % 1024, by have h0 : (i 0).val < 48 := (i 0).isLt; have h1 : (i 1).val < 1024 := (i 1).isLt; show ((i 0).val * 1024 + (i 1).val) % 1024 < 1024; omega⟩
theorem val_main_v6_apply (x0 : (⟨S16x4x3x32x32, .f32⟩ : BufTy).Contents (Elt F)) (i : S48x1024.Idx) :
    val_main_v6 (F := F) x0 i = val_main_v5 (F := F) x0 (idx_main_v6 i) := by
  unfold val_main_v6
  generalize val_main_v5 (F := F) x0 = y
  exact shapeCast_apply y shapeCasts_S1x48x1024_S48x1024 i (idx_main_v6 i)
    (by rewrite [Shape.rowMajor_val_three, Shape.rowMajor_val_two]; have h0 : (i 0).val < 48 := (i 0).isLt; have h1 : (i 1).val < 1024 := (i 1).isLt; show (0 * 48 + ((i 0).val * 1024 + (i 1).val) / 1024 % 48) * 1024 + ((i 0).val * 1024 + (i 1).val) % 1024 = (i 0).val * 1024 + (i 1).val; omega)

def val_main_v7 (x0 : (⟨S16x4x3x32x32, .f32⟩ : BufTy).Contents (Elt F)) : (⟨S49152, .i32⟩ : BufTy).Contents (Elt F) :=
  shapeCast _ (val_main_v6 (F := F) x0) shapeCasts_S48x1024_S49152
set_option backward.proofsInPublic true in
abbrev idx_main_v7 (i : S49152.Idx) : S48x1024.Idx := fun a => match a with
  | ⟨0, _⟩ => ⟨((i 0).val) / 1024, by have h0 : (i 0).val < 49152 := (i 0).isLt; show ((i 0).val) / 1024 < 48; omega⟩
  | ⟨1, _⟩ => ⟨((i 0).val) % 1024, by have h0 : (i 0).val < 49152 := (i 0).isLt; show ((i 0).val) % 1024 < 1024; omega⟩
theorem val_main_v7_apply (x0 : (⟨S16x4x3x32x32, .f32⟩ : BufTy).Contents (Elt F)) (i : S49152.Idx) :
    val_main_v7 (F := F) x0 i = val_main_v6 (F := F) x0 (idx_main_v7 i) := by
  unfold val_main_v7
  generalize val_main_v6 (F := F) x0 = y
  exact shapeCast_apply y shapeCasts_S48x1024_S49152 i (idx_main_v7 i)
    (by rewrite [Shape.rowMajor_val_two, Shape.rowMajor_val_one]; have h0 : (i 0).val < 49152 := (i 0).isLt; show ((i 0).val) / 1024 * 1024 + ((i 0).val) % 1024 = (i 0).val; omega)

def val_main_v8 (x0 : (⟨S16x4x3x32x32, .f32⟩ : BufTy).Contents (Elt F)) : (⟨S4x49152, .i32⟩ : BufTy).Contents (Elt F) :=
  shapeCast _ (val_main_v4 (F := F) x0) shapeCasts_S4x48x1024_S4x49152
set_option backward.proofsInPublic true in
abbrev idx_main_v8 (i : S4x49152.Idx) : S4x48x1024.Idx := fun a => match a with
  | ⟨0, _⟩ => ⟨((i 0).val * 49152 + (i 1).val) / 49152, by have h0 : (i 0).val < 4 := (i 0).isLt; have h1 : (i 1).val < 49152 := (i 1).isLt; show ((i 0).val * 49152 + (i 1).val) / 49152 < 4; omega⟩
  | ⟨1, _⟩ => ⟨((i 0).val * 49152 + (i 1).val) / 1024 % 48, by have h0 : (i 0).val < 4 := (i 0).isLt; have h1 : (i 1).val < 49152 := (i 1).isLt; show ((i 0).val * 49152 + (i 1).val) / 1024 % 48 < 48; omega⟩
  | ⟨2, _⟩ => ⟨((i 0).val * 49152 + (i 1).val) % 1024, by have h0 : (i 0).val < 4 := (i 0).isLt; have h1 : (i 1).val < 49152 := (i 1).isLt; show ((i 0).val * 49152 + (i 1).val) % 1024 < 1024; omega⟩
theorem val_main_v8_apply (x0 : (⟨S16x4x3x32x32, .f32⟩ : BufTy).Contents (Elt F)) (i : S4x49152.Idx) :
    val_main_v8 (F := F) x0 i = val_main_v4 (F := F) x0 (idx_main_v8 i) := by
  unfold val_main_v8
  generalize val_main_v4 (F := F) x0 = y
  exact shapeCast_apply y shapeCasts_S4x48x1024_S4x49152 i (idx_main_v8 i)
    (by rewrite [Shape.rowMajor_val_three, Shape.rowMajor_val_two]; have h0 : (i 0).val < 4 := (i 0).isLt; have h1 : (i 1).val < 49152 := (i 1).isLt; show (((i 0).val * 49152 + (i 1).val) / 49152 * 48 + ((i 0).val * 49152 + (i 1).val) / 1024 % 48) * 1024 + ((i 0).val * 49152 + (i 1).val) % 1024 = (i 0).val * 49152 + (i 1).val; omega)

def val_main_c : (⟨S_, .i32⟩ : BufTy).Contents (Elt F) :=
  constantI S_ 32 16#32
theorem val_main_c_apply (i : S_.Idx) :
    val_main_c (F := F) i = 16#32 := rfl

def val_main_v9 : (⟨S49152, .i32⟩ : BufTy).Contents (Elt F) :=
  broadcastInDim S49152 ![] bcast_S_S49152 (val_main_c (F := F))
abbrev idx_main_v9 (i : S49152.Idx) : S_.Idx := fun a => a.elim0
theorem val_main_v9_apply (i : S49152.Idx) :
    val_main_v9 (F := F) i = val_main_c (F := F) (idx_main_v9 i) := by
  unfold val_main_v9
  generalize val_main_c (F := F) = y
  exact broadcastInDim_apply _ bcast_S_S49152 y i (idx_main_v9 i) (fun a => a.elim0)

def val_main_v10 (x0 : (⟨S16x4x3x32x32, .f32⟩ : BufTy).Contents (Elt F)) : (⟨S49152, .i32⟩ : BufTy).Contents (Elt F) :=
  addi (val_main_v7 (F := F) x0) (val_main_v9 (F := F))
theorem val_main_v10_apply (x0 : (⟨S16x4x3x32x32, .f32⟩ : BufTy).Contents (Elt F)) (i : S49152.Idx) :
    val_main_v10 (F := F) x0 i = IntOp.addi (val_main_v7 (F := F) x0 i) (val_main_v9 (F := F) i) := rfl

def val_main_c_0 : (⟨S_, .i32⟩ : BufTy).Contents (Elt F) :=
  constantI S_ 32 32#32
theorem val_main_c_0_apply (i : S_.Idx) :
    val_main_c_0 (F := F) i = 32#32 := rfl

def val_main_v11 : (⟨S49152, .i32⟩ : BufTy).Contents (Elt F) :=
  broadcastInDim S49152 ![] bcast_S_S49152 (val_main_c_0 (F := F))
abbrev idx_main_v11 (i : S49152.Idx) : S_.Idx := fun a => a.elim0
theorem val_main_v11_apply (i : S49152.Idx) :
    val_main_v11 (F := F) i = val_main_c_0 (F := F) (idx_main_v11 i) := by
  unfold val_main_v11
  generalize val_main_c_0 (F := F) = y
  exact broadcastInDim_apply _ bcast_S_S49152 y i (idx_main_v11 i) (fun a => a.elim0)

def val_main_v12 (x0 : (⟨S16x4x3x32x32, .f32⟩ : BufTy).Contents (Elt F)) : (⟨S49152, .i32⟩ : BufTy).Contents (Elt F) :=
  muli (val_main_v10 (F := F) x0) (val_main_v11 (F := F))
theorem val_main_v12_apply (x0 : (⟨S16x4x3x32x32, .f32⟩ : BufTy).Contents (Elt F)) (i : S49152.Idx) :
    val_main_v12 (F := F) x0 i = IntOp.muli (val_main_v10 (F := F) x0 i) (val_main_v11 (F := F) i) := rfl

def val_main_c_1 : (⟨S_, .i32⟩ : BufTy).Contents (Elt F) :=
  constantI S_ 32 16#32
theorem val_main_c_1_apply (i : S_.Idx) :
    val_main_c_1 (F := F) i = 16#32 := rfl

def val_main_v13 : (⟨S4x49152, .i32⟩ : BufTy).Contents (Elt F) :=
  broadcastInDim S4x49152 ![] bcast_S_S4x49152 (val_main_c_1 (F := F))
abbrev idx_main_v13 (i : S4x49152.Idx) : S_.Idx := fun a => a.elim0
theorem val_main_v13_apply (i : S4x49152.Idx) :
    val_main_v13 (F := F) i = val_main_c_1 (F := F) (idx_main_v13 i) := by
  unfold val_main_v13
  generalize val_main_c_1 (F := F) = y
  exact broadcastInDim_apply _ bcast_S_S4x49152 y i (idx_main_v13 i) (fun a => a.elim0)

def val_main_v14 (x0 : (⟨S16x4x3x32x32, .f32⟩ : BufTy).Contents (Elt F)) : (⟨S4x49152, .i32⟩ : BufTy).Contents (Elt F) :=
  addi (val_main_v8 (F := F) x0) (val_main_v13 (F := F))
theorem val_main_v14_apply (x0 : (⟨S16x4x3x32x32, .f32⟩ : BufTy).Contents (Elt F)) (i : S4x49152.Idx) :
    val_main_v14 (F := F) x0 i = IntOp.addi (val_main_v8 (F := F) x0 i) (val_main_v13 (F := F) i) := rfl

def val_main_v15 (x0 : (⟨S16x4x3x32x32, .f32⟩ : BufTy).Contents (Elt F)) : (⟨S1x49152, .i32⟩ : BufTy).Contents (Elt F) :=
  broadcastInDim S1x49152 ![1] bcast_S49152_S1x49152_1 (val_main_v12 (F := F) x0)
abbrev idx_main_v15 (i : S1x49152.Idx) : S49152.Idx := fun a => match a with
  | ⟨0, _⟩ => ⟨(i 1).val, (i 1).isLt⟩
theorem val_main_v15_apply (x0 : (⟨S16x4x3x32x32, .f32⟩ : BufTy).Contents (Elt F)) (i : S1x49152.Idx) :
    val_main_v15 (F := F) x0 i = val_main_v12 (F := F) x0 (idx_main_v15 i) := by
  unfold val_main_v15
  generalize val_main_v12 (F := F) x0 = y
  exact broadcastInDim_apply _ bcast_S49152_S1x49152_1 y i (idx_main_v15 i) (fun a => match a with
    | ⟨0, _⟩ => by show (i 1).val = if (49152 : Nat) = 1 then 0 else (i 1).val; rw [if_neg (by decide)])

def val_main_v16 (x0 : (⟨S16x4x3x32x32, .f32⟩ : BufTy).Contents (Elt F)) : (⟨S4x49152, .i32⟩ : BufTy).Contents (Elt F) :=
  broadcastInDim S4x49152 ![0, 1] bcast_S1x49152_S4x49152_0_1 (val_main_v15 (F := F) x0)
abbrev idx_main_v16 (i : S4x49152.Idx) : S1x49152.Idx := fun a => match a with
  | ⟨0, _⟩ => ⟨0, Nat.one_pos⟩
  | ⟨1, _⟩ => ⟨(i 1).val, (i 1).isLt⟩
theorem val_main_v16_apply (x0 : (⟨S16x4x3x32x32, .f32⟩ : BufTy).Contents (Elt F)) (i : S4x49152.Idx) :
    val_main_v16 (F := F) x0 i = val_main_v15 (F := F) x0 (idx_main_v16 i) := by
  unfold val_main_v16
  generalize val_main_v15 (F := F) x0 = y
  exact broadcastInDim_apply _ bcast_S1x49152_S4x49152_0_1 y i (idx_main_v16 i) (fun a => match a with
    | ⟨0, _⟩ => by show 0 = if (1 : Nat) = 1 then 0 else (i 0).val; rw [if_pos rfl]
    | ⟨1, _⟩ => by show (i 1).val = if (49152 : Nat) = 1 then 0 else (i 1).val; rw [if_neg (by decide)])

def val_main_v17 (x0 : (⟨S16x4x3x32x32, .f32⟩ : BufTy).Contents (Elt F)) : (⟨S4x49152, .i32⟩ : BufTy).Contents (Elt F) :=
  addi (val_main_v16 (F := F) x0) (val_main_v14 (F := F) x0)
theorem val_main_v17_apply (x0 : (⟨S16x4x3x32x32, .f32⟩ : BufTy).Contents (Elt F)) (i : S4x49152.Idx) :
    val_main_v17 (F := F) x0 i = IntOp.addi (val_main_v16 (F := F) x0 i) (val_main_v14 (F := F) x0 i) := rfl

def val_main_v18 (x0 : (⟨S16x4x3x32x32, .f32⟩ : BufTy).Contents (Elt F)) : (⟨S4x49152x1, .i32⟩ : BufTy).Contents (Elt F) :=
  shapeCast _ (val_main_v17 (F := F) x0) shapeCasts_S4x49152_S4x49152x1
set_option backward.proofsInPublic true in
abbrev idx_main_v18 (i : S4x49152x1.Idx) : S4x49152.Idx := fun a => match a with
  | ⟨0, _⟩ => ⟨(((i 0).val * 49152 + (i 1).val) * 1 + (i 2).val) / 49152, by have h0 : (i 0).val < 4 := (i 0).isLt; have h1 : (i 1).val < 49152 := (i 1).isLt; have h2 : (i 2).val < 1 := (i 2).isLt; show (((i 0).val * 49152 + (i 1).val) * 1 + (i 2).val) / 49152 < 4; omega⟩
  | ⟨1, _⟩ => ⟨(((i 0).val * 49152 + (i 1).val) * 1 + (i 2).val) % 49152, by have h0 : (i 0).val < 4 := (i 0).isLt; have h1 : (i 1).val < 49152 := (i 1).isLt; have h2 : (i 2).val < 1 := (i 2).isLt; show (((i 0).val * 49152 + (i 1).val) * 1 + (i 2).val) % 49152 < 49152; omega⟩
theorem val_main_v18_apply (x0 : (⟨S16x4x3x32x32, .f32⟩ : BufTy).Contents (Elt F)) (i : S4x49152x1.Idx) :
    val_main_v18 (F := F) x0 i = val_main_v17 (F := F) x0 (idx_main_v18 i) := by
  unfold val_main_v18
  generalize val_main_v17 (F := F) x0 = y
  exact shapeCast_apply y shapeCasts_S4x49152_S4x49152x1 i (idx_main_v18 i)
    (by rewrite [Shape.rowMajor_val_two, Shape.rowMajor_val_three]; have h0 : (i 0).val < 4 := (i 0).isLt; have h1 : (i 1).val < 49152 := (i 1).isLt; have h2 : (i 2).val < 1 := (i 2).isLt; show (((i 0).val * 49152 + (i 1).val) * 1 + (i 2).val) / 49152 * 49152 + (((i 0).val * 49152 + (i 1).val) * 1 + (i 2).val) % 49152 = ((i 0).val * 49152 + (i 1).val) * 1 + (i 2).val; omega)

def val_main_v19 : (⟨S1024, .i32⟩ : BufTy).Contents (Elt F) :=
  iotaInDim S1024 32 0
theorem val_main_v19_apply (i : S1024.Idx) :
    val_main_v19 (F := F) i = BitVec.ofNat 32 (i 0).val := rfl

def val_main_v20 : (⟨S1x1024, .i32⟩ : BufTy).Contents (Elt F) :=
  broadcastInDim S1x1024 ![1] bcast_S1024_S1x1024_1 (val_main_v19 (F := F))
abbrev idx_main_v20 (i : S1x1024.Idx) : S1024.Idx := fun a => match a with
  | ⟨0, _⟩ => ⟨(i 1).val, (i 1).isLt⟩
theorem val_main_v20_apply (i : S1x1024.Idx) :
    val_main_v20 (F := F) i = val_main_v19 (F := F) (idx_main_v20 i) := by
  unfold val_main_v20
  generalize val_main_v19 (F := F) = y
  exact broadcastInDim_apply _ bcast_S1024_S1x1024_1 y i (idx_main_v20 i) (fun a => match a with
    | ⟨0, _⟩ => by show (i 1).val = if (1024 : Nat) = 1 then 0 else (i 1).val; rw [if_neg (by decide)])

def val_main_v21 : (⟨S1x1x1024, .i32⟩ : BufTy).Contents (Elt F) :=
  broadcastInDim S1x1x1024 ![1, 2] bcast_S1x1024_S1x1x1024_1_2 (val_main_v20 (F := F))
abbrev idx_main_v21 (i : S1x1x1024.Idx) : S1x1024.Idx := fun a => match a with
  | ⟨0, _⟩ => ⟨0, Nat.one_pos⟩
  | ⟨1, _⟩ => ⟨(i 2).val, (i 2).isLt⟩
theorem val_main_v21_apply (i : S1x1x1024.Idx) :
    val_main_v21 (F := F) i = val_main_v20 (F := F) (idx_main_v21 i) := by
  unfold val_main_v21
  generalize val_main_v20 (F := F) = y
  exact broadcastInDim_apply _ bcast_S1x1024_S1x1x1024_1_2 y i (idx_main_v21 i) (fun a => match a with
    | ⟨0, _⟩ => by show 0 = if (1 : Nat) = 1 then 0 else (i 1).val; rw [if_pos rfl]
    | ⟨1, _⟩ => by show (i 2).val = if (1024 : Nat) = 1 then 0 else (i 2).val; rw [if_neg (by decide)])

def val_main_v22 (x0 : (⟨S16x4x3x32x32, .f32⟩ : BufTy).Contents (Elt F)) : (⟨S4x49152x1024, .i32⟩ : BufTy).Contents (Elt F) :=
  broadcastInDim S4x49152x1024 ![0, 1, 2] bcast_S4x49152x1_S4x49152x1024_0_1_2 (val_main_v18 (F := F) x0)
abbrev idx_main_v22 (i : S4x49152x1024.Idx) : S4x49152x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v22_apply (x0 : (⟨S16x4x3x32x32, .f32⟩ : BufTy).Contents (Elt F)) (i : S4x49152x1024.Idx) :
    val_main_v22 (F := F) x0 i = val_main_v18 (F := F) x0 (idx_main_v22 i) := by
  unfold val_main_v22
  generalize val_main_v18 (F := F) x0 = y
  exact broadcastInDim_apply _ bcast_S4x49152x1_S4x49152x1024_0_1_2 y i (idx_main_v22 i) (fun a => match a with
    | ⟨0, _⟩ => by show (i 0).val = if (4 : Nat) = 1 then 0 else (i 0).val; rw [if_neg (by decide)]
    | ⟨1, _⟩ => by show (i 1).val = if (49152 : Nat) = 1 then 0 else (i 1).val; rw [if_neg (by decide)]
    | ⟨2, _⟩ => by show 0 = if (1 : Nat) = 1 then 0 else (i 2).val; rw [if_pos rfl])

def val_main_v23 : (⟨S4x49152x1024, .i32⟩ : BufTy).Contents (Elt F) :=
  broadcastInDim S4x49152x1024 ![0, 1, 2] bcast_S1x1x1024_S4x49152x1024_0_1_2 (val_main_v21 (F := F))
abbrev idx_main_v23 (i : S4x49152x1024.Idx) : S1x1x1024.Idx := fun a => match a with
  | ⟨0, _⟩ => ⟨0, Nat.one_pos⟩
  | ⟨1, _⟩ => ⟨0, Nat.one_pos⟩
  | ⟨2, _⟩ => ⟨(i 2).val, (i 2).isLt⟩
theorem val_main_v23_apply (i : S4x49152x1024.Idx) :
    val_main_v23 (F := F) i = val_main_v21 (F := F) (idx_main_v23 i) := by
  unfold val_main_v23
  generalize val_main_v21 (F := F) = y
  exact broadcastInDim_apply _ bcast_S1x1x1024_S4x49152x1024_0_1_2 y i (idx_main_v23 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (1024 : Nat) = 1 then 0 else (i 2).val; rw [if_neg (by decide)])

def val_main_v24 (x0 : (⟨S16x4x3x32x32, .f32⟩ : BufTy).Contents (Elt F)) : (⟨S4x49152x1024, .i1⟩ : BufTy).Contents (Elt F) :=
  cmpi .eq (val_main_v22 (F := F) x0) (val_main_v23 (F := F))
theorem val_main_v24_apply (x0 : (⟨S16x4x3x32x32, .f32⟩ : BufTy).Contents (Elt F)) (i : S4x49152x1024.Idx) :
    val_main_v24 (F := F) x0 i = IntOp.cmpi .eq (val_main_v22 (F := F) x0 i) (val_main_v23 (F := F) i) := rfl

def val_main_v25 (x0 : (⟨S16x4x3x32x32, .f32⟩ : BufTy).Contents (Elt F)) : (⟨S4x49152x1024, .i32⟩ : BufTy).Contents (Elt F) :=
  extui 32 (val_main_v24 (F := F) x0) natLt_1_32
theorem val_main_v25_apply (x0 : (⟨S16x4x3x32x32, .f32⟩ : BufTy).Contents (Elt F)) (i : S4x49152x1024.Idx) :
    val_main_v25 (F := F) x0 i = (val_main_v24 (F := F) x0 i).setWidth 32 := rfl

def val_main_c_2 : (⟨S_, .i32⟩ : BufTy).Contents (Elt F) :=
  constantI S_ 32 0#32
theorem val_main_c_2_apply (i : S_.Idx) :
    val_main_c_2 (F := F) i = 0#32 := rfl

def val_main_v26 (x0 : (⟨S16x4x3x32x32, .f32⟩ : BufTy).Contents (Elt F)) : (⟨S4x1024, .i32⟩ : BufTy).Contents (Elt F) :=
  Host.reduce IntOp.addi (val_main_v25 (F := F) x0) (val_main_c_2 (F := F)) reducesTo_S4x49152x1024_S4x1024_d1 h_S_

def val_main_v27 (x0 : (⟨S16x4x3x32x32, .f32⟩ : BufTy).Contents (Elt F)) : (⟨S4x1024, .f32⟩ : BufTy).Contents (Elt F) :=
  sitofp .f32 (val_main_v26 (F := F) x0)
theorem val_main_v27_apply (x0 : (⟨S16x4x3x32x32, .f32⟩ : BufTy).Contents (Elt F)) (i : S4x1024.Idx) :
    val_main_v27 (F := F) x0 i = FloatOps.sitofp .f32 (val_main_v26 (F := F) x0 i) := rfl

def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

def val_main_v28 (x0 : (⟨S16x4x3x32x32, .f32⟩ : BufTy).Contents (Elt F)) : (⟨S4, .f32⟩ : BufTy).Contents (Elt F) :=
  Host.reduceAdd (val_main_v27 (F := F) x0) (val_main_cst_3 (F := F)) reducesTo_S4x1024_S4_d1 h_S_
abbrev idx_main_v28 (i : S4.Idx) (k : Fin 1024) : S4x1024.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v28_apply (x0 : (⟨S16x4x3x32x32, .f32⟩ : BufTy).Contents (Elt Ideal)) (i : S4.Idx) :
    val_main_v28 (F := Ideal) x0 i = (val_main_cst_3 (F := Ideal)) (Shape.Idx.first h_S_) + ∑ k : Fin 1024, (val_main_v27 (F := Ideal) x0) (idx_main_v28 i k) := by
  unfold val_main_v28
  generalize val_main_v27 (F := Ideal) x0 = y0
  simp only [Host.reduceAdd, Ideal.hostReduceAdd_def]
  rw [Ideal.hostReduceAdd_single reducesTo_S4x1024_S4_d1 (by decide)]
  refine congrArg (_ + ·) (Finset.sum_congr rfl fun k _ => ?_)
  exact congrArg y0 (funext fun a => Fin.ext (by match a with | ⟨0, _⟩ => rfl | ⟨1, _⟩ => rfl))

def val_main_v29 (x0 : (⟨S16x4x3x32x32, .f32⟩ : BufTy).Contents (Elt F)) : (⟨S4x1, .f32⟩ : BufTy).Contents (Elt F) :=
  broadcastInDim S4x1 ![0] bcast_S4_S4x1_0 (val_main_v28 (F := F) x0)
abbrev idx_main_v29 (i : S4x1.Idx) : S4.Idx := fun a => match a with
  | ⟨0, _⟩ => ⟨(i 0).val, (i 0).isLt⟩
theorem val_main_v29_apply (x0 : (⟨S16x4x3x32x32, .f32⟩ : BufTy).Contents (Elt F)) (i : S4x1.Idx) :
    val_main_v29 (F := F) x0 i = val_main_v28 (F := F) x0 (idx_main_v29 i) := by
  unfold val_main_v29
  generalize val_main_v28 (F := F) x0 = y
  exact broadcastInDim_apply _ bcast_S4_S4x1_0 y i (idx_main_v29 i) (fun a => match a with
    | ⟨0, _⟩ => by show (i 0).val = if (4 : Nat) = 1 then 0 else (i 0).val; rw [if_neg (by decide)])

def val_main_v30 (x0 : (⟨S16x4x3x32x32, .f32⟩ : BufTy).Contents (Elt F)) : (⟨S4x1024, .f32⟩ : BufTy).Contents (Elt F) :=
  broadcastInDim S4x1024 ![0, 1] bcast_S4x1_S4x1024_0_1 (val_main_v29 (F := F) x0)
abbrev idx_main_v30 (i : S4x1024.Idx) : S4x1.Idx := fun a => match a with
  | ⟨0, _⟩ => ⟨(i 0).val, (i 0).isLt⟩
  | ⟨1, _⟩ => ⟨0, Nat.one_pos⟩
theorem val_main_v30_apply (x0 : (⟨S16x4x3x32x32, .f32⟩ : BufTy).Contents (Elt F)) (i : S4x1024.Idx) :
    val_main_v30 (F := F) x0 i = val_main_v29 (F := F) x0 (idx_main_v30 i) := by
  unfold val_main_v30
  generalize val_main_v29 (F := F) x0 = y
  exact broadcastInDim_apply _ bcast_S4x1_S4x1024_0_1 y i (idx_main_v30 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl])

def val_main_v31 (x0 : (⟨S16x4x3x32x32, .f32⟩ : BufTy).Contents (Elt F)) : (⟨S4x1024, .f32⟩ : BufTy).Contents (Elt F) :=
  Host.divf (val_main_v27 (F := F) x0) (val_main_v30 (F := F) x0)
theorem val_main_v31_apply (x0 : (⟨S16x4x3x32x32, .f32⟩ : BufTy).Contents (Elt F)) (i : S4x1024.Idx) :
    val_main_v31 (F := F) x0 i = FloatOps.hostDivf (val_main_v27 (F := F) x0 i) (val_main_v30 (F := F) x0 i) := rfl

def val_main_v32 (x0 : (⟨S16x4x3x32x32, .f32⟩ : BufTy).Contents (Elt F)) : (⟨S4x32x32, .f32⟩ : BufTy).Contents (Elt F) :=
  shapeCast _ (val_main_v31 (F := F) x0) shapeCasts_S4x1024_S4x32x32
set_option backward.proofsInPublic true in
abbrev idx_main_v32 (i : S4x32x32.Idx) : S4x1024.Idx := fun a => match a with
  | ⟨0, _⟩ => ⟨(((i 0).val * 32 + (i 1).val) * 32 + (i 2).val) / 1024, by have h0 : (i 0).val < 4 := (i 0).isLt; have h1 : (i 1).val < 32 := (i 1).isLt; have h2 : (i 2).val < 32 := (i 2).isLt; show (((i 0).val * 32 + (i 1).val) * 32 + (i 2).val) / 1024 < 4; omega⟩
  | ⟨1, _⟩ => ⟨(((i 0).val * 32 + (i 1).val) * 32 + (i 2).val) % 1024, by have h0 : (i 0).val < 4 := (i 0).isLt; have h1 : (i 1).val < 32 := (i 1).isLt; have h2 : (i 2).val < 32 := (i 2).isLt; show (((i 0).val * 32 + (i 1).val) * 32 + (i 2).val) % 1024 < 1024; omega⟩
theorem val_main_v32_apply (x0 : (⟨S16x4x3x32x32, .f32⟩ : BufTy).Contents (Elt F)) (i : S4x32x32.Idx) :
    val_main_v32 (F := F) x0 i = val_main_v31 (F := F) x0 (idx_main_v32 i) := by
  unfold val_main_v32
  generalize val_main_v31 (F := F) x0 = y
  exact shapeCast_apply y shapeCasts_S4x1024_S4x32x32 i (idx_main_v32 i)
    (by rewrite [Shape.rowMajor_val_two, Shape.rowMajor_val_three]; have h0 : (i 0).val < 4 := (i 0).isLt; have h1 : (i 1).val < 32 := (i 1).isLt; have h2 : (i 2).val < 32 := (i 2).isLt; show (((i 0).val * 32 + (i 1).val) * 32 + (i 2).val) / 1024 * 1024 + (((i 0).val * 32 + (i 1).val) * 32 + (i 2).val) % 1024 = ((i 0).val * 32 + (i 1).val) * 32 + (i 2).val; omega)

def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

def val_main_v33 (x0 : (⟨S16x4x3x32x32, .f32⟩ : BufTy).Contents (Elt F)) : (⟨S4x32, .f32⟩ : BufTy).Contents (Elt F) :=
  Host.reduceAdd (val_main_v32 (F := F) x0) (val_main_cst_4 (F := F)) reducesTo_S4x32x32_S4x32_d2 h_S_
abbrev idx_main_v33 (i : S4x32.Idx) (k : Fin 32) : S4x32x32.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v33_apply (x0 : (⟨S16x4x3x32x32, .f32⟩ : BufTy).Contents (Elt Ideal)) (i : S4x32.Idx) :
    val_main_v33 (F := Ideal) x0 i = (val_main_cst_4 (F := Ideal)) (Shape.Idx.first h_S_) + ∑ k : Fin 32, (val_main_v32 (F := Ideal) x0) (idx_main_v33 i k) := by
  unfold val_main_v33
  generalize val_main_v32 (F := Ideal) x0 = y0
  simp only [Host.reduceAdd, Ideal.hostReduceAdd_def]
  rw [Ideal.hostReduceAdd_single reducesTo_S4x32x32_S4x32_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

def val_main_v34 (x0 : (⟨S16x4x3x32x32, .f32⟩ : BufTy).Contents (Elt F)) : (⟨S4x32, .f32⟩ : BufTy).Contents (Elt F) :=
  Host.reduceAdd (val_main_v32 (F := F) x0) (val_main_cst_5 (F := F)) reducesTo_S4x32x32_S4x32_d1 h_S_
abbrev idx_main_v34 (i : S4x32.Idx) (k : Fin 32) : S4x32x32.Idx := fun a => match a with
  | ⟨0, _⟩ => ⟨(i 0).val, (i 0).isLt⟩
  | ⟨1, _⟩ => ⟨k.val, k.isLt⟩
  | ⟨2, _⟩ => ⟨(i 1).val, (i 1).isLt⟩
/-- Stated at `F := Ideal`, where the host's float sum is this sum; at a bit-exact instance it is an opaque function of its operand. -/
theorem val_main_v34_apply (x0 : (⟨S16x4x3x32x32, .f32⟩ : BufTy).Contents (Elt Ideal)) (i : S4x32.Idx) :
    val_main_v34 (F := Ideal) x0 i = (val_main_cst_5 (F := Ideal)) (Shape.Idx.first h_S_) + ∑ k : Fin 32, (val_main_v32 (F := Ideal) x0) (idx_main_v34 i k) := by
  unfold val_main_v34
  generalize val_main_v32 (F := Ideal) x0 = y0
  simp only [Host.reduceAdd, Ideal.hostReduceAdd_def]
  rw [Ideal.hostReduceAdd_single reducesTo_S4x32x32_S4x32_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v35 (x0 : (⟨S16x4x3x32x32, .f32⟩ : BufTy).Contents (Elt F)) : (⟨S4x32x1, .f32⟩ : BufTy).Contents (Elt F) :=
  broadcastInDim S4x32x1 ![0, 1] bcast_S4x32_S4x32x1_0_1 (val_main_v33 (F := F) x0)
abbrev idx_main_v35 (i : S4x32x1.Idx) : S4x32.Idx := fun a => match a with
  | ⟨0, _⟩ => ⟨(i 0).val, (i 0).isLt⟩
  | ⟨1, _⟩ => ⟨(i 1).val, (i 1).isLt⟩
theorem val_main_v35_apply (x0 : (⟨S16x4x3x32x32, .f32⟩ : BufTy).Contents (Elt F)) (i : S4x32x1.Idx) :
    val_main_v35 (F := F) x0 i = val_main_v33 (F := F) x0 (idx_main_v35 i) := by
  unfold val_main_v35
  generalize val_main_v33 (F := F) x0 = y
  exact broadcastInDim_apply _ bcast_S4x32_S4x32x1_0_1 y i (idx_main_v35 i) (fun a => match a with
    | ⟨0, _⟩ => by show (i 0).val = if (4 : Nat) = 1 then 0 else (i 0).val; rw [if_neg (by decide)]
    | ⟨1, _⟩ => by show (i 1).val = if (32 : Nat) = 1 then 0 else (i 1).val; rw [if_neg (by decide)])

def val_main_v36 (x0 : (⟨S16x4x3x32x32, .f32⟩ : BufTy).Contents (Elt F)) : (⟨S4x1x32, .f32⟩ : BufTy).Contents (Elt F) :=
  broadcastInDim S4x1x32 ![0, 2] bcast_S4x32_S4x1x32_0_2 (val_main_v34 (F := F) x0)
abbrev idx_main_v36 (i : S4x1x32.Idx) : S4x32.Idx := fun a => match a with
  | ⟨0, _⟩ => ⟨(i 0).val, (i 0).isLt⟩
  | ⟨1, _⟩ => ⟨(i 2).val, (i 2).isLt⟩
theorem val_main_v36_apply (x0 : (⟨S16x4x3x32x32, .f32⟩ : BufTy).Contents (Elt F)) (i : S4x1x32.Idx) :
    val_main_v36 (F := F) x0 i = val_main_v34 (F := F) x0 (idx_main_v36 i) := by
  unfold val_main_v36
  generalize val_main_v34 (F := F) x0 = y
  exact broadcastInDim_apply _ bcast_S4x32_S4x1x32_0_2 y i (idx_main_v36 i) (fun a => match a with
    | ⟨0, _⟩ => by show (i 0).val = if (4 : Nat) = 1 then 0 else (i 0).val; rw [if_neg (by decide)]
    | ⟨1, _⟩ => by show (i 2).val = if (32 : Nat) = 1 then 0 else (i 2).val; rw [if_neg (by decide)])

def val_main_v37 (x0 : (⟨S16x4x3x32x32, .f32⟩ : BufTy).Contents (Elt F)) : (⟨S4x32x32, .f32⟩ : BufTy).Contents (Elt F) :=
  broadcastInDim S4x32x32 ![0, 1, 2] bcast_S4x32x1_S4x32x32_0_1_2 (val_main_v35 (F := F) x0)
abbrev idx_main_v37 (i : S4x32x32.Idx) : S4x32x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v37_apply (x0 : (⟨S16x4x3x32x32, .f32⟩ : BufTy).Contents (Elt F)) (i : S4x32x32.Idx) :
    val_main_v37 (F := F) x0 i = val_main_v35 (F := F) x0 (idx_main_v37 i) := by
  unfold val_main_v37
  generalize val_main_v35 (F := F) x0 = y
  exact broadcastInDim_apply _ bcast_S4x32x1_S4x32x32_0_1_2 y i (idx_main_v37 i) (fun a => match a with
    | ⟨0, _⟩ => by show (i 0).val = if (4 : Nat) = 1 then 0 else (i 0).val; rw [if_neg (by decide)]
    | ⟨1, _⟩ => by show (i 1).val = if (32 : Nat) = 1 then 0 else (i 1).val; rw [if_neg (by decide)]
    | ⟨2, _⟩ => by show 0 = if (1 : Nat) = 1 then 0 else (i 2).val; rw [if_pos rfl])

def val_main_v38 (x0 : (⟨S16x4x3x32x32, .f32⟩ : BufTy).Contents (Elt F)) : (⟨S4x32x32, .f32⟩ : BufTy).Contents (Elt F) :=
  broadcastInDim S4x32x32 ![0, 1, 2] bcast_S4x1x32_S4x32x32_0_1_2 (val_main_v36 (F := F) x0)
abbrev idx_main_v38 (i : S4x32x32.Idx) : S4x1x32.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v38_apply (x0 : (⟨S16x4x3x32x32, .f32⟩ : BufTy).Contents (Elt F)) (i : S4x32x32.Idx) :
    val_main_v38 (F := F) x0 i = val_main_v36 (F := F) x0 (idx_main_v38 i) := by
  unfold val_main_v38
  generalize val_main_v36 (F := F) x0 = y
  exact broadcastInDim_apply _ bcast_S4x1x32_S4x32x32_0_1_2 y i (idx_main_v38 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl]
    | ⟨2, _⟩ => by show (i 2).val = if (32 : Nat) = 1 then 0 else (i 2).val; rw [if_neg (by decide)])

def val_main_v39 (x0 : (⟨S16x4x3x32x32, .f32⟩ : BufTy).Contents (Elt F)) : (⟨S4x32x32, .f32⟩ : BufTy).Contents (Elt F) :=
  mulf (val_main_v37 (F := F) x0) (val_main_v38 (F := F) x0)
theorem val_main_v39_apply (x0 : (⟨S16x4x3x32x32, .f32⟩ : BufTy).Contents (Elt F)) (i : S4x32x32.Idx) :
    val_main_v39 (F := F) x0 i = FloatOps.mulf (val_main_v37 (F := F) x0 i) (val_main_v38 (F := F) x0 i) := rfl

def val_main_cst_6 : (⟨S_, .f32⟩ : BufTy).Contents (Elt F) :=
  constant S_ .f32 0x00000000#32
theorem val_main_cst_6_apply (i : S_.Idx) :
    val_main_cst_6 (F := F) i = FloatOps.ofBits .f32 0x00000000#32 := rfl

def val_main_v40 : (⟨S4x32x32, .f32⟩ : BufTy).Contents (Elt F) :=
  broadcastInDim S4x32x32 ![] bcast_S_S4x32x32 (val_main_cst_6 (F := F))
abbrev idx_main_v40 (i : S4x32x32.Idx) : S_.Idx := fun a => a.elim0
theorem val_main_v40_apply (i : S4x32x32.Idx) :
    val_main_v40 (F := F) i = val_main_cst_6 (F := F) (idx_main_v40 i) := by
  unfold val_main_v40
  generalize val_main_cst_6 (F := F) = y
  exact broadcastInDim_apply _ bcast_S_S4x32x32 y i (idx_main_v40 i) (fun a => a.elim0)

def val_main_v41 (x0 : (⟨S16x4x3x32x32, .f32⟩ : BufTy).Contents (Elt F)) : (⟨S4x32x32, .i1⟩ : BufTy).Contents (Elt F) :=
  cmpf .ogt (val_main_v32 (F := F) x0) (val_main_v40 (F := F))
theorem val_main_v41_apply (x0 : (⟨S16x4x3x32x32, .f32⟩ : BufTy).Contents (Elt F)) (i : S4x32x32.Idx) :
    val_main_v41 (F := F) x0 i = FloatOps.cmpf .ogt (val_main_v32 (F := F) x0 i) (val_main_v40 (F := F) i) := rfl

def val_main_cst_7 : (⟨S_, .f32⟩ : BufTy).Contents (Elt F) :=
  constant S_ .f32 0x3F800000#32
theorem val_main_cst_7_apply (i : S_.Idx) :
    val_main_cst_7 (F := F) i = FloatOps.ofBits .f32 0x3F800000#32 := rfl

def val_main_call0_v0 : (⟨S_, .f32⟩ : BufTy).Contents (Elt F) :=
  id (val_main_cst_7 (F := F))
theorem val_main_call0_v0_apply (i : S_.Idx) :
    val_main_call0_v0 (F := F) i = (val_main_cst_7 (F := F) i) := rfl

def val_main_call0_v1 : (⟨S32x32, .f32⟩ : BufTy).Contents (Elt F) :=
  broadcastInDim S32x32 ![] bcast_S_S32x32 (val_main_call0_v0 (F := F))
abbrev idx_main_call0_v1 (i : S32x32.Idx) : S_.Idx := fun a => a.elim0
theorem val_main_call0_v1_apply (i : S32x32.Idx) :
    val_main_call0_v1 (F := F) i = val_main_call0_v0 (F := F) (idx_main_call0_v1 i) := by
  unfold val_main_call0_v1
  generalize val_main_call0_v0 (F := F) = y
  exact broadcastInDim_apply _ bcast_S_S32x32 y i (idx_main_call0_v1 i) (fun a => a.elim0)

def val_main_call0_v2 : (⟨S4x32x32, .f32⟩ : BufTy).Contents (Elt F) :=
  broadcastInDim S4x32x32 ![1, 2] bcast_S32x32_S4x32x32_1_2 (val_main_call0_v1 (F := F))
abbrev idx_main_call0_v2 (i : S4x32x32.Idx) : S32x32.Idx := fun a => match a with
  | ⟨0, _⟩ => ⟨(i 1).val, (i 1).isLt⟩
  | ⟨1, _⟩ => ⟨(i 2).val, (i 2).isLt⟩
theorem val_main_call0_v2_apply (i : S4x32x32.Idx) :
    val_main_call0_v2 (F := F) i = val_main_call0_v1 (F := F) (idx_main_call0_v2 i) := by
  unfold val_main_call0_v2
  generalize val_main_call0_v1 (F := F) = y
  exact broadcastInDim_apply _ bcast_S32x32_S4x32x32_1_2 y i (idx_main_call0_v2 i) (fun a => match a with
    | ⟨0, _⟩ => by show (i 1).val = if (32 : Nat) = 1 then 0 else (i 1).val; rw [if_neg (by decide)]
    | ⟨1, _⟩ => by show (i 2).val = if (32 : Nat) = 1 then 0 else (i 2).val; rw [if_neg (by decide)])

def val_main_v42 (x0 : (⟨S16x4x3x32x32, .f32⟩ : BufTy).Contents (Elt F)) : (⟨S4x32x32, .f32⟩ : BufTy).Contents (Elt F) :=
  select (val_main_v41 (F := F) x0) (val_main_v32 (F := F) x0) (val_main_call0_v2 (F := F))
theorem val_main_v42_apply (x0 : (⟨S16x4x3x32x32, .f32⟩ : BufTy).Contents (Elt F)) (i : S4x32x32.Idx) :
    val_main_v42 (F := F) x0 i = Scalar.select (val_main_v41 (F := F) x0 i) (val_main_v32 (F := F) x0 i) (val_main_call0_v2 (F := F) i) := rfl

def val_main_v43 (x0 : (⟨S16x4x3x32x32, .f32⟩ : BufTy).Contents (Elt F)) : (⟨S4x32x32, .f32⟩ : BufTy).Contents (Elt F) :=
  Host.log (val_main_v42 (F := F) x0)
theorem val_main_v43_apply (x0 : (⟨S16x4x3x32x32, .f32⟩ : BufTy).Contents (Elt F)) (i : S4x32x32.Idx) :
    val_main_v43 (F := F) x0 i = FloatOps.hostUnary .log (val_main_v42 (F := F) x0 i) := rfl

def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

def val_main_v44 : (⟨S4x32x32, .f32⟩ : BufTy).Contents (Elt F) :=
  broadcastInDim S4x32x32 ![] bcast_S_S4x32x32 (val_main_cst_8 (F := F))
abbrev idx_main_v44 (i : S4x32x32.Idx) : S_.Idx := fun a => a.elim0
theorem val_main_v44_apply (i : S4x32x32.Idx) :
    val_main_v44 (F := F) i = val_main_cst_8 (F := F) (idx_main_v44 i) := by
  unfold val_main_v44
  generalize val_main_cst_8 (F := F) = y
  exact broadcastInDim_apply _ bcast_S_S4x32x32 y i (idx_main_v44 i) (fun a => a.elim0)

def val_main_v45 (x0 : (⟨S16x4x3x32x32, .f32⟩ : BufTy).Contents (Elt F)) : (⟨S4x32x32, .i1⟩ : BufTy).Contents (Elt F) :=
  cmpf .ogt (val_main_v39 (F := F) x0) (val_main_v44 (F := F))
theorem val_main_v45_apply (x0 : (⟨S16x4x3x32x32, .f32⟩ : BufTy).Contents (Elt F)) (i : S4x32x32.Idx) :
    val_main_v45 (F := F) x0 i = FloatOps.cmpf .ogt (val_main_v39 (F := F) x0 i) (val_main_v44 (F := F) i) := rfl

def val_main_cst_9 : (⟨S_, .f32⟩ : BufTy).Contents (Elt F) :=
  constant S_ .f32 0x3F800000#32
theorem val_main_cst_9_apply (i : S_.Idx) :
    val_main_cst_9 (F := F) i = FloatOps.ofBits .f32 0x3F800000#32 := rfl

def val_main_call1_v0 : (⟨S_, .f32⟩ : BufTy).Contents (Elt F) :=
  id (val_main_cst_9 (F := F))
theorem val_main_call1_v0_apply (i : S_.Idx) :
    val_main_call1_v0 (F := F) i = (val_main_cst_9 (F := F) i) := rfl

def val_main_call1_v1 : (⟨S32x32, .f32⟩ : BufTy).Contents (Elt F) :=
  broadcastInDim S32x32 ![] bcast_S_S32x32 (val_main_call1_v0 (F := F))
abbrev idx_main_call1_v1 (i : S32x32.Idx) : S_.Idx := fun a => a.elim0
theorem val_main_call1_v1_apply (i : S32x32.Idx) :
    val_main_call1_v1 (F := F) i = val_main_call1_v0 (F := F) (idx_main_call1_v1 i) := by
  unfold val_main_call1_v1
  generalize val_main_call1_v0 (F := F) = y
  exact broadcastInDim_apply _ bcast_S_S32x32 y i (idx_main_call1_v1 i) (fun a => a.elim0)

def val_main_call1_v2 : (⟨S4x32x32, .f32⟩ : BufTy).Contents (Elt F) :=
  broadcastInDim S4x32x32 ![1, 2] bcast_S32x32_S4x32x32_1_2 (val_main_call1_v1 (F := F))
abbrev idx_main_call1_v2 (i : S4x32x32.Idx) : S32x32.Idx := fun a => match a with
  | ⟨0, _⟩ => ⟨(i 1).val, (i 1).isLt⟩
  | ⟨1, _⟩ => ⟨(i 2).val, (i 2).isLt⟩
theorem val_main_call1_v2_apply (i : S4x32x32.Idx) :
    val_main_call1_v2 (F := F) i = val_main_call1_v1 (F := F) (idx_main_call1_v2 i) := by
  unfold val_main_call1_v2
  generalize val_main_call1_v1 (F := F) = y
  exact broadcastInDim_apply _ bcast_S32x32_S4x32x32_1_2 y i (idx_main_call1_v2 i) (fun a => match a with
    | ⟨0, _⟩ => by show (i 1).val = if (32 : Nat) = 1 then 0 else (i 1).val; rw [if_neg (by decide)]
    | ⟨1, _⟩ => by show (i 2).val = if (32 : Nat) = 1 then 0 else (i 2).val; rw [if_neg (by decide)])

def val_main_v46 (x0 : (⟨S16x4x3x32x32, .f32⟩ : BufTy).Contents (Elt F)) : (⟨S4x32x32, .f32⟩ : BufTy).Contents (Elt F) :=
  select (val_main_v45 (F := F) x0) (val_main_v39 (F := F) x0) (val_main_call1_v2 (F := F))
theorem val_main_v46_apply (x0 : (⟨S16x4x3x32x32, .f32⟩ : BufTy).Contents (Elt F)) (i : S4x32x32.Idx) :
    val_main_v46 (F := F) x0 i = Scalar.select (val_main_v45 (F := F) x0 i) (val_main_v39 (F := F) x0 i) (val_main_call1_v2 (F := F) i) := rfl

def val_main_v47 (x0 : (⟨S16x4x3x32x32, .f32⟩ : BufTy).Contents (Elt F)) : (⟨S4x32x32, .f32⟩ : BufTy).Contents (Elt F) :=
  Host.log (val_main_v46 (F := F) x0)
theorem val_main_v47_apply (x0 : (⟨S16x4x3x32x32, .f32⟩ : BufTy).Contents (Elt F)) (i : S4x32x32.Idx) :
    val_main_v47 (F := F) x0 i = FloatOps.hostUnary .log (val_main_v46 (F := F) x0 i) := rfl

def val_main_cst_10 : (⟨S_, .f32⟩ : BufTy).Contents (Elt F) :=
  constant S_ .f32 0x00000000#32
theorem val_main_cst_10_apply (i : S_.Idx) :
    val_main_cst_10 (F := F) i = FloatOps.ofBits .f32 0x00000000#32 := rfl

def val_main_v48 : (⟨S4x32x32, .f32⟩ : BufTy).Contents (Elt F) :=
  broadcastInDim S4x32x32 ![] bcast_S_S4x32x32 (val_main_cst_10 (F := F))
abbrev idx_main_v48 (i : S4x32x32.Idx) : S_.Idx := fun a => a.elim0
theorem val_main_v48_apply (i : S4x32x32.Idx) :
    val_main_v48 (F := F) i = val_main_cst_10 (F := F) (idx_main_v48 i) := by
  unfold val_main_v48
  generalize val_main_cst_10 (F := F) = y
  exact broadcastInDim_apply _ bcast_S_S4x32x32 y i (idx_main_v48 i) (fun a => a.elim0)

def val_main_v49 (x0 : (⟨S16x4x3x32x32, .f32⟩ : BufTy).Contents (Elt F)) : (⟨S4x32x32, .i1⟩ : BufTy).Contents (Elt F) :=
  cmpf .ogt (val_main_v32 (F := F) x0) (val_main_v48 (F := F))
theorem val_main_v49_apply (x0 : (⟨S16x4x3x32x32, .f32⟩ : BufTy).Contents (Elt F)) (i : S4x32x32.Idx) :
    val_main_v49 (F := F) x0 i = FloatOps.cmpf .ogt (val_main_v32 (F := F) x0 i) (val_main_v48 (F := F) i) := rfl

def val_main_v50 (x0 : (⟨S16x4x3x32x32, .f32⟩ : BufTy).Contents (Elt F)) : (⟨S4x32x32, .f32⟩ : BufTy).Contents (Elt F) :=
  subf (val_main_v43 (F := F) x0) (val_main_v47 (F := F) x0)
theorem val_main_v50_apply (x0 : (⟨S16x4x3x32x32, .f32⟩ : BufTy).Contents (Elt F)) (i : S4x32x32.Idx) :
    val_main_v50 (F := F) x0 i = FloatOps.subf (val_main_v43 (F := F) x0 i) (val_main_v47 (F := F) x0 i) := rfl

def val_main_v51 (x0 : (⟨S16x4x3x32x32, .f32⟩ : BufTy).Contents (Elt F)) : (⟨S4x32x32, .f32⟩ : BufTy).Contents (Elt F) :=
  mulf (val_main_v32 (F := F) x0) (val_main_v50 (F := F) x0)
theorem val_main_v51_apply (x0 : (⟨S16x4x3x32x32, .f32⟩ : BufTy).Contents (Elt F)) (i : S4x32x32.Idx) :
    val_main_v51 (F := F) x0 i = FloatOps.mulf (val_main_v32 (F := F) x0 i) (val_main_v50 (F := F) x0 i) := rfl

def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

def val_main_call2_v0 : (⟨S_, .f32⟩ : BufTy).Contents (Elt F) :=
  id (val_main_cst_11 (F := F))
theorem val_main_call2_v0_apply (i : S_.Idx) :
    val_main_call2_v0 (F := F) i = (val_main_cst_11 (F := F) i) := rfl

def val_main_call2_v1 : (⟨S32x32, .f32⟩ : BufTy).Contents (Elt F) :=
  broadcastInDim S32x32 ![] bcast_S_S32x32 (val_main_call2_v0 (F := F))
abbrev idx_main_call2_v1 (i : S32x32.Idx) : S_.Idx := fun a => a.elim0
theorem val_main_call2_v1_apply (i : S32x32.Idx) :
    val_main_call2_v1 (F := F) i = val_main_call2_v0 (F := F) (idx_main_call2_v1 i) := by
  unfold val_main_call2_v1
  generalize val_main_call2_v0 (F := F) = y
  exact broadcastInDim_apply _ bcast_S_S32x32 y i (idx_main_call2_v1 i) (fun a => a.elim0)

def val_main_call2_v2 : (⟨S4x32x32, .f32⟩ : BufTy).Contents (Elt F) :=
  broadcastInDim S4x32x32 ![1, 2] bcast_S32x32_S4x32x32_1_2 (val_main_call2_v1 (F := F))
abbrev idx_main_call2_v2 (i : S4x32x32.Idx) : S32x32.Idx := fun a => match a with
  | ⟨0, _⟩ => ⟨(i 1).val, (i 1).isLt⟩
  | ⟨1, _⟩ => ⟨(i 2).val, (i 2).isLt⟩
theorem val_main_call2_v2_apply (i : S4x32x32.Idx) :
    val_main_call2_v2 (F := F) i = val_main_call2_v1 (F := F) (idx_main_call2_v2 i) := by
  unfold val_main_call2_v2
  generalize val_main_call2_v1 (F := F) = y
  exact broadcastInDim_apply _ bcast_S32x32_S4x32x32_1_2 y i (idx_main_call2_v2 i) (fun a => match a with
    | ⟨0, _⟩ => by show (i 1).val = if (32 : Nat) = 1 then 0 else (i 1).val; rw [if_neg (by decide)]
    | ⟨1, _⟩ => by show (i 2).val = if (32 : Nat) = 1 then 0 else (i 2).val; rw [if_neg (by decide)])

def val_main_v52 (x0 : (⟨S16x4x3x32x32, .f32⟩ : BufTy).Contents (Elt F)) : (⟨S4x32x32, .f32⟩ : BufTy).Contents (Elt F) :=
  select (val_main_v49 (F := F) x0) (val_main_v51 (F := F) x0) (val_main_call2_v2 (F := F))
theorem val_main_v52_apply (x0 : (⟨S16x4x3x32x32, .f32⟩ : BufTy).Contents (Elt F)) (i : S4x32x32.Idx) :
    val_main_v52 (F := F) x0 i = Scalar.select (val_main_v49 (F := F) x0 i) (val_main_v51 (F := F) x0 i) (val_main_call2_v2 (F := F) i) := rfl

def val_main_cst_12 : (⟨S_, .f32⟩ : BufTy).Contents (Elt F) :=
  constant S_ .f32 0x00000000#32
theorem val_main_cst_12_apply (i : S_.Idx) :
    val_main_cst_12 (F := F) i = FloatOps.ofBits .f32 0x00000000#32 := rfl

def val_main_v53 (x0 : (⟨S16x4x3x32x32, .f32⟩ : BufTy).Contents (Elt F)) : (⟨S4, .f32⟩ : BufTy).Contents (Elt F) :=
  Host.reduceAdd (val_main_v52 (F := F) x0) (val_main_cst_12 (F := F)) reducesTo_S4x32x32_S4_d1_2 h_S_

def val_main_c_13 : (⟨S_, .i32⟩ : BufTy).Contents (Elt F) :=
  constantI S_ 32 16#32
theorem val_main_c_13_apply (i : S_.Idx) :
    val_main_c_13 (F := F) i = 16#32 := rfl

def val_main_v54 : (⟨S48x1024, .i32⟩ : BufTy).Contents (Elt F) :=
  broadcastInDim S48x1024 ![] bcast_S_S48x1024 (val_main_c_13 (F := F))
abbrev idx_main_v54 (i : S48x1024.Idx) : S_.Idx := fun a => a.elim0
theorem val_main_v54_apply (i : S48x1024.Idx) :
    val_main_v54 (F := F) i = val_main_c_13 (F := F) (idx_main_v54 i) := by
  unfold val_main_v54
  generalize val_main_c_13 (F := F) = y
  exact broadcastInDim_apply _ bcast_S_S48x1024 y i (idx_main_v54 i) (fun a => a.elim0)

def val_main_v55 (x0 : (⟨S16x4x3x32x32, .f32⟩ : BufTy).Contents (Elt F)) : (⟨S48x1024, .i32⟩ : BufTy).Contents (Elt F) :=
  addi (val_main_v6 (F := F) x0) (val_main_v54 (F := F))
theorem val_main_v55_apply (x0 : (⟨S16x4x3x32x32, .f32⟩ : BufTy).Contents (Elt F)) (i : S48x1024.Idx) :
    val_main_v55 (F := F) x0 i = IntOp.addi (val_main_v6 (F := F) x0 i) (val_main_v54 (F := F) i) := rfl

def val_main_c_14 : (⟨S_, .i32⟩ : BufTy).Contents (Elt F) :=
  constantI S_ 32 32#32
theorem val_main_c_14_apply (i : S_.Idx) :
    val_main_c_14 (F := F) i = 32#32 := rfl

def val_main_v56 : (⟨S48x1024, .i32⟩ : BufTy).Contents (Elt F) :=
  broadcastInDim S48x1024 ![] bcast_S_S48x1024 (val_main_c_14 (F := F))
abbrev idx_main_v56 (i : S48x1024.Idx) : S_.Idx := fun a => a.elim0
theorem val_main_v56_apply (i : S48x1024.Idx) :
    val_main_v56 (F := F) i = val_main_c_14 (F := F) (idx_main_v56 i) := by
  unfold val_main_v56
  generalize val_main_c_14 (F := F) = y
  exact broadcastInDim_apply _ bcast_S_S48x1024 y i (idx_main_v56 i) (fun a => a.elim0)

def val_main_v57 (x0 : (⟨S16x4x3x32x32, .f32⟩ : BufTy).Contents (Elt F)) : (⟨S48x1024, .i32⟩ : BufTy).Contents (Elt F) :=
  muli (val_main_v55 (F := F) x0) (val_main_v56 (F := F))
theorem val_main_v57_apply (x0 : (⟨S16x4x3x32x32, .f32⟩ : BufTy).Contents (Elt F)) (i : S48x1024.Idx) :
    val_main_v57 (F := F) x0 i = IntOp.muli (val_main_v55 (F := F) x0 i) (val_main_v56 (F := F) i) := rfl

def val_main_c_15 : (⟨S_, .i32⟩ : BufTy).Contents (Elt F) :=
  constantI S_ 32 16#32
theorem val_main_c_15_apply (i : S_.Idx) :
    val_main_c_15 (F := F) i = 16#32 := rfl

def val_main_v58 : (⟨S4x48x1024, .i32⟩ : BufTy).Contents (Elt F) :=
  broadcastInDim S4x48x1024 ![] bcast_S_S4x48x1024 (val_main_c_15 (F := F))
abbrev idx_main_v58 (i : S4x48x1024.Idx) : S_.Idx := fun a => a.elim0
theorem val_main_v58_apply (i : S4x48x1024.Idx) :
    val_main_v58 (F := F) i = val_main_c_15 (F := F) (idx_main_v58 i) := by
  unfold val_main_v58
  generalize val_main_c_15 (F := F) = y
  exact broadcastInDim_apply _ bcast_S_S4x48x1024 y i (idx_main_v58 i) (fun a => a.elim0)

def val_main_v59 (x0 : (⟨S16x4x3x32x32, .f32⟩ : BufTy).Contents (Elt F)) : (⟨S4x48x1024, .i32⟩ : BufTy).Contents (Elt F) :=
  addi (val_main_v4 (F := F) x0) (val_main_v58 (F := F))
theorem val_main_v59_apply (x0 : (⟨S16x4x3x32x32, .f32⟩ : BufTy).Contents (Elt F)) (i : S4x48x1024.Idx) :
    val_main_v59 (F := F) x0 i = IntOp.addi (val_main_v4 (F := F) x0 i) (val_main_v58 (F := F) i) := rfl

def val_main_v60 (x0 : (⟨S16x4x3x32x32, .f32⟩ : BufTy).Contents (Elt F)) : (⟨S1x48x1024, .i32⟩ : BufTy).Contents (Elt F) :=
  broadcastInDim S1x48x1024 ![1, 2] bcast_S48x1024_S1x48x1024_1_2 (val_main_v57 (F := F) x0)
abbrev idx_main_v60 (i : S1x48x1024.Idx) : S48x1024.Idx := fun a => match a with
  | ⟨0, _⟩ => ⟨(i 1).val, (i 1).isLt⟩
  | ⟨1, _⟩ => ⟨(i 2).val, (i 2).isLt⟩
theorem val_main_v60_apply (x0 : (⟨S16x4x3x32x32, .f32⟩ : BufTy).Contents (Elt F)) (i : S1x48x1024.Idx) :
    val_main_v60 (F := F) x0 i = val_main_v57 (F := F) x0 (idx_main_v60 i) := by
  unfold val_main_v60
  generalize val_main_v57 (F := F) x0 = y
  exact broadcastInDim_apply _ bcast_S48x1024_S1x48x1024_1_2 y i (idx_main_v60 i) (fun a => match a with
    | ⟨0, _⟩ => by show (i 1).val = if (48 : Nat) = 1 then 0 else (i 1).val; rw [if_neg (by decide)]
    | ⟨1, _⟩ => by show (i 2).val = if (1024 : Nat) = 1 then 0 else (i 2).val; rw [if_neg (by decide)])

def val_main_v61 (x0 : (⟨S16x4x3x32x32, .f32⟩ : BufTy).Contents (Elt F)) : (⟨S4x48x1024, .i32⟩ : BufTy).Contents (Elt F) :=
  broadcastInDim S4x48x1024 ![0, 1, 2] bcast_S1x48x1024_S4x48x1024_0_1_2 (val_main_v60 (F := F) x0)
abbrev idx_main_v61 (i : S4x48x1024.Idx) : S1x48x1024.Idx := fun a => match a with
  | ⟨0, _⟩ => ⟨0, Nat.one_pos⟩
  | ⟨1, _⟩ => ⟨(i 1).val, (i 1).isLt⟩
  | ⟨2, _⟩ => ⟨(i 2).val, (i 2).isLt⟩
theorem val_main_v61_apply (x0 : (⟨S16x4x3x32x32, .f32⟩ : BufTy).Contents (Elt F)) (i : S4x48x1024.Idx) :
    val_main_v61 (F := F) x0 i = val_main_v60 (F := F) x0 (idx_main_v61 i) := by
  unfold val_main_v61
  generalize val_main_v60 (F := F) x0 = y
  exact broadcastInDim_apply _ bcast_S1x48x1024_S4x48x1024_0_1_2 y i (idx_main_v61 i) (fun a => match a with
    | ⟨0, _⟩ => by show 0 = if (1 : Nat) = 1 then 0 else (i 0).val; rw [if_pos rfl]
    | ⟨1, _⟩ => by show (i 1).val = if (48 : Nat) = 1 then 0 else (i 1).val; rw [if_neg (by decide)]
    | ⟨2, _⟩ => by show (i 2).val = if (1024 : Nat) = 1 then 0 else (i 2).val; rw [if_neg (by decide)])

def val_main_v62 (x0 : (⟨S16x4x3x32x32, .f32⟩ : BufTy).Contents (Elt F)) : (⟨S4x48x1024, .i32⟩ : BufTy).Contents (Elt F) :=
  addi (val_main_v61 (F := F) x0) (val_main_v59 (F := F) x0)
theorem val_main_v62_apply (x0 : (⟨S16x4x3x32x32, .f32⟩ : BufTy).Contents (Elt F)) (i : S4x48x1024.Idx) :
    val_main_v62 (F := F) x0 i = IntOp.addi (val_main_v61 (F := F) x0 i) (val_main_v59 (F := F) x0 i) := rfl

def val_main_v63 (x0 : (⟨S16x4x3x32x32, .f32⟩ : BufTy).Contents (Elt F)) : (⟨S4x1024x48, .i32⟩ : BufTy).Contents (Elt F) :=
  transpose S4x1024x48 [0, 2, 1] (val_main_v62 (F := F) x0) transposes_S4x48x1024_S4x1024x48_0_2_1
abbrev idx_main_v63 (i : S4x1024x48.Idx) : S4x48x1024.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v63_apply (x0 : (⟨S16x4x3x32x32, .f32⟩ : BufTy).Contents (Elt F)) (i : S4x1024x48.Idx) :
    val_main_v63 (F := F) x0 i = val_main_v62 (F := F) x0 (idx_main_v63 i) := by
  unfold val_main_v63
  generalize val_main_v62 (F := F) x0 = y
  exact transpose_apply [0, 2, 1] y transposes_S4x48x1024_S4x1024x48_0_2_1 i (idx_main_v63 i) (fun b => match b with
    | ⟨0, _⟩ => rfl
    | ⟨1, _⟩ => rfl
    | ⟨2, _⟩ => rfl)

def val_main_v64 (x0 : (⟨S16x4x3x32x32, .f32⟩ : BufTy).Contents (Elt F)) : (⟨S4x1024x48x1, .i32⟩ : BufTy).Contents (Elt F) :=
  shapeCast _ (val_main_v63 (F := F) x0) shapeCasts_S4x1024x48_S4x1024x48x1
set_option backward.proofsInPublic true in
abbrev idx_main_v64 (i : S4x1024x48x1.Idx) : S4x1024x48.Idx := fun a => match a with
  | ⟨0, _⟩ => ⟨((((i 0).val * 1024 + (i 1).val) * 48 + (i 2).val) * 1 + (i 3).val) / 49152, by have h0 : (i 0).val < 4 := (i 0).isLt; have h1 : (i 1).val < 1024 := (i 1).isLt; have h2 : (i 2).val < 48 := (i 2).isLt; have h3 : (i 3).val < 1 := (i 3).isLt; show ((((i 0).val * 1024 + (i 1).val) * 48 + (i 2).val) * 1 + (i 3).val) / 49152 < 4; omega⟩
  | ⟨1, _⟩ => ⟨((((i 0).val * 1024 + (i 1).val) * 48 + (i 2).val) * 1 + (i 3).val) / 48 % 1024, by have h0 : (i 0).val < 4 := (i 0).isLt; have h1 : (i 1).val < 1024 := (i 1).isLt; have h2 : (i 2).val < 48 := (i 2).isLt; have h3 : (i 3).val < 1 := (i 3).isLt; show ((((i 0).val * 1024 + (i 1).val) * 48 + (i 2).val) * 1 + (i 3).val) / 48 % 1024 < 1024; omega⟩
  | ⟨2, _⟩ => ⟨((((i 0).val * 1024 + (i 1).val) * 48 + (i 2).val) * 1 + (i 3).val) % 48, by have h0 : (i 0).val < 4 := (i 0).isLt; have h1 : (i 1).val < 1024 := (i 1).isLt; have h2 : (i 2).val < 48 := (i 2).isLt; have h3 : (i 3).val < 1 := (i 3).isLt; show ((((i 0).val * 1024 + (i 1).val) * 48 + (i 2).val) * 1 + (i 3).val) % 48 < 48; omega⟩
theorem val_main_v64_apply (x0 : (⟨S16x4x3x32x32, .f32⟩ : BufTy).Contents (Elt F)) (i : S4x1024x48x1.Idx) :
    val_main_v64 (F := F) x0 i = val_main_v63 (F := F) x0 (idx_main_v64 i) := by
  unfold val_main_v64
  generalize val_main_v63 (F := F) x0 = y
  exact shapeCast_apply y shapeCasts_S4x1024x48_S4x1024x48x1 i (idx_main_v64 i)
    (by rewrite [Shape.rowMajor_val_three, Shape.rowMajor_val_four]; have h0 : (i 0).val < 4 := (i 0).isLt; have h1 : (i 1).val < 1024 := (i 1).isLt; have h2 : (i 2).val < 48 := (i 2).isLt; have h3 : (i 3).val < 1 := (i 3).isLt; show (((((i 0).val * 1024 + (i 1).val) * 48 + (i 2).val) * 1 + (i 3).val) / 49152 * 1024 + ((((i 0).val * 1024 + (i 1).val) * 48 + (i 2).val) * 1 + (i 3).val) / 48 % 1024) * 48 + ((((i 0).val * 1024 + (i 1).val) * 48 + (i 2).val) * 1 + (i 3).val) % 48 = (((i 0).val * 1024 + (i 1).val) * 48 + (i 2).val) * 1 + (i 3).val; omega)

def val_main_v65 : (⟨S1024, .i32⟩ : BufTy).Contents (Elt F) :=
  iotaInDim S1024 32 0
theorem val_main_v65_apply (i : S1024.Idx) :
    val_main_v65 (F := F) i = BitVec.ofNat 32 (i 0).val := rfl

def val_main_v66 : (⟨S1x1024, .i32⟩ : BufTy).Contents (Elt F) :=
  broadcastInDim S1x1024 ![1] bcast_S1024_S1x1024_1 (val_main_v65 (F := F))
abbrev idx_main_v66 (i : S1x1024.Idx) : S1024.Idx := fun a => match a with
  | ⟨0, _⟩ => ⟨(i 1).val, (i 1).isLt⟩
theorem val_main_v66_apply (i : S1x1024.Idx) :
    val_main_v66 (F := F) i = val_main_v65 (F := F) (idx_main_v66 i) := by
  unfold val_main_v66
  generalize val_main_v65 (F := F) = y
  exact broadcastInDim_apply _ bcast_S1024_S1x1024_1 y i (idx_main_v66 i) (fun a => match a with
    | ⟨0, _⟩ => by show (i 1).val = if (1024 : Nat) = 1 then 0 else (i 1).val; rw [if_neg (by decide)])

def val_main_v67 : (⟨S1x1x1024, .i32⟩ : BufTy).Contents (Elt F) :=
  broadcastInDim S1x1x1024 ![1, 2] bcast_S1x1024_S1x1x1024_1_2 (val_main_v66 (F := F))
abbrev idx_main_v67 (i : S1x1x1024.Idx) : S1x1024.Idx := fun a => match a with
  | ⟨0, _⟩ => ⟨0, Nat.one_pos⟩
  | ⟨1, _⟩ => ⟨(i 2).val, (i 2).isLt⟩
theorem val_main_v67_apply (i : S1x1x1024.Idx) :
    val_main_v67 (F := F) i = val_main_v66 (F := F) (idx_main_v67 i) := by
  unfold val_main_v67
  generalize val_main_v66 (F := F) = y
  exact broadcastInDim_apply _ bcast_S1x1024_S1x1x1024_1_2 y i (idx_main_v67 i) (fun a => match a with
    | ⟨0, _⟩ => by show 0 = if (1 : Nat) = 1 then 0 else (i 1).val; rw [if_pos rfl]
    | ⟨1, _⟩ => by show (i 2).val = if (1024 : Nat) = 1 then 0 else (i 2).val; rw [if_neg (by decide)])

def val_main_v68 : (⟨S1x1x1x1024, .i32⟩ : BufTy).Contents (Elt F) :=
  broadcastInDim S1x1x1x1024 ![1, 2, 3] bcast_S1x1x1024_S1x1x1x1024_1_2_3 (val_main_v67 (F := F))
abbrev idx_main_v68 (i : S1x1x1x1024.Idx) : S1x1x1024.Idx := fun a => match a with
  | ⟨0, _⟩ => ⟨0, Nat.one_pos⟩
  | ⟨1, _⟩ => ⟨0, Nat.one_pos⟩
  | ⟨2, _⟩ => ⟨(i 3).val, (i 3).isLt⟩
theorem val_main_v68_apply (i : S1x1x1x1024.Idx) :
    val_main_v68 (F := F) i = val_main_v67 (F := F) (idx_main_v68 i) := by
  unfold val_main_v68
  generalize val_main_v67 (F := F) = y
  exact broadcastInDim_apply _ bcast_S1x1x1024_S1x1x1x1024_1_2_3 y i (idx_main_v68 i) (fun a => match a with
    | ⟨0, _⟩ => by show 0 = if (1 : Nat) = 1 then 0 else (i 1).val; rw [if_pos rfl]
    | ⟨1, _⟩ => by show 0 = if (1 : Nat) = 1 then 0 else (i 2).val; rw [if_pos rfl]
    | ⟨2, _⟩ => by show (i 3).val = if (1024 : Nat) = 1 then 0 else (i 3).val; rw [if_neg (by decide)])

def val_main_v69 (x0 : (⟨S16x4x3x32x32, .f32⟩ : BufTy).Contents (Elt F)) : (⟨S4x1024x48x1024, .i32⟩ : BufTy).Contents (Elt F) :=
  broadcastInDim S4x1024x48x1024 ![0, 1, 2, 3] bcast_S4x1024x48x1_S4x1024x48x1024_0_1_2_3 (val_main_v64 (F := F) x0)
abbrev idx_main_v69 (i : S4x1024x48x1024.Idx) : S4x1024x48x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v69_apply (x0 : (⟨S16x4x3x32x32, .f32⟩ : BufTy).Contents (Elt F)) (i : S4x1024x48x1024.Idx) :
    val_main_v69 (F := F) x0 i = val_main_v64 (F := F) x0 (idx_main_v69 i) := by
  unfold val_main_v69
  generalize val_main_v64 (F := F) x0 = y
  exact broadcastInDim_apply _ bcast_S4x1024x48x1_S4x1024x48x1024_0_1_2_3 y i (idx_main_v69 i) (fun a => match a with
    | ⟨0, _⟩ => by show (i 0).val = if (4 : Nat) = 1 then 0 else (i 0).val; rw [if_neg (by decide)]
    | ⟨1, _⟩ => by show (i 1).val = if (1024 : Nat) = 1 then 0 else (i 1).val; rw [if_neg (by decide)]
    | ⟨2, _⟩ => by show (i 2).val = if (48 : Nat) = 1 then 0 else (i 2).val; rw [if_neg (by decide)]
    | ⟨3, _⟩ => by show 0 = if (1 : Nat) = 1 then 0 else (i 3).val; rw [if_pos rfl])

def val_main_v70 : (⟨S4x1024x48x1024, .i32⟩ : BufTy).Contents (Elt F) :=
  broadcastInDim S4x1024x48x1024 ![0, 1, 2, 3] bcast_S1x1x1x1024_S4x1024x48x1024_0_1_2_3 (val_main_v68 (F := F))
abbrev idx_main_v70 (i : S4x1024x48x1024.Idx) : S1x1x1x1024.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨(i 3).val, (i 3).isLt⟩
theorem val_main_v70_apply (i : S4x1024x48x1024.Idx) :
    val_main_v70 (F := F) i = val_main_v68 (F := F) (idx_main_v70 i) := by
  unfold val_main_v70
  generalize val_main_v68 (F := F) = y
  exact broadcastInDim_apply _ bcast_S1x1x1x1024_S4x1024x48x1024_0_1_2_3 y i (idx_main_v70 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show (i 3).val = if (1024 : Nat) = 1 then 0 else (i 3).val; rw [if_neg (by decide)])

def val_main_v71 (x0 : (⟨S16x4x3x32x32, .f32⟩ : BufTy).Contents (Elt F)) : (⟨S4x1024x48x1024, .i1⟩ : BufTy).Contents (Elt F) :=
  cmpi .eq (val_main_v69 (F := F) x0) (val_main_v70 (F := F))
theorem val_main_v71_apply (x0 : (⟨S16x4x3x32x32, .f32⟩ : BufTy).Contents (Elt F)) (i : S4x1024x48x1024.Idx) :
    val_main_v71 (F := F) x0 i = IntOp.cmpi .eq (val_main_v69 (F := F) x0 i) (val_main_v70 (F := F) i) := rfl

def val_main_v72 (x0 : (⟨S16x4x3x32x32, .f32⟩ : BufTy).Contents (Elt F)) : (⟨S4x1024x48x1024, .i32⟩ : BufTy).Contents (Elt F) :=
  extui 32 (val_main_v71 (F := F) x0) natLt_1_32
theorem val_main_v72_apply (x0 : (⟨S16x4x3x32x32, .f32⟩ : BufTy).Contents (Elt F)) (i : S4x1024x48x1024.Idx) :
    val_main_v72 (F := F) x0 i = (val_main_v71 (F := F) x0 i).setWidth 32 := rfl

def val_main_c_16 : (⟨S_, .i32⟩ : BufTy).Contents (Elt F) :=
  constantI S_ 32 0#32
theorem val_main_c_16_apply (i : S_.Idx) :
    val_main_c_16 (F := F) i = 0#32 := rfl

def val_main_v73 (x0 : (⟨S16x4x3x32x32, .f32⟩ : BufTy).Contents (Elt F)) : (⟨S4x1024x1024, .i32⟩ : BufTy).Contents (Elt F) :=
  Host.reduce IntOp.addi (val_main_v72 (F := F) x0) (val_main_c_16 (F := F)) reducesTo_S4x1024x48x1024_S4x1024x1024_d2 h_S_

def val_main_v74 (x0 : (⟨S16x4x3x32x32, .f32⟩ : BufTy).Contents (Elt F)) : (⟨S4x1024x1024, .f32⟩ : BufTy).Contents (Elt F) :=
  sitofp .f32 (val_main_v73 (F := F) x0)
theorem val_main_v74_apply (x0 : (⟨S16x4x3x32x32, .f32⟩ : BufTy).Contents (Elt F)) (i : S4x1024x1024.Idx) :
    val_main_v74 (F := F) x0 i = FloatOps.sitofp .f32 (val_main_v73 (F := F) x0 i) := rfl

def val_main_cst_17 : (⟨S_, .f32⟩ : BufTy).Contents (Elt F) :=
  constant S_ .f32 0x00000000#32
theorem val_main_cst_17_apply (i : S_.Idx) :
    val_main_cst_17 (F := F) i = FloatOps.ofBits .f32 0x00000000#32 := rfl

def val_main_v75 (x0 : (⟨S16x4x3x32x32, .f32⟩ : BufTy).Contents (Elt F)) : (⟨S4x1024, .f32⟩ : BufTy).Contents (Elt F) :=
  Host.reduceAdd (val_main_v74 (F := F) x0) (val_main_cst_17 (F := F)) reducesTo_S4x1024x1024_S4x1024_d2 h_S_
abbrev idx_main_v75 (i : S4x1024.Idx) (k : Fin 1024) : S4x1024x1024.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v75_apply (x0 : (⟨S16x4x3x32x32, .f32⟩ : BufTy).Contents (Elt Ideal)) (i : S4x1024.Idx) :
    val_main_v75 (F := Ideal) x0 i = (val_main_cst_17 (F := Ideal)) (Shape.Idx.first h_S_) + ∑ k : Fin 1024, (val_main_v74 (F := Ideal) x0) (idx_main_v75 i k) := by
  unfold val_main_v75
  generalize val_main_v74 (F := Ideal) x0 = y0
  simp only [Host.reduceAdd, Ideal.hostReduceAdd_def]
  rw [Ideal.hostReduceAdd_single reducesTo_S4x1024x1024_S4x1024_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v76 (x0 : (⟨S16x4x3x32x32, .f32⟩ : BufTy).Contents (Elt F)) : (⟨S4x1024x1, .f32⟩ : BufTy).Contents (Elt F) :=
  broadcastInDim S4x1024x1 ![0, 1] bcast_S4x1024_S4x1024x1_0_1 (val_main_v75 (F := F) x0)
abbrev idx_main_v76 (i : S4x1024x1.Idx) : S4x1024.Idx := fun a => match a with
  | ⟨0, _⟩ => ⟨(i 0).val, (i 0).isLt⟩
  | ⟨1, _⟩ => ⟨(i 1).val, (i 1).isLt⟩
theorem val_main_v76_apply (x0 : (⟨S16x4x3x32x32, .f32⟩ : BufTy).Contents (Elt F)) (i : S4x1024x1.Idx) :
    val_main_v76 (F := F) x0 i = val_main_v75 (F := F) x0 (idx_main_v76 i) := by
  unfold val_main_v76
  generalize val_main_v75 (F := F) x0 = y
  exact broadcastInDim_apply _ bcast_S4x1024_S4x1024x1_0_1 y i (idx_main_v76 i) (fun a => match a with
    | ⟨0, _⟩ => by show (i 0).val = if (4 : Nat) = 1 then 0 else (i 0).val; rw [if_neg (by decide)]
    | ⟨1, _⟩ => by show (i 1).val = if (1024 : Nat) = 1 then 0 else (i 1).val; rw [if_neg (by decide)])

def val_main_v77 (x0 : (⟨S16x4x3x32x32, .f32⟩ : BufTy).Contents (Elt F)) : (⟨S4x1024x1024, .f32⟩ : BufTy).Contents (Elt F) :=
  broadcastInDim S4x1024x1024 ![0, 1, 2] bcast_S4x1024x1_S4x1024x1024_0_1_2 (val_main_v76 (F := F) x0)
abbrev idx_main_v77 (i : S4x1024x1024.Idx) : S4x1024x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v77_apply (x0 : (⟨S16x4x3x32x32, .f32⟩ : BufTy).Contents (Elt F)) (i : S4x1024x1024.Idx) :
    val_main_v77 (F := F) x0 i = val_main_v76 (F := F) x0 (idx_main_v77 i) := by
  unfold val_main_v77
  generalize val_main_v76 (F := F) x0 = y
  exact broadcastInDim_apply _ bcast_S4x1024x1_S4x1024x1024_0_1_2 y i (idx_main_v77 i) (fun a => match a with
    | ⟨0, _⟩ => by show (i 0).val = if (4 : Nat) = 1 then 0 else (i 0).val; rw [if_neg (by decide)]
    | ⟨1, _⟩ => by show (i 1).val = if (1024 : Nat) = 1 then 0 else (i 1).val; rw [if_neg (by decide)]
    | ⟨2, _⟩ => by show 0 = if (1 : Nat) = 1 then 0 else (i 2).val; rw [if_pos rfl])

def val_main_v78 (x0 : (⟨S16x4x3x32x32, .f32⟩ : BufTy).Contents (Elt F)) : (⟨S4x1024x1024, .f32⟩ : BufTy).Contents (Elt F) :=
  Host.divf (val_main_v74 (F := F) x0) (val_main_v77 (F := F) x0)
theorem val_main_v78_apply (x0 : (⟨S16x4x3x32x32, .f32⟩ : BufTy).Contents (Elt F)) (i : S4x1024x1024.Idx) :
    val_main_v78 (F := F) x0 i = FloatOps.hostDivf (val_main_v74 (F := F) x0 i) (val_main_v77 (F := F) x0 i) := rfl

def val_main_v79 (x0 : (⟨S16x4x3x32x32, .f32⟩ : BufTy).Contents (Elt F)) : (⟨S4x1024x32x32, .f32⟩ : BufTy).Contents (Elt F) :=
  shapeCast _ (val_main_v78 (F := F) x0) shapeCasts_S4x1024x1024_S4x1024x32x32
set_option backward.proofsInPublic true in
abbrev idx_main_v79 (i : S4x1024x32x32.Idx) : S4x1024x1024.Idx := fun a => match a with
  | ⟨0, _⟩ => ⟨((((i 0).val * 1024 + (i 1).val) * 32 + (i 2).val) * 32 + (i 3).val) / 1048576, by have h0 : (i 0).val < 4 := (i 0).isLt; have h1 : (i 1).val < 1024 := (i 1).isLt; have h2 : (i 2).val < 32 := (i 2).isLt; have h3 : (i 3).val < 32 := (i 3).isLt; show ((((i 0).val * 1024 + (i 1).val) * 32 + (i 2).val) * 32 + (i 3).val) / 1048576 < 4; omega⟩
  | ⟨1, _⟩ => ⟨((((i 0).val * 1024 + (i 1).val) * 32 + (i 2).val) * 32 + (i 3).val) / 1024 % 1024, by have h0 : (i 0).val < 4 := (i 0).isLt; have h1 : (i 1).val < 1024 := (i 1).isLt; have h2 : (i 2).val < 32 := (i 2).isLt; have h3 : (i 3).val < 32 := (i 3).isLt; show ((((i 0).val * 1024 + (i 1).val) * 32 + (i 2).val) * 32 + (i 3).val) / 1024 % 1024 < 1024; omega⟩
  | ⟨2, _⟩ => ⟨((((i 0).val * 1024 + (i 1).val) * 32 + (i 2).val) * 32 + (i 3).val) % 1024, by have h0 : (i 0).val < 4 := (i 0).isLt; have h1 : (i 1).val < 1024 := (i 1).isLt; have h2 : (i 2).val < 32 := (i 2).isLt; have h3 : (i 3).val < 32 := (i 3).isLt; show ((((i 0).val * 1024 + (i 1).val) * 32 + (i 2).val) * 32 + (i 3).val) % 1024 < 1024; omega⟩
theorem val_main_v79_apply (x0 : (⟨S16x4x3x32x32, .f32⟩ : BufTy).Contents (Elt F)) (i : S4x1024x32x32.Idx) :
    val_main_v79 (F := F) x0 i = val_main_v78 (F := F) x0 (idx_main_v79 i) := by
  unfold val_main_v79
  generalize val_main_v78 (F := F) x0 = y
  exact shapeCast_apply y shapeCasts_S4x1024x1024_S4x1024x32x32 i (idx_main_v79 i)
    (by rewrite [Shape.rowMajor_val_three, Shape.rowMajor_val_four]; have h0 : (i 0).val < 4 := (i 0).isLt; have h1 : (i 1).val < 1024 := (i 1).isLt; have h2 : (i 2).val < 32 := (i 2).isLt; have h3 : (i 3).val < 32 := (i 3).isLt; show (((((i 0).val * 1024 + (i 1).val) * 32 + (i 2).val) * 32 + (i 3).val) / 1048576 * 1024 + ((((i 0).val * 1024 + (i 1).val) * 32 + (i 2).val) * 32 + (i 3).val) / 1024 % 1024) * 1024 + ((((i 0).val * 1024 + (i 1).val) * 32 + (i 2).val) * 32 + (i 3).val) % 1024 = (((i 0).val * 1024 + (i 1).val) * 32 + (i 2).val) * 32 + (i 3).val; omega)

def val_main_cst_18 : (⟨S_, .f32⟩ : BufTy).Contents (Elt F) :=
  constant S_ .f32 0x00000000#32
theorem val_main_cst_18_apply (i : S_.Idx) :
    val_main_cst_18 (F := F) i = FloatOps.ofBits .f32 0x00000000#32 := rfl

def val_main_v80 (x0 : (⟨S16x4x3x32x32, .f32⟩ : BufTy).Contents (Elt F)) : (⟨S4x1024x32, .f32⟩ : BufTy).Contents (Elt F) :=
  Host.reduceAdd (val_main_v79 (F := F) x0) (val_main_cst_18 (F := F)) reducesTo_S4x1024x32x32_S4x1024x32_d3 h_S_
abbrev idx_main_v80 (i : S4x1024x32.Idx) (k : Fin 32) : S4x1024x32x32.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_v80_apply (x0 : (⟨S16x4x3x32x32, .f32⟩ : BufTy).Contents (Elt Ideal)) (i : S4x1024x32.Idx) :
    val_main_v80 (F := Ideal) x0 i = (val_main_cst_18 (F := Ideal)) (Shape.Idx.first h_S_) + ∑ k : Fin 32, (val_main_v79 (F := Ideal) x0) (idx_main_v80 i k) := by
  unfold val_main_v80
  generalize val_main_v79 (F := Ideal) x0 = y0
  simp only [Host.reduceAdd, Ideal.hostReduceAdd_def]
  rw [Ideal.hostReduceAdd_single reducesTo_S4x1024x32x32_S4x1024x32_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

def val_main_cst_19 : (⟨S_, .f32⟩ : BufTy).Contents (Elt F) :=
  constant S_ .f32 0x00000000#32
theorem val_main_cst_19_apply (i : S_.Idx) :
    val_main_cst_19 (F := F) i = FloatOps.ofBits .f32 0x00000000#32 := rfl

def val_main_v81 (x0 : (⟨S16x4x3x32x32, .f32⟩ : BufTy).Contents (Elt F)) : (⟨S4x1024x32, .f32⟩ : BufTy).Contents (Elt F) :=
  Host.reduceAdd (val_main_v79 (F := F) x0) (val_main_cst_19 (F := F)) reducesTo_S4x1024x32x32_S4x1024x32_d2 h_S_
abbrev idx_main_v81 (i : S4x1024x32.Idx) (k : Fin 32) : S4x1024x32x32.Idx := fun a => match a with
  | ⟨0, _⟩ => ⟨(i 0).val, (i 0).isLt⟩
  | ⟨1, _⟩ => ⟨(i 1).val, (i 1).isLt⟩
  | ⟨2, _⟩ => ⟨k.val, k.isLt⟩
  | ⟨3, _⟩ => ⟨(i 2).val, (i 2).isLt⟩
/-- Stated at `F := Ideal`, where the host's float sum is this sum; at a bit-exact instance it is an opaque function of its operand. -/
theorem val_main_v81_apply (x0 : (⟨S16x4x3x32x32, .f32⟩ : BufTy).Contents (Elt Ideal)) (i : S4x1024x32.Idx) :
    val_main_v81 (F := Ideal) x0 i = (val_main_cst_19 (F := Ideal)) (Shape.Idx.first h_S_) + ∑ k : Fin 32, (val_main_v79 (F := Ideal) x0) (idx_main_v81 i k) := by
  unfold val_main_v81
  generalize val_main_v79 (F := Ideal) x0 = y0
  simp only [Host.reduceAdd, Ideal.hostReduceAdd_def]
  rw [Ideal.hostReduceAdd_single reducesTo_S4x1024x32x32_S4x1024x32_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

def val_main_v82 (x0 : (⟨S16x4x3x32x32, .f32⟩ : BufTy).Contents (Elt F)) : (⟨S4x1024x32x1, .f32⟩ : BufTy).Contents (Elt F) :=
  broadcastInDim S4x1024x32x1 ![0, 1, 2] bcast_S4x1024x32_S4x1024x32x1_0_1_2 (val_main_v80 (F := F) x0)
abbrev idx_main_v82 (i : S4x1024x32x1.Idx) : S4x1024x32.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v82_apply (x0 : (⟨S16x4x3x32x32, .f32⟩ : BufTy).Contents (Elt F)) (i : S4x1024x32x1.Idx) :
    val_main_v82 (F := F) x0 i = val_main_v80 (F := F) x0 (idx_main_v82 i) := by
  unfold val_main_v82
  generalize val_main_v80 (F := F) x0 = y
  exact broadcastInDim_apply _ bcast_S4x1024x32_S4x1024x32x1_0_1_2 y i (idx_main_v82 i) (fun a => match a with
    | ⟨0, _⟩ => by show (i 0).val = if (4 : Nat) = 1 then 0 else (i 0).val; rw [if_neg (by decide)]
    | ⟨1, _⟩ => by show (i 1).val = if (1024 : Nat) = 1 then 0 else (i 1).val; rw [if_neg (by decide)]
    | ⟨2, _⟩ => by show (i 2).val = if (32 : Nat) = 1 then 0 else (i 2).val; rw [if_neg (by decide)])

def val_main_v83 (x0 : (⟨S16x4x3x32x32, .f32⟩ : BufTy).Contents (Elt F)) : (⟨S4x1024x1x32, .f32⟩ : BufTy).Contents (Elt F) :=
  broadcastInDim S4x1024x1x32 ![0, 1, 3] bcast_S4x1024x32_S4x1024x1x32_0_1_3 (val_main_v81 (F := F) x0)
abbrev idx_main_v83 (i : S4x1024x1x32.Idx) : S4x1024x32.Idx := fun a => match a with
  | ⟨0, _⟩ => ⟨(i 0).val, (i 0).isLt⟩
  | ⟨1, _⟩ => ⟨(i 1).val, (i 1).isLt⟩
  | ⟨2, _⟩ => ⟨(i 3).val, (i 3).isLt⟩
theorem val_main_v83_apply (x0 : (⟨S16x4x3x32x32, .f32⟩ : BufTy).Contents (Elt F)) (i : S4x1024x1x32.Idx) :
    val_main_v83 (F := F) x0 i = val_main_v81 (F := F) x0 (idx_main_v83 i) := by
  unfold val_main_v83
  generalize val_main_v81 (F := F) x0 = y
  exact broadcastInDim_apply _ bcast_S4x1024x32_S4x1024x1x32_0_1_3 y i (idx_main_v83 i) (fun a => match a with
    | ⟨0, _⟩ => by show (i 0).val = if (4 : Nat) = 1 then 0 else (i 0).val; rw [if_neg (by decide)]
    | ⟨1, _⟩ => by show (i 1).val = if (1024 : Nat) = 1 then 0 else (i 1).val; rw [if_neg (by decide)]
    | ⟨2, _⟩ => by show (i 3).val = if (32 : Nat) = 1 then 0 else (i 3).val; rw [if_neg (by decide)])

def val_main_v84 (x0 : (⟨S16x4x3x32x32, .f32⟩ : BufTy).Contents (Elt F)) : (⟨S4x1024x32x32, .f32⟩ : BufTy).Contents (Elt F) :=
  broadcastInDim S4x1024x32x32 ![0, 1, 2, 3] bcast_S4x1024x32x1_S4x1024x32x32_0_1_2_3 (val_main_v82 (F := F) x0)
abbrev idx_main_v84 (i : S4x1024x32x32.Idx) : S4x1024x32x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v84_apply (x0 : (⟨S16x4x3x32x32, .f32⟩ : BufTy).Contents (Elt F)) (i : S4x1024x32x32.Idx) :
    val_main_v84 (F := F) x0 i = val_main_v82 (F := F) x0 (idx_main_v84 i) := by
  unfold val_main_v84
  generalize val_main_v82 (F := F) x0 = y
  exact broadcastInDim_apply _ bcast_S4x1024x32x1_S4x1024x32x32_0_1_2_3 y i (idx_main_v84 i) (fun a => match a with
    | ⟨0, _⟩ => by show (i 0).val = if (4 : Nat) = 1 then 0 else (i 0).val; rw [if_neg (by decide)]
    | ⟨1, _⟩ => by show (i 1).val = if (1024 : Nat) = 1 then 0 else (i 1).val; rw [if_neg (by decide)]
    | ⟨2, _⟩ => by show (i 2).val = if (32 : Nat) = 1 then 0 else (i 2).val; rw [if_neg (by decide)]
    | ⟨3, _⟩ => by show 0 = if (1 : Nat) = 1 then 0 else (i 3).val; rw [if_pos rfl])

def val_main_v85 (x0 : (⟨S16x4x3x32x32, .f32⟩ : BufTy).Contents (Elt F)) : (⟨S4x1024x32x32, .f32⟩ : BufTy).Contents (Elt F) :=
  broadcastInDim S4x1024x32x32 ![0, 1, 2, 3] bcast_S4x1024x1x32_S4x1024x32x32_0_1_2_3 (val_main_v83 (F := F) x0)
abbrev idx_main_v85 (i : S4x1024x32x32.Idx) : S4x1024x1x32.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
theorem val_main_v85_apply (x0 : (⟨S16x4x3x32x32, .f32⟩ : BufTy).Contents (Elt F)) (i : S4x1024x32x32.Idx) :
    val_main_v85 (F := F) x0 i = val_main_v83 (F := F) x0 (idx_main_v85 i) := by
  unfold val_main_v85
  generalize val_main_v83 (F := F) x0 = y
  exact broadcastInDim_apply _ bcast_S4x1024x1x32_S4x1024x32x32_0_1_2_3 y i (idx_main_v85 i) (fun a => match a with
    | ⟨0, _⟩ => by show (i 0).val = if (4 : Nat) = 1 then 0 else (i 0).val; rw [if_neg (by decide)]
    | ⟨1, _⟩ => by show (i 1).val = if (1024 : Nat) = 1 then 0 else (i 1).val; rw [if_neg (by decide)]
    | ⟨2, _⟩ => by show 0 = if (1 : Nat) = 1 then 0 else (i 2).val; rw [if_pos rfl]
    | ⟨3, _⟩ => by show (i 3).val = if (32 : Nat) = 1 then 0 else (i 3).val; rw [if_neg (by decide)])

def val_main_v86 (x0 : (⟨S16x4x3x32x32, .f32⟩ : BufTy).Contents (Elt F)) : (⟨S4x1024x32x32, .f32⟩ : BufTy).Contents (Elt F) :=
  mulf (val_main_v84 (F := F) x0) (val_main_v85 (F := F) x0)
theorem val_main_v86_apply (x0 : (⟨S16x4x3x32x32, .f32⟩ : BufTy).Contents (Elt F)) (i : S4x1024x32x32.Idx) :
    val_main_v86 (F := F) x0 i = FloatOps.mulf (val_main_v84 (F := F) x0 i) (val_main_v85 (F := F) x0 i) := rfl

def val_main_cst_20 : (⟨S_, .f32⟩ : BufTy).Contents (Elt F) :=
  constant S_ .f32 0x00000000#32
theorem val_main_cst_20_apply (i : S_.Idx) :
    val_main_cst_20 (F := F) i = FloatOps.ofBits .f32 0x00000000#32 := rfl

def val_main_v87 : (⟨S4x1024x32x32, .f32⟩ : BufTy).Contents (Elt F) :=
  broadcastInDim S4x1024x32x32 ![] bcast_S_S4x1024x32x32 (val_main_cst_20 (F := F))
abbrev idx_main_v87 (i : S4x1024x32x32.Idx) : S_.Idx := fun a => a.elim0
theorem val_main_v87_apply (i : S4x1024x32x32.Idx) :
    val_main_v87 (F := F) i = val_main_cst_20 (F := F) (idx_main_v87 i) := by
  unfold val_main_v87
  generalize val_main_cst_20 (F := F) = y
  exact broadcastInDim_apply _ bcast_S_S4x1024x32x32 y i (idx_main_v87 i) (fun a => a.elim0)

def val_main_v88 (x0 : (⟨S16x4x3x32x32, .f32⟩ : BufTy).Contents (Elt F)) : (⟨S4x1024x32x32, .i1⟩ : BufTy).Contents (Elt F) :=
  cmpf .ogt (val_main_v79 (F := F) x0) (val_main_v87 (F := F))
theorem val_main_v88_apply (x0 : (⟨S16x4x3x32x32, .f32⟩ : BufTy).Contents (Elt F)) (i : S4x1024x32x32.Idx) :
    val_main_v88 (F := F) x0 i = FloatOps.cmpf .ogt (val_main_v79 (F := F) x0 i) (val_main_v87 (F := F) i) := rfl

def val_main_cst_21 : (⟨S_, .f32⟩ : BufTy).Contents (Elt F) :=
  constant S_ .f32 0x3F800000#32
theorem val_main_cst_21_apply (i : S_.Idx) :
    val_main_cst_21 (F := F) i = FloatOps.ofBits .f32 0x3F800000#32 := rfl

def val_main_call3_v0 : (⟨S_, .f32⟩ : BufTy).Contents (Elt F) :=
  id (val_main_cst_21 (F := F))
theorem val_main_call3_v0_apply (i : S_.Idx) :
    val_main_call3_v0 (F := F) i = (val_main_cst_21 (F := F) i) := rfl

def val_main_call3_v1 : (⟨S32x32, .f32⟩ : BufTy).Contents (Elt F) :=
  broadcastInDim S32x32 ![] bcast_S_S32x32 (val_main_call3_v0 (F := F))
abbrev idx_main_call3_v1 (i : S32x32.Idx) : S_.Idx := fun a => a.elim0
theorem val_main_call3_v1_apply (i : S32x32.Idx) :
    val_main_call3_v1 (F := F) i = val_main_call3_v0 (F := F) (idx_main_call3_v1 i) := by
  unfold val_main_call3_v1
  generalize val_main_call3_v0 (F := F) = y
  exact broadcastInDim_apply _ bcast_S_S32x32 y i (idx_main_call3_v1 i) (fun a => a.elim0)

def val_main_call3_v2 : (⟨S1024x32x32, .f32⟩ : BufTy).Contents (Elt F) :=
  broadcastInDim S1024x32x32 ![1, 2] bcast_S32x32_S1024x32x32_1_2 (val_main_call3_v1 (F := F))
abbrev idx_main_call3_v2 (i : S1024x32x32.Idx) : S32x32.Idx := fun a => match a with
  | ⟨0, _⟩ => ⟨(i 1).val, (i 1).isLt⟩
  | ⟨1, _⟩ => ⟨(i 2).val, (i 2).isLt⟩
theorem val_main_call3_v2_apply (i : S1024x32x32.Idx) :
    val_main_call3_v2 (F := F) i = val_main_call3_v1 (F := F) (idx_main_call3_v2 i) := by
  unfold val_main_call3_v2
  generalize val_main_call3_v1 (F := F) = y
  exact broadcastInDim_apply _ bcast_S32x32_S1024x32x32_1_2 y i (idx_main_call3_v2 i) (fun a => match a with
    | ⟨0, _⟩ => by show (i 1).val = if (32 : Nat) = 1 then 0 else (i 1).val; rw [if_neg (by decide)]
    | ⟨1, _⟩ => by show (i 2).val = if (32 : Nat) = 1 then 0 else (i 2).val; rw [if_neg (by decide)])

def val_main_call3_v3 : (⟨S4x1024x32x32, .f32⟩ : BufTy).Contents (Elt F) :=
  broadcastInDim S4x1024x32x32 ![1, 2, 3] bcast_S1024x32x32_S4x1024x32x32_1_2_3 (val_main_call3_v2 (F := F))
abbrev idx_main_call3_v3 (i : S4x1024x32x32.Idx) : S1024x32x32.Idx := fun a => match a with
  | ⟨0, _⟩ => ⟨(i 1).val, (i 1).isLt⟩
  | ⟨1, _⟩ => ⟨(i 2).val, (i 2).isLt⟩
  | ⟨2, _⟩ => ⟨(i 3).val, (i 3).isLt⟩
theorem val_main_call3_v3_apply (i : S4x1024x32x32.Idx) :
    val_main_call3_v3 (F := F) i = val_main_call3_v2 (F := F) (idx_main_call3_v3 i) := by
  unfold val_main_call3_v3
  generalize val_main_call3_v2 (F := F) = y
  exact broadcastInDim_apply _ bcast_S1024x32x32_S4x1024x32x32_1_2_3 y i (idx_main_call3_v3 i) (fun a => match a with
    | ⟨0, _⟩ => by show (i 1).val = if (1024 : Nat) = 1 then 0 else (i 1).val; rw [if_neg (by decide)]
    | ⟨1, _⟩ => by show (i 2).val = if (32 : Nat) = 1 then 0 else (i 2).val; rw [if_neg (by decide)]
    | ⟨2, _⟩ => by show (i 3).val = if (32 : Nat) = 1 then 0 else (i 3).val; rw [if_neg (by decide)])

def val_main_v89 (x0 : (⟨S16x4x3x32x32, .f32⟩ : BufTy).Contents (Elt F)) : (⟨S4x1024x32x32, .f32⟩ : BufTy).Contents (Elt F) :=
  select (val_main_v88 (F := F) x0) (val_main_v79 (F := F) x0) (val_main_call3_v3 (F := F))
theorem val_main_v89_apply (x0 : (⟨S16x4x3x32x32, .f32⟩ : BufTy).Contents (Elt F)) (i : S4x1024x32x32.Idx) :
    val_main_v89 (F := F) x0 i = Scalar.select (val_main_v88 (F := F) x0 i) (val_main_v79 (F := F) x0 i) (val_main_call3_v3 (F := F) i) := rfl

def val_main_v90 (x0 : (⟨S16x4x3x32x32, .f32⟩ : BufTy).Contents (Elt F)) : (⟨S4x1024x32x32, .f32⟩ : BufTy).Contents (Elt F) :=
  Host.log (val_main_v89 (F := F) x0)
theorem val_main_v90_apply (x0 : (⟨S16x4x3x32x32, .f32⟩ : BufTy).Contents (Elt F)) (i : S4x1024x32x32.Idx) :
    val_main_v90 (F := F) x0 i = FloatOps.hostUnary .log (val_main_v89 (F := F) x0 i) := rfl

def val_main_cst_22 : (⟨S_, .f32⟩ : BufTy).Contents (Elt F) :=
  constant S_ .f32 0x00000000#32
theorem val_main_cst_22_apply (i : S_.Idx) :
    val_main_cst_22 (F := F) i = FloatOps.ofBits .f32 0x00000000#32 := rfl

def val_main_v91 : (⟨S4x1024x32x32, .f32⟩ : BufTy).Contents (Elt F) :=
  broadcastInDim S4x1024x32x32 ![] bcast_S_S4x1024x32x32 (val_main_cst_22 (F := F))
abbrev idx_main_v91 (i : S4x1024x32x32.Idx) : S_.Idx := fun a => a.elim0
theorem val_main_v91_apply (i : S4x1024x32x32.Idx) :
    val_main_v91 (F := F) i = val_main_cst_22 (F := F) (idx_main_v91 i) := by
  unfold val_main_v91
  generalize val_main_cst_22 (F := F) = y
  exact broadcastInDim_apply _ bcast_S_S4x1024x32x32 y i (idx_main_v91 i) (fun a => a.elim0)

def val_main_v92 (x0 : (⟨S16x4x3x32x32, .f32⟩ : BufTy).Contents (Elt F)) : (⟨S4x1024x32x32, .i1⟩ : BufTy).Contents (Elt F) :=
  cmpf .ogt (val_main_v86 (F := F) x0) (val_main_v91 (F := F))
theorem val_main_v92_apply (x0 : (⟨S16x4x3x32x32, .f32⟩ : BufTy).Contents (Elt F)) (i : S4x1024x32x32.Idx) :
    val_main_v92 (F := F) x0 i = FloatOps.cmpf .ogt (val_main_v86 (F := F) x0 i) (val_main_v91 (F := F) i) := rfl

def val_main_cst_23 : (⟨S_, .f32⟩ : BufTy).Contents (Elt F) :=
  constant S_ .f32 0x3F800000#32
theorem val_main_cst_23_apply (i : S_.Idx) :
    val_main_cst_23 (F := F) i = FloatOps.ofBits .f32 0x3F800000#32 := rfl

def val_main_call4_v0 : (⟨S_, .f32⟩ : BufTy).Contents (Elt F) :=
  id (val_main_cst_23 (F := F))
theorem val_main_call4_v0_apply (i : S_.Idx) :
    val_main_call4_v0 (F := F) i = (val_main_cst_23 (F := F) i) := rfl

def val_main_call4_v1 : (⟨S32x32, .f32⟩ : BufTy).Contents (Elt F) :=
  broadcastInDim S32x32 ![] bcast_S_S32x32 (val_main_call4_v0 (F := F))
abbrev idx_main_call4_v1 (i : S32x32.Idx) : S_.Idx := fun a => a.elim0
theorem val_main_call4_v1_apply (i : S32x32.Idx) :
    val_main_call4_v1 (F := F) i = val_main_call4_v0 (F := F) (idx_main_call4_v1 i) := by
  unfold val_main_call4_v1
  generalize val_main_call4_v0 (F := F) = y
  exact broadcastInDim_apply _ bcast_S_S32x32 y i (idx_main_call4_v1 i) (fun a => a.elim0)

def val_main_call4_v2 : (⟨S1024x32x32, .f32⟩ : BufTy).Contents (Elt F) :=
  broadcastInDim S1024x32x32 ![1, 2] bcast_S32x32_S1024x32x32_1_2 (val_main_call4_v1 (F := F))
abbrev idx_main_call4_v2 (i : S1024x32x32.Idx) : S32x32.Idx := fun a => match a with
  | ⟨0, _⟩ => ⟨(i 1).val, (i 1).isLt⟩
  | ⟨1, _⟩ => ⟨(i 2).val, (i 2).isLt⟩
theorem val_main_call4_v2_apply (i : S1024x32x32.Idx) :
    val_main_call4_v2 (F := F) i = val_main_call4_v1 (F := F) (idx_main_call4_v2 i) := by
  unfold val_main_call4_v2
  generalize val_main_call4_v1 (F := F) = y
  exact broadcastInDim_apply _ bcast_S32x32_S1024x32x32_1_2 y i (idx_main_call4_v2 i) (fun a => match a with
    | ⟨0, _⟩ => by show (i 1).val = if (32 : Nat) = 1 then 0 else (i 1).val; rw [if_neg (by decide)]
    | ⟨1, _⟩ => by show (i 2).val = if (32 : Nat) = 1 then 0 else (i 2).val; rw [if_neg (by decide)])

def val_main_call4_v3 : (⟨S4x1024x32x32, .f32⟩ : BufTy).Contents (Elt F) :=
  broadcastInDim S4x1024x32x32 ![1, 2, 3] bcast_S1024x32x32_S4x1024x32x32_1_2_3 (val_main_call4_v2 (F := F))
abbrev idx_main_call4_v3 (i : S4x1024x32x32.Idx) : S1024x32x32.Idx := fun a => match a with
  | ⟨0, _⟩ => ⟨(i 1).val, (i 1).isLt⟩
  | ⟨1, _⟩ => ⟨(i 2).val, (i 2).isLt⟩
  | ⟨2, _⟩ => ⟨(i 3).val, (i 3).isLt⟩
theorem val_main_call4_v3_apply (i : S4x1024x32x32.Idx) :
    val_main_call4_v3 (F := F) i = val_main_call4_v2 (F := F) (idx_main_call4_v3 i) := by
  unfold val_main_call4_v3
  generalize val_main_call4_v2 (F := F) = y
  exact broadcastInDim_apply _ bcast_S1024x32x32_S4x1024x32x32_1_2_3 y i (idx_main_call4_v3 i) (fun a => match a with
    | ⟨0, _⟩ => by show (i 1).val = if (1024 : Nat) = 1 then 0 else (i 1).val; rw [if_neg (by decide)]
    | ⟨1, _⟩ => by show (i 2).val = if (32 : Nat) = 1 then 0 else (i 2).val; rw [if_neg (by decide)]
    | ⟨2, _⟩ => by show (i 3).val = if (32 : Nat) = 1 then 0 else (i 3).val; rw [if_neg (by decide)])

def val_main_v93 (x0 : (⟨S16x4x3x32x32, .f32⟩ : BufTy).Contents (Elt F)) : (⟨S4x1024x32x32, .f32⟩ : BufTy).Contents (Elt F) :=
  select (val_main_v92 (F := F) x0) (val_main_v86 (F := F) x0) (val_main_call4_v3 (F := F))
theorem val_main_v93_apply (x0 : (⟨S16x4x3x32x32, .f32⟩ : BufTy).Contents (Elt F)) (i : S4x1024x32x32.Idx) :
    val_main_v93 (F := F) x0 i = Scalar.select (val_main_v92 (F := F) x0 i) (val_main_v86 (F := F) x0 i) (val_main_call4_v3 (F := F) i) := rfl

def val_main_v94 (x0 : (⟨S16x4x3x32x32, .f32⟩ : BufTy).Contents (Elt F)) : (⟨S4x1024x32x32, .f32⟩ : BufTy).Contents (Elt F) :=
  Host.log (val_main_v93 (F := F) x0)
theorem val_main_v94_apply (x0 : (⟨S16x4x3x32x32, .f32⟩ : BufTy).Contents (Elt F)) (i : S4x1024x32x32.Idx) :
    val_main_v94 (F := F) x0 i = FloatOps.hostUnary .log (val_main_v93 (F := F) x0 i) := rfl

def val_main_cst_24 : (⟨S_, .f32⟩ : BufTy).Contents (Elt F) :=
  constant S_ .f32 0x00000000#32
theorem val_main_cst_24_apply (i : S_.Idx) :
    val_main_cst_24 (F := F) i = FloatOps.ofBits .f32 0x00000000#32 := rfl

def val_main_v95 : (⟨S4x1024x32x32, .f32⟩ : BufTy).Contents (Elt F) :=
  broadcastInDim S4x1024x32x32 ![] bcast_S_S4x1024x32x32 (val_main_cst_24 (F := F))
abbrev idx_main_v95 (i : S4x1024x32x32.Idx) : S_.Idx := fun a => a.elim0
theorem val_main_v95_apply (i : S4x1024x32x32.Idx) :
    val_main_v95 (F := F) i = val_main_cst_24 (F := F) (idx_main_v95 i) := by
  unfold val_main_v95
  generalize val_main_cst_24 (F := F) = y
  exact broadcastInDim_apply _ bcast_S_S4x1024x32x32 y i (idx_main_v95 i) (fun a => a.elim0)

def val_main_v96 (x0 : (⟨S16x4x3x32x32, .f32⟩ : BufTy).Contents (Elt F)) : (⟨S4x1024x32x32, .i1⟩ : BufTy).Contents (Elt F) :=
  cmpf .ogt (val_main_v79 (F := F) x0) (val_main_v95 (F := F))
theorem val_main_v96_apply (x0 : (⟨S16x4x3x32x32, .f32⟩ : BufTy).Contents (Elt F)) (i : S4x1024x32x32.Idx) :
    val_main_v96 (F := F) x0 i = FloatOps.cmpf .ogt (val_main_v79 (F := F) x0 i) (val_main_v95 (F := F) i) := rfl

def val_main_v97 (x0 : (⟨S16x4x3x32x32, .f32⟩ : BufTy).Contents (Elt F)) : (⟨S4x1024x32x32, .f32⟩ : BufTy).Contents (Elt F) :=
  subf (val_main_v90 (F := F) x0) (val_main_v94 (F := F) x0)
theorem val_main_v97_apply (x0 : (⟨S16x4x3x32x32, .f32⟩ : BufTy).Contents (Elt F)) (i : S4x1024x32x32.Idx) :
    val_main_v97 (F := F) x0 i = FloatOps.subf (val_main_v90 (F := F) x0 i) (val_main_v94 (F := F) x0 i) := rfl

def val_main_v98 (x0 : (⟨S16x4x3x32x32, .f32⟩ : BufTy).Contents (Elt F)) : (⟨S4x1024x32x32, .f32⟩ : BufTy).Contents (Elt F) :=
  mulf (val_main_v79 (F := F) x0) (val_main_v97 (F := F) x0)
theorem val_main_v98_apply (x0 : (⟨S16x4x3x32x32, .f32⟩ : BufTy).Contents (Elt F)) (i : S4x1024x32x32.Idx) :
    val_main_v98 (F := F) x0 i = FloatOps.mulf (val_main_v79 (F := F) x0 i) (val_main_v97 (F := F) x0 i) := rfl

def val_main_cst_25 : (⟨S_, .f32⟩ : BufTy).Contents (Elt F) :=
  constant S_ .f32 0x00000000#32
theorem val_main_cst_25_apply (i : S_.Idx) :
    val_main_cst_25 (F := F) i = FloatOps.ofBits .f32 0x00000000#32 := rfl

def val_main_call5_v0 : (⟨S_, .f32⟩ : BufTy).Contents (Elt F) :=
  id (val_main_cst_25 (F := F))
theorem val_main_call5_v0_apply (i : S_.Idx) :
    val_main_call5_v0 (F := F) i = (val_main_cst_25 (F := F) i) := rfl

def val_main_call5_v1 : (⟨S32x32, .f32⟩ : BufTy).Contents (Elt F) :=
  broadcastInDim S32x32 ![] bcast_S_S32x32 (val_main_call5_v0 (F := F))
abbrev idx_main_call5_v1 (i : S32x32.Idx) : S_.Idx := fun a => a.elim0
theorem val_main_call5_v1_apply (i : S32x32.Idx) :
    val_main_call5_v1 (F := F) i = val_main_call5_v0 (F := F) (idx_main_call5_v1 i) := by
  unfold val_main_call5_v1
  generalize val_main_call5_v0 (F := F) = y
  exact broadcastInDim_apply _ bcast_S_S32x32 y i (idx_main_call5_v1 i) (fun a => a.elim0)

def val_main_call5_v2 : (⟨S1024x32x32, .f32⟩ : BufTy).Contents (Elt F) :=
  broadcastInDim S1024x32x32 ![1, 2] bcast_S32x32_S1024x32x32_1_2 (val_main_call5_v1 (F := F))
abbrev idx_main_call5_v2 (i : S1024x32x32.Idx) : S32x32.Idx := fun a => match a with
  | ⟨0, _⟩ => ⟨(i 1).val, (i 1).isLt⟩
  | ⟨1, _⟩ => ⟨(i 2).val, (i 2).isLt⟩
theorem val_main_call5_v2_apply (i : S1024x32x32.Idx) :
    val_main_call5_v2 (F := F) i = val_main_call5_v1 (F := F) (idx_main_call5_v2 i) := by
  unfold val_main_call5_v2
  generalize val_main_call5_v1 (F := F) = y
  exact broadcastInDim_apply _ bcast_S32x32_S1024x32x32_1_2 y i (idx_main_call5_v2 i) (fun a => match a with
    | ⟨0, _⟩ => by show (i 1).val = if (32 : Nat) = 1 then 0 else (i 1).val; rw [if_neg (by decide)]
    | ⟨1, _⟩ => by show (i 2).val = if (32 : Nat) = 1 then 0 else (i 2).val; rw [if_neg (by decide)])

def val_main_call5_v3 : (⟨S4x1024x32x32, .f32⟩ : BufTy).Contents (Elt F) :=
  broadcastInDim S4x1024x32x32 ![1, 2, 3] bcast_S1024x32x32_S4x1024x32x32_1_2_3 (val_main_call5_v2 (F := F))
abbrev idx_main_call5_v3 (i : S4x1024x32x32.Idx) : S1024x32x32.Idx := fun a => match a with
  | ⟨0, _⟩ => ⟨(i 1).val, (i 1).isLt⟩
  | ⟨1, _⟩ => ⟨(i 2).val, (i 2).isLt⟩
  | ⟨2, _⟩ => ⟨(i 3).val, (i 3).isLt⟩
theorem val_main_call5_v3_apply (i : S4x1024x32x32.Idx) :
    val_main_call5_v3 (F := F) i = val_main_call5_v2 (F := F) (idx_main_call5_v3 i) := by
  unfold val_main_call5_v3
  generalize val_main_call5_v2 (F := F) = y
  exact broadcastInDim_apply _ bcast_S1024x32x32_S4x1024x32x32_1_2_3 y i (idx_main_call5_v3 i) (fun a => match a with
    | ⟨0, _⟩ => by show (i 1).val = if (1024 : Nat) = 1 then 0 else (i 1).val; rw [if_neg (by decide)]
    | ⟨1, _⟩ => by show (i 2).val = if (32 : Nat) = 1 then 0 else (i 2).val; rw [if_neg (by decide)]
    | ⟨2, _⟩ => by show (i 3).val = if (32 : Nat) = 1 then 0 else (i 3).val; rw [if_neg (by decide)])

def val_main_v99 (x0 : (⟨S16x4x3x32x32, .f32⟩ : BufTy).Contents (Elt F)) : (⟨S4x1024x32x32, .f32⟩ : BufTy).Contents (Elt F) :=
  select (val_main_v96 (F := F) x0) (val_main_v98 (F := F) x0) (val_main_call5_v3 (F := F))
theorem val_main_v99_apply (x0 : (⟨S16x4x3x32x32, .f32⟩ : BufTy).Contents (Elt F)) (i : S4x1024x32x32.Idx) :
    val_main_v99 (F := F) x0 i = Scalar.select (val_main_v96 (F := F) x0 i) (val_main_v98 (F := F) x0 i) (val_main_call5_v3 (F := F) i) := rfl

def val_main_cst_26 : (⟨S_, .f32⟩ : BufTy).Contents (Elt F) :=
  constant S_ .f32 0x00000000#32
theorem val_main_cst_26_apply (i : S_.Idx) :
    val_main_cst_26 (F := F) i = FloatOps.ofBits .f32 0x00000000#32 := rfl

def val_main_v100 (x0 : (⟨S16x4x3x32x32, .f32⟩ : BufTy).Contents (Elt F)) : (⟨S4x1024, .f32⟩ : BufTy).Contents (Elt F) :=
  Host.reduceAdd (val_main_v99 (F := F) x0) (val_main_cst_26 (F := F)) reducesTo_S4x1024x32x32_S4x1024_d2_3 h_S_

def val_main_v101 (x0 : (⟨S16x4x3x32x32, .f32⟩ : BufTy).Contents (Elt F)) : (⟨S4x1, .f32⟩ : BufTy).Contents (Elt F) :=
  broadcastInDim S4x1 ![0] bcast_S4_S4x1_0 (val_main_v53 (F := F) x0)
abbrev idx_main_v101 (i : S4x1.Idx) : S4.Idx := fun a => match a with
  | ⟨0, _⟩ => ⟨(i 0).val, (i 0).isLt⟩
theorem val_main_v101_apply (x0 : (⟨S16x4x3x32x32, .f32⟩ : BufTy).Contents (Elt F)) (i : S4x1.Idx) :
    val_main_v101 (F := F) x0 i = val_main_v53 (F := F) x0 (idx_main_v101 i) := by
  unfold val_main_v101
  generalize val_main_v53 (F := F) x0 = y
  exact broadcastInDim_apply _ bcast_S4_S4x1_0 y i (idx_main_v101 i) (fun a => match a with
    | ⟨0, _⟩ => by show (i 0).val = if (4 : Nat) = 1 then 0 else (i 0).val; rw [if_neg (by decide)])

def val_main_v102 (x0 : (⟨S16x4x3x32x32, .f32⟩ : BufTy).Contents (Elt F)) : (⟨S4x1024, .f32⟩ : BufTy).Contents (Elt F) :=
  broadcastInDim S4x1024 ![0, 1] bcast_S4x1_S4x1024_0_1 (val_main_v101 (F := F) x0)
abbrev idx_main_v102 (i : S4x1024.Idx) : S4x1.Idx := fun a => match a with
  | ⟨0, _⟩ => ⟨(i 0).val, (i 0).isLt⟩
  | ⟨1, _⟩ => ⟨0, Nat.one_pos⟩
theorem val_main_v102_apply (x0 : (⟨S16x4x3x32x32, .f32⟩ : BufTy).Contents (Elt F)) (i : S4x1024.Idx) :
    val_main_v102 (F := F) x0 i = val_main_v101 (F := F) x0 (idx_main_v102 i) := by
  unfold val_main_v102
  generalize val_main_v101 (F := F) x0 = y
  exact broadcastInDim_apply _ bcast_S4x1_S4x1024_0_1 y i (idx_main_v102 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl])

def val_main_v103 (x0 : (⟨S16x4x3x32x32, .f32⟩ : BufTy).Contents (Elt F)) : (⟨S4x1024, .f32⟩ : BufTy).Contents (Elt F) :=
  mulf (val_main_v100 (F := F) x0) (val_main_v102 (F := F) x0)
theorem val_main_v103_apply (x0 : (⟨S16x4x3x32x32, .f32⟩ : BufTy).Contents (Elt F)) (i : S4x1024.Idx) :
    val_main_v103 (F := F) x0 i = FloatOps.mulf (val_main_v100 (F := F) x0 i) (val_main_v102 (F := F) x0 i) := rfl

def val_main_v104 (x0 : (⟨S16x4x3x32x32, .f32⟩ : BufTy).Contents (Elt F)) : (⟨S1x1024, .f32⟩ : BufTy).Contents (Elt F) :=
  extractStridedSlice S1x1024 ![0, 0] (val_main_v103 (F := F) x0) slices_S4x1024_S1x1024_0_0
set_option backward.proofsInPublic true in
abbrev idx_main_v104 (i : S1x1024.Idx) : S4x1024.Idx := fun a => match a with
  | ⟨0, _⟩ => ⟨(i 0).val, by have h0 : (i 0).val < 1 := (i 0).isLt; show (i 0).val < 4; omega⟩
  | ⟨1, _⟩ => ⟨(i 1).val, (i 1).isLt⟩
theorem val_main_v104_apply (x0 : (⟨S16x4x3x32x32, .f32⟩ : BufTy).Contents (Elt F)) (i : S1x1024.Idx) :
    val_main_v104 (F := F) x0 i = val_main_v103 (F := F) x0 (idx_main_v104 i) := by
  unfold val_main_v104
  generalize val_main_v103 (F := F) x0 = y
  exact extractStridedSlice_apply ![0, 0] y slices_S4x1024_S1x1024_0_0 i (idx_main_v104 i) (fun a => match a with
    | ⟨0, _⟩ => by show (i 0).val = 0 + (i 0).val; omega
    | ⟨1, _⟩ => by show (i 1).val = 0 + (i 1).val; omega)

def val_main_v105 (x0 : (⟨S16x4x3x32x32, .f32⟩ : BufTy).Contents (Elt F)) : (⟨S1024, .f32⟩ : BufTy).Contents (Elt F) :=
  shapeCast _ (val_main_v104 (F := F) x0) shapeCasts_S1x1024_S1024
set_option backward.proofsInPublic true in
abbrev idx_main_v105 (i : S1024.Idx) : S1x1024.Idx := fun a => match a with
  | ⟨0, _⟩ => ⟨0, Nat.one_pos⟩
  | ⟨1, _⟩ => ⟨((i 0).val) % 1024, by have h0 : (i 0).val < 1024 := (i 0).isLt; show ((i 0).val) % 1024 < 1024; omega⟩
theorem val_main_v105_apply (x0 : (⟨S16x4x3x32x32, .f32⟩ : BufTy).Contents (Elt F)) (i : S1024.Idx) :
    val_main_v105 (F := F) x0 i = val_main_v104 (F := F) x0 (idx_main_v105 i) := by
  unfold val_main_v105
  generalize val_main_v104 (F := F) x0 = y
  exact shapeCast_apply y shapeCasts_S1x1024_S1024 i (idx_main_v105 i)
    (by rewrite [Shape.rowMajor_val_two, Shape.rowMajor_val_one]; have h0 : (i 0).val < 1024 := (i 0).isLt; show 0 * 1024 + ((i 0).val) % 1024 = (i 0).val; omega)

def val_main_v106 (x0 : (⟨S16x4x3x32x32, .f32⟩ : BufTy).Contents (Elt F)) : (⟨S1x1024, .f32⟩ : BufTy).Contents (Elt F) :=
  broadcastInDim S1x1024 ![1] bcast_S1024_S1x1024_1 (val_main_v105 (F := F) x0)
abbrev idx_main_v106 (i : S1x1024.Idx) : S1024.Idx := fun a => match a with
  | ⟨0, _⟩ => ⟨(i 1).val, (i 1).isLt⟩
theorem val_main_v106_apply (x0 : (⟨S16x4x3x32x32, .f32⟩ : BufTy).Contents (Elt F)) (i : S1x1024.Idx) :
    val_main_v106 (F := F) x0 i = val_main_v105 (F := F) x0 (idx_main_v106 i) := by
  unfold val_main_v106
  generalize val_main_v105 (F := F) x0 = y
  exact broadcastInDim_apply _ bcast_S1024_S1x1024_1 y i (idx_main_v106 i) (fun a => match a with
    | ⟨0, _⟩ => by show (i 1).val = if (1024 : Nat) = 1 then 0 else (i 1).val; rw [if_neg (by decide)])

def val_main_v107 (x0 : (⟨S16x4x3x32x32, .f32⟩ : BufTy).Contents (Elt F)) : (⟨S4x1024, .f32⟩ : BufTy).Contents (Elt F) :=
  broadcastInDim S4x1024 ![0, 1] bcast_S1x1024_S4x1024_0_1 (val_main_v106 (F := F) x0)
abbrev idx_main_v107 (i : S4x1024.Idx) : S1x1024.Idx := fun a => match a with
  | ⟨0, _⟩ => ⟨0, Nat.one_pos⟩
  | ⟨1, _⟩ => ⟨(i 1).val, (i 1).isLt⟩
theorem val_main_v107_apply (x0 : (⟨S16x4x3x32x32, .f32⟩ : BufTy).Contents (Elt F)) (i : S4x1024.Idx) :
    val_main_v107 (F := F) x0 i = val_main_v106 (F := F) x0 (idx_main_v107 i) := by
  unfold val_main_v107
  generalize val_main_v106 (F := F) x0 = y
  exact broadcastInDim_apply _ bcast_S1x1024_S4x1024_0_1 y i (idx_main_v107 i) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])

def val_main_v108 (x0 : (⟨S16x4x3x32x32, .f32⟩ : BufTy).Contents (Elt F)) : (⟨S4x1024, .f32⟩ : BufTy).Contents (Elt F) :=
  Host.divf (val_main_v103 (F := F) x0) (val_main_v107 (F := F) x0)
theorem val_main_v108_apply (x0 : (⟨S16x4x3x32x32, .f32⟩ : BufTy).Contents (Elt F)) (i : S4x1024.Idx) :
    val_main_v108 (F := F) x0 i = FloatOps.hostDivf (val_main_v103 (F := F) x0 i) (val_main_v107 (F := F) x0 i) := rfl

def val_main_c_27 : (⟨S_, .i32⟩ : BufTy).Contents (Elt F) :=
  constantI S_ 32 0#32
theorem val_main_c_27_apply (i : S_.Idx) :
    val_main_c_27 (F := F) i = 0#32 := rfl

def val_main_v109 : (⟨S1, .i32⟩ : BufTy).Contents (Elt F) :=
  broadcastInDim S1 ![] bcast_S_S1 (val_main_c_27 (F := F))
abbrev idx_main_v109 (i : S1.Idx) : S_.Idx := fun a => a.elim0
theorem val_main_v109_apply (i : S1.Idx) :
    val_main_v109 (F := F) i = val_main_c_27 (F := F) (idx_main_v109 i) := by
  unfold val_main_v109
  generalize val_main_c_27 (F := F) = y
  exact broadcastInDim_apply _ bcast_S_S1 y i (idx_main_v109 i) (fun a => a.elim0)

def val_main_cst_28 : (⟨S_, .f32⟩ : BufTy).Contents (Elt F) :=
  constant S_ .f32 0x00000000#32
theorem val_main_cst_28_apply (i : S_.Idx) :
    val_main_cst_28 (F := F) i = FloatOps.ofBits .f32 0x00000000#32 := rfl

def val_main_v110 : (⟨S1024, .f32⟩ : BufTy).Contents (Elt F) :=
  broadcastInDim S1024 ![] bcast_S_S1024 (val_main_cst_28 (F := F))
abbrev idx_main_v110 (i : S1024.Idx) : S_.Idx := fun a => a.elim0
theorem val_main_v110_apply (i : S1024.Idx) :
    val_main_v110 (F := F) i = val_main_cst_28 (F := F) (idx_main_v110 i) := by
  unfold val_main_v110
  generalize val_main_cst_28 (F := F) = y
  exact broadcastInDim_apply _ bcast_S_S1024 y i (idx_main_v110 i) (fun a => a.elim0)

def val_main_v111 (x0 : (⟨S16x4x3x32x32, .f32⟩ : BufTy).Contents (Elt F)) : (⟨S4x1024, .f32⟩ : BufTy).Contents (Elt F) :=
  Host.scatter scatter_S4x1024_S1_S1024_0_0_0_0 (fun _ b => b) (val_main_v108 (F := F) x0) (val_main_v109 (F := F)) (val_main_v110 (F := F))

def val_main_v112 (x0 : (⟨S16x4x3x32x32, .f32⟩ : BufTy).Contents (Elt F)) : (⟨S4x32x32, .f32⟩ : BufTy).Contents (Elt F) :=
  shapeCast _ (val_main_v111 (F := F) x0) shapeCasts_S4x1024_S4x32x32
set_option backward.proofsInPublic true in
abbrev idx_main_v112 (i : S4x32x32.Idx) : S4x1024.Idx := fun a => match a with
  | ⟨0, _⟩ => ⟨(((i 0).val * 32 + (i 1).val) * 32 + (i 2).val) / 1024, by have h0 : (i 0).val < 4 := (i 0).isLt; have h1 : (i 1).val < 32 := (i 1).isLt; have h2 : (i 2).val < 32 := (i 2).isLt; show (((i 0).val * 32 + (i 1).val) * 32 + (i 2).val) / 1024 < 4; omega⟩
  | ⟨1, _⟩ => ⟨(((i 0).val * 32 + (i 1).val) * 32 + (i 2).val) % 1024, by have h0 : (i 0).val < 4 := (i 0).isLt; have h1 : (i 1).val < 32 := (i 1).isLt; have h2 : (i 2).val < 32 := (i 2).isLt; show (((i 0).val * 32 + (i 1).val) * 32 + (i 2).val) % 1024 < 1024; omega⟩
theorem val_main_v112_apply (x0 : (⟨S16x4x3x32x32, .f32⟩ : BufTy).Contents (Elt F)) (i : S4x32x32.Idx) :
    val_main_v112 (F := F) x0 i = val_main_v111 (F := F) x0 (idx_main_v112 i) := by
  unfold val_main_v112
  generalize val_main_v111 (F := F) x0 = y
  exact shapeCast_apply y shapeCasts_S4x1024_S4x32x32 i (idx_main_v112 i)
    (by rewrite [Shape.rowMajor_val_two, Shape.rowMajor_val_three]; have h0 : (i 0).val < 4 := (i 0).isLt; have h1 : (i 1).val < 32 := (i 1).isLt; have h2 : (i 2).val < 32 := (i 2).isLt; show (((i 0).val * 32 + (i 1).val) * 32 + (i 2).val) / 1024 * 1024 + (((i 0).val * 32 + (i 1).val) * 32 + (i 2).val) % 1024 = ((i 0).val * 32 + (i 1).val) * 32 + (i 2).val; omega)

def val_main_v113 (x1 : (⟨S_, .i32⟩ : BufTy).Contents (Elt F)) : (⟨S_, .f32⟩ : BufTy).Contents (Elt F) :=
  id (val_main_v1 (F := F) x1)
theorem val_main_v113_apply (x1 : (⟨S_, .i32⟩ : BufTy).Contents (Elt F)) (i : S_.Idx) :
    val_main_v113 (F := F) x1 i = (val_main_v1 (F := F) x1 i) := rfl

def val_main_v114 (x1 : (⟨S_, .i32⟩ : BufTy).Contents (Elt F)) : (⟨S4x32x32, .f32⟩ : BufTy).Contents (Elt F) :=
  broadcastInDim S4x32x32 ![] bcast_S_S4x32x32 (val_main_v113 (F := F) x1)
abbrev idx_main_v114 (i : S4x32x32.Idx) : S_.Idx := fun a => a.elim0
theorem val_main_v114_apply (x1 : (⟨S_, .i32⟩ : BufTy).Contents (Elt F)) (i : S4x32x32.Idx) :
    val_main_v114 (F := F) x1 i = val_main_v113 (F := F) x1 (idx_main_v114 i) := by
  unfold val_main_v114
  generalize val_main_v113 (F := F) x1 = y
  exact broadcastInDim_apply _ bcast_S_S4x32x32 y i (idx_main_v114 i) (fun a => a.elim0)

def val_main_v115 (x0 : (⟨S16x4x3x32x32, .f32⟩ : BufTy).Contents (Elt F)) (x1 : (⟨S_, .i32⟩ : BufTy).Contents (Elt F)) : (⟨S4x32x32, .f32⟩ : BufTy).Contents (Elt F) :=
  mulf (val_main_v112 (F := F) x0) (val_main_v114 (F := F) x1)
theorem val_main_v115_apply (x0 : (⟨S16x4x3x32x32, .f32⟩ : BufTy).Contents (Elt F)) (x1 : (⟨S_, .i32⟩ : BufTy).Contents (Elt F)) (i : S4x32x32.Idx) :
    val_main_v115 (F := F) x0 x1 i = FloatOps.mulf (val_main_v112 (F := F) x0 i) (val_main_v114 (F := F) x1 i) := rfl

def val_main_cst_29 : (⟨S_, .f32⟩ : BufTy).Contents (Elt F) :=
  constant S_ .f32 0x00000000#32
theorem val_main_cst_29_apply (i : S_.Idx) :
    val_main_cst_29 (F := F) i = FloatOps.ofBits .f32 0x00000000#32 := rfl

def val_main_cst_30 : (⟨S_, .f32⟩ : BufTy).Contents (Elt F) :=
  constant S_ .f32 0x3F800000#32
theorem val_main_cst_30_apply (i : S_.Idx) :
    val_main_cst_30 (F := F) i = FloatOps.ofBits .f32 0x3F800000#32 := rfl

def val_main_call6_v0 : (⟨S_, .f32⟩ : BufTy).Contents (Elt F) :=
  id (val_main_cst_29 (F := F))
theorem val_main_call6_v0_apply (i : S_.Idx) :
    val_main_call6_v0 (F := F) i = (val_main_cst_29 (F := F) i) := rfl

def val_main_call6_v1 : (⟨S4x32x32, .f32⟩ : BufTy).Contents (Elt F) :=
  broadcastInDim S4x32x32 ![] bcast_S_S4x32x32 (val_main_call6_v0 (F := F))
abbrev idx_main_call6_v1 (i : S4x32x32.Idx) : S_.Idx := fun a => a.elim0
theorem val_main_call6_v1_apply (i : S4x32x32.Idx) :
    val_main_call6_v1 (F := F) i = val_main_call6_v0 (F := F) (idx_main_call6_v1 i) := by
  unfold val_main_call6_v1
  generalize val_main_call6_v0 (F := F) = y
  exact broadcastInDim_apply _ bcast_S_S4x32x32 y i (idx_main_call6_v1 i) (fun a => a.elim0)

def val_main_call6_v2 (x0 : (⟨S16x4x3x32x32, .f32⟩ : BufTy).Contents (Elt F)) (x1 : (⟨S_, .i32⟩ : BufTy).Contents (Elt F)) : (⟨S4x32x32, .f32⟩ : BufTy).Contents (Elt F) :=
  maximumf (val_main_call6_v1 (F := F)) (val_main_v115 (F := F) x0 x1)
theorem val_main_call6_v2_apply (x0 : (⟨S16x4x3x32x32, .f32⟩ : BufTy).Contents (Elt F)) (x1 : (⟨S_, .i32⟩ : BufTy).Contents (Elt F)) (i : S4x32x32.Idx) :
    val_main_call6_v2 (F := F) x0 x1 i = FloatOps.maximumf (val_main_call6_v1 (F := F) i) (val_main_v115 (F := F) x0 x1 i) := rfl

def val_main_call6_v3 : (⟨S_, .f32⟩ : BufTy).Contents (Elt F) :=
  id (val_main_cst_30 (F := F))
theorem val_main_call6_v3_apply (i : S_.Idx) :
    val_main_call6_v3 (F := F) i = (val_main_cst_30 (F := F) i) := rfl

def val_main_call6_v4 : (⟨S4x32x32, .f32⟩ : BufTy).Contents (Elt F) :=
  broadcastInDim S4x32x32 ![] bcast_S_S4x32x32 (val_main_call6_v3 (F := F))
abbrev idx_main_call6_v4 (i : S4x32x32.Idx) : S_.Idx := fun a => a.elim0
theorem val_main_call6_v4_apply (i : S4x32x32.Idx) :
    val_main_call6_v4 (F := F) i = val_main_call6_v3 (F := F) (idx_main_call6_v4 i) := by
  unfold val_main_call6_v4
  generalize val_main_call6_v3 (F := F) = y
  exact broadcastInDim_apply _ bcast_S_S4x32x32 y i (idx_main_call6_v4 i) (fun a => a.elim0)

def val_main_v116 (x0 : (⟨S16x4x3x32x32, .f32⟩ : BufTy).Contents (Elt F)) (x1 : (⟨S_, .i32⟩ : BufTy).Contents (Elt F)) : (⟨S4x32x32, .f32⟩ : BufTy).Contents (Elt F) :=
  minimumf (val_main_call6_v4 (F := F)) (val_main_call6_v2 (F := F) x0 x1)
theorem val_main_v116_apply (x0 : (⟨S16x4x3x32x32, .f32⟩ : BufTy).Contents (Elt F)) (x1 : (⟨S_, .i32⟩ : BufTy).Contents (Elt F)) (i : S4x32x32.Idx) :
    val_main_v116 (F := F) x0 x1 i = FloatOps.minimumf (val_main_call6_v4 (F := F) i) (val_main_call6_v2 (F := F) x0 x1 i) := rfl

def val_main_v125 (x0 : (⟨S16x4x3x32x32, .f32⟩ : BufTy).Contents (Elt F)) (x1 : (⟨S_, .i32⟩ : BufTy).Contents (Elt F)) : (⟨S1x4x1x32x32, .f32⟩ : BufTy).Contents (Elt F) :=
  broadcastInDim S1x4x1x32x32 ![1, 3, 4] bcast_S4x32x32_S1x4x1x32x32_1_3_4 (val_main_v116 (F := F) x0 x1)
abbrev idx_main_v125 (i : S1x4x1x32x32.Idx) : S4x32x32.Idx := fun a => match a with
  | ⟨0, _⟩ => ⟨(i 1).val, (i 1).isLt⟩
  | ⟨1, _⟩ => ⟨(i 3).val, (i 3).isLt⟩
  | ⟨2, _⟩ => ⟨(i 4).val, (i 4).isLt⟩
theorem val_main_v125_apply (x0 : (⟨S16x4x3x32x32, .f32⟩ : BufTy).Contents (Elt F)) (x1 : (⟨S_, .i32⟩ : BufTy).Contents (Elt F)) (i : S1x4x1x32x32.Idx) :
    val_main_v125 (F := F) x0 x1 i = val_main_v116 (F := F) x0 x1 (idx_main_v125 i) := by
  unfold val_main_v125
  generalize val_main_v116 (F := F) x0 x1 = y
  exact broadcastInDim_apply _ bcast_S4x32x32_S1x4x1x32x32_1_3_4 y i (idx_main_v125 i) (fun a => match a with
    | ⟨0, _⟩ => by show (i 1).val = if (4 : Nat) = 1 then 0 else (i 1).val; rw [if_neg (by decide)]
    | ⟨1, _⟩ => by show (i 3).val = if (32 : Nat) = 1 then 0 else (i 3).val; rw [if_neg (by decide)]
    | ⟨2, _⟩ => by show (i 4).val = if (32 : Nat) = 1 then 0 else (i 4).val; rw [if_neg (by decide)])

def val_main_v126 (x0 : (⟨S16x4x3x32x32, .f32⟩ : BufTy).Contents (Elt F)) (x1 : (⟨S_, .i32⟩ : BufTy).Contents (Elt F)) : (⟨S16x4x3x32x32, .f32⟩ : BufTy).Contents (Elt F) :=
  broadcastInDim S16x4x3x32x32 ![0, 1, 2, 3, 4] bcast_S1x4x1x32x32_S16x4x3x32x32_0_1_2_3_4 (val_main_v125 (F := F) x0 x1)
abbrev idx_main_v126 (i : S16x4x3x32x32.Idx) : S1x4x1x32x32.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨(i 3).val, (i 3).isLt⟩
  | ⟨4, _⟩ => ⟨(i 4).val, (i 4).isLt⟩
theorem val_main_v126_apply (x0 : (⟨S16x4x3x32x32, .f32⟩ : BufTy).Contents (Elt F)) (x1 : (⟨S_, .i32⟩ : BufTy).Contents (Elt F)) (i : S16x4x3x32x32.Idx) :
    val_main_v126 (F := F) x0 x1 i = val_main_v125 (F := F) x0 x1 (idx_main_v126 i) := by
  unfold val_main_v126
  generalize val_main_v125 (F := F) x0 x1 = y
  exact broadcastInDim_apply _ bcast_S1x4x1x32x32_S16x4x3x32x32_0_1_2_3_4 y i (idx_main_v126 i) (fun a => match a with
    | ⟨0, _⟩ => by show 0 = if (1 : Nat) = 1 then 0 else (i 0).val; rw [if_pos rfl]
    | ⟨1, _⟩ => by show (i 1).val = if (4 : Nat) = 1 then 0 else (i 1).val; rw [if_neg (by decide)]
    | ⟨2, _⟩ => by show 0 = if (1 : Nat) = 1 then 0 else (i 2).val; rw [if_pos rfl]
    | ⟨3, _⟩ => by show (i 3).val = if (32 : Nat) = 1 then 0 else (i 3).val; rw [if_neg (by decide)]
    | ⟨4, _⟩ => by show (i 4).val = if (32 : Nat) = 1 then 0 else (i 4).val; rw [if_neg (by decide)])

def val_main_v127 (x0 : (⟨S16x4x3x32x32, .f32⟩ : BufTy).Contents (Elt F)) (x1 : (⟨S_, .i32⟩ : BufTy).Contents (Elt F)) (x2 : (⟨S16x4x3x32x32, .f32⟩ : BufTy).Contents (Elt F)) : (⟨S16x4x3x32x32, .i1⟩ : BufTy).Contents (Elt F) :=
  cmpf .olt (x2) (val_main_v126 (F := F) x0 x1)
theorem val_main_v127_apply (x0 : (⟨S16x4x3x32x32, .f32⟩ : BufTy).Contents (Elt F)) (x1 : (⟨S_, .i32⟩ : BufTy).Contents (Elt F)) (x2 : (⟨S16x4x3x32x32, .f32⟩ : BufTy).Contents (Elt F)) (i : S16x4x3x32x32.Idx) :
    val_main_v127 (F := F) x0 x1 x2 i = FloatOps.cmpf .olt (x2 i) (val_main_v126 (F := F) x0 x1 i) := rfl

def val_main_cst_36 : (⟨S_, .f32⟩ : BufTy).Contents (Elt F) :=
  constant S_ .f32 0x00000000#32
theorem val_main_cst_36_apply (i : S_.Idx) :
    val_main_cst_36 (F := F) i = FloatOps.ofBits .f32 0x00000000#32 := rfl

def val_main_v128 : (⟨S16x4x3x32x32, .f32⟩ : BufTy).Contents (Elt F) :=
  broadcastInDim S16x4x3x32x32 ![] bcast_S_S16x4x3x32x32 (val_main_cst_36 (F := F))
abbrev idx_main_v128 (i : S16x4x3x32x32.Idx) : S_.Idx := fun a => a.elim0
theorem val_main_v128_apply (i : S16x4x3x32x32.Idx) :
    val_main_v128 (F := F) i = val_main_cst_36 (F := F) (idx_main_v128 i) := by
  unfold val_main_v128
  generalize val_main_cst_36 (F := F) = y
  exact broadcastInDim_apply _ bcast_S_S16x4x3x32x32 y i (idx_main_v128 i) (fun a => a.elim0)

def val_main_v129 (x0 : (⟨S16x4x3x32x32, .f32⟩ : BufTy).Contents (Elt F)) (x1 : (⟨S_, .i32⟩ : BufTy).Contents (Elt F)) (x2 : (⟨S16x4x3x32x32, .f32⟩ : BufTy).Contents (Elt F)) : (⟨S16x4x3x32x32, .f32⟩ : BufTy).Contents (Elt F) :=
  select (val_main_v127 (F := F) x0 x1 x2) (val_main_v128 (F := F)) (x0)
theorem val_main_v129_apply (x0 : (⟨S16x4x3x32x32, .f32⟩ : BufTy).Contents (Elt F)) (x1 : (⟨S_, .i32⟩ : BufTy).Contents (Elt F)) (x2 : (⟨S16x4x3x32x32, .f32⟩ : BufTy).Contents (Elt F)) (i : S16x4x3x32x32.Idx) :
    val_main_v129 (F := F) x0 x1 x2 i = Scalar.select (val_main_v127 (F := F) x0 x1 x2 i) (val_main_v128 (F := F) i) (x0 i) := rfl

/-- The term the Run module states for `main_v129` over any contents `V0` is the stage. -/
theorem val_main_v129_eq (V0 : Valuation τ sig (Elt F)) :
    select (cmpf .olt (Cert.MiMask.RefRun.rand V0) (broadcastInDim S16x4x3x32x32 ![0, 1, 2, 3, 4] bcast_S1x4x1x32x32_S16x4x3x32x32_0_1_2_3_4 (broadcastInDim S1x4x1x32x32 ![1, 3, 4] bcast_S4x32x32_S1x4x1x32x32_1_3_4 (minimumf (broadcastInDim S4x32x32 ![] bcast_S_S4x32x32 (id (constant S_ .f32 0x3F800000#32))) (maximumf (broadcastInDim S4x32x32 ![] bcast_S_S4x32x32 (id (constant S_ .f32 0x00000000#32))) (mulf (shapeCast _ (Host.scatter scatter_S4x1024_S1_S1024_0_0_0_0 (fun _ b => b) (Host.divf (Cert.MiMask.RefRun.res_main_v103 V0) (broadcastInDim S4x1024 ![0, 1] bcast_S1x1024_S4x1024_0_1 (broadcastInDim S1x1024 ![1] bcast_S1024_S1x1024_1 (shapeCast _ (extractStridedSlice S1x1024 ![0, 0] (Cert.MiMask.RefRun.res_main_v103 V0) slices_S4x1024_S1x1024_0_0) shapeCasts_S1x1024_S1024)))) (broadcastInDim S1 ![] bcast_S_S1 (constantI S_ 32 0#32)) (broadcastInDim S1024 ![] bcast_S_S1024 (constant S_ .f32 0x00000000#32))) shapeCasts_S4x1024_S4x32x32) (broadcastInDim S4x32x32 ![] bcast_S_S4x32x32 (id (Host.divf (sitofp .f32 (V0 (Proc.devRef .tc main_arg1))) (constant S_ .f32 0x43480000#32)))))))))) (broadcastInDim S16x4x3x32x32 ![] bcast_S_S16x4x3x32x32 (constant S_ .f32 0x00000000#32)) (V0 (Proc.devRef .tc main_arg0))
      = val_main_v129 (F := F) (V0 (Proc.devRef .tc main_arg0)) (V0 (Proc.devRef .tc main_arg1)) (Cert.MiMask.RefRun.rand V0) := rfl

end Cert.MiMask.RefRead

end
-- ==== Proof.RefValue.lean ====
/- The reference's result, element by element. -/
module

public import proofs.«01_k».proof.Proof.Meet
public import proofs.«01_k».proof.Proof.RefRead
public import Idealize.ShloMosaic.Lib.Pointwise
public import Idealize.ShloMosaic.Lib.Routing.OpsSet
public import Idealize.ShloMosaic.Lib.Routing.OpsPair

@[expose] public section

set_option maxRecDepth 16384

noncomputable section

namespace Cert.MiMask

open Idealize.ShloMosaic Idealize.ShloMosaic.Routing Cert.ReferenceIdeal Cert.ReferenceIdeal.Gen Cert.MiMask.RefRead

/-! ## Counting the pairs of labels by one code -/

/-- The code of a pair of labels. -/
def code {n : ℕ} (u v : Fin n → Fin 32) (s : Fin n) : Fin 1024 := ⟨(u s).val * 32 + (v s).val, by omega⟩

theorem code_joint {n : ℕ} (u v : Fin n → Fin 32) (a b : Fin 32) :
    (Finset.univ.filter fun s => code u v s = ⟨a.val * 32 + b.val, by omega⟩).card = joint u v a b := by
  unfold joint
  congr 1
  refine Finset.filter_congr fun s _ => ?_
  rw [Fin.ext_iff, Fin.ext_iff, Fin.ext_iff]
  show (u s).val * 32 + (v s).val = a.val * 32 + b.val ↔ _
  omega

theorem sum_code {n : ℕ} (u v : Fin n → Fin 32) :
    (∑ k, nat (Finset.univ.filter fun s => code u v s = k).card) = nat n := by
  unfold nat
  rw [← coe_sum, ← Nat.cast_sum, ← Finset.card_eq_sum_card_fiberwise (fun s _ => Finset.mem_univ _), Finset.card_univ, Fintype.card_fin]

/-- The words of two labels make the word of their code. -/
theorem code_word {n : ℕ} (u v : Fin n → Fin 32) (s : Fin n) :
    IntOp.addi (IntOp.muli (BitVec.ofNat 32 (u s).val) 32#32) (BitVec.ofNat 32 (v s).val)
      = BitVec.ofNat 32 (code u v s).val := by
  show BitVec.ofNat 32 (u s).val * 32#32 + BitVec.ofNat 32 (v s).val = BitVec.ofNat 32 ((u s).val * 32 + (v s).val)
  rw [BitVec.ofNat_add, BitVec.ofNat_mul]

/-- A count of codes taken word by word. -/
theorem count_words {n : ℕ} (hn : n < 2 ^ 31) (u v : Fin n → Fin 32) (w : Fin n → BitVec 32)
    (hw : ∀ s, w s = BitVec.ofNat 32 (code u v s).val) (k : Fin 1024) :
    FloatOps.sitofp (F := Ideal) .f32 (Finset.fold IntOp.addi (0#32)
      (fun s => BitVec.setWidth 32 (IntOp.cmpi CmpIPredicate.eq (w s) (BitVec.ofNat 32 k.val))) Finset.univ)
      = nat (Finset.univ.filter fun s => code u v s = k).card := by
  have e : (fun s => BitVec.setWidth 32 (IntOp.cmpi CmpIPredicate.eq (w s) (BitVec.ofNat 32 k.val)))
      = fun s => BitVec.ofNat 32 (if code u v s = k then 1 else 0) := by
    funext s
    rw [bit_eq, hw]
    refine congrArg (BitVec.ofNat 32) (if_congr ?_ rfl rfl)
    constructor
    · intro h
      have := congrArg BitVec.toNat h
      rw [BitVec.toNat_ofNat, BitVec.toNat_ofNat] at this
      apply Fin.ext
      have h1 := (code u v s).isLt
      have h2 := k.isLt
      omega
    · intro h; rw [h]
  rw [e, fold_bits, sitofp_nat]
  refine lt_of_le_of_lt (Finset.card_le_univ _) ?_
  rwa [Fintype.card_fin]

/-! ## The stages -/

variable (x0 : FVec Ideal S16x4x3x32x32 .f32) (x1 : IVec S_ 32) (x2 : FVec Ideal S16x4x3x32x32 .f32)

/-- The labels of the reference's argument. -/
abbrev labs : Fin 4 → Fin 48 → Fin 1024 → Fin 32 := labels fun b t d h w => x0 (ix5 b t d h w)

/-- Every value lies strictly between -17 and 16. -/
def InRange : Prop := ∀ y, ((-17 : ℝ) : EReal) < x0 y ∧ x0 y < ((16 : ℝ) : EReal)

variable {x0} (H : InRange x0)
include H

theorem label_word (t : Fin 4) (i : Fin 48) (p : Fin 1024) :
    IntOp.addi (val_main_v4 (F := Ideal) x0 (ix3 t i p)) 16#32 = BitVec.ofNat 32 (labs x0 t i p).val := by
  pointwise [val_main_v4, val_main_v3, val_main_v2]
  exact word_eq _ (H _).1 (H _).2

theorem global_word (t : Fin 4) (s : Fin 49152) :
    val_main_v17 (F := Ideal) x0 (ix2 t s) = BitVec.ofNat 32 (code (flat (labs x0 0)) (flat (labs x0 t)) s).val := by
  pointwise [val_main_v17, val_main_v16, val_main_v15, val_main_v14, val_main_v13, val_main_v12, val_main_v11, val_main_v10, val_main_v9, val_main_v8, val_main_v7, val_main_v6, val_main_v5, val_main_c, val_main_c_0, val_main_c_1]
  rw [label_word H, label_word H]
  exact code_word (flat (labs x0 0)) (flat (labs x0 t)) s

theorem global_count (t : Fin 4) (k : Fin 1024) : FloatOps.sitofp (F := Ideal) .f32 (val_main_v26 (F := Ideal) x0 (ix2 t k))
    = nat (Finset.univ.filter fun s => code (flat (labs x0 0)) (flat (labs x0 t)) s = k).card := by
  pointwise [val_main_v26, val_main_v25, val_main_v24, val_main_v23, val_main_v22, val_main_v21, val_main_v20, val_main_v19, val_main_v18, val_main_c_2]
  exact count_words (by norm_num) _ _ _ (fun s => global_word H t s) k

theorem global_joint (t : Fin 4) (a b : Fin 32) : val_main_v32 (F := Ideal) x0 (ix3 t a b)
    = Ideal.div (nat (joint (flat (labs x0 0)) (flat (labs x0 t)) a b)) ((49152 : ℝ) : EReal) := by
  pointwise [val_main_v32, val_main_v31, val_main_v30, val_main_v29, val_main_v28, val_main_v27, val_main_cst_3]
  simp only [global_count H]
  rw [sum_code, code_joint]
  rfl

theorem global_info (t : Fin 4) : val_main_v53 (F := Ideal) x0 (ix1 t) = glob (labs x0) t := by
  pointwise [id, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_cst_4, val_main_cst_5, val_main_cst_6, val_main_cst_7, val_main_cst_8, val_main_cst_9, val_main_cst_10, val_main_cst_11, val_main_cst_12, val_main_call0_v0, val_main_call0_v1, val_main_call0_v2, val_main_call1_v0, val_main_call1_v1, val_main_call1_v2, val_main_call2_v0, val_main_call2_v1, val_main_call2_v2]
  simp only [global_joint H]
  rfl

theorem place_word (t : Fin 4) (i : Fin 48) (p : Fin 1024) :
    val_main_v62 (F := Ideal) x0 (ix3 t i p) = BitVec.ofNat 32 (code (col (labs x0) 0 p) (col (labs x0) t p) i).val := by
  pointwise [val_main_v62, val_main_v61, val_main_v60, val_main_v59, val_main_v58, val_main_v57, val_main_v56, val_main_v55, val_main_v54, val_main_v5, val_main_v6, val_main_c_13, val_main_c_14, val_main_c_15]
  rw [label_word H, label_word H]
  exact code_word (col (labs x0) 0 p) (col (labs x0) t p) i

theorem place_count (t : Fin 4) (p k : Fin 1024) : FloatOps.sitofp (F := Ideal) .f32 (val_main_v73 (F := Ideal) x0 (ix3 t p k))
    = nat (Finset.univ.filter fun i => code (col (labs x0) 0 p) (col (labs x0) t p) i = k).card := by
  pointwise [val_main_v73, val_main_v72, val_main_v71, val_main_v70, val_main_v69, val_main_v68, val_main_v67, val_main_v66, val_main_v65, val_main_v64, val_main_v63, val_main_c_16]
  exact count_words (by norm_num) _ _ _ (fun i => place_word H t i p) k

theorem place_joint (t : Fin 4) (p : Fin 1024) (a b : Fin 32) : val_main_v79 (F := Ideal) x0 (ix4 t p a b)
    = (((joint (col (labs x0) 0 p) (col (labs x0) t p) a b : ℝ) / (48 : ℕ) : ℝ) : EReal) := by
  pointwise [val_main_v79, val_main_v78, val_main_v77, val_main_v76, val_main_v75, val_main_v74, val_main_cst_17]
  simp only [place_count H]
  rw [sum_code, code_joint]
  exact div_real (by norm_num)

theorem place_info (t : Fin 4) (p : Fin 1024) : val_main_v100 (F := Ideal) x0 (ix2 t p) = ele (labs x0) t p := by
  pointwise [id, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_cst_18, val_main_cst_19, val_main_cst_20, val_main_cst_21, val_main_cst_22, val_main_cst_23, val_main_cst_24, val_main_cst_25, val_main_cst_26, val_main_call3_v0, val_main_call3_v1, val_main_call3_v2, val_main_call3_v3, val_main_call4_v0, val_main_call4_v1, val_main_call4_v2, val_main_call4_v3, val_main_call5_v0, val_main_call5_v1, val_main_call5_v2, val_main_call5_v3]
  simp only [place_joint H]
  exact miOf_coe (fun a b => (joint (col (labs x0) 0 p) (col (labs x0) t p) a b : ℝ) / (48 : ℕ)) fun a b => by positivity

theorem ratio (t : Fin 4) (p : Fin 1024) : val_main_v108 (F := Ideal) x0 (ix2 t p)
    = Ideal.div (ele (labs x0) t p * glob (labs x0) t) (ele (labs x0) 0 p * glob (labs x0) 0) := by
  pointwise [val_main_v108, val_main_v107, val_main_v106, val_main_v105, val_main_v104, val_main_v103, val_main_v102, val_main_v101]
  rw [place_info H, place_info H, global_info H, global_info H]

omit H

/-- Where an update of the first row lands: row 0, its own column. -/
theorem lands (k : S1024.Idx) (t : Fin 4) (p : Fin 1024) :
    scatter_S4x1024_S1_S1024_0_0_0_0.resultIdx? k (val_main_v109 (F := Ideal)) = some (ix2 t p) ↔ t = 0 ∧ k 0 = p := by
  rw [resultIdx?_eq_some]
  have s0 : scatter_S4x1024_S1_S1024_0_0_0_0.start k (val_main_v109 (F := Ideal)) 0 = 0 := by
    rfl
  have s1 : scatter_S4x1024_S1_S1024_0_0_0_0.start k (val_main_v109 (F := Ideal)) 1 = 0 := by
    rfl
  have w0 : scatter_S4x1024_S1_S1024_0_0_0_0.window k 0 = 0 := by
    rfl
  have w1 : scatter_S4x1024_S1_S1024_0_0_0_0.window k 1 = (k 0).val := by
    rfl
  constructor
  · intro h
    have h0 := h 0
    have h1 := h 1
    rw [s0, w0] at h0
    rw [s1, w1] at h1
    change (0 : ℤ) + ((0 : ℕ) : ℤ) = (t.val : ℤ) at h0
    change (0 : ℤ) + ((k 0).val : ℤ) = (p.val : ℤ) at h1
    exact ⟨Fin.ext (by show t.val = 0; omega), Fin.ext (by omega)⟩
  · rintro ⟨rfl, rfl⟩ a
    match a with
    | ⟨0, _⟩ =>
      refine (congrArg₂ (fun (u : ℤ) (v : ℕ) => u + (v : ℤ)) s0 w0).trans ?_
      rfl
    | ⟨1, _⟩ =>
      refine (congrArg₂ (fun (u : ℤ) (v : ℕ) => u + (v : ℤ)) s1 w1).trans ?_
      exact zero_add _

/-- The ratios with the first row set to zero. -/
theorem rows_set (t : Fin 4) (p : Fin 1024) : val_main_v111 (F := Ideal) x0 (ix2 t p)
    = if t = 0 then (0 : EReal) else val_main_v108 (F := Ideal) x0 (ix2 t p) := by
  unfold val_main_v111
  split
  · next h =>
    subst h
    refine scatter_set_hit _ _ _ _ _ _ (fun k _ => ?_) (ix1 p) ((lands _ _ _).mpr ⟨rfl, rfl⟩)
    idx_vars k
    pointwise [val_main_v110, val_main_cst_28]
  · next h =>
    exact scatter_set_miss _ _ _ _ _ fun k e => h ((lands _ _ _).mp e).1

/-- The reference's result at an element. -/
theorem reference_value (H : InRange x0) (b : Fin 16) (t : Fin 4) (d : Fin 3) (h w : Fin 32) :
    val_main_v129 (F := Ideal) x0 x1 x2 (ix5 b t d h w)
      = keep (labs x0) (scale (x1 ix0)) (x0 (ix5 b t d h w)) (x2 (ix5 b t d h w)) t h w := by
  pointwise [id, val_main_v129, val_main_v128, val_main_v127, val_main_v126, val_main_v125, val_main_v116, val_main_v115, val_main_v114, val_main_v113, val_main_v112, val_main_v1, val_main_v0, val_main_cst, val_main_cst_29, val_main_cst_30, val_main_cst_36, val_main_call6_v0, val_main_call6_v1, val_main_call6_v2, val_main_call6_v3, val_main_call6_v4]
  rw [rows_set, ratio H]
  unfold keep probs prob scale
  by_cases ht : t = 0
  · rw [if_pos ht, if_pos ht, zero_mul, max_self, min_eq_right zero_le_one]
  · rw [if_neg ht, if_neg ht]

end Cert.MiMask

end
-- ==== Proof.lean ====
/- The claim of this certificate: the frames, and the kernel's result equal to the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_labels_in_range
public import proofs.«01_k».proof.Proof.KernelValue
public import proofs.«01_k».proof.Proof.RefValue
public import Idealize.ShloMosaic.Adequacy
public import Idealize.ShloMosaic.Lib.Quiescent
public import Idealize.ShloMosaic.Lib.Claim
public import Idealize.ShloMosaic.Init

@[expose] public section

noncomputable section

namespace Cert.Proof

open Idealize.ShloMosaic Idealize.SL.Sem

/-- The reference's frame: its run leaves the arguments alone, and it declares no semaphore. -/
theorem refFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun _ h => ⟨fun c => (h c).2, sem_eq_zero_of_no_sems rfl _⟩) (Cert.MiMask.RefRun.run m g)

/-- The conjunction of the two comparisons is one only where both hold. -/
theorem between_of_word (v : EReal)
    (h : IntOp.andi (BitVec.ofBool (decide (Ideal.ofBits .f32 0xC1880000#32 < v)))
      (BitVec.ofBool (decide (v < Ideal.ofBits .f32 0x41800000#32))) = 1#1) :
    ((-17 : ℝ) : EReal) < v ∧ v < ((16 : ℝ) : EReal) := by
  rw [Cert.MiMask.lit_neg17, Cert.MiMask.lit_16] at h
  by_cases hl : ((-17 : ℝ) : EReal) < v
  · by_cases hr : v < ((16 : ℝ) : EReal)
    · exact ⟨hl, hr⟩
    · rw [decide_eq_true hl, decide_eq_false hr] at h
      exact absurd h (by decide)
  · rw [decide_eq_false hl] at h
    cases hd : decide (v < ((16 : ℝ) : EReal)) <;> rw [hd] at h <;> exact absurd h (by decide)

/-- The precondition says that every value of the argument lies strictly between -17 and 16. -/
theorem within (m : (ℓ : Loc Cert.KernelIdeal.nD Cert.KernelIdeal.τ Cert.KernelIdeal.sig) → Buf (Elt Ideal) ℓ)
    (h : Pre_KernelIdeal_labels_in_range (hPre_labels_in_range := Cert.Pre_labels_in_range.Gen.facts) m) (c : Dev Cert.KernelIdeal.nD) :
    Cert.MiMask.Within (m ((c.tc : Thread Cert.KernelIdeal.nD Cert.KernelIdeal.τ).loc Cert.KernelIdeal.main_arg0)) := by
  intro y
  exact between_of_word _ (congrFun (h c) y)

/-- The two results are one function of the arguments. -/
theorem values (m : (ℓ : Loc Cert.KernelIdeal.nD Cert.KernelIdeal.τ Cert.KernelIdeal.sig) → Buf (Elt Ideal) ℓ) (c : Dev Cert.KernelIdeal.nD)
    (x0 : FVec Ideal Cert.ReferenceIdeal.S16x4x3x32x32 .f32) (x1 : IVec Cert.ReferenceIdeal.S_ 32)
    (x2 : FVec Ideal Cert.ReferenceIdeal.S16x4x3x32x32 .f32)
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = Cert.MiMask.drawn (fun b => m (c, b)))
    (H : Cert.MiMask.Within (m ((c.tc : Thread Cert.KernelIdeal.nD Cert.KernelIdeal.τ).loc Cert.KernelIdeal.main_arg0))) :
    Cert.MiMask.RefRead.val_main_v129 (F := Ideal) x0 x1 x2
      = Pipeline.afterTail₀ Cert.KernelIdeal.cfgs (Cert.KernelIdeal.Gen.dats m) 0 (Cert.KernelIdeal.Gen.V0 m)
          [Cert.KernelIdeal.Gen.hostOps1] c Cert.KernelIdeal.main_v14 := by
  subst h0 h1 h2
  funext y
  change Cert.ReferenceIdeal.S16x4x3x32x32.Idx at y
  idx_vars y
  exact (Cert.MiMask.reference_value _ _ H y0 y1 y2 y3 y4).trans (Cert.MiMask.kernel_value m c H y0 y1 y2 y3 y4).symm

theorem algebraic : algebraic_KernelIdeal_ReferenceIdeal_pre_labels_in_range (hKernelIdeal := Cert.KernelIdeal.Gen.facts)
    (hReferenceIdeal := Cert.ReferenceIdeal.Gen.facts) (hPre_labels_in_range := Cert.Pre_labels_in_range.Gen.facts) := by
  intro m g m' g' hpre hagree
  refine ⟨fun c => Pipeline.afterTail₀ Cert.KernelIdeal.cfgs (Cert.KernelIdeal.Gen.dats m) 0 (Cert.KernelIdeal.Gen.V0 m)
          [Cert.KernelIdeal.Gen.hostOps1] c Cert.KernelIdeal.main_v14, ?_, ?_⟩
  · refine (θ_run _ _ _).mono (fun _ h c => ?_) (Cert.KernelIdeal.Gen.run_main m g)
    exact ⟨(h c).2 Cert.KernelIdeal.main_v14 (Pipeline.mem_restRefs_of _ (by decide) (by decide)),
      ((h c).2 Cert.KernelIdeal.main_arg0 (Pipeline.mem_restRefs_of _ (by decide) (by decide))).trans (Cert.KernelIdeal.Gen.W_main_arg0 m _ c),
      ((h c).2 Cert.KernelIdeal.main_arg1 (Pipeline.mem_restRefs_of _ (by decide) (by decide))).trans (Cert.KernelIdeal.Gen.W_main_arg1 m _ c)⟩
  · refine (θ_run _ _ _).mono (fun _ h c => ?_) (Cert.MiMask.RefRun.run m' g')
    refine ⟨(h c).1.trans ?_, (h c).2⟩
    obtain ⟨e0, e1⟩ := hagree c
    exact (Cert.MiMask.RefRun.valEnd_main_v129 _).trans ((Cert.MiMask.RefRead.val_main_v129_eq _).trans
      (values m c _ _ _ e0 e1 (Cert.MiMask.drawn_eq _ _) (within m hpre c)))

theorem claim : Cert.Claim := ⟨Cert.Kernel.Gen.facts, Cert.KernelIdeal.Gen.facts, Cert.ReferenceIdeal.Gen.facts,
  Cert.Pre_labels_in_range.Gen.facts,
  fun m ρ _ => Cert.Kernel.Gen.frame m ρ, fun m ρ _ => Cert.KernelIdeal.Gen.frame m ρ, fun m ρ _ => Cert.KernelIdeal.Gen.frame m ρ,
  fun m ρ _ => refFrame m ρ, fun m ρ _ => refFrame m ρ, trivial, algebraic⟩

end Cert.Proof

end
